-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38)) (m ((c.tc : Thread Cert.Kernel.nD Cert.Kernel.τ).loc Cert.Kernel.main_arg39)) (m ((c.tc : Thread Cert.Kernel.nD Cert.Kernel.τ).loc Cert.Kernel.main_arg40)) (m ((c.tc : Thread Cert.Kernel.nD Cert.Kernel.τ).loc Cert.Kernel.main_arg41)) (m ((c.tc : Thread Cert.Kernel.nD Cert.Kernel.τ).loc Cert.Kernel.main_arg42))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42))) = (fun _ => 1#1)

def Pre_KernelIdeal_indices_and_means [hPre_indices_and_means : Cert.Pre_indices_and_means.Facts] (m : (ℓ : Loc Cert.KernelIdeal.nD Cert.KernelIdeal.τ Cert.KernelIdeal.sig) → Buf (Elt Ideal) ℓ) : Prop :=
  ∀ c : Dev Cert.KernelIdeal.nD,
    (Cert.Pre_indices_and_means.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38)) (m ((c.tc : Thread Cert.KernelIdeal.nD Cert.KernelIdeal.τ).loc Cert.KernelIdeal.main_arg39)) (m ((c.tc : Thread Cert.KernelIdeal.nD Cert.KernelIdeal.τ).loc Cert.KernelIdeal.main_arg40)) (m ((c.tc : Thread Cert.KernelIdeal.nD Cert.KernelIdeal.τ).loc Cert.KernelIdeal.main_arg41)) (m ((c.tc : Thread Cert.KernelIdeal.nD Cert.KernelIdeal.τ).loc Cert.KernelIdeal.main_arg42))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_and_means [hPre_indices_and_means : Cert.Pre_indices_and_means.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_and_means.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38)) (m ((c.tc : Thread Cert.ReferenceIdeal.nD Cert.ReferenceIdeal.τ).loc Cert.ReferenceIdeal.main_arg39)) (m ((c.tc : Thread Cert.ReferenceIdeal.nD Cert.ReferenceIdeal.τ).loc Cert.ReferenceIdeal.main_arg40)) (m ((c.tc : Thread Cert.ReferenceIdeal.nD Cert.ReferenceIdeal.τ).loc Cert.ReferenceIdeal.main_arg41)) (m ((c.tc : Thread Cert.ReferenceIdeal.nD Cert.ReferenceIdeal.τ).loc Cert.ReferenceIdeal.main_arg42))) = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38)
      ∧ r.2.mem ((c.tc : Thread Cert.Kernel.nD Cert.Kernel.τ).loc Cert.Kernel.main_arg39) = m ((c.tc : Thread Cert.Kernel.nD Cert.Kernel.τ).loc Cert.Kernel.main_arg39)
      ∧ r.2.mem ((c.tc : Thread Cert.Kernel.nD Cert.Kernel.τ).loc Cert.Kernel.main_arg40) = m ((c.tc : Thread Cert.Kernel.nD Cert.Kernel.τ).loc Cert.Kernel.main_arg40)
      ∧ r.2.mem ((c.tc : Thread Cert.Kernel.nD Cert.Kernel.τ).loc Cert.Kernel.main_arg41) = m ((c.tc : Thread Cert.Kernel.nD Cert.Kernel.τ).loc Cert.Kernel.main_arg41)
      ∧ r.2.mem ((c.tc : Thread Cert.Kernel.nD Cert.Kernel.τ).loc Cert.Kernel.main_arg42) = m ((c.tc : Thread Cert.Kernel.nD Cert.Kernel.τ).loc Cert.Kernel.main_arg42))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42))
      ∧ r.2.sem = fun _ => 0)

def quiescent_KernelIdeal_pre_indices_and_means [hKernelIdeal : Cert.KernelIdeal.Facts] [hPre_indices_and_means : Cert.Pre_indices_and_means.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_and_means m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
      ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
      ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
      ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
      ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42))
      ∧ r.2.sem = fun _ => 0)

def quiescent_ReferenceIdeal_pre_indices_and_means [hReferenceIdeal : Cert.ReferenceIdeal.Facts] [hPre_indices_and_means : Cert.Pre_indices_and_means.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_and_means m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38)
      ∧ r.2.mem ((c.tc : Thread Cert.ReferenceIdeal.nD Cert.ReferenceIdeal.τ).loc Cert.ReferenceIdeal.main_arg39) = m ((c.tc : Thread Cert.ReferenceIdeal.nD Cert.ReferenceIdeal.τ).loc Cert.ReferenceIdeal.main_arg39)
      ∧ r.2.mem ((c.tc : Thread Cert.ReferenceIdeal.nD Cert.ReferenceIdeal.τ).loc Cert.ReferenceIdeal.main_arg40) = m ((c.tc : Thread Cert.ReferenceIdeal.nD Cert.ReferenceIdeal.τ).loc Cert.ReferenceIdeal.main_arg40)
      ∧ r.2.mem ((c.tc : Thread Cert.ReferenceIdeal.nD Cert.ReferenceIdeal.τ).loc Cert.ReferenceIdeal.main_arg41) = m ((c.tc : Thread Cert.ReferenceIdeal.nD Cert.ReferenceIdeal.τ).loc Cert.ReferenceIdeal.main_arg41)
      ∧ r.2.mem ((c.tc : Thread Cert.ReferenceIdeal.nD Cert.ReferenceIdeal.τ).loc Cert.ReferenceIdeal.main_arg42) = m ((c.tc : Thread Cert.ReferenceIdeal.nD Cert.ReferenceIdeal.τ).loc Cert.ReferenceIdeal.main_arg42))
      ∧ r.2.sem = fun _ => 0)

def preserves_Kernel_KernelIdeal : Prop :=
  IdealRules.named_const.Statement Cert.KernelIdeal.κ "sixth" .f32 0x3E2AAAAB#32 ((6⁻¹ : ℝ) : EReal)

def algebraic_KernelIdeal_ReferenceIdeal_pre_indices_and_means [hKernelIdeal : Cert.KernelIdeal.Facts] [hReferenceIdeal : Cert.ReferenceIdeal.Facts] [hPre_indices_and_means : Cert.Pre_indices_and_means.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_and_means m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)
      ∧ m' ((c.tc : Thread Cert.ReferenceIdeal.nD Cert.ReferenceIdeal.τ).loc Cert.ReferenceIdeal.main_arg39) = m ((c.tc : Thread Cert.KernelIdeal.nD Cert.KernelIdeal.τ).loc Cert.KernelIdeal.main_arg39)
      ∧ m' ((c.tc : Thread Cert.ReferenceIdeal.nD Cert.ReferenceIdeal.τ).loc Cert.ReferenceIdeal.main_arg40) = m ((c.tc : Thread Cert.KernelIdeal.nD Cert.KernelIdeal.τ).loc Cert.KernelIdeal.main_arg40)
      ∧ m' ((c.tc : Thread Cert.ReferenceIdeal.nD Cert.ReferenceIdeal.τ).loc Cert.ReferenceIdeal.main_arg41) = m ((c.tc : Thread Cert.KernelIdeal.nD Cert.KernelIdeal.τ).loc Cert.KernelIdeal.main_arg41)
      ∧ m' ((c.tc : Thread Cert.ReferenceIdeal.nD Cert.ReferenceIdeal.τ).loc Cert.ReferenceIdeal.main_arg42) = m ((c.tc : Thread Cert.KernelIdeal.nD Cert.KernelIdeal.τ).loc Cert.KernelIdeal.main_arg42)) →
    ∃ (v0 : (c : Dev Cert.KernelIdeal.nD) → Buf (Elt Ideal) ((c.tc : Thread Cert.KernelIdeal.nD Cert.KernelIdeal.τ).loc Cert.KernelIdeal.main_v146)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v146) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38)
          ∧ r.2.mem ((c.tc : Thread Cert.KernelIdeal.nD Cert.KernelIdeal.τ).loc Cert.KernelIdeal.main_arg39) = m ((c.tc : Thread Cert.KernelIdeal.nD Cert.KernelIdeal.τ).loc Cert.KernelIdeal.main_arg39)
          ∧ r.2.mem ((c.tc : Thread Cert.KernelIdeal.nD Cert.KernelIdeal.τ).loc Cert.KernelIdeal.main_arg40) = m ((c.tc : Thread Cert.KernelIdeal.nD Cert.KernelIdeal.τ).loc Cert.KernelIdeal.main_arg40)
          ∧ r.2.mem ((c.tc : Thread Cert.KernelIdeal.nD Cert.KernelIdeal.τ).loc Cert.KernelIdeal.main_arg41) = m ((c.tc : Thread Cert.KernelIdeal.nD Cert.KernelIdeal.τ).loc Cert.KernelIdeal.main_arg41)
          ∧ r.2.mem ((c.tc : Thread Cert.KernelIdeal.nD Cert.KernelIdeal.τ).loc Cert.KernelIdeal.main_arg42) = m ((c.tc : Thread Cert.KernelIdeal.nD Cert.KernelIdeal.τ).loc Cert.KernelIdeal.main_arg42))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38)
          ∧ r.2.mem ((c.tc : Thread Cert.ReferenceIdeal.nD Cert.ReferenceIdeal.τ).loc Cert.ReferenceIdeal.main_arg39) = m' ((c.tc : Thread Cert.ReferenceIdeal.nD Cert.ReferenceIdeal.τ).loc Cert.ReferenceIdeal.main_arg39)
          ∧ r.2.mem ((c.tc : Thread Cert.ReferenceIdeal.nD Cert.ReferenceIdeal.τ).loc Cert.ReferenceIdeal.main_arg40) = m' ((c.tc : Thread Cert.ReferenceIdeal.nD Cert.ReferenceIdeal.τ).loc Cert.ReferenceIdeal.main_arg40)
          ∧ r.2.mem ((c.tc : Thread Cert.ReferenceIdeal.nD Cert.ReferenceIdeal.τ).loc Cert.ReferenceIdeal.main_arg41) = m' ((c.tc : Thread Cert.ReferenceIdeal.nD Cert.ReferenceIdeal.τ).loc Cert.ReferenceIdeal.main_arg41)
          ∧ r.2.mem ((c.tc : Thread Cert.ReferenceIdeal.nD Cert.ReferenceIdeal.τ).loc Cert.ReferenceIdeal.main_arg42) = m' ((c.tc : Thread Cert.ReferenceIdeal.nD Cert.ReferenceIdeal.τ).loc Cert.ReferenceIdeal.main_arg42))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_indices_and_means : Cert.Pre_indices_and_means.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_indices_and_means (hKernelIdeal := hKernelIdeal) (hPre_indices_and_means := hPre_indices_and_means)
    ∧ quiescent_ReferenceIdeal (hReferenceIdeal := hReferenceIdeal)
    ∧ quiescent_ReferenceIdeal_pre_indices_and_means (hReferenceIdeal := hReferenceIdeal) (hPre_indices_and_means := hPre_indices_and_means)
    ∧ preserves_Kernel_KernelIdeal
    ∧ algebraic_KernelIdeal_ReferenceIdeal_pre_indices_and_means (hKernelIdeal := hKernelIdeal) (hReferenceIdeal := hReferenceIdeal) (hPre_indices_and_means := hPre_indices_and_means)
-- ==== Pre_indices_and_means.lean ====
abbrev S16384x6 : Shape := ⟨2, ![16384, 6]⟩
abbrev S16384x6x4 : Shape := ⟨3, ![16384, 6, 4]⟩
abbrev S16384x1 : Shape := ⟨2, ![16384, 1]⟩
abbrev S16384x8 : Shape := ⟨2, ![16384, 8]⟩
abbrev S16384x55 : Shape := ⟨2, ![16384, 55]⟩
abbrev S412x16 : Shape := ⟨2, ![412, 16]⟩
abbrev S355x16 : Shape := ⟨2, ![355, 16]⟩
abbrev S78x16 : Shape := ⟨2, ![78, 16]⟩
abbrev S6x16 : Shape := ⟨2, ![6, 16]⟩
abbrev S377x16 : Shape := ⟨2, ![377, 16]⟩
abbrev S137x128 : Shape := ⟨2, ![137, 128]⟩
abbrev S128 : Shape := ⟨1, ![128]⟩
abbrev S128x128 : Shape := ⟨2, ![128, 128]⟩
abbrev S18x128 : Shape := ⟨2, ![18, 128]⟩
abbrev S2x128 : Shape := ⟨2, ![2, 128]⟩
abbrev S17x32 : Shape := ⟨2, ![17, 32]⟩
abbrev S32 : Shape := ⟨1, ![32]⟩
abbrev S471x256 : Shape := ⟨2, ![471, 256]⟩
abbrev S256 : Shape := ⟨1, ![256]⟩
abbrev S_ : Shape := ⟨0, ![]⟩
abbrev S1x128 : Shape := ⟨2, ![1, 128]⟩

class Facts : Prop where
  bcast_S_S16384x6 : S_.BroadcastsInDim S16384x6 (![] : Fin 0 → Fin S16384x6.rank)
  reducesTo_S16384x6_S_d0_1 : S16384x6.ReducesTo [0, 1] S_
  h_S_ : 0 < S_.numel
  bcast_S_S16384x6x4 : S_.BroadcastsInDim S16384x6x4 (![] : Fin 0 → Fin S16384x6x4.rank)
  reducesTo_S16384x6x4_S_d0_1_2 : S16384x6x4.ReducesTo [0, 1, 2] S_
  slices_S137x128_S1x128_135_0 : S137x128.Slices ![135, 0] S1x128
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_v45 : IVec S_ 1) (main_v49 : IVec S1x128 1) (main_c_19 : IVec S_ 1) : IVec S_ 1 :=
  let main_v50 : IVec S_ 1 := (fun x v => Host.reduce IntOp.andi x v reducesTo_S1x128_S_d0_1 h_S_) main_v49 main_c_19
  let main_v51 : IVec S_ 1 := andi main_v45 main_v50
  main_v51

def fn_part2 {F : FTy → Type} [FloatOps F] (main_arg5 : IVec S16384x6 32) (main_arg14 : FVec F S16384x6x4 .f32) (main_arg29 : FVec F S137x128 .f32) (main_v26 : IVec S_ 1) (main_v32 : IVec S_ 1) : IVec S_ 1 :=
  let main_v33 : IVec S_ 1 := andi main_v26 main_v32
  let main_c_14 : IVec S_ 32 := constantI S_ 32 0#32
  let main_v34 : IVec S16384x6 32 := broadcastInDim S16384x6 ![] bcast_S_S16384x6 main_c_14
  let main_v35 : IVec S16384x6 1 := cmpi .sge main_arg5 main_v34
  let main_c_15 : IVec S_ 32 := constantI S_ 32 6#32
  let main_v36 : IVec S16384x6 32 := broadcastInDim S16384x6 ![] bcast_S_S16384x6 main_c_15
  let main_v37 : IVec S16384x6 1 := cmpi .slt main_arg5 main_v36
  let main_v38 : IVec S16384x6 1 := andi main_v35 main_v37
  let main_c_16 : IVec S_ 1 := constantI S_ 1 1#1
  let main_v39 : IVec S_ 1 := (fun x v => Host.reduce IntOp.andi x v reducesTo_S16384x6_S_d0_1 h_S_) main_v38 main_c_16
  let main_v40 : IVec S_ 1 := andi main_v33 main_v39
  let main_v41 : FVec F S16384x6x4 .f32 := Host.absf main_arg14
  let main_cst : FVec F S_ .f32 := constant S_ .f32 0x7F800000#32
  let main_v42 : FVec F S16384x6x4 .f32 := broadcastInDim S16384x6x4 ![] bcast_S_S16384x6x4 main_cst
  let main_v43 : IVec S16384x6x4 1 := cmpf .olt main_v41 main_v42
  let main_c_17 : IVec S_ 1 := constantI S_ 1 1#1
  let main_v44 : IVec S_ 1 := (fun x v => Host.reduce IntOp.andi x v reducesTo_S16384x6x4_S_d0_1_2 h_S_) main_v43 main_c_17
  let main_v45 : IVec S_ 1 := andi main_v40 main_v44
  let main_v46 : FVec F S1x128 .f32 := (extractStridedSlice S1x128 ![135, 0] · slices_S137x128_S1x128_135_0) main_arg29
  let main_v47 : FVec F S1x128 .f32 := Host.absf main_v46
  let main_cst_18 : FVec F S_ .f32 := constant S_ .f32 0x7F800000#32
  let main_v48 : FVec F S1x128 .f32 := broadcastInDim S1x128 ![] bcast_S_S1x128 main_cst_18
  let main_v49 : IVec S1x128 1 := cmpf .olt main_v47 main_v48
  let main_c_19 : IVec S_ 1 := constantI S_ 1 1#1
  fn_part3 (F := F) main_v45 main_v49 main_c_19

def fn_part1 {F : FTy → Type} [FloatOps F] (main_arg2 : IVec S16384x6 32) (main_arg3 : IVec S16384x6 32) (main_arg4 : IVec S16384x6 32) (main_arg5 : IVec S16384x6 32) (main_arg14 : FVec F S16384x6x4 .f32) (main_arg29 : FVec F S137x128 .f32) (main_v12 : IVec S_ 1) (main_v14 : IVec S16384x6 1) (main_v15 : IVec S16384x6 32) : IVec S_ 1 :=
  let main_v16 : IVec S16384x6 1 := cmpi .slt main_arg2 main_v15
  let main_v17 : IVec S16384x6 1 := andi main_v14 main_v16
  let main_c_7 : IVec S_ 1 := constantI S_ 1 1#1
  let main_v18 : IVec S_ 1 := (fun x v => Host.reduce IntOp.andi x v reducesTo_S16384x6_S_d0_1 h_S_) main_v17 main_c_7
  let main_v19 : IVec S_ 1 := andi main_v12 main_v18
  let main_c_8 : IVec S_ 32 := constantI S_ 32 0#32
  let main_v20 : IVec S16384x6 32 := broadcastInDim S16384x6 ![] bcast_S_S16384x6 main_c_8
  let main_v21 : IVec S16384x6 1 := cmpi .sge main_arg3 main_v20
  let main_c_9 : IVec S_ 32 := constantI S_ 32 6#32
  let main_v22 : IVec S16384x6 32 := broadcastInDim S16384x6 ![] bcast_S_S16384x6 main_c_9
  let main_v23 : IVec S16384x6 1 := cmpi .slt main_arg3 main_v22
  let main_v24 : IVec S16384x6 1 := andi main_v21 main_v23
  let main_c_10 : IVec S_ 1 := constantI S_ 1 1#1
  let main_v25 : IVec S_ 1 := (fun x v => Host.reduce IntOp.andi x v reducesTo_S16384x6_S_d0_1 h_S_) main_v24 main_c_10
  let main_v26 : IVec S_ 1 := andi main_v19 main_v25
  let main_c_11 : IVec S_ 32 := constantI S_ 32 0#32
  let main_v27 : IVec S16384x6 32 := broadcastInDim S16384x6 ![] bcast_S_S16384x6 main_c_11
  let main_v28 : IVec S16384x6 1 := cmpi .sge main_arg4 main_v27
  let main_c_12 : IVec S_ 32 := constantI S_ 32 377#32
  let main_v29 : IVec S16384x6 32 := broadcastInDim S16384x6 ![] bcast_S_S16384x6 main_c_12
  let main_v30 : IVec S16384x6 1 := cmpi .slt main_arg4 main_v29
  let main_v31 : IVec S16384x6 1 := andi main_v28 main_v30
  let main_c_13 : IVec S_ 1 := constantI S_ 1 1#1
  let main_v32 : IVec S_ 1 := (fun x v => Host.reduce IntOp.andi x v reducesTo_S16384x6_S_d0_1 h_S_) main_v31 main_c_13
  fn_part2 (F := F) main_arg5 main_arg14 main_arg29 main_v26 main_v32

def fn {F : FTy → Type} [FloatOps F] (main_arg0 : IVec S16384x6 32) (main_arg1 : IVec S16384x6x4 32) (main_arg2 : IVec S16384x6 32) (main_arg3 : IVec S16384x6 32) (main_arg4 : IVec S16384x6 32) (main_arg5 : IVec S16384x6 32) (main_arg6 : IVec S16384x6 32) (main_arg7 : FVec F S16384x6 .f32) (main_arg8 : FVec F S16384x6 .f32) (main_arg9 : FVec F S16384x6 .f32) (main_arg10 : FVec F S16384x6 .f32) (main_arg11 : FVec F S16384x6 .f32) (main_arg12 : FVec F S16384x6 .f32) (main_arg13 : FVec F S16384x6 .f32) (main_arg14 : FVec F S16384x6x4 .f32) (main_arg15 : FVec F S16384x6 .f32) (main_arg16 : FVec F S16384x6 .f32) (main_arg17 : FVec F S16384x6 .f32) (main_arg18 : FVec F S16384x6 .f32) (main_arg19 : FVec F S16384x1 .f32) (main_arg20 : FVec F S16384x8 .f32) (main_arg21 : FVec F S16384x8 .f32) (main_arg22 : FVec F S16384x55 .f32) (main_arg23 : FVec F S412x16 .f32) (main_arg24 : FVec F S355x16 .f32) (main_arg25 : FVec F S78x16 .f32) (main_arg26 : FVec F S6x16 .f32) (main_arg27 : FVec F S377x16 .f32) (main_arg28 : FVec F S6x16 .f32) (main_arg29 : FVec F S137x128 .f32) (main_arg30 : FVec F S128 .f32) (main_arg31 : FVec F S128x128 .f32) (main_arg32 : FVec F S128 .f32) (main_arg33 : FVec F S18x128 .f32) (main_arg34 : FVec F S128 .f32) (main_arg35 : FVec F S128x128 .f32) (main_arg36 : FVec F S128 .f32) (main_arg37 : FVec F S2x128 .f32) (main_arg38 : FVec F S128 .f32) (main_arg39 : FVec F S17x32 .f32) (main_arg40 : FVec F S32 .f32) (main_arg41 : FVec F S471x256 .f32) (main_arg42 : FVec F S256 .f32) : IVec S_ 1 :=
  let main_c : IVec S_ 32 := constantI S_ 32 0#32
  let main_v0 : IVec S16384x6 32 := broadcastInDim S16384x6 ![] bcast_S_S16384x6 main_c
  let main_v1 : IVec S16384x6 1 := cmpi .sge main_arg0 main_v0
  let main_c_0 : IVec S_ 32 := constantI S_ 32 412#32
  let main_v2 : IVec S16384x6 32 := broadcastInDim S16384x6 ![] bcast_S_S16384x6 main_c_0
  let main_v3 : IVec S16384x6 1 := cmpi .slt main_arg0 main_v2
  let main_v4 : IVec S16384x6 1 := andi main_v1 main_v3
  let main_c_1 : IVec S_ 1 := constantI S_ 1 1#1
  let main_v5 : IVec S_ 1 := (fun x v => Host.reduce IntOp.andi x v reducesTo_S16384x6_S_d0_1 h_S_) main_v4 main_c_1
  let main_c_2 : IVec S_ 32 := constantI S_ 32 0#32
  let main_v6 : IVec S16384x6x4 32 := broadcastInDim S16384x6x4 ![] bcast_S_S16384x6x4 main_c_2
  let main_v7 : IVec S16384x6x4 1 := cmpi .sge main_arg1 main_v6
  let main_c_3 : IVec S_ 32 := constantI S_ 32 355#32
  let main_v8 : IVec S16384x6x4 32 := broadcastInDim S16384x6x4 ![] bcast_S_S16384x6x4 main_c_3
  let main_v9 : IVec S16384x6x4 1 := cmpi .slt main_arg1 main_v8
  let main_v10 : IVec S16384x6x4 1 := andi main_v7 main_v9
  let main_c_4 : IVec S_ 1 := constantI S_ 1 1#1
  let main_v11 : IVec S_ 1 := (fun x v => Host.reduce IntOp.andi x v reducesTo_S16384x6x4_S_d0_1_2 h_S_) main_v10 main_c_4
  let main_v12 : IVec S_ 1 := andi main_v5 main_v11
  let main_c_5 : IVec S_ 32 := constantI S_ 32 0#32
  let main_v13 : IVec S16384x6 32 := broadcastInDim S16384x6 ![] bcast_S_S16384x6 main_c_5
  let main_v14 : IVec S16384x6 1 := cmpi .sge main_arg2 main_v13
  let main_c_6 : IVec S_ 32 := constantI S_ 32 78#32
  let main_v15 : IVec S16384x6 32 := broadcastInDim S16384x6 ![] bcast_S_S16384x6 main_c_6
  fn_part1 (F := F) main_arg2 main_arg3 main_arg4 main_arg5 main_arg14 main_arg29 main_v12 main_v14 main_v15
-- ==== Pre_indices_in_range.lean ====
abbrev S16384x6 : Shape := ⟨2, ![16384, 6]⟩
abbrev S16384x6x4 : Shape := ⟨3, ![16384, 6, 4]⟩
abbrev S16384x1 : Shape := ⟨2, ![16384, 1]⟩
abbrev S16384x8 : Shape := ⟨2, ![16384, 8]⟩
abbrev S16384x55 : Shape := ⟨2, ![16384, 55]⟩
abbrev S412x16 : Shape := ⟨2, ![412, 16]⟩
abbrev S355x16 : Shape := ⟨2, ![355, 16]⟩
abbrev S78x16 : Shape := ⟨2, ![78, 16]⟩
abbrev S6x16 : Shape := ⟨2, ![6, 16]⟩
abbrev S377x16 : Shape := ⟨2, ![377, 16]⟩
abbrev S137x128 : Shape := ⟨2, ![137, 128]⟩
abbrev S128 : Shape := ⟨1, ![128]⟩
abbrev S128x128 : Shape := ⟨2, ![128, 128]⟩
abbrev S18x128 : Shape := ⟨2, ![18, 128]⟩
abbrev S2x128 : Shape := ⟨2, ![2, 128]⟩
abbrev S17x32 : Shape := ⟨2, ![17, 32]⟩
abbrev S32 : Shape := ⟨1, ![32]⟩
abbrev S471x256 : Shape := ⟨2, ![471, 256]⟩
abbrev S256 : Shape := ⟨1, ![256]⟩
abbrev S_ : Shape := ⟨0, ![]⟩

class Facts : Prop where
  bcast_S_S16384x6 : S_.BroadcastsInDim S16384x6 (![] : Fin 0 → Fin S16384x6.rank)
  reducesTo_S16384x6_S_d0_1 : S16384x6.ReducesTo [0, 1] S_
  h_S_ : 0 < S_.numel
  bcast_S_S16384x6x4 : S_.BroadcastsInDim S16384x6x4 (![] : Fin 0 → Fin S16384x6x4.rank)
  reducesTo_S16384x6x4_S_d0_1_2 : S16384x6x4.ReducesTo [0, 1, 2] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : IVec S16384x6 32) (main_arg3 : IVec S16384x6 32) (main_arg4 : IVec S16384x6 32) (main_v12 : IVec S_ 1) (main_v14 : IVec S16384x6 1) (main_v15 : IVec S16384x6 32) : IVec S_ 1 :=
  let main_v16 : IVec S16384x6 1 := cmpi .slt main_arg2 main_v15
  let main_v17 : IVec S16384x6 1 := andi main_v14 main_v16
  let main_c_7 : IVec S_ 1 := constantI S_ 1 1#1
  let main_v18 : IVec S_ 1 := (fun x v => Host.reduce IntOp.andi x v reducesTo_S16384x6_S_d0_1 h_S_) main_v17 main_c_7
  let main_v19 : IVec S_ 1 := andi main_v12 main_v18
  let main_c_8 : IVec S_ 32 := constantI S_ 32 0#32
  let main_v20 : IVec S16384x6 32 := broadcastInDim S16384x6 ![] bcast_S_S16384x6 main_c_8
  let main_v21 : IVec S16384x6 1 := cmpi .sge main_arg3 main_v20
  let main_c_9 : IVec S_ 32 := constantI S_ 32 6#32
  let main_v22 : IVec S16384x6 32 := broadcastInDim S16384x6 ![] bcast_S_S16384x6 main_c_9
  let main_v23 : IVec S16384x6 1 := cmpi .slt main_arg3 main_v22
  let main_v24 : IVec S16384x6 1 := andi main_v21 main_v23
  let main_c_10 : IVec S_ 1 := constantI S_ 1 1#1
  let main_v25 : IVec S_ 1 := (fun x v => Host.reduce IntOp.andi x v reducesTo_S16384x6_S_d0_1 h_S_) main_v24 main_c_10
  let main_v26 : IVec S_ 1 := andi main_v19 main_v25
  let main_c_11 : IVec S_ 32 := constantI S_ 32 0#32
  let main_v27 : IVec S16384x6 32 := broadcastInDim S16384x6 ![] bcast_S_S16384x6 main_c_11
  let main_v28 : IVec S16384x6 1 := cmpi .sge main_arg4 main_v27
  let main_c_12 : IVec S_ 32 := constantI S_ 32 377#32
  let main_v29 : IVec S16384x6 32 := broadcastInDim S16384x6 ![] bcast_S_S16384x6 main_c_12
  let main_v30 : IVec S16384x6 1 := cmpi .slt main_arg4 main_v29
  let main_v31 : IVec S16384x6 1 := andi main_v28 main_v30
  let main_c_13 : IVec S_ 1 := constantI S_ 1 1#1
  let main_v32 : IVec S_ 1 := (fun x v => Host.reduce IntOp.andi x v reducesTo_S16384x6_S_d0_1 h_S_) main_v31 main_c_13
  fn_part2 (F := F) main_v26 main_v32

def fn {F : FTy → Type} [FloatOps F] (main_arg0 : IVec S16384x6 32) (main_arg1 : IVec S16384x6x4 32) (main_arg2 : IVec S16384x6 32) (main_arg3 : IVec S16384x6 32) (main_arg4 : IVec S16384x6 32) (main_arg5 : IVec S16384x6 32) (main_arg6 : IVec S16384x6 32) (main_arg7 : FVec F S16384x6 .f32) (main_arg8 : FVec F S16384x6 .f32) (main_arg9 : FVec F S16384x6 .f32) (main_arg10 : FVec F S16384x6 .f32) (main_arg11 : FVec F S16384x6 .f32) (main_arg12 : FVec F S16384x6 .f32) (main_arg13 : FVec F S16384x6 .f32) (main_arg14 : FVec F S16384x6x4 .f32) (main_arg15 : FVec F S16384x6 .f32) (main_arg16 : FVec F S16384x6 .f32) (main_arg17 : FVec F S16384x6 .f32) (main_arg18 : FVec F S16384x6 .f32) (main_arg19 : FVec F S16384x1 .f32) (main_arg20 : FVec F S16384x8 .f32) (main_arg21 : FVec F S16384x8 .f32) (main_arg22 : FVec F S16384x55 .f32) (main_arg23 : FVec F S412x16 .f32) (main_arg24 : FVec F S355x16 .f32) (main_arg25 : FVec F S78x16 .f32) (main_arg26 : FVec F S6x16 .f32) (main_arg27 : FVec F S377x16 .f32) (main_arg28 : FVec F S6x16 .f32) (main_arg29 : FVec F S137x128 .f32) (main_arg30 : FVec F S128 .f32) (main_arg31 : FVec F S128x128 .f32) (main_arg32 : FVec F S128 .f32) (main_arg33 : FVec F S18x128 .f32) (main_arg34 : FVec F S128 .f32) (main_arg35 : FVec F S128x128 .f32) (main_arg36 : FVec F S128 .f32) (main_arg37 : FVec F S2x128 .f32) (main_arg38 : FVec F S128 .f32) (main_arg39 : FVec F S17x32 .f32) (main_arg40 : FVec F S32 .f32) (main_arg41 : FVec F S471x256 .f32) (main_arg42 : FVec F S256 .f32) : IVec S_ 1 :=
  let main_c : IVec S_ 32 := constantI S_ 32 0#32
  let main_v0 : IVec S16384x6 32 := broadcastInDim S16384x6 ![] bcast_S_S16384x6 main_c
  let main_v1 : IVec S16384x6 1 := cmpi .sge main_arg0 main_v0
  let main_c_0 : IVec S_ 32 := constantI S_ 32 412#32
  let main_v2 : IVec S16384x6 32 := broadcastInDim S16384x6 ![] bcast_S_S16384x6 main_c_0
  let main_v3 : IVec S16384x6 1 := cmpi .slt main_arg0 main_v2
  let main_v4 : IVec S16384x6 1 := andi main_v1 main_v3
  let main_c_1 : IVec S_ 1 := constantI S_ 1 1#1
  let main_v5 : IVec S_ 1 := (fun x v => Host.reduce IntOp.andi x v reducesTo_S16384x6_S_d0_1 h_S_) main_v4 main_c_1
  let main_c_2 : IVec S_ 32 := constantI S_ 32 0#32
  let main_v6 : IVec S16384x6x4 32 := broadcastInDim S16384x6x4 ![] bcast_S_S16384x6x4 main_c_2
  let main_v7 : IVec S16384x6x4 1 := cmpi .sge main_arg1 main_v6
  let main_c_3 : IVec S_ 32 := constantI S_ 32 355#32
  let main_v8 : IVec S16384x6x4 32 := broadcastInDim S16384x6x4 ![] bcast_S_S16384x6x4 main_c_3
  let main_v9 : IVec S16384x6x4 1 := cmpi .slt main_arg1 main_v8
  let main_v10 : IVec S16384x6x4 1 := andi main_v7 main_v9
  let main_c_4 : IVec S_ 1 := constantI S_ 1 1#1
  let main_v11 : IVec S_ 1 := (fun x v => Host.reduce IntOp.andi x v reducesTo_S16384x6x4_S_d0_1_2 h_S_) main_v10 main_c_4
  let main_v12 : IVec S_ 1 := andi main_v5 main_v11
  let main_c_5 : IVec S_ 32 := constantI S_ 32 0#32
  let main_v13 : IVec S16384x6 32 := broadcastInDim S16384x6 ![] bcast_S_S16384x6 main_c_5
  let main_v14 : IVec S16384x6 1 := cmpi .sge main_arg2 main_v13
  let main_c_6 : IVec S_ 32 := constantI S_ 32 78#32
  let main_v15 : IVec S16384x6 32 := broadcastInDim S16384x6 ![] bcast_S_S16384x6 main_c_6
  fn_part1 (F := F) main_arg2 main_arg3 main_arg4 main_v12 main_v14 main_v15
-- ==== Kernel.lean ====
abbrev S16384x6 : Shape := ⟨2, ![16384, 6]⟩
abbrev S16384x6x4 : Shape := ⟨3, ![16384, 6, 4]⟩
abbrev S16384x1 : Shape := ⟨2, ![16384, 1]⟩
abbrev S16384x8 : Shape := ⟨2, ![16384, 8]⟩
abbrev S16384x55 : Shape := ⟨2, ![16384, 55]⟩
abbrev S412x16 : Shape := ⟨2, ![412, 16]⟩
abbrev S355x16 : Shape := ⟨2, ![355, 16]⟩
abbrev S78x16 : Shape := ⟨2, ![78, 16]⟩
abbrev S6x16 : Shape := ⟨2, ![6, 16]⟩
abbrev S377x16 : Shape := ⟨2, ![377, 16]⟩
abbrev S137x128 : Shape := ⟨2, ![137, 128]⟩
abbrev S128 : Shape := ⟨1, ![128]⟩
abbrev S128x128 : Shape := ⟨2, ![128, 128]⟩
abbrev S18x128 : Shape := ⟨2, ![18, 128]⟩
abbrev S2x128 : Shape := ⟨2, ![2, 128]⟩
abbrev S17x32 : Shape := ⟨2, ![17, 32]⟩
abbrev S32 : Shape := ⟨1, ![32]⟩
abbrev S471x256 : Shape := ⟨2, ![471, 256]⟩
abbrev S256 : Shape := ⟨1, ![256]⟩
abbrev S1228x16 : Shape := ⟨2, ![1228, 16]⟩
abbrev S16384x6x1 : Shape := ⟨3, ![16384, 6, 1]⟩
abbrev S_ : Shape := ⟨0, ![]⟩
abbrev S16384x6x8 : Shape := ⟨3, ![16384, 6, 8]⟩
abbrev S6 : Shape := ⟨1, ![6]⟩
abbrev S1x1x6 : Shape := ⟨3, ![1, 1, 6]⟩
abbrev S16384x6x6 : Shape := ⟨3, ![16384, 6, 6]⟩
abbrev S16384x36 : Shape := ⟨2, ![16384, 36]⟩
abbrev S6x6 : Shape := ⟨2, ![6, 6]⟩
abbrev S6x6x128 : Shape := ⟨3, ![6, 6, 128]⟩
abbrev S1x128 : Shape := ⟨2, ![1, 128]⟩
abbrev S6x6x1 : Shape := ⟨3, ![6, 6, 1]⟩
abbrev S1x1x128 : Shape := ⟨3, ![1, 1, 128]⟩
abbrev S6x6x4 : Shape := ⟨3, ![6, 6, 4]⟩
abbrev S6x24 : Shape := ⟨2, ![6, 24]⟩
abbrev S6x24x1 : Shape := ⟨3, ![6, 24, 1]⟩
abbrev S6x24x128 : Shape := ⟨3, ![6, 24, 128]⟩
abbrev S6x36x128 : Shape := ⟨3, ![6, 36, 128]⟩
abbrev S6x120x128 : Shape := ⟨3, ![6, 120, 128]⟩
abbrev S16x128 : Shape := ⟨2, ![16, 128]⟩
abbrev S6x128 : Shape := ⟨2, ![6, 128]⟩
abbrev S6x6x1x1 : Shape := ⟨4, ![6, 6, 1, 1]⟩
abbrev S1x1x6x128 : Shape := ⟨4, ![1, 1, 6, 128]⟩
abbrev S6x6x6x128 : Shape := ⟨4, ![6, 6, 6, 128]⟩
abbrev S6x72x128 : Shape := ⟨3, ![6, 72, 128]⟩
abbrev S6x120x256 : Shape := ⟨3, ![6, 120, 256]⟩
abbrev S1x32 : Shape := ⟨2, ![1, 32]⟩
abbrev S128x256 : Shape := ⟨2, ![128, 256]⟩
abbrev S55x256 : Shape := ⟨2, ![55, 256]⟩
abbrev S32x256 : Shape := ⟨2, ![32, 256]⟩
abbrev S1x256 : Shape := ⟨2, ![1, 256]⟩
abbrev S16384x24 : Shape := ⟨2, ![16384, 24]⟩
abbrev S6x16384x8 : Shape := ⟨3, ![6, 16384, 8]⟩
abbrev S786432 : Shape := ⟨1, ![786432]⟩
abbrev S19648 : Shape := ⟨1, ![19648]⟩
abbrev S12582912 : Shape := ⟨1, ![12582912]⟩
abbrev S1536 : Shape := ⟨1, ![1536]⟩
abbrev S2x24576 : Shape := ⟨2, ![2, 24576]⟩
abbrev S16 : Shape := ⟨1, ![16]⟩
abbrev S1x24576 : Shape := ⟨2, ![1, 24576]⟩
abbrev S24576 : Shape := ⟨1, ![24576]⟩
abbrev S6x16384x128 : Shape := ⟨3, ![6, 16384, 128]⟩
abbrev S16384x256 : Shape := ⟨2, ![16384, 256]⟩
abbrev S6x512x128 : Shape := ⟨3, ![6, 512, 128]⟩
abbrev S512x6 : Shape := ⟨2, ![512, 6]⟩
abbrev S512x24 : Shape := ⟨2, ![512, 24]⟩
abbrev S512x36 : Shape := ⟨2, ![512, 36]⟩
abbrev S512x1 : Shape := ⟨2, ![512, 1]⟩
abbrev S512x8 : Shape := ⟨2, ![512, 8]⟩
abbrev S512x55 : Shape := ⟨2, ![512, 55]⟩
abbrev S512x256 : Shape := ⟨2, ![512, 256]⟩
abbrev S512x120 : Shape := ⟨2, ![512, 120]⟩
abbrev S512x128 : Shape := ⟨2, ![512, 128]⟩
abbrev S1x512x128 : Shape := ⟨3, ![1, 512, 128]⟩
abbrev S1x120x256 : Shape := ⟨3, ![1, 120, 256]⟩
abbrev S120x256 : Shape := ⟨2, ![120, 256]⟩
abbrev S512 : Shape := ⟨1, ![512]⟩
abbrev S512x17 : Shape := ⟨2, ![512, 17]⟩
abbrev S512x32 : Shape := ⟨2, ![512, 32]⟩

abbrev nBuf : Table → Nat
  | .hbm => 201
  | .local .tc .vmem => 58
  | .local .scVector .vmem => 3
  | _ => 0

abbrev hbmTy0_0 (i : Nat) : BufTy := match i % 128 with
  | 0 => ⟨S16384x6, .i32⟩
  | 1 => ⟨S16384x6x4, .i32⟩
  | 2 => ⟨S16384x6, .i32⟩
  | 3 => ⟨S16384x6, .i32⟩
  | 4 => ⟨S16384x6, .i32⟩
  | 5 => ⟨S16384x6, .i32⟩
  | 6 => ⟨S16384x6, .i32⟩
  | 7 => ⟨S16384x6, .f32⟩
  | 8 => ⟨S16384x6, .f32⟩
  | 9 => ⟨S16384x6, .f32⟩
  | 10 => ⟨S16384x6, .f32⟩
  | 11 => ⟨S16384x6, .f32⟩
  | 12 => ⟨S16384x6, .f32⟩
  | 13 => ⟨S16384x6, .f32⟩
  | 14 => ⟨S16384x6x4, .f32⟩
  | 15 => ⟨S16384x6, .f32⟩
  | 16 => ⟨S16384x6, .f32⟩
  | 17 => ⟨S16384x6, .f32⟩
  | 18 => ⟨S16384x6, .f32⟩
  | 19 => ⟨S16384x1, .f32⟩
  | 20 => ⟨S16384x8, .f32⟩
  | 21 => ⟨S16384x8, .f32⟩
  | 22 => ⟨S16384x55, .f32⟩
  | 23 => ⟨S412x16, .f32⟩
  | 24 => ⟨S355x16, .f32⟩
  | 25 => ⟨S78x16, .f32⟩
  | 26 => ⟨S6x16, .f32⟩
  | 27 => ⟨S377x16, .f32⟩
  | 28 => ⟨S6x16, .f32⟩
  | 29 => ⟨S137x128, .f32⟩
  | 30 => ⟨S128, .f32⟩
  | 31 => ⟨S128x128, .f32⟩
  | 32 => ⟨S128, .f32⟩
  | 33 => ⟨S18x128, .f32⟩
  | 34 => ⟨S128, .f32⟩
  | 35 => ⟨S128x128, .f32⟩
  | 36 => ⟨S128, .f32⟩
  | 37 => ⟨S2x128, .f32⟩
  | 38 => ⟨S128, .f32⟩
  | 39 => ⟨S17x32, .f32⟩
  | 40 => ⟨S32, .f32⟩
  | 41 => ⟨S471x256, .f32⟩
  | 42 => ⟨S256, .f32⟩
  | 43 => ⟨S1228x16, .f32⟩
  | 44 => ⟨S16384x6x1, .i32⟩
  | 45 => ⟨S_, .i32⟩
  | 46 => ⟨S16384x6x4, .i32⟩
  | 47 => ⟨S16384x6x4, .i32⟩
  | 48 => ⟨S16384x6x1, .i32⟩
  | 49 => ⟨S_, .i32⟩
  | 50 => ⟨S16384x6x1, .i32⟩
  | 51 => ⟨S16384x6x1, .i32⟩
  | 52 => ⟨S16384x6x1, .i32⟩
  | 53 => ⟨S_, .i32⟩
  | 54 => ⟨S16384x6x1, .i32⟩
  | 55 => ⟨S16384x6x1, .i32⟩
  | 56 => ⟨S16384x6x1, .i32⟩
  | 57 => ⟨S_, .i32⟩
  | 58 => ⟨S16384x6x1, .i32⟩
  | 59 => ⟨S16384x6x1, .i32⟩
  | 60 => ⟨S16384x6x8, .i32⟩
  | 61 => ⟨S16384x6x1, .i32⟩
  | 62 => ⟨S6, .i32⟩
  | 63 => ⟨S1x1x6, .i32⟩
  | 64 => ⟨S16384x6x6, .i32⟩
  | 65 => ⟨S16384x6x6, .i32⟩
  | 66 => ⟨S16384x6x6, .i1⟩
  | 67 => ⟨S16384x6x6, .f32⟩
  | 68 => ⟨S16384x36, .f32⟩
  | 69 => ⟨S6x6, .i32⟩
  | 70 => ⟨S6x6, .i32⟩
  | 71 => ⟨S_, .i32⟩
  | 72 => ⟨S6x6, .i32⟩
  | 73 => ⟨S6x6, .i32⟩
  | 74 => ⟨S6x6, .i1⟩
  | 75 => ⟨S6x6, .f32⟩
  | 76 => ⟨S_, .f32⟩
  | 77 => ⟨S6x6x128, .f32⟩
  | 78 => ⟨S1x128, .f32⟩
  | 79 => ⟨S128, .f32⟩
  | 80 => ⟨S6x6x1, .f32⟩
  | 81 => ⟨S1x1x128, .f32⟩
  | 82 => ⟨S6x6x128, .f32⟩
  | 83 => ⟨S6x6x128, .f32⟩
  | 84 => ⟨S6x6x128, .f32⟩
  | 85 => ⟨S1x128, .f32⟩
  | 86 => ⟨S128, .f32⟩
  | 87 => ⟨S_, .f32⟩
  | 88 => ⟨S128, .f32⟩
  | 89 => ⟨S128, .f32⟩
  | 90 => ⟨S6x6x1, .f32⟩
  | 91 => ⟨S1x1x128, .f32⟩
  | 92 => ⟨S6x6x128, .f32⟩
  | 93 => ⟨S6x6x128, .f32⟩
  | 94 => ⟨S6x6x128, .f32⟩
  | 95 => ⟨S1x128, .f32⟩
  | 96 => ⟨S128, .f32⟩
  | 97 => ⟨S6x6x1, .f32⟩
  | 98 => ⟨S1x1x128, .f32⟩
  | 99 => ⟨S6x6x128, .f32⟩
  | 100 => ⟨S6x6x128, .f32⟩
  | 101 => ⟨S6x6x128, .f32⟩
  | 102 => ⟨S1x128, .f32⟩
  | 103 => ⟨S128, .f32⟩
  | 104 => ⟨S6x6x1, .f32⟩
  | 105 => ⟨S1x1x128, .f32⟩
  | 106 => ⟨S6x6x128, .f32⟩
  | 107 => ⟨S6x6x128, .f32⟩
  | 108 => ⟨S6x6x128, .f32⟩
  | 109 => ⟨S1x128, .f32⟩
  | 110 => ⟨S128, .f32⟩
  | 111 => ⟨S6x6x1, .f32⟩
  | 112 => ⟨S1x1x128, .f32⟩
  | 113 => ⟨S6x6x128, .f32⟩
  | 114 => ⟨S6x6x128, .f32⟩
  | 115 => ⟨S6x6x128, .f32⟩
  | 116 => ⟨S1x128, .f32⟩
  | 117 => ⟨S128, .f32⟩
  | 118 => ⟨S6x6x1, .f32⟩
  | 119 => ⟨S1x1x128, .f32⟩
  | 120 => ⟨S6x6x128, .f32⟩
  | 121 => ⟨S6x6x128, .f32⟩
  | 122 => ⟨S6x6x128, .f32⟩
  | 123 => ⟨S1x128, .f32⟩
  | 124 => ⟨S128, .f32⟩
  | 125 => ⟨S6x6x1, .f32⟩
  | 126 => ⟨S1x1x128, .f32⟩
  | 127 => ⟨S6x6x128, .f32⟩
  | _ => ⟨S16384x6, .i32⟩

abbrev hbmTy0_1 (i : Nat) : BufTy := match i % 128 with
  | 0 => ⟨S6x6x128, .f32⟩
  | 1 => ⟨S6x6x128, .f32⟩
  | 2 => ⟨S6x6x4, .f32⟩
  | 3 => ⟨S6x24, .f32⟩
  | 4 => ⟨S1x128, .f32⟩
  | 5 => ⟨S128, .f32⟩
  | 6 => ⟨S_, .f32⟩
  | 7 => ⟨S128, .f32⟩
  | 8 => ⟨S128, .f32⟩
  | 9 => ⟨S6x24x1, .f32⟩
  | 10 => ⟨S1x1x128, .f32⟩
  | 11 => ⟨S6x24x128, .f32⟩
  | 12 => ⟨S6x24x128, .f32⟩
  | 13 => ⟨S6x24x128, .f32⟩
  | 14 => ⟨S1x128, .f32⟩
  | 15 => ⟨S128, .f32⟩
  | 16 => ⟨S6x6x1, .f32⟩
  | 17 => ⟨S1x1x128, .f32⟩
  | 18 => ⟨S6x6x128, .f32⟩
  | 19 => ⟨S6x6x128, .f32⟩
  | 20 => ⟨S6x6x128, .f32⟩
  | 21 => ⟨S_, .f32⟩
  | 22 => ⟨S6x36x128, .f32⟩
  | 23 => ⟨S6x120x128, .f32⟩
  | 24 => ⟨S16x128, .f32⟩
  | 25 => ⟨S6x128, .f32⟩
  | 26 => ⟨S6x6x1x1, .f32⟩
  | 27 => ⟨S1x1x6x128, .f32⟩
  | 28 => ⟨S6x6x6x128, .f32⟩
  | 29 => ⟨S6x6x6x128, .f32⟩
  | 30 => ⟨S6x6x6x128, .f32⟩
  | 31 => ⟨S6x36x128, .f32⟩
  | 32 => ⟨S_, .f32⟩
  | 33 => ⟨S6x72x128, .f32⟩
  | 34 => ⟨S1x128, .f32⟩
  | 35 => ⟨S128, .f32⟩
  | 36 => ⟨S6x6x1, .f32⟩
  | 37 => ⟨S1x1x128, .f32⟩
  | 38 => ⟨S6x6x128, .f32⟩
  | 39 => ⟨S6x6x128, .f32⟩
  | 40 => ⟨S6x6x128, .f32⟩
  | 41 => ⟨S1x128, .f32⟩
  | 42 => ⟨S128, .f32⟩
  | 43 => ⟨S_, .f32⟩
  | 44 => ⟨S128, .f32⟩
  | 45 => ⟨S128, .f32⟩
  | 46 => ⟨S6x6x1, .f32⟩
  | 47 => ⟨S1x1x128, .f32⟩
  | 48 => ⟨S6x6x128, .f32⟩
  | 49 => ⟨S6x6x128, .f32⟩
  | 50 => ⟨S6x6x128, .f32⟩
  | 51 => ⟨S6x120x128, .f32⟩
  | 52 => ⟨S6x120x256, .f32⟩
  | 53 => ⟨S128x128, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S1x32, .f32⟩
  | 60 => ⟨S128x256, .f32⟩
  | 61 => ⟨S128x256, .f32⟩
  | 62 => ⟨S128x256, .f32⟩
  | 63 => ⟨S55x256, .f32⟩
  | 64 => ⟨S32x256, .f32⟩
  | 65 => ⟨S1x256, .f32⟩
  | 66 => ⟨S16384x24, .f32⟩
  | 67 => ⟨S6x16384x8, .i32⟩
  | 68 => ⟨S786432, .i32⟩
  | 69 => ⟨S19648, .f32⟩
  | 70 => ⟨S12582912, .f32⟩
  | 71 => ⟨S6x16384x128, .f32⟩
  | 72 => ⟨S16384x256, .f32⟩
  | _ => ⟨S16384x6, .i32⟩

abbrev hbmTy (i : Nat) : BufTy := match i / 128 with
  | 0 => hbmTy0_0 i
  | 1 => hbmTy0_1 i
  | _ => ⟨S16384x6, .i32⟩

abbrev bufTy : (tb : Table) → Fin (nBuf tb) → BufTy
  | .hbm, ⟨i, _⟩ => hbmTy i
  | .local .tc .vmem, ⟨0, _⟩ => ⟨S6x512x128, .f32⟩
  | .local .tc .vmem, ⟨1, _⟩ => ⟨S6x512x128, .f32⟩
  | .local .tc .vmem, ⟨2, _⟩ => ⟨S512x6, .f32⟩
  | .local .tc .vmem, ⟨3, _⟩ => ⟨S512x6, .f32⟩
  | .local .tc .vmem, ⟨4, _⟩ => ⟨S512x6, .f32⟩
  | .local .tc .vmem, ⟨5, _⟩ => ⟨S512x6, .f32⟩
  | .local .tc .vmem, ⟨6, _⟩ => ⟨S512x6, .f32⟩
  | .local .tc .vmem, ⟨7, _⟩ => ⟨S512x6, .f32⟩
  | .local .tc .vmem, ⟨8, _⟩ => ⟨S512x6, .f32⟩
  | .local .tc .vmem, ⟨9, _⟩ => ⟨S512x6, .f32⟩
  | .local .tc .vmem, ⟨10, _⟩ => ⟨S512x6, .f32⟩
  | .local .tc .vmem, ⟨11, _⟩ => ⟨S512x6, .f32⟩
  | .local .tc .vmem, ⟨12, _⟩ => ⟨S512x6, .f32⟩
  | .local .tc .vmem, ⟨13, _⟩ => ⟨S512x6, .f32⟩
  | .local .tc .vmem, ⟨14, _⟩ => ⟨S512x6, .f32⟩
  | .local .tc .vmem, ⟨15, _⟩ => ⟨S512x6, .f32⟩
  | .local .tc .vmem, ⟨16, _⟩ => ⟨S512x24, .f32⟩
  | .local .tc .vmem, ⟨17, _⟩ => ⟨S512x24, .f32⟩
  | .local .tc .vmem, ⟨18, _⟩ => ⟨S512x6, .f32⟩
  | .local .tc .vmem, ⟨19, _⟩ => ⟨S512x6, .f32⟩
  | .local .tc .vmem, ⟨20, _⟩ => ⟨S512x6, .f32⟩
  | .local .tc .vmem, ⟨21, _⟩ => ⟨S512x6, .f32⟩
  | .local .tc .vmem, ⟨22, _⟩ => ⟨S512x6, .f32⟩
  | .local .tc .vmem, ⟨23, _⟩ => ⟨S512x6, .f32⟩
  | .local .tc .vmem, ⟨24, _⟩ => ⟨S512x36, .f32⟩
  | .local .tc .vmem, ⟨25, _⟩ => ⟨S512x36, .f32⟩
  | .local .tc .vmem, ⟨26, _⟩ => ⟨S512x6, .i32⟩
  | .local .tc .vmem, ⟨27, _⟩ => ⟨S512x6, .i32⟩
  | .local .tc .vmem, ⟨28, _⟩ => ⟨S512x6, .f32⟩
  | .local .tc .vmem, ⟨29, _⟩ => ⟨S512x6, .f32⟩
  | .local .tc .vmem, ⟨30, _⟩ => ⟨S512x1, .f32⟩
  | .local .tc .vmem, ⟨31, _⟩ => ⟨S512x1, .f32⟩
  | .local .tc .vmem, ⟨32, _⟩ => ⟨S512x8, .f32⟩
  | .local .tc .vmem, ⟨33, _⟩ => ⟨S512x8, .f32⟩
  | .local .tc .vmem, ⟨34, _⟩ => ⟨S512x8, .f32⟩
  | .local .tc .vmem, ⟨35, _⟩ => ⟨S512x8, .f32⟩
  | .local .tc .vmem, ⟨36, _⟩ => ⟨S512x55, .f32⟩
  | .local .tc .vmem, ⟨37, _⟩ => ⟨S512x55, .f32⟩
  | .local .tc .vmem, ⟨38, _⟩ => ⟨S128x128, .f32⟩
  | .local .tc .vmem, ⟨39, _⟩ => ⟨S6x120x256, .f32⟩
  | .local .tc .vmem, ⟨40, _⟩ => ⟨S1x128, .f32⟩
  | .local .tc .vmem, ⟨41, _⟩ => ⟨S128x128, .f32⟩
  | .local .tc .vmem, ⟨42, _⟩ => ⟨S1x128, .f32⟩
  | .local .tc .vmem, ⟨43, _⟩ => ⟨S1x128, .f32⟩
  | .local .tc .vmem, ⟨44, _⟩ => ⟨S128x128, .f32⟩
  | .local .tc .vmem, ⟨45, _⟩ => ⟨S1x128, .f32⟩
  | .local .tc .vmem, ⟨46, _⟩ => ⟨S2x128, .f32⟩
  | .local .tc .vmem, ⟨47, _⟩ => ⟨S1x128, .f32⟩
  | .local .tc .vmem, ⟨48, _⟩ => ⟨S17x32, .f32⟩
  | .local .tc .vmem, ⟨49, _⟩ => ⟨S1x32, .f32⟩
  | .local .tc .vmem, ⟨50, _⟩ => ⟨S128x256, .f32⟩
  | .local .tc .vmem, ⟨51, _⟩ => ⟨S128x256, .f32⟩
  | .local .tc .vmem, ⟨52, _⟩ => ⟨S128x256, .f32⟩
  | .local .tc .vmem, ⟨53, _⟩ => ⟨S55x256, .f32⟩
  | .local .tc .vmem, ⟨54, _⟩ => ⟨S32x256, .f32⟩
  | .local .tc .vmem, ⟨55, _⟩ => ⟨S1x256, .f32⟩
  | .local .tc .vmem, ⟨56, _⟩ => ⟨S512x256, .f32⟩
  | .local .tc .vmem, ⟨57, _⟩ => ⟨S512x256, .f32⟩
  | .local .scVector .vmem, ⟨0, _⟩ => ⟨S19648, .f32⟩
  | .local .scVector .vmem, ⟨1, _⟩ => ⟨S1536, .i32⟩
  | .local .scVector .vmem, ⟨2, _⟩ => ⟨S2x24576, .f32⟩
  | _, _ => ⟨S16384x6, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 77 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTables nBuf rfl bufTy 4 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_v0 : Ref sig .tc := ⟨.hbm, 43, rfl⟩
abbrev main_v1 : Ref sig .tc := ⟨.hbm, 44, rfl⟩
abbrev main_c : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_c_0 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_c_1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_c_2 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_3 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_4 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_cst_5 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_cst_6 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_cst_7 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_8 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v143_scv : Ref sig .scVector := ⟨.hbm, 197, rfl⟩
abbrev main_v142_scv : Ref sig .scVector := ⟨.hbm, 196, rfl⟩
abbrev main_v144_scv : Ref sig .scVector := ⟨.hbm, 198, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc1_stg11_0 : Ref sig .tc := ⟨.vmem, 22, rfl⟩
abbrev cc1_stg11_1 : Ref sig .tc := ⟨.vmem, 23, rfl⟩
abbrev cc1_stg12_0 : Ref sig .tc := ⟨.vmem, 24, rfl⟩
abbrev cc1_stg12_1 : Ref sig .tc := ⟨.vmem, 25, rfl⟩
abbrev cc1_stg13_0 : Ref sig .tc := ⟨.vmem, 26, rfl⟩
abbrev cc1_stg13_1 : Ref sig .tc := ⟨.vmem, 27, rfl⟩
abbrev cc1_stg14_0 : Ref sig .tc := ⟨.vmem, 28, rfl⟩
abbrev cc1_stg14_1 : Ref sig .tc := ⟨.vmem, 29, rfl⟩
abbrev cc1_stg15_0 : Ref sig .tc := ⟨.vmem, 30, rfl⟩
abbrev cc1_stg15_1 : Ref sig .tc := ⟨.vmem, 31, rfl⟩
abbrev cc1_stg16_0 : Ref sig .tc := ⟨.vmem, 32, rfl⟩
abbrev cc1_stg16_1 : Ref sig .tc := ⟨.vmem, 33, rfl⟩
abbrev cc1_stg17_0 : Ref sig .tc := ⟨.vmem, 34, rfl⟩
abbrev cc1_stg17_1 : Ref sig .tc := ⟨.vmem, 35, rfl⟩
abbrev cc1_stg18_0 : Ref sig .tc := ⟨.vmem, 36, rfl⟩
abbrev cc1_stg18_1 : Ref sig .tc := ⟨.vmem, 37, rfl⟩
abbrev cc1_stg19_0 : Ref sig .tc := ⟨.vmem, 38, rfl⟩
abbrev cc1_stg20_0 : Ref sig .tc := ⟨.vmem, 39, rfl⟩
abbrev cc1_stg21_0 : Ref sig .tc := ⟨.vmem, 40, rfl⟩
abbrev cc1_stg22_0 : Ref sig .tc := ⟨.vmem, 41, rfl⟩
abbrev cc1_stg23_0 : Ref sig .tc := ⟨.vmem, 42, rfl⟩
abbrev cc1_stg24_0 : Ref sig .tc := ⟨.vmem, 43, rfl⟩
abbrev cc1_stg25_0 : Ref sig .tc := ⟨.vmem, 44, rfl⟩
abbrev cc1_stg26_0 : Ref sig .tc := ⟨.vmem, 45, rfl⟩
abbrev cc1_stg27_0 : Ref sig .tc := ⟨.vmem, 46, rfl⟩
abbrev cc1_stg28_0 : Ref sig .tc := ⟨.vmem, 47, rfl⟩
abbrev cc1_stg29_0 : Ref sig .tc := ⟨.vmem, 48, rfl⟩
abbrev cc1_stg30_0 : Ref sig .tc := ⟨.vmem, 49, rfl⟩
abbrev cc1_stg31_0 : Ref sig .tc := ⟨.vmem, 50, rfl⟩
abbrev cc1_stg32_0 : Ref sig .tc := ⟨.vmem, 51, rfl⟩
abbrev cc1_stg33_0 : Ref sig .tc := ⟨.vmem, 52, rfl⟩
abbrev cc1_stg34_0 : Ref sig .tc := ⟨.vmem, 53, rfl⟩
abbrev cc1_stg35_0 : Ref sig .tc := ⟨.vmem, 54, rfl⟩
abbrev cc1_stg36_0 : Ref sig .tc := ⟨.vmem, 55, rfl⟩
abbrev cc1_stg37_0 : Ref sig .tc := ⟨.vmem, 56, rfl⟩
abbrev cc1_stg37_1 : Ref sig .tc := ⟨.vmem, 57, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem2_1 : DmaSem sig := 24
abbrev cc1_sem3_0 : DmaSem sig := 25
abbrev cc1_sem3_1 : DmaSem sig := 26
abbrev cc1_sem4_0 : DmaSem sig := 27
abbrev cc1_sem4_1 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37
abbrev cc1_sem9_1 : DmaSem sig := 38
abbrev cc1_sem10_0 : DmaSem sig := 39
abbrev cc1_sem10_1 : DmaSem sig := 40
abbrev cc1_sem11_0 : DmaSem sig := 41
abbrev cc1_sem11_1 : DmaSem sig := 42
abbrev cc1_sem12_0 : DmaSem sig := 43
abbrev cc1_sem12_1 : DmaSem sig := 44
abbrev cc1_sem13_0 : DmaSem sig := 45
abbrev cc1_sem13_1 : DmaSem sig := 46
abbrev cc1_sem14_0 : DmaSem sig := 47
abbrev cc1_sem14_1 : DmaSem sig := 48
abbrev cc1_sem15_0 : DmaSem sig := 49
abbrev cc1_sem15_1 : DmaSem sig := 50
abbrev cc1_sem16_0 : DmaSem sig := 51
abbrev cc1_sem16_1 : DmaSem sig := 52
abbrev cc1_sem17_0 : DmaSem sig := 53
abbrev cc1_sem17_1 : DmaSem sig := 54
abbrev cc1_sem18_0 : DmaSem sig := 55
abbrev cc1_sem18_1 : DmaSem sig := 56
abbrev cc1_sem19_0 : DmaSem sig := 57
abbrev cc1_sem20_0 : DmaSem sig := 58
abbrev cc1_sem21_0 : DmaSem sig := 59
abbrev cc1_sem22_0 : DmaSem sig := 60
abbrev cc1_sem23_0 : DmaSem sig := 61
abbrev cc1_sem24_0 : DmaSem sig := 62
abbrev cc1_sem25_0 : DmaSem sig := 63
abbrev cc1_sem26_0 : DmaSem sig := 64
abbrev cc1_sem27_0 : DmaSem sig := 65
abbrev cc1_sem28_0 : DmaSem sig := 66
abbrev cc1_sem29_0 : DmaSem sig := 67
abbrev cc1_sem30_0 : DmaSem sig := 68
abbrev cc1_sem31_0 : DmaSem sig := 69
abbrev cc1_sem32_0 : DmaSem sig := 70
abbrev cc1_sem33_0 : DmaSem sig := 71
abbrev cc1_sem34_0 : DmaSem sig := 72
abbrev cc1_sem35_0 : DmaSem sig := 73
abbrev cc1_sem36_0 : DmaSem sig := 74
abbrev cc1_sem37_0 : DmaSem sig := 75
abbrev cc1_sem37_1 : DmaSem sig := 76
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32 : BitVec 32 := 24576#32
  let v2 : BitVec 32 := Scalar.muli v1 c24576_i32
  let v116 : BitVec 32 := Scalar.addi v2 c0_i32_32
  ![v116.toNat]
@[reducible] def k0_t1_loop : Scf.Loop 32 :=
  let c0_i32_35 : BitVec 32 := 0#32
  let c96_i32 : BitVec 32 := 96#32
  let v117 : BitVec 32 := Scalar.addi c0_i32_35 c96_i32
  let c1_i32_36 : BitVec 32 := 1#32
  ⟨c0_i32_35, v117, c1_i32_36⟩
def k0_off2 (k0_t1 : Fin k0_t1_loop.trips) : Fin 1 → Nat :=
  let c0_i32_35 : BitVec 32 := 0#32
  let c1_i32_36 : BitVec 32 := 1#32
  let arg10 : BitVec 32 := Scf.iv c0_i32_35 c1_i32_36 k0_t1
  let c16_i32_288 : BitVec 32 := 16#32
  let v404 : BitVec 32 := Scalar.muli arg10 c16_i32_288
  let v405 : Index := Scalar.indexCast v404
  ![v405.toNat]

def k0_chk1 (v410 : IVec S16 32) : Prop :=
  (∀ a x, ((![v410] : Fin 1 → IVec S16 32) a x).toNat < S19648.size a)
theorem k0_idx1_inb : ∀ (v410 : IVec S16 32) (k0_hw1 : k0_chk1 v410), ∀ a x, ((![v410] : Fin 1 → IVec S16 32) a x).toNat < S19648.size a := fun v410 k0_hw1 => k0_hw1

def k0_chk2 (v413 : IVec S16 32) : Prop :=
  (∀ a x, ((![v413] : Fin 1 → IVec S16 32) a x).toNat < S24576.size a)
theorem k0_idx2_inb : ∀ (v413 : IVec S16 32) (k0_hw2 : k0_chk2 v413), ∀ a x, ((![v413] : Fin 1 → IVec S16 32) a x).toNat < S24576.size a := fun v413 k0_hw2 => k0_hw2

def k0_chk3 (v416 : IVec S16 32) : Prop :=
  (∀ a x, ((![v416] : Fin 1 → IVec S16 32) a x).toNat < S19648.size a)
theorem k0_idx3_inb : ∀ (v416 : IVec S16 32) (k0_hw3 : k0_chk3 v416), ∀ a x, ((![v416] : Fin 1 → IVec S16 32) a x).toNat < S19648.size a := fun v416 k0_hw3 => k0_hw3

def k0_chk4 (v419 : IVec S16 32) : Prop :=
  (∀ a x, ((![v419] : Fin 1 → IVec S16 32) a x).toNat < S24576.size a)
theorem k0_idx4_inb : ∀ (v419 : IVec S16 32) (k0_hw4 : k0_chk4 v419), ∀ a x, ((![v419] : Fin 1 → IVec S16 32) a x).toNat < S24576.size a := fun v419 k0_hw4 => k0_hw4

def k0_chk5 (v422 : IVec S16 32) : Prop :=
  (∀ a x, ((![v422] : Fin 1 → IVec S16 32) a x).toNat < S19648.size a)
theorem k0_idx5_inb : ∀ (v422 : IVec S16 32) (k0_hw5 : k0_chk5 v422), ∀ a x, ((![v422] : Fin 1 → IVec S16 32) a x).toNat < S19648.size a := fun v422 k0_hw5 => k0_hw5

def k0_chk6 (v425 : IVec S16 32) : Prop :=
  (∀ a x, ((![v425] : Fin 1 → IVec S16 32) a x).toNat < S24576.size a)
theorem k0_idx6_inb : ∀ (v425 : IVec S16 32) (k0_hw6 : k0_chk6 v425), ∀ a x, ((![v425] : Fin 1 → IVec S16 32) a x).toNat < S24576.size a := fun v425 k0_hw6 => k0_hw6

def k0_chk7 (v428 : IVec S16 32) : Prop :=
  (∀ a x, ((![v428] : Fin 1 → IVec S16 32) a x).toNat < S19648.size a)
theorem k0_idx7_inb : ∀ (v428 : IVec S16 32) (k0_hw7 : k0_chk7 v428), ∀ a x, ((![v428] : Fin 1 → IVec S16 32) a x).toNat < S19648.size a := fun v428 k0_hw7 => k0_hw7

def k0_chk8 (v431 : IVec S16 32) : Prop :=
  (∀ a x, ((![v431] : Fin 1 → IVec S16 32) a x).toNat < S24576.size a)
theorem k0_idx8_inb : ∀ (v431 : IVec S16 32) (k0_hw8 : k0_chk8 v431), ∀ a x, ((![v431] : Fin 1 → IVec S16 32) a x).toNat < S24576.size a := fun v431 k0_hw8 => k0_hw8

def k0_chk9 (v434 : IVec S16 32) : Prop :=
  (∀ a x, ((![v434] : Fin 1 → IVec S16 32) a x).toNat < S19648.size a)
theorem k0_idx9_inb : ∀ (v434 : IVec S16 32) (k0_hw9 : k0_chk9 v434), ∀ a x, ((![v434] : Fin 1 → IVec S16 32) a x).toNat < S19648.size a := fun v434 k0_hw9 => k0_hw9

def k0_chk10 (v437 : IVec S16 32) : Prop :=
  (∀ a x, ((![v437] : Fin 1 → IVec S16 32) a x).toNat < S24576.size a)
theorem k0_idx10_inb : ∀ (v437 : IVec S16 32) (k0_hw10 : k0_chk10 v437), ∀ a x, ((![v437] : Fin 1 → IVec S16 32) a x).toNat < S24576.size a := fun v437 k0_hw10 => k0_hw10

def k0_chk11 (v440 : IVec S16 32) : Prop :=
  (∀ a x, ((![v440] : Fin 1 → IVec S16 32) a x).toNat < S19648.size a)
theorem k0_idx11_inb : ∀ (v440 : IVec S16 32) (k0_hw11 : k0_chk11 v440), ∀ a x, ((![v440] : Fin 1 → IVec S16 32) a x).toNat < S19648.size a := fun v440 k0_hw11 => k0_hw11

def k0_chk12 (v443 : IVec S16 32) : Prop :=
  (∀ a x, ((![v443] : Fin 1 → IVec S16 32) a x).toNat < S24576.size a)
theorem k0_idx12_inb : ∀ (v443 : IVec S16 32) (k0_hw12 : k0_chk12 v443), ∀ a x, ((![v443] : Fin 1 → IVec S16 32) a x).toNat < S24576.size a := fun v443 k0_hw12 => k0_hw12

def k0_chk13 (v446 : IVec S16 32) : Prop :=
  (∀ a x, ((![v446] : Fin 1 → IVec S16 32) a x).toNat < S19648.size a)
theorem k0_idx13_inb : ∀ (v446 : IVec S16 32) (k0_hw13 : k0_chk13 v446), ∀ a x, ((![v446] : Fin 1 → IVec S16 32) a x).toNat < S19648.size a := fun v446 k0_hw13 => k0_hw13

def k0_chk14 (v449 : IVec S16 32) : Prop :=
  (∀ a x, ((![v449] : Fin 1 → IVec S16 32) a x).toNat < S24576.size a)
theorem k0_idx14_inb : ∀ (v449 : IVec S16 32) (k0_hw14 : k0_chk14 v449), ∀ a x, ((![v449] : Fin 1 → IVec S16 32) a x).toNat < S24576.size a := fun v449 k0_hw14 => k0_hw14

def k0_chk15 (v452 : IVec S16 32) : Prop :=
  (∀ a x, ((![v452] : Fin 1 → IVec S16 32) a x).toNat < S19648.size a)
theorem k0_idx15_inb : ∀ (v452 : IVec S16 32) (k0_hw15 : k0_chk15 v452), ∀ a x, ((![v452] : Fin 1 → IVec S16 32) a x).toNat < S19648.size a := fun v452 k0_hw15 => k0_hw15

def k0_chk16 (v455 : IVec S16 32) : Prop :=
  (∀ a x, ((![v455] : Fin 1 → IVec S16 32) a x).toNat < S24576.size a)
theorem k0_idx16_inb : ∀ (v455 : IVec S16 32) (k0_hw16 : k0_chk16 v455), ∀ a x, ((![v455] : Fin 1 → IVec S16 32) a x).toNat < S24576.size a := fun v455 k0_hw16 => k0_hw16

def k0_chk17 (v458 : IVec S16 32) : Prop :=
  (∀ a x, ((![v458] : Fin 1 → IVec S16 32) a x).toNat < S19648.size a)
theorem k0_idx17_inb : ∀ (v458 : IVec S16 32) (k0_hw17 : k0_chk17 v458), ∀ a x, ((![v458] : Fin 1 → IVec S16 32) a x).toNat < S19648.size a := fun v458 k0_hw17 => k0_hw17

def k0_chk18 (v461 : IVec S16 32) : Prop :=
  (∀ a x, ((![v461] : Fin 1 → IVec S16 32) a x).toNat < S24576.size a)
theorem k0_idx18_inb : ∀ (v461 : IVec S16 32) (k0_hw18 : k0_chk18 v461), ∀ a x, ((![v461] : Fin 1 → IVec S16 32) a x).toNat < S24576.size a := fun v461 k0_hw18 => k0_hw18

def k0_chk19 (v464 : IVec S16 32) : Prop :=
  (∀ a x, ((![v464] : Fin 1 → IVec S16 32) a x).toNat < S19648.size a)
theorem k0_idx19_inb : ∀ (v464 : IVec S16 32) (k0_hw19 : k0_chk19 v464), ∀ a x, ((![v464] : Fin 1 → IVec S16 32) a x).toNat < S19648.size a := fun v464 k0_hw19 => k0_hw19

def k0_chk20 (v467 : IVec S16 32) : Prop :=
  (∀ a x, ((![v467] : Fin 1 → IVec S16 32) a x).toNat < S24576.size a)
theorem k0_idx20_inb : ∀ (v467 : IVec S16 32) (k0_hw20 : k0_chk20 v467), ∀ a x, ((![v467] : Fin 1 → IVec S16 32) a x).toNat < S24576.size a := fun v467 k0_hw20 => k0_hw20

def k0_chk21 (v470 : IVec S16 32) : Prop :=
  (∀ a x, ((![v470] : Fin 1 → IVec S16 32) a x).toNat < S19648.size a)
theorem k0_idx21_inb : ∀ (v470 : IVec S16 32) (k0_hw21 : k0_chk21 v470), ∀ a x, ((![v470] : Fin 1 → IVec S16 32) a x).toNat < S19648.size a := fun v470 k0_hw21 => k0_hw21

def k0_chk22 (v473 : IVec S16 32) : Prop :=
  (∀ a x, ((![v473] : Fin 1 → IVec S16 32) a x).toNat < S24576.size a)
theorem k0_idx22_inb : ∀ (v473 : IVec S16 32) (k0_hw22 : k0_chk22 v473), ∀ a x, ((![v473] : Fin 1 → IVec S16 32) a x).toNat < S24576.size a := fun v473 k0_hw22 => k0_hw22

def k0_chk23 (v476 : IVec S16 32) : Prop :=
  (∀ a x, ((![v476] : Fin 1 → IVec S16 32) a x).toNat < S19648.size a)
theorem k0_idx23_inb : ∀ (v476 : IVec S16 32) (k0_hw23 : k0_chk23 v476), ∀ a x, ((![v476] : Fin 1 → IVec S16 32) a x).toNat < S19648.size a := fun v476 k0_hw23 => k0_hw23

def k0_chk24 (v479 : IVec S16 32) : Prop :=
  (∀ a x, ((![v479] : Fin 1 → IVec S16 32) a x).toNat < S24576.size a)
theorem k0_idx24_inb : ∀ (v479 : IVec S16 32) (k0_hw24 : k0_chk24 v479), ∀ a x, ((![v479] : Fin 1 → IVec S16 32) a x).toNat < S24576.size a := fun v479 k0_hw24 => k0_hw24

def k0_chk25 (v482 : IVec S16 32) : Prop :=
  (∀ a x, ((![v482] : Fin 1 → IVec S16 32) a x).toNat < S19648.size a)
theorem k0_idx25_inb : ∀ (v482 : IVec S16 32) (k0_hw25 : k0_chk25 v482), ∀ a x, ((![v482] : Fin 1 → IVec S16 32) a x).toNat < S19648.size a := fun v482 k0_hw25 => k0_hw25

def k0_chk26 (v485 : IVec S16 32) : Prop :=
  (∀ a x, ((![v485] : Fin 1 → IVec S16 32) a x).toNat < S24576.size a)
theorem k0_idx26_inb : ∀ (v485 : IVec S16 32) (k0_hw26 : k0_chk26 v485), ∀ a x, ((![v485] : Fin 1 → IVec S16 32) a x).toNat < S24576.size a := fun v485 k0_hw26 => k0_hw26

def k0_chk27 (v488 : IVec S16 32) : Prop :=
  (∀ a x, ((![v488] : Fin 1 → IVec S16 32) a x).toNat < S19648.size a)
theorem k0_idx27_inb : ∀ (v488 : IVec S16 32) (k0_hw27 : k0_chk27 v488), ∀ a x, ((![v488] : Fin 1 → IVec S16 32) a x).toNat < S19648.size a := fun v488 k0_hw27 => k0_hw27

def k0_chk28 (v491 : IVec S16 32) : Prop :=
  (∀ a x, ((![v491] : Fin 1 → IVec S16 32) a x).toNat < S24576.size a)
theorem k0_idx28_inb : ∀ (v491 : IVec S16 32) (k0_hw28 : k0_chk28 v491), ∀ a x, ((![v491] : Fin 1 → IVec S16 32) a x).toNat < S24576.size a := fun v491 k0_hw28 => k0_hw28

def k0_chk29 (v494 : IVec S16 32) : Prop :=
  (∀ a x, ((![v494] : Fin 1 → IVec S16 32) a x).toNat < S19648.size a)
theorem k0_idx29_inb : ∀ (v494 : IVec S16 32) (k0_hw29 : k0_chk29 v494), ∀ a x, ((![v494] : Fin 1 → IVec S16 32) a x).toNat < S19648.size a := fun v494 k0_hw29 => k0_hw29

def k0_chk30 (v497 : IVec S16 32) : Prop :=
  (∀ a x, ((![v497] : Fin 1 → IVec S16 32) a x).toNat < S24576.size a)
theorem k0_idx30_inb : ∀ (v497 : IVec S16 32) (k0_hw30 : k0_chk30 v497), ∀ a x, ((![v497] : Fin 1 → IVec S16 32) a x).toNat < S24576.size a := fun v497 k0_hw30 => k0_hw30

def k0_chk31 (v500 : IVec S16 32) : Prop :=
  (∀ a x, ((![v500] : Fin 1 → IVec S16 32) a x).toNat < S19648.size a)
theorem k0_idx31_inb : ∀ (v500 : IVec S16 32) (k0_hw31 : k0_chk31 v500), ∀ a x, ((![v500] : Fin 1 → IVec S16 32) a x).toNat < S19648.size a := fun v500 k0_hw31 => k0_hw31

def k0_chk32 (v503 : IVec S16 32) : Prop :=
  (∀ a x, ((![v503] : Fin 1 → IVec S16 32) a x).toNat < S24576.size a)
theorem k0_idx32_inb : ∀ (v503 : IVec S16 32) (k0_hw32 : k0_chk32 v503), ∀ a x, ((![v503] : Fin 1 → IVec S16 32) a x).toNat < S24576.size a := fun v503 k0_hw32 => k0_hw32
def k0_off3 (i : grid0.Coords) (c0_i32_38 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32 : BitVec 32 := 24576#32
  let v2 : BitVec 32 := Scalar.muli v1 c24576_i32
  let v118 : BitVec 32 := Scalar.addi v2 c0_i32_38
  let c16_i32_39 : BitVec 32 := 16#32
  let v119 : BitVec 32 := Scalar.muli v118 c16_i32_39
  ![v119.toNat]
@[reducible] def k0_t2_loop : Scf.Loop 32 :=
  let c0_i32_45 : BitVec 32 := 0#32
  let c96_i32_46 : BitVec 32 := 96#32
  let v127 : BitVec 32 := Scalar.addi c0_i32_45 c96_i32_46
  let c1_i32_47 : BitVec 32 := 1#32
  ⟨c0_i32_45, v127, c1_i32_47⟩
def k0_off4 (k0_t2 : Fin k0_t2_loop.trips) : Fin 1 → Nat :=
  let c0_i32_45 : BitVec 32 := 0#32
  let c1_i32_47 : BitVec 32 := 1#32
  let arg10 : BitVec 32 := Scf.iv c0_i32_45 c1_i32_47 k0_t2
  let c16_i32_288 : BitVec 32 := 16#32
  let v404 : BitVec 32 := Scalar.muli arg10 c16_i32_288
  let v405 : Index := Scalar.indexCast v404
  ![v405.toNat]

def k0_chk33 (v410 : IVec S16 32) : Prop :=
  (∀ a x, ((![v410] : Fin 1 → IVec S16 32) a x).toNat < S19648.size a)
theorem k0_idx33_inb : ∀ (v410 : IVec S16 32) (k0_hw33 : k0_chk33 v410), ∀ a x, ((![v410] : Fin 1 → IVec S16 32) a x).toNat < S19648.size a := fun v410 k0_hw33 => k0_hw33

def k0_chk34 (v413 : IVec S16 32) : Prop :=
  (∀ a x, ((![v413] : Fin 1 → IVec S16 32) a x).toNat < S24576.size a)
theorem k0_idx34_inb : ∀ (v413 : IVec S16 32) (k0_hw34 : k0_chk34 v413), ∀ a x, ((![v413] : Fin 1 → IVec S16 32) a x).toNat < S24576.size a := fun v413 k0_hw34 => k0_hw34

def k0_chk35 (v416 : IVec S16 32) : Prop :=
  (∀ a x, ((![v416] : Fin 1 → IVec S16 32) a x).toNat < S19648.size a)
theorem k0_idx35_inb : ∀ (v416 : IVec S16 32) (k0_hw35 : k0_chk35 v416), ∀ a x, ((![v416] : Fin 1 → IVec S16 32) a x).toNat < S19648.size a := fun v416 k0_hw35 => k0_hw35

def k0_chk36 (v419 : IVec S16 32) : Prop :=
  (∀ a x, ((![v419] : Fin 1 → IVec S16 32) a x).toNat < S24576.size a)
theorem k0_idx36_inb : ∀ (v419 : IVec S16 32) (k0_hw36 : k0_chk36 v419), ∀ a x, ((![v419] : Fin 1 → IVec S16 32) a x).toNat < S24576.size a := fun v419 k0_hw36 => k0_hw36

def k0_chk37 (v422 : IVec S16 32) : Prop :=
  (∀ a x, ((![v422] : Fin 1 → IVec S16 32) a x).toNat < S19648.size a)
theorem k0_idx37_inb : ∀ (v422 : IVec S16 32) (k0_hw37 : k0_chk37 v422), ∀ a x, ((![v422] : Fin 1 → IVec S16 32) a x).toNat < S19648.size a := fun v422 k0_hw37 => k0_hw37

def k0_chk38 (v425 : IVec S16 32) : Prop :=
  (∀ a x, ((![v425] : Fin 1 → IVec S16 32) a x).toNat < S24576.size a)
theorem k0_idx38_inb : ∀ (v425 : IVec S16 32) (k0_hw38 : k0_chk38 v425), ∀ a x, ((![v425] : Fin 1 → IVec S16 32) a x).toNat < S24576.size a := fun v425 k0_hw38 => k0_hw38

def k0_chk39 (v428 : IVec S16 32) : Prop :=
  (∀ a x, ((![v428] : Fin 1 → IVec S16 32) a x).toNat < S19648.size a)
theorem k0_idx39_inb : ∀ (v428 : IVec S16 32) (k0_hw39 : k0_chk39 v428), ∀ a x, ((![v428] : Fin 1 → IVec S16 32) a x).toNat < S19648.size a := fun v428 k0_hw39 => k0_hw39

def k0_chk40 (v431 : IVec S16 32) : Prop :=
  (∀ a x, ((![v431] : Fin 1 → IVec S16 32) a x).toNat < S24576.size a)
theorem k0_idx40_inb : ∀ (v431 : IVec S16 32) (k0_hw40 : k0_chk40 v431), ∀ a x, ((![v431] : Fin 1 → IVec S16 32) a x).toNat < S24576.size a := fun v431 k0_hw40 => k0_hw40

def k0_chk41 (v434 : IVec S16 32) : Prop :=
  (∀ a x, ((![v434] : Fin 1 → IVec S16 32) a x).toNat < S19648.size a)
theorem k0_idx41_inb : ∀ (v434 : IVec S16 32) (k0_hw41 : k0_chk41 v434), ∀ a x, ((![v434] : Fin 1 → IVec S16 32) a x).toNat < S19648.size a := fun v434 k0_hw41 => k0_hw41

def k0_chk42 (v437 : IVec S16 32) : Prop :=
  (∀ a x, ((![v437] : Fin 1 → IVec S16 32) a x).toNat < S24576.size a)
theorem k0_idx42_inb : ∀ (v437 : IVec S16 32) (k0_hw42 : k0_chk42 v437), ∀ a x, ((![v437] : Fin 1 → IVec S16 32) a x).toNat < S24576.size a := fun v437 k0_hw42 => k0_hw42

def k0_chk43 (v440 : IVec S16 32) : Prop :=
  (∀ a x, ((![v440] : Fin 1 → IVec S16 32) a x).toNat < S19648.size a)
theorem k0_idx43_inb : ∀ (v440 : IVec S16 32) (k0_hw43 : k0_chk43 v440), ∀ a x, ((![v440] : Fin 1 → IVec S16 32) a x).toNat < S19648.size a := fun v440 k0_hw43 => k0_hw43

def k0_chk44 (v443 : IVec S16 32) : Prop :=
  (∀ a x, ((![v443] : Fin 1 → IVec S16 32) a x).toNat < S24576.size a)
theorem k0_idx44_inb : ∀ (v443 : IVec S16 32) (k0_hw44 : k0_chk44 v443), ∀ a x, ((![v443] : Fin 1 → IVec S16 32) a x).toNat < S24576.size a := fun v443 k0_hw44 => k0_hw44

def k0_chk45 (v446 : IVec S16 32) : Prop :=
  (∀ a x, ((![v446] : Fin 1 → IVec S16 32) a x).toNat < S19648.size a)
theorem k0_idx45_inb : ∀ (v446 : IVec S16 32) (k0_hw45 : k0_chk45 v446), ∀ a x, ((![v446] : Fin 1 → IVec S16 32) a x).toNat < S19648.size a := fun v446 k0_hw45 => k0_hw45

def k0_chk46 (v449 : IVec S16 32) : Prop :=
  (∀ a x, ((![v449] : Fin 1 → IVec S16 32) a x).toNat < S24576.size a)
theorem k0_idx46_inb : ∀ (v449 : IVec S16 32) (k0_hw46 : k0_chk46 v449), ∀ a x, ((![v449] : Fin 1 → IVec S16 32) a x).toNat < S24576.size a := fun v449 k0_hw46 => k0_hw46

def k0_chk47 (v452 : IVec S16 32) : Prop :=
  (∀ a x, ((![v452] : Fin 1 → IVec S16 32) a x).toNat < S19648.size a)
theorem k0_idx47_inb : ∀ (v452 : IVec S16 32) (k0_hw47 : k0_chk47 v452), ∀ a x, ((![v452] : Fin 1 → IVec S16 32) a x).toNat < S19648.size a := fun v452 k0_hw47 => k0_hw47

def k0_chk48 (v455 : IVec S16 32) : Prop :=
  (∀ a x, ((![v455] : Fin 1 → IVec S16 32) a x).toNat < S24576.size a)
theorem k0_idx48_inb : ∀ (v455 : IVec S16 32) (k0_hw48 : k0_chk48 v455), ∀ a x, ((![v455] : Fin 1 → IVec S16 32) a x).toNat < S24576.size a := fun v455 k0_hw48 => k0_hw48

def k0_chk49 (v458 : IVec S16 32) : Prop :=
  (∀ a x, ((![v458] : Fin 1 → IVec S16 32) a x).toNat < S19648.size a)
theorem k0_idx49_inb : ∀ (v458 : IVec S16 32) (k0_hw49 : k0_chk49 v458), ∀ a x, ((![v458] : Fin 1 → IVec S16 32) a x).toNat < S19648.size a := fun v458 k0_hw49 => k0_hw49

def k0_chk50 (v461 : IVec S16 32) : Prop :=
  (∀ a x, ((![v461] : Fin 1 → IVec S16 32) a x).toNat < S24576.size a)
theorem k0_idx50_inb : ∀ (v461 : IVec S16 32) (k0_hw50 : k0_chk50 v461), ∀ a x, ((![v461] : Fin 1 → IVec S16 32) a x).toNat < S24576.size a := fun v461 k0_hw50 => k0_hw50

def k0_chk51 (v464 : IVec S16 32) : Prop :=
  (∀ a x, ((![v464] : Fin 1 → IVec S16 32) a x).toNat < S19648.size a)
theorem k0_idx51_inb : ∀ (v464 : IVec S16 32) (k0_hw51 : k0_chk51 v464), ∀ a x, ((![v464] : Fin 1 → IVec S16 32) a x).toNat < S19648.size a := fun v464 k0_hw51 => k0_hw51

def k0_chk52 (v467 : IVec S16 32) : Prop :=
  (∀ a x, ((![v467] : Fin 1 → IVec S16 32) a x).toNat < S24576.size a)
theorem k0_idx52_inb : ∀ (v467 : IVec S16 32) (k0_hw52 : k0_chk52 v467), ∀ a x, ((![v467] : Fin 1 → IVec S16 32) a x).toNat < S24576.size a := fun v467 k0_hw52 => k0_hw52

def k0_chk53 (v470 : IVec S16 32) : Prop :=
  (∀ a x, ((![v470] : Fin 1 → IVec S16 32) a x).toNat < S19648.size a)
theorem k0_idx53_inb : ∀ (v470 : IVec S16 32) (k0_hw53 : k0_chk53 v470), ∀ a x, ((![v470] : Fin 1 → IVec S16 32) a x).toNat < S19648.size a := fun v470 k0_hw53 => k0_hw53

def k0_chk54 (v473 : IVec S16 32) : Prop :=
  (∀ a x, ((![v473] : Fin 1 → IVec S16 32) a x).toNat < S24576.size a)
theorem k0_idx54_inb : ∀ (v473 : IVec S16 32) (k0_hw54 : k0_chk54 v473), ∀ a x, ((![v473] : Fin 1 → IVec S16 32) a x).toNat < S24576.size a := fun v473 k0_hw54 => k0_hw54

def k0_chk55 (v476 : IVec S16 32) : Prop :=
  (∀ a x, ((![v476] : Fin 1 → IVec S16 32) a x).toNat < S19648.size a)
theorem k0_idx55_inb : ∀ (v476 : IVec S16 32) (k0_hw55 : k0_chk55 v476), ∀ a x, ((![v476] : Fin 1 → IVec S16 32) a x).toNat < S19648.size a := fun v476 k0_hw55 => k0_hw55

def k0_chk56 (v479 : IVec S16 32) : Prop :=
  (∀ a x, ((![v479] : Fin 1 → IVec S16 32) a x).toNat < S24576.size a)
theorem k0_idx56_inb : ∀ (v479 : IVec S16 32) (k0_hw56 : k0_chk56 v479), ∀ a x, ((![v479] : Fin 1 → IVec S16 32) a x).toNat < S24576.size a := fun v479 k0_hw56 => k0_hw56

def k0_chk57 (v482 : IVec S16 32) : Prop :=
  (∀ a x, ((![v482] : Fin 1 → IVec S16 32) a x).toNat < S19648.size a)
theorem k0_idx57_inb : ∀ (v482 : IVec S16 32) (k0_hw57 : k0_chk57 v482), ∀ a x, ((![v482] : Fin 1 → IVec S16 32) a x).toNat < S19648.size a := fun v482 k0_hw57 => k0_hw57

def k0_chk58 (v485 : IVec S16 32) : Prop :=
  (∀ a x, ((![v485] : Fin 1 → IVec S16 32) a x).toNat < S24576.size a)
theorem k0_idx58_inb : ∀ (v485 : IVec S16 32) (k0_hw58 : k0_chk58 v485), ∀ a x, ((![v485] : Fin 1 → IVec S16 32) a x).toNat < S24576.size a := fun v485 k0_hw58 => k0_hw58

def k0_chk59 (v488 : IVec S16 32) : Prop :=
  (∀ a x, ((![v488] : Fin 1 → IVec S16 32) a x).toNat < S19648.size a)
theorem k0_idx59_inb : ∀ (v488 : IVec S16 32) (k0_hw59 : k0_chk59 v488), ∀ a x, ((![v488] : Fin 1 → IVec S16 32) a x).toNat < S19648.size a := fun v488 k0_hw59 => k0_hw59

def k0_chk60 (v491 : IVec S16 32) : Prop :=
  (∀ a x, ((![v491] : Fin 1 → IVec S16 32) a x).toNat < S24576.size a)
theorem k0_idx60_inb : ∀ (v491 : IVec S16 32) (k0_hw60 : k0_chk60 v491), ∀ a x, ((![v491] : Fin 1 → IVec S16 32) a x).toNat < S24576.size a := fun v491 k0_hw60 => k0_hw60

def k0_chk61 (v494 : IVec S16 32) : Prop :=
  (∀ a x, ((![v494] : Fin 1 → IVec S16 32) a x).toNat < S19648.size a)
theorem k0_idx61_inb : ∀ (v494 : IVec S16 32) (k0_hw61 : k0_chk61 v494), ∀ a x, ((![v494] : Fin 1 → IVec S16 32) a x).toNat < S19648.size a := fun v494 k0_hw61 => k0_hw61

def k0_chk62 (v497 : IVec S16 32) : Prop :=
  (∀ a x, ((![v497] : Fin 1 → IVec S16 32) a x).toNat < S24576.size a)
theorem k0_idx62_inb : ∀ (v497 : IVec S16 32) (k0_hw62 : k0_chk62 v497), ∀ a x, ((![v497] : Fin 1 → IVec S16 32) a x).toNat < S24576.size a := fun v497 k0_hw62 => k0_hw62

def k0_chk63 (v500 : IVec S16 32) : Prop :=
  (∀ a x, ((![v500] : Fin 1 → IVec S16 32) a x).toNat < S19648.size a)
theorem k0_idx63_inb : ∀ (v500 : IVec S16 32) (k0_hw63 : k0_chk63 v500), ∀ a x, ((![v500] : Fin 1 → IVec S16 32) a x).toNat < S19648.size a := fun v500 k0_hw63 => k0_hw63

def k0_chk64 (v503 : IVec S16 32) : Prop :=
  (∀ a x, ((![v503] : Fin 1 → IVec S16 32) a x).toNat < S24576.size a)
theorem k0_idx64_inb : ∀ (v503 : IVec S16 32) (k0_hw64 : k0_chk64 v503), ∀ a x, ((![v503] : Fin 1 → IVec S16 32) a x).toNat < S24576.size a := fun v503 k0_hw64 => k0_hw64
@[reducible] def k0_t3_loop : Scf.Loop 32 :=
  let c0_i32_61 : BitVec 32 := 0#32
  let c96_i32_62 : BitVec 32 := 96#32
  let v145 : BitVec 32 := Scalar.addi c0_i32_61 c96_i32_62
  let c1_i32_63 : BitVec 32 := 1#32
  ⟨c0_i32_61, v145, c1_i32_63⟩
def k0_off5 (k0_t3 : Fin k0_t3_loop.trips) : Fin 1 → Nat :=
  let c0_i32_61 : BitVec 32 := 0#32
  let c1_i32_63 : BitVec 32 := 1#32
  let arg10 : BitVec 32 := Scf.iv c0_i32_61 c1_i32_63 k0_t3
  let c16_i32_288 : BitVec 32 := 16#32
  let v404 : BitVec 32 := Scalar.muli arg10 c16_i32_288
  let v405 : Index := Scalar.indexCast v404
  ![v405.toNat]

def k0_chk65 (v410 : IVec S16 32) : Prop :=
  (∀ a x, ((![v410] : Fin 1 → IVec S16 32) a x).toNat < S19648.size a)
theorem k0_idx65_inb : ∀ (v410 : IVec S16 32) (k0_hw65 : k0_chk65 v410), ∀ a x, ((![v410] : Fin 1 → IVec S16 32) a x).toNat < S19648.size a := fun v410 k0_hw65 => k0_hw65

def k0_chk66 (v413 : IVec S16 32) : Prop :=
  (∀ a x, ((![v413] : Fin 1 → IVec S16 32) a x).toNat < S24576.size a)
theorem k0_idx66_inb : ∀ (v413 : IVec S16 32) (k0_hw66 : k0_chk66 v413), ∀ a x, ((![v413] : Fin 1 → IVec S16 32) a x).toNat < S24576.size a := fun v413 k0_hw66 => k0_hw66

def k0_chk67 (v416 : IVec S16 32) : Prop :=
  (∀ a x, ((![v416] : Fin 1 → IVec S16 32) a x).toNat < S19648.size a)
theorem k0_idx67_inb : ∀ (v416 : IVec S16 32) (k0_hw67 : k0_chk67 v416), ∀ a x, ((![v416] : Fin 1 → IVec S16 32) a x).toNat < S19648.size a := fun v416 k0_hw67 => k0_hw67

def k0_chk68 (v419 : IVec S16 32) : Prop :=
  (∀ a x, ((![v419] : Fin 1 → IVec S16 32) a x).toNat < S24576.size a)
theorem k0_idx68_inb : ∀ (v419 : IVec S16 32) (k0_hw68 : k0_chk68 v419), ∀ a x, ((![v419] : Fin 1 → IVec S16 32) a x).toNat < S24576.size a := fun v419 k0_hw68 => k0_hw68

def k0_chk69 (v422 : IVec S16 32) : Prop :=
  (∀ a x, ((![v422] : Fin 1 → IVec S16 32) a x).toNat < S19648.size a)
theorem k0_idx69_inb : ∀ (v422 : IVec S16 32) (k0_hw69 : k0_chk69 v422), ∀ a x, ((![v422] : Fin 1 → IVec S16 32) a x).toNat < S19648.size a := fun v422 k0_hw69 => k0_hw69

def k0_chk70 (v425 : IVec S16 32) : Prop :=
  (∀ a x, ((![v425] : Fin 1 → IVec S16 32) a x).toNat < S24576.size a)
theorem k0_idx70_inb : ∀ (v425 : IVec S16 32) (k0_hw70 : k0_chk70 v425), ∀ a x, ((![v425] : Fin 1 → IVec S16 32) a x).toNat < S24576.size a := fun v425 k0_hw70 => k0_hw70

def k0_chk71 (v428 : IVec S16 32) : Prop :=
  (∀ a x, ((![v428] : Fin 1 → IVec S16 32) a x).toNat < S19648.size a)
theorem k0_idx71_inb : ∀ (v428 : IVec S16 32) (k0_hw71 : k0_chk71 v428), ∀ a x, ((![v428] : Fin 1 → IVec S16 32) a x).toNat < S19648.size a := fun v428 k0_hw71 => k0_hw71

def k0_chk72 (v431 : IVec S16 32) : Prop :=
  (∀ a x, ((![v431] : Fin 1 → IVec S16 32) a x).toNat < S24576.size a)
theorem k0_idx72_inb : ∀ (v431 : IVec S16 32) (k0_hw72 : k0_chk72 v431), ∀ a x, ((![v431] : Fin 1 → IVec S16 32) a x).toNat < S24576.size a := fun v431 k0_hw72 => k0_hw72

def k0_chk73 (v434 : IVec S16 32) : Prop :=
  (∀ a x, ((![v434] : Fin 1 → IVec S16 32) a x).toNat < S19648.size a)
theorem k0_idx73_inb : ∀ (v434 : IVec S16 32) (k0_hw73 : k0_chk73 v434), ∀ a x, ((![v434] : Fin 1 → IVec S16 32) a x).toNat < S19648.size a := fun v434 k0_hw73 => k0_hw73

def k0_chk74 (v437 : IVec S16 32) : Prop :=
  (∀ a x, ((![v437] : Fin 1 → IVec S16 32) a x).toNat < S24576.size a)
theorem k0_idx74_inb : ∀ (v437 : IVec S16 32) (k0_hw74 : k0_chk74 v437), ∀ a x, ((![v437] : Fin 1 → IVec S16 32) a x).toNat < S24576.size a := fun v437 k0_hw74 => k0_hw74

def k0_chk75 (v440 : IVec S16 32) : Prop :=
  (∀ a x, ((![v440] : Fin 1 → IVec S16 32) a x).toNat < S19648.size a)
theorem k0_idx75_inb : ∀ (v440 : IVec S16 32) (k0_hw75 : k0_chk75 v440), ∀ a x, ((![v440] : Fin 1 → IVec S16 32) a x).toNat < S19648.size a := fun v440 k0_hw75 => k0_hw75

def k0_chk76 (v443 : IVec S16 32) : Prop :=
  (∀ a x, ((![v443] : Fin 1 → IVec S16 32) a x).toNat < S24576.size a)
theorem k0_idx76_inb : ∀ (v443 : IVec S16 32) (k0_hw76 : k0_chk76 v443), ∀ a x, ((![v443] : Fin 1 → IVec S16 32) a x).toNat < S24576.size a := fun v443 k0_hw76 => k0_hw76

def k0_chk77 (v446 : IVec S16 32) : Prop :=
  (∀ a x, ((![v446] : Fin 1 → IVec S16 32) a x).toNat < S19648.size a)
theorem k0_idx77_inb : ∀ (v446 : IVec S16 32) (k0_hw77 : k0_chk77 v446), ∀ a x, ((![v446] : Fin 1 → IVec S16 32) a x).toNat < S19648.size a := fun v446 k0_hw77 => k0_hw77

def k0_chk78 (v449 : IVec S16 32) : Prop :=
  (∀ a x, ((![v449] : Fin 1 → IVec S16 32) a x).toNat < S24576.size a)
theorem k0_idx78_inb : ∀ (v449 : IVec S16 32) (k0_hw78 : k0_chk78 v449), ∀ a x, ((![v449] : Fin 1 → IVec S16 32) a x).toNat < S24576.size a := fun v449 k0_hw78 => k0_hw78

def k0_chk79 (v452 : IVec S16 32) : Prop :=
  (∀ a x, ((![v452] : Fin 1 → IVec S16 32) a x).toNat < S19648.size a)
theorem k0_idx79_inb : ∀ (v452 : IVec S16 32) (k0_hw79 : k0_chk79 v452), ∀ a x, ((![v452] : Fin 1 → IVec S16 32) a x).toNat < S19648.size a := fun v452 k0_hw79 => k0_hw79

def k0_chk80 (v455 : IVec S16 32) : Prop :=
  (∀ a x, ((![v455] : Fin 1 → IVec S16 32) a x).toNat < S24576.size a)
theorem k0_idx80_inb : ∀ (v455 : IVec S16 32) (k0_hw80 : k0_chk80 v455), ∀ a x, ((![v455] : Fin 1 → IVec S16 32) a x).toNat < S24576.size a := fun v455 k0_hw80 => k0_hw80

def k0_chk81 (v458 : IVec S16 32) : Prop :=
  (∀ a x, ((![v458] : Fin 1 → IVec S16 32) a x).toNat < S19648.size a)
theorem k0_idx81_inb : ∀ (v458 : IVec S16 32) (k0_hw81 : k0_chk81 v458), ∀ a x, ((![v458] : Fin 1 → IVec S16 32) a x).toNat < S19648.size a := fun v458 k0_hw81 => k0_hw81

def k0_chk82 (v461 : IVec S16 32) : Prop :=
  (∀ a x, ((![v461] : Fin 1 → IVec S16 32) a x).toNat < S24576.size a)
theorem k0_idx82_inb : ∀ (v461 : IVec S16 32) (k0_hw82 : k0_chk82 v461), ∀ a x, ((![v461] : Fin 1 → IVec S16 32) a x).toNat < S24576.size a := fun v461 k0_hw82 => k0_hw82

def k0_chk83 (v464 : IVec S16 32) : Prop :=
  (∀ a x, ((![v464] : Fin 1 → IVec S16 32) a x).toNat < S19648.size a)
theorem k0_idx83_inb : ∀ (v464 : IVec S16 32) (k0_hw83 : k0_chk83 v464), ∀ a x, ((![v464] : Fin 1 → IVec S16 32) a x).toNat < S19648.size a := fun v464 k0_hw83 => k0_hw83

def k0_chk84 (v467 : IVec S16 32) : Prop :=
  (∀ a x, ((![v467] : Fin 1 → IVec S16 32) a x).toNat < S24576.size a)
theorem k0_idx84_inb : ∀ (v467 : IVec S16 32) (k0_hw84 : k0_chk84 v467), ∀ a x, ((![v467] : Fin 1 → IVec S16 32) a x).toNat < S24576.size a := fun v467 k0_hw84 => k0_hw84

def k0_chk85 (v470 : IVec S16 32) : Prop :=
  (∀ a x, ((![v470] : Fin 1 → IVec S16 32) a x).toNat < S19648.size a)
theorem k0_idx85_inb : ∀ (v470 : IVec S16 32) (k0_hw85 : k0_chk85 v470), ∀ a x, ((![v470] : Fin 1 → IVec S16 32) a x).toNat < S19648.size a := fun v470 k0_hw85 => k0_hw85

def k0_chk86 (v473 : IVec S16 32) : Prop :=
  (∀ a x, ((![v473] : Fin 1 → IVec S16 32) a x).toNat < S24576.size a)
theorem k0_idx86_inb : ∀ (v473 : IVec S16 32) (k0_hw86 : k0_chk86 v473), ∀ a x, ((![v473] : Fin 1 → IVec S16 32) a x).toNat < S24576.size a := fun v473 k0_hw86 => k0_hw86

def k0_chk87 (v476 : IVec S16 32) : Prop :=
  (∀ a x, ((![v476] : Fin 1 → IVec S16 32) a x).toNat < S19648.size a)
theorem k0_idx87_inb : ∀ (v476 : IVec S16 32) (k0_hw87 : k0_chk87 v476), ∀ a x, ((![v476] : Fin 1 → IVec S16 32) a x).toNat < S19648.size a := fun v476 k0_hw87 => k0_hw87

def k0_chk88 (v479 : IVec S16 32) : Prop :=
  (∀ a x, ((![v479] : Fin 1 → IVec S16 32) a x).toNat < S24576.size a)
theorem k0_idx88_inb : ∀ (v479 : IVec S16 32) (k0_hw88 : k0_chk88 v479), ∀ a x, ((![v479] : Fin 1 → IVec S16 32) a x).toNat < S24576.size a := fun v479 k0_hw88 => k0_hw88

def k0_chk89 (v482 : IVec S16 32) : Prop :=
  (∀ a x, ((![v482] : Fin 1 → IVec S16 32) a x).toNat < S19648.size a)
theorem k0_idx89_inb : ∀ (v482 : IVec S16 32) (k0_hw89 : k0_chk89 v482), ∀ a x, ((![v482] : Fin 1 → IVec S16 32) a x).toNat < S19648.size a := fun v482 k0_hw89 => k0_hw89

def k0_chk90 (v485 : IVec S16 32) : Prop :=
  (∀ a x, ((![v485] : Fin 1 → IVec S16 32) a x).toNat < S24576.size a)
theorem k0_idx90_inb : ∀ (v485 : IVec S16 32) (k0_hw90 : k0_chk90 v485), ∀ a x, ((![v485] : Fin 1 → IVec S16 32) a x).toNat < S24576.size a := fun v485 k0_hw90 => k0_hw90

def k0_chk91 (v488 : IVec S16 32) : Prop :=
  (∀ a x, ((![v488] : Fin 1 → IVec S16 32) a x).toNat < S19648.size a)
theorem k0_idx91_inb : ∀ (v488 : IVec S16 32) (k0_hw91 : k0_chk91 v488), ∀ a x, ((![v488] : Fin 1 → IVec S16 32) a x).toNat < S19648.size a := fun v488 k0_hw91 => k0_hw91

def k0_chk92 (v491 : IVec S16 32) : Prop :=
  (∀ a x, ((![v491] : Fin 1 → IVec S16 32) a x).toNat < S24576.size a)
theorem k0_idx92_inb : ∀ (v491 : IVec S16 32) (k0_hw92 : k0_chk92 v491), ∀ a x, ((![v491] : Fin 1 → IVec S16 32) a x).toNat < S24576.size a := fun v491 k0_hw92 => k0_hw92

def k0_chk93 (v494 : IVec S16 32) : Prop :=
  (∀ a x, ((![v494] : Fin 1 → IVec S16 32) a x).toNat < S19648.size a)
theorem k0_idx93_inb : ∀ (v494 : IVec S16 32) (k0_hw93 : k0_chk93 v494), ∀ a x, ((![v494] : Fin 1 → IVec S16 32) a x).toNat < S19648.size a := fun v494 k0_hw93 => k0_hw93

def k0_chk94 (v497 : IVec S16 32) : Prop :=
  (∀ a x, ((![v497] : Fin 1 → IVec S16 32) a x).toNat < S24576.size a)
theorem k0_idx94_inb : ∀ (v497 : IVec S16 32) (k0_hw94 : k0_chk94 v497), ∀ a x, ((![v497] : Fin 1 → IVec S16 32) a x).toNat < S24576.size a := fun v497 k0_hw94 => k0_hw94

def k0_chk95 (v500 : IVec S16 32) : Prop :=
  (∀ a x, ((![v500] : Fin 1 → IVec S16 32) a x).toNat < S19648.size a)
theorem k0_idx95_inb : ∀ (v500 : IVec S16 32) (k0_hw95 : k0_chk95 v500), ∀ a x, ((![v500] : Fin 1 → IVec S16 32) a x).toNat < S19648.size a := fun v500 k0_hw95 => k0_hw95

def k0_chk96 (v503 : IVec S16 32) : Prop :=
  (∀ a x, ((![v503] : Fin 1 → IVec S16 32) a x).toNat < S24576.size a)
theorem k0_idx96_inb : ∀ (v503 : IVec S16 32) (k0_hw96 : k0_chk96 v503), ∀ a x, ((![v503] : Fin 1 → IVec S16 32) a x).toNat < S24576.size a := fun v503 k0_hw96 => k0_hw96
@[reducible] def k0_t4_loop : Scf.Loop 32 :=
  let c0_i32_77 : BitVec 32 := 0#32
  let c96_i32_78 : BitVec 32 := 96#32
  let v163 : BitVec 32 := Scalar.addi c0_i32_77 c96_i32_78
  let c1_i32_79 : BitVec 32 := 1#32
  ⟨c0_i32_77, v163, c1_i32_79⟩
def k0_off6 (k0_t4 : Fin k0_t4_loop.trips) : Fin 1 → Nat :=
  let c0_i32_77 : BitVec 32 := 0#32
  let c1_i32_79 : BitVec 32 := 1#32
  let arg10 : BitVec 32 := Scf.iv c0_i32_77 c1_i32_79 k0_t4
  let c16_i32_288 : BitVec 32 := 16#32
  let v404 : BitVec 32 := Scalar.muli arg10 c16_i32_288
  let v405 : Index := Scalar.indexCast v404
  ![v405.toNat]

def k0_chk97 (v410 : IVec S16 32) : Prop :=
  (∀ a x, ((![v410] : Fin 1 → IVec S16 32) a x).toNat < S19648.size a)
theorem k0_idx97_inb : ∀ (v410 : IVec S16 32) (k0_hw97 : k0_chk97 v410), ∀ a x, ((![v410] : Fin 1 → IVec S16 32) a x).toNat < S19648.size a := fun v410 k0_hw97 => k0_hw97

def k0_chk98 (v413 : IVec S16 32) : Prop :=
  (∀ a x, ((![v413] : Fin 1 → IVec S16 32) a x).toNat < S24576.size a)
theorem k0_idx98_inb : ∀ (v413 : IVec S16 32) (k0_hw98 : k0_chk98 v413), ∀ a x, ((![v413] : Fin 1 → IVec S16 32) a x).toNat < S24576.size a := fun v413 k0_hw98 => k0_hw98

def k0_chk99 (v416 : IVec S16 32) : Prop :=
  (∀ a x, ((![v416] : Fin 1 → IVec S16 32) a x).toNat < S19648.size a)
theorem k0_idx99_inb : ∀ (v416 : IVec S16 32) (k0_hw99 : k0_chk99 v416), ∀ a x, ((![v416] : Fin 1 → IVec S16 32) a x).toNat < S19648.size a := fun v416 k0_hw99 => k0_hw99

def k0_chk100 (v419 : IVec S16 32) : Prop :=
  (∀ a x, ((![v419] : Fin 1 → IVec S16 32) a x).toNat < S24576.size a)
theorem k0_idx100_inb : ∀ (v419 : IVec S16 32) (k0_hw100 : k0_chk100 v419), ∀ a x, ((![v419] : Fin 1 → IVec S16 32) a x).toNat < S24576.size a := fun v419 k0_hw100 => k0_hw100

def k0_chk101 (v422 : IVec S16 32) : Prop :=
  (∀ a x, ((![v422] : Fin 1 → IVec S16 32) a x).toNat < S19648.size a)
theorem k0_idx101_inb : ∀ (v422 : IVec S16 32) (k0_hw101 : k0_chk101 v422), ∀ a x, ((![v422] : Fin 1 → IVec S16 32) a x).toNat < S19648.size a := fun v422 k0_hw101 => k0_hw101

def k0_chk102 (v425 : IVec S16 32) : Prop :=
  (∀ a x, ((![v425] : Fin 1 → IVec S16 32) a x).toNat < S24576.size a)
theorem k0_idx102_inb : ∀ (v425 : IVec S16 32) (k0_hw102 : k0_chk102 v425), ∀ a x, ((![v425] : Fin 1 → IVec S16 32) a x).toNat < S24576.size a := fun v425 k0_hw102 => k0_hw102

def k0_chk103 (v428 : IVec S16 32) : Prop :=
  (∀ a x, ((![v428] : Fin 1 → IVec S16 32) a x).toNat < S19648.size a)
theorem k0_idx103_inb : ∀ (v428 : IVec S16 32) (k0_hw103 : k0_chk103 v428), ∀ a x, ((![v428] : Fin 1 → IVec S16 32) a x).toNat < S19648.size a := fun v428 k0_hw103 => k0_hw103

def k0_chk104 (v431 : IVec S16 32) : Prop :=
  (∀ a x, ((![v431] : Fin 1 → IVec S16 32) a x).toNat < S24576.size a)
theorem k0_idx104_inb : ∀ (v431 : IVec S16 32) (k0_hw104 : k0_chk104 v431), ∀ a x, ((![v431] : Fin 1 → IVec S16 32) a x).toNat < S24576.size a := fun v431 k0_hw104 => k0_hw104

def k0_chk105 (v434 : IVec S16 32) : Prop :=
  (∀ a x, ((![v434] : Fin 1 → IVec S16 32) a x).toNat < S19648.size a)
theorem k0_idx105_inb : ∀ (v434 : IVec S16 32) (k0_hw105 : k0_chk105 v434), ∀ a x, ((![v434] : Fin 1 → IVec S16 32) a x).toNat < S19648.size a := fun v434 k0_hw105 => k0_hw105

def k0_chk106 (v437 : IVec S16 32) : Prop :=
  (∀ a x, ((![v437] : Fin 1 → IVec S16 32) a x).toNat < S24576.size a)
theorem k0_idx106_inb : ∀ (v437 : IVec S16 32) (k0_hw106 : k0_chk106 v437), ∀ a x, ((![v437] : Fin 1 → IVec S16 32) a x).toNat < S24576.size a := fun v437 k0_hw106 => k0_hw106

def k0_chk107 (v440 : IVec S16 32) : Prop :=
  (∀ a x, ((![v440] : Fin 1 → IVec S16 32) a x).toNat < S19648.size a)
theorem k0_idx107_inb : ∀ (v440 : IVec S16 32) (k0_hw107 : k0_chk107 v440), ∀ a x, ((![v440] : Fin 1 → IVec S16 32) a x).toNat < S19648.size a := fun v440 k0_hw107 => k0_hw107

def k0_chk108 (v443 : IVec S16 32) : Prop :=
  (∀ a x, ((![v443] : Fin 1 → IVec S16 32) a x).toNat < S24576.size a)
theorem k0_idx108_inb : ∀ (v443 : IVec S16 32) (k0_hw108 : k0_chk108 v443), ∀ a x, ((![v443] : Fin 1 → IVec S16 32) a x).toNat < S24576.size a := fun v443 k0_hw108 => k0_hw108

def k0_chk109 (v446 : IVec S16 32) : Prop :=
  (∀ a x, ((![v446] : Fin 1 → IVec S16 32) a x).toNat < S19648.size a)
theorem k0_idx109_inb : ∀ (v446 : IVec S16 32) (k0_hw109 : k0_chk109 v446), ∀ a x, ((![v446] : Fin 1 → IVec S16 32) a x).toNat < S19648.size a := fun v446 k0_hw109 => k0_hw109

def k0_chk110 (v449 : IVec S16 32) : Prop :=
  (∀ a x, ((![v449] : Fin 1 → IVec S16 32) a x).toNat < S24576.size a)
theorem k0_idx110_inb : ∀ (v449 : IVec S16 32) (k0_hw110 : k0_chk110 v449), ∀ a x, ((![v449] : Fin 1 → IVec S16 32) a x).toNat < S24576.size a := fun v449 k0_hw110 => k0_hw110

def k0_chk111 (v452 : IVec S16 32) : Prop :=
  (∀ a x, ((![v452] : Fin 1 → IVec S16 32) a x).toNat < S19648.size a)
theorem k0_idx111_inb : ∀ (v452 : IVec S16 32) (k0_hw111 : k0_chk111 v452), ∀ a x, ((![v452] : Fin 1 → IVec S16 32) a x).toNat < S19648.size a := fun v452 k0_hw111 => k0_hw111

def k0_chk112 (v455 : IVec S16 32) : Prop :=
  (∀ a x, ((![v455] : Fin 1 → IVec S16 32) a x).toNat < S24576.size a)
theorem k0_idx112_inb : ∀ (v455 : IVec S16 32) (k0_hw112 : k0_chk112 v455), ∀ a x, ((![v455] : Fin 1 → IVec S16 32) a x).toNat < S24576.size a := fun v455 k0_hw112 => k0_hw112

def k0_chk113 (v458 : IVec S16 32) : Prop :=
  (∀ a x, ((![v458] : Fin 1 → IVec S16 32) a x).toNat < S19648.size a)
theorem k0_idx113_inb : ∀ (v458 : IVec S16 32) (k0_hw113 : k0_chk113 v458), ∀ a x, ((![v458] : Fin 1 → IVec S16 32) a x).toNat < S19648.size a := fun v458 k0_hw113 => k0_hw113

def k0_chk114 (v461 : IVec S16 32) : Prop :=
  (∀ a x, ((![v461] : Fin 1 → IVec S16 32) a x).toNat < S24576.size a)
theorem k0_idx114_inb : ∀ (v461 : IVec S16 32) (k0_hw114 : k0_chk114 v461), ∀ a x, ((![v461] : Fin 1 → IVec S16 32) a x).toNat < S24576.size a := fun v461 k0_hw114 => k0_hw114

def k0_chk115 (v464 : IVec S16 32) : Prop :=
  (∀ a x, ((![v464] : Fin 1 → IVec S16 32) a x).toNat < S19648.size a)
theorem k0_idx115_inb : ∀ (v464 : IVec S16 32) (k0_hw115 : k0_chk115 v464), ∀ a x, ((![v464] : Fin 1 → IVec S16 32) a x).toNat < S19648.size a := fun v464 k0_hw115 => k0_hw115

def k0_chk116 (v467 : IVec S16 32) : Prop :=
  (∀ a x, ((![v467] : Fin 1 → IVec S16 32) a x).toNat < S24576.size a)
theorem k0_idx116_inb : ∀ (v467 : IVec S16 32) (k0_hw116 : k0_chk116 v467), ∀ a x, ((![v467] : Fin 1 → IVec S16 32) a x).toNat < S24576.size a := fun v467 k0_hw116 => k0_hw116

def k0_chk117 (v470 : IVec S16 32) : Prop :=
  (∀ a x, ((![v470] : Fin 1 → IVec S16 32) a x).toNat < S19648.size a)
theorem k0_idx117_inb : ∀ (v470 : IVec S16 32) (k0_hw117 : k0_chk117 v470), ∀ a x, ((![v470] : Fin 1 → IVec S16 32) a x).toNat < S19648.size a := fun v470 k0_hw117 => k0_hw117

def k0_chk118 (v473 : IVec S16 32) : Prop :=
  (∀ a x, ((![v473] : Fin 1 → IVec S16 32) a x).toNat < S24576.size a)
theorem k0_idx118_inb : ∀ (v473 : IVec S16 32) (k0_hw118 : k0_chk118 v473), ∀ a x, ((![v473] : Fin 1 → IVec S16 32) a x).toNat < S24576.size a := fun v473 k0_hw118 => k0_hw118

def k0_chk119 (v476 : IVec S16 32) : Prop :=
  (∀ a x, ((![v476] : Fin 1 → IVec S16 32) a x).toNat < S19648.size a)
theorem k0_idx119_inb : ∀ (v476 : IVec S16 32) (k0_hw119 : k0_chk119 v476), ∀ a x, ((![v476] : Fin 1 → IVec S16 32) a x).toNat < S19648.size a := fun v476 k0_hw119 => k0_hw119

def k0_chk120 (v479 : IVec S16 32) : Prop :=
  (∀ a x, ((![v479] : Fin 1 → IVec S16 32) a x).toNat < S24576.size a)
theorem k0_idx120_inb : ∀ (v479 : IVec S16 32) (k0_hw120 : k0_chk120 v479), ∀ a x, ((![v479] : Fin 1 → IVec S16 32) a x).toNat < S24576.size a := fun v479 k0_hw120 => k0_hw120

def k0_chk121 (v482 : IVec S16 32) : Prop :=
  (∀ a x, ((![v482] : Fin 1 → IVec S16 32) a x).toNat < S19648.size a)
theorem k0_idx121_inb : ∀ (v482 : IVec S16 32) (k0_hw121 : k0_chk121 v482), ∀ a x, ((![v482] : Fin 1 → IVec S16 32) a x).toNat < S19648.size a := fun v482 k0_hw121 => k0_hw121

def k0_chk122 (v485 : IVec S16 32) : Prop :=
  (∀ a x, ((![v485] : Fin 1 → IVec S16 32) a x).toNat < S24576.size a)
theorem k0_idx122_inb : ∀ (v485 : IVec S16 32) (k0_hw122 : k0_chk122 v485), ∀ a x, ((![v485] : Fin 1 → IVec S16 32) a x).toNat < S24576.size a := fun v485 k0_hw122 => k0_hw122

def k0_chk123 (v488 : IVec S16 32) : Prop :=
  (∀ a x, ((![v488] : Fin 1 → IVec S16 32) a x).toNat < S19648.size a)
theorem k0_idx123_inb : ∀ (v488 : IVec S16 32) (k0_hw123 : k0_chk123 v488), ∀ a x, ((![v488] : Fin 1 → IVec S16 32) a x).toNat < S19648.size a := fun v488 k0_hw123 => k0_hw123

def k0_chk124 (v491 : IVec S16 32) : Prop :=
  (∀ a x, ((![v491] : Fin 1 → IVec S16 32) a x).toNat < S24576.size a)
theorem k0_idx124_inb : ∀ (v491 : IVec S16 32) (k0_hw124 : k0_chk124 v491), ∀ a x, ((![v491] : Fin 1 → IVec S16 32) a x).toNat < S24576.size a := fun v491 k0_hw124 => k0_hw124

def k0_chk125 (v494 : IVec S16 32) : Prop :=
  (∀ a x, ((![v494] : Fin 1 → IVec S16 32) a x).toNat < S19648.size a)
theorem k0_idx125_inb : ∀ (v494 : IVec S16 32) (k0_hw125 : k0_chk125 v494), ∀ a x, ((![v494] : Fin 1 → IVec S16 32) a x).toNat < S19648.size a := fun v494 k0_hw125 => k0_hw125

def k0_chk126 (v497 : IVec S16 32) : Prop :=
  (∀ a x, ((![v497] : Fin 1 → IVec S16 32) a x).toNat < S24576.size a)
theorem k0_idx126_inb : ∀ (v497 : IVec S16 32) (k0_hw126 : k0_chk126 v497), ∀ a x, ((![v497] : Fin 1 → IVec S16 32) a x).toNat < S24576.size a := fun v497 k0_hw126 => k0_hw126

def k0_chk127 (v500 : IVec S16 32) : Prop :=
  (∀ a x, ((![v500] : Fin 1 → IVec S16 32) a x).toNat < S19648.size a)
theorem k0_idx127_inb : ∀ (v500 : IVec S16 32) (k0_hw127 : k0_chk127 v500), ∀ a x, ((![v500] : Fin 1 → IVec S16 32) a x).toNat < S19648.size a := fun v500 k0_hw127 => k0_hw127

def k0_chk128 (v503 : IVec S16 32) : Prop :=
  (∀ a x, ((![v503] : Fin 1 → IVec S16 32) a x).toNat < S24576.size a)
theorem k0_idx128_inb : ∀ (v503 : IVec S16 32) (k0_hw128 : k0_chk128 v503), ∀ a x, ((![v503] : Fin 1 → IVec S16 32) a x).toNat < S24576.size a := fun v503 k0_hw128 => k0_hw128
@[reducible] def k0_t5_loop : Scf.Loop 32 :=
  let c0_i32_93 : BitVec 32 := 0#32
  let c96_i32_94 : BitVec 32 := 96#32
  let v181 : BitVec 32 := Scalar.addi c0_i32_93 c96_i32_94
  let c1_i32_95 : BitVec 32 := 1#32
  ⟨c0_i32_93, v181, c1_i32_95⟩
def k0_off7 (k0_t5 : Fin k0_t5_loop.trips) : Fin 1 → Nat :=
  let c0_i32_93 : BitVec 32 := 0#32
  let c1_i32_95 : BitVec 32 := 1#32
  let arg10 : BitVec 32 := Scf.iv c0_i32_93 c1_i32_95 k0_t5
  let c16_i32_288 : BitVec 32 := 16#32
  let v404 : BitVec 32 := Scalar.muli arg10 c16_i32_288
  let v405 : Index := Scalar.indexCast v404
  ![v405.toNat]

def k0_chk129 (v410 : IVec S16 32) : Prop :=
  (∀ a x, ((![v410] : Fin 1 → IVec S16 32) a x).toNat < S19648.size a)
theorem k0_idx129_inb : ∀ (v410 : IVec S16 32) (k0_hw129 : k0_chk129 v410), ∀ a x, ((![v410] : Fin 1 → IVec S16 32) a x).toNat < S19648.size a := fun v410 k0_hw129 => k0_hw129

def k0_chk130 (v413 : IVec S16 32) : Prop :=
  (∀ a x, ((![v413] : Fin 1 → IVec S16 32) a x).toNat < S24576.size a)
theorem k0_idx130_inb : ∀ (v413 : IVec S16 32) (k0_hw130 : k0_chk130 v413), ∀ a x, ((![v413] : Fin 1 → IVec S16 32) a x).toNat < S24576.size a := fun v413 k0_hw130 => k0_hw130

def k0_chk131 (v416 : IVec S16 32) : Prop :=
  (∀ a x, ((![v416] : Fin 1 → IVec S16 32) a x).toNat < S19648.size a)
theorem k0_idx131_inb : ∀ (v416 : IVec S16 32) (k0_hw131 : k0_chk131 v416), ∀ a x, ((![v416] : Fin 1 → IVec S16 32) a x).toNat < S19648.size a := fun v416 k0_hw131 => k0_hw131

def k0_chk132 (v419 : IVec S16 32) : Prop :=
  (∀ a x, ((![v419] : Fin 1 → IVec S16 32) a x).toNat < S24576.size a)
theorem k0_idx132_inb : ∀ (v419 : IVec S16 32) (k0_hw132 : k0_chk132 v419), ∀ a x, ((![v419] : Fin 1 → IVec S16 32) a x).toNat < S24576.size a := fun v419 k0_hw132 => k0_hw132

def k0_chk133 (v422 : IVec S16 32) : Prop :=
  (∀ a x, ((![v422] : Fin 1 → IVec S16 32) a x).toNat < S19648.size a)
theorem k0_idx133_inb : ∀ (v422 : IVec S16 32) (k0_hw133 : k0_chk133 v422), ∀ a x, ((![v422] : Fin 1 → IVec S16 32) a x).toNat < S19648.size a := fun v422 k0_hw133 => k0_hw133

def k0_chk134 (v425 : IVec S16 32) : Prop :=
  (∀ a x, ((![v425] : Fin 1 → IVec S16 32) a x).toNat < S24576.size a)
theorem k0_idx134_inb : ∀ (v425 : IVec S16 32) (k0_hw134 : k0_chk134 v425), ∀ a x, ((![v425] : Fin 1 → IVec S16 32) a x).toNat < S24576.size a := fun v425 k0_hw134 => k0_hw134

def k0_chk135 (v428 : IVec S16 32) : Prop :=
  (∀ a x, ((![v428] : Fin 1 → IVec S16 32) a x).toNat < S19648.size a)
theorem k0_idx135_inb : ∀ (v428 : IVec S16 32) (k0_hw135 : k0_chk135 v428), ∀ a x, ((![v428] : Fin 1 → IVec S16 32) a x).toNat < S19648.size a := fun v428 k0_hw135 => k0_hw135

def k0_chk136 (v431 : IVec S16 32) : Prop :=
  (∀ a x, ((![v431] : Fin 1 → IVec S16 32) a x).toNat < S24576.size a)
theorem k0_idx136_inb : ∀ (v431 : IVec S16 32) (k0_hw136 : k0_chk136 v431), ∀ a x, ((![v431] : Fin 1 → IVec S16 32) a x).toNat < S24576.size a := fun v431 k0_hw136 => k0_hw136

def k0_chk137 (v434 : IVec S16 32) : Prop :=
  (∀ a x, ((![v434] : Fin 1 → IVec S16 32) a x).toNat < S19648.size a)
theorem k0_idx137_inb : ∀ (v434 : IVec S16 32) (k0_hw137 : k0_chk137 v434), ∀ a x, ((![v434] : Fin 1 → IVec S16 32) a x).toNat < S19648.size a := fun v434 k0_hw137 => k0_hw137

def k0_chk138 (v437 : IVec S16 32) : Prop :=
  (∀ a x, ((![v437] : Fin 1 → IVec S16 32) a x).toNat < S24576.size a)
theorem k0_idx138_inb : ∀ (v437 : IVec S16 32) (k0_hw138 : k0_chk138 v437), ∀ a x, ((![v437] : Fin 1 → IVec S16 32) a x).toNat < S24576.size a := fun v437 k0_hw138 => k0_hw138

def k0_chk139 (v440 : IVec S16 32) : Prop :=
  (∀ a x, ((![v440] : Fin 1 → IVec S16 32) a x).toNat < S19648.size a)
theorem k0_idx139_inb : ∀ (v440 : IVec S16 32) (k0_hw139 : k0_chk139 v440), ∀ a x, ((![v440] : Fin 1 → IVec S16 32) a x).toNat < S19648.size a := fun v440 k0_hw139 => k0_hw139

def k0_chk140 (v443 : IVec S16 32) : Prop :=
  (∀ a x, ((![v443] : Fin 1 → IVec S16 32) a x).toNat < S24576.size a)
theorem k0_idx140_inb : ∀ (v443 : IVec S16 32) (k0_hw140 : k0_chk140 v443), ∀ a x, ((![v443] : Fin 1 → IVec S16 32) a x).toNat < S24576.size a := fun v443 k0_hw140 => k0_hw140

def k0_chk141 (v446 : IVec S16 32) : Prop :=
  (∀ a x, ((![v446] : Fin 1 → IVec S16 32) a x).toNat < S19648.size a)
theorem k0_idx141_inb : ∀ (v446 : IVec S16 32) (k0_hw141 : k0_chk141 v446), ∀ a x, ((![v446] : Fin 1 → IVec S16 32) a x).toNat < S19648.size a := fun v446 k0_hw141 => k0_hw141

def k0_chk142 (v449 : IVec S16 32) : Prop :=
  (∀ a x, ((![v449] : Fin 1 → IVec S16 32) a x).toNat < S24576.size a)
theorem k0_idx142_inb : ∀ (v449 : IVec S16 32) (k0_hw142 : k0_chk142 v449), ∀ a x, ((![v449] : Fin 1 → IVec S16 32) a x).toNat < S24576.size a := fun v449 k0_hw142 => k0_hw142

def k0_chk143 (v452 : IVec S16 32) : Prop :=
  (∀ a x, ((![v452] : Fin 1 → IVec S16 32) a x).toNat < S19648.size a)
theorem k0_idx143_inb : ∀ (v452 : IVec S16 32) (k0_hw143 : k0_chk143 v452), ∀ a x, ((![v452] : Fin 1 → IVec S16 32) a x).toNat < S19648.size a := fun v452 k0_hw143 => k0_hw143

def k0_chk144 (v455 : IVec S16 32) : Prop :=
  (∀ a x, ((![v455] : Fin 1 → IVec S16 32) a x).toNat < S24576.size a)
theorem k0_idx144_inb : ∀ (v455 : IVec S16 32) (k0_hw144 : k0_chk144 v455), ∀ a x, ((![v455] : Fin 1 → IVec S16 32) a x).toNat < S24576.size a := fun v455 k0_hw144 => k0_hw144

def k0_chk145 (v458 : IVec S16 32) : Prop :=
  (∀ a x, ((![v458] : Fin 1 → IVec S16 32) a x).toNat < S19648.size a)
theorem k0_idx145_inb : ∀ (v458 : IVec S16 32) (k0_hw145 : k0_chk145 v458), ∀ a x, ((![v458] : Fin 1 → IVec S16 32) a x).toNat < S19648.size a := fun v458 k0_hw145 => k0_hw145

def k0_chk146 (v461 : IVec S16 32) : Prop :=
  (∀ a x, ((![v461] : Fin 1 → IVec S16 32) a x).toNat < S24576.size a)
theorem k0_idx146_inb : ∀ (v461 : IVec S16 32) (k0_hw146 : k0_chk146 v461), ∀ a x, ((![v461] : Fin 1 → IVec S16 32) a x).toNat < S24576.size a := fun v461 k0_hw146 => k0_hw146

def k0_chk147 (v464 : IVec S16 32) : Prop :=
  (∀ a x, ((![v464] : Fin 1 → IVec S16 32) a x).toNat < S19648.size a)
theorem k0_idx147_inb : ∀ (v464 : IVec S16 32) (k0_hw147 : k0_chk147 v464), ∀ a x, ((![v464] : Fin 1 → IVec S16 32) a x).toNat < S19648.size a := fun v464 k0_hw147 => k0_hw147

def k0_chk148 (v467 : IVec S16 32) : Prop :=
  (∀ a x, ((![v467] : Fin 1 → IVec S16 32) a x).toNat < S24576.size a)
theorem k0_idx148_inb : ∀ (v467 : IVec S16 32) (k0_hw148 : k0_chk148 v467), ∀ a x, ((![v467] : Fin 1 → IVec S16 32) a x).toNat < S24576.size a := fun v467 k0_hw148 => k0_hw148

def k0_chk149 (v470 : IVec S16 32) : Prop :=
  (∀ a x, ((![v470] : Fin 1 → IVec S16 32) a x).toNat < S19648.size a)
theorem k0_idx149_inb : ∀ (v470 : IVec S16 32) (k0_hw149 : k0_chk149 v470), ∀ a x, ((![v470] : Fin 1 → IVec S16 32) a x).toNat < S19648.size a := fun v470 k0_hw149 => k0_hw149

def k0_chk150 (v473 : IVec S16 32) : Prop :=
  (∀ a x, ((![v473] : Fin 1 → IVec S16 32) a x).toNat < S24576.size a)
theorem k0_idx150_inb : ∀ (v473 : IVec S16 32) (k0_hw150 : k0_chk150 v473), ∀ a x, ((![v473] : Fin 1 → IVec S16 32) a x).toNat < S24576.size a := fun v473 k0_hw150 => k0_hw150

def k0_chk151 (v476 : IVec S16 32) : Prop :=
  (∀ a x, ((![v476] : Fin 1 → IVec S16 32) a x).toNat < S19648.size a)
theorem k0_idx151_inb : ∀ (v476 : IVec S16 32) (k0_hw151 : k0_chk151 v476), ∀ a x, ((![v476] : Fin 1 → IVec S16 32) a x).toNat < S19648.size a := fun v476 k0_hw151 => k0_hw151

def k0_chk152 (v479 : IVec S16 32) : Prop :=
  (∀ a x, ((![v479] : Fin 1 → IVec S16 32) a x).toNat < S24576.size a)
theorem k0_idx152_inb : ∀ (v479 : IVec S16 32) (k0_hw152 : k0_chk152 v479), ∀ a x, ((![v479] : Fin 1 → IVec S16 32) a x).toNat < S24576.size a := fun v479 k0_hw152 => k0_hw152

def k0_chk153 (v482 : IVec S16 32) : Prop :=
  (∀ a x, ((![v482] : Fin 1 → IVec S16 32) a x).toNat < S19648.size a)
theorem k0_idx153_inb : ∀ (v482 : IVec S16 32) (k0_hw153 : k0_chk153 v482), ∀ a x, ((![v482] : Fin 1 → IVec S16 32) a x).toNat < S19648.size a := fun v482 k0_hw153 => k0_hw153

def k0_chk154 (v485 : IVec S16 32) : Prop :=
  (∀ a x, ((![v485] : Fin 1 → IVec S16 32) a x).toNat < S24576.size a)
theorem k0_idx154_inb : ∀ (v485 : IVec S16 32) (k0_hw154 : k0_chk154 v485), ∀ a x, ((![v485] : Fin 1 → IVec S16 32) a x).toNat < S24576.size a := fun v485 k0_hw154 => k0_hw154

def k0_chk155 (v488 : IVec S16 32) : Prop :=
  (∀ a x, ((![v488] : Fin 1 → IVec S16 32) a x).toNat < S19648.size a)
theorem k0_idx155_inb : ∀ (v488 : IVec S16 32) (k0_hw155 : k0_chk155 v488), ∀ a x, ((![v488] : Fin 1 → IVec S16 32) a x).toNat < S19648.size a := fun v488 k0_hw155 => k0_hw155

def k0_chk156 (v491 : IVec S16 32) : Prop :=
  (∀ a x, ((![v491] : Fin 1 → IVec S16 32) a x).toNat < S24576.size a)
theorem k0_idx156_inb : ∀ (v491 : IVec S16 32) (k0_hw156 : k0_chk156 v491), ∀ a x, ((![v491] : Fin 1 → IVec S16 32) a x).toNat < S24576.size a := fun v491 k0_hw156 => k0_hw156

def k0_chk157 (v494 : IVec S16 32) : Prop :=
  (∀ a x, ((![v494] : Fin 1 → IVec S16 32) a x).toNat < S19648.size a)
theorem k0_idx157_inb : ∀ (v494 : IVec S16 32) (k0_hw157 : k0_chk157 v494), ∀ a x, ((![v494] : Fin 1 → IVec S16 32) a x).toNat < S19648.size a := fun v494 k0_hw157 => k0_hw157

def k0_chk158 (v497 : IVec S16 32) : Prop :=
  (∀ a x, ((![v497] : Fin 1 → IVec S16 32) a x).toNat < S24576.size a)
theorem k0_idx158_inb : ∀ (v497 : IVec S16 32) (k0_hw158 : k0_chk158 v497), ∀ a x, ((![v497] : Fin 1 → IVec S16 32) a x).toNat < S24576.size a := fun v497 k0_hw158 => k0_hw158

def k0_chk159 (v500 : IVec S16 32) : Prop :=
  (∀ a x, ((![v500] : Fin 1 → IVec S16 32) a x).toNat < S19648.size a)
theorem k0_idx159_inb : ∀ (v500 : IVec S16 32) (k0_hw159 : k0_chk159 v500), ∀ a x, ((![v500] : Fin 1 → IVec S16 32) a x).toNat < S19648.size a := fun v500 k0_hw159 => k0_hw159

def k0_chk160 (v503 : IVec S16 32) : Prop :=
  (∀ a x, ((![v503] : Fin 1 → IVec S16 32) a x).toNat < S24576.size a)
theorem k0_idx160_inb : ∀ (v503 : IVec S16 32) (k0_hw160 : k0_chk160 v503), ∀ a x, ((![v503] : Fin 1 → IVec S16 32) a x).toNat < S24576.size a := fun v503 k0_hw160 => k0_hw160
@[reducible] def k0_t6_loop : Scf.Loop 32 :=
  let c0_i32_109 : BitVec 32 := 0#32
  let c96_i32_110 : BitVec 32 := 96#32
  let v199 : BitVec 32 := Scalar.addi c0_i32_109 c96_i32_110
  let c1_i32_111 : BitVec 32 := 1#32
  ⟨c0_i32_109, v199, c1_i32_111⟩
def k0_off8 (k0_t6 : Fin k0_t6_loop.trips) : Fin 1 → Nat :=
  let c0_i32_109 : BitVec 32 := 0#32
  let c1_i32_111 : BitVec 32 := 1#32
  let arg10 : BitVec 32 := Scf.iv c0_i32_109 c1_i32_111 k0_t6
  let c16_i32_288 : BitVec 32 := 16#32
  let v404 : BitVec 32 := Scalar.muli arg10 c16_i32_288
  let v405 : Index := Scalar.indexCast v404
  ![v405.toNat]

def k0_chk161 (v410 : IVec S16 32) : Prop :=
  (∀ a x, ((![v410] : Fin 1 → IVec S16 32) a x).toNat < S19648.size a)
theorem k0_idx161_inb : ∀ (v410 : IVec S16 32) (k0_hw161 : k0_chk161 v410), ∀ a x, ((![v410] : Fin 1 → IVec S16 32) a x).toNat < S19648.size a := fun v410 k0_hw161 => k0_hw161

def k0_chk162 (v413 : IVec S16 32) : Prop :=
  (∀ a x, ((![v413] : Fin 1 → IVec S16 32) a x).toNat < S24576.size a)
theorem k0_idx162_inb : ∀ (v413 : IVec S16 32) (k0_hw162 : k0_chk162 v413), ∀ a x, ((![v413] : Fin 1 → IVec S16 32) a x).toNat < S24576.size a := fun v413 k0_hw162 => k0_hw162

def k0_chk163 (v416 : IVec S16 32) : Prop :=
  (∀ a x, ((![v416] : Fin 1 → IVec S16 32) a x).toNat < S19648.size a)
theorem k0_idx163_inb : ∀ (v416 : IVec S16 32) (k0_hw163 : k0_chk163 v416), ∀ a x, ((![v416] : Fin 1 → IVec S16 32) a x).toNat < S19648.size a := fun v416 k0_hw163 => k0_hw163

def k0_chk164 (v419 : IVec S16 32) : Prop :=
  (∀ a x, ((![v419] : Fin 1 → IVec S16 32) a x).toNat < S24576.size a)
theorem k0_idx164_inb : ∀ (v419 : IVec S16 32) (k0_hw164 : k0_chk164 v419), ∀ a x, ((![v419] : Fin 1 → IVec S16 32) a x).toNat < S24576.size a := fun v419 k0_hw164 => k0_hw164

def k0_chk165 (v422 : IVec S16 32) : Prop :=
  (∀ a x, ((![v422] : Fin 1 → IVec S16 32) a x).toNat < S19648.size a)
theorem k0_idx165_inb : ∀ (v422 : IVec S16 32) (k0_hw165 : k0_chk165 v422), ∀ a x, ((![v422] : Fin 1 → IVec S16 32) a x).toNat < S19648.size a := fun v422 k0_hw165 => k0_hw165

def k0_chk166 (v425 : IVec S16 32) : Prop :=
  (∀ a x, ((![v425] : Fin 1 → IVec S16 32) a x).toNat < S24576.size a)
theorem k0_idx166_inb : ∀ (v425 : IVec S16 32) (k0_hw166 : k0_chk166 v425), ∀ a x, ((![v425] : Fin 1 → IVec S16 32) a x).toNat < S24576.size a := fun v425 k0_hw166 => k0_hw166

def k0_chk167 (v428 : IVec S16 32) : Prop :=
  (∀ a x, ((![v428] : Fin 1 → IVec S16 32) a x).toNat < S19648.size a)
theorem k0_idx167_inb : ∀ (v428 : IVec S16 32) (k0_hw167 : k0_chk167 v428), ∀ a x, ((![v428] : Fin 1 → IVec S16 32) a x).toNat < S19648.size a := fun v428 k0_hw167 => k0_hw167

def k0_chk168 (v431 : IVec S16 32) : Prop :=
  (∀ a x, ((![v431] : Fin 1 → IVec S16 32) a x).toNat < S24576.size a)
theorem k0_idx168_inb : ∀ (v431 : IVec S16 32) (k0_hw168 : k0_chk168 v431), ∀ a x, ((![v431] : Fin 1 → IVec S16 32) a x).toNat < S24576.size a := fun v431 k0_hw168 => k0_hw168

def k0_chk169 (v434 : IVec S16 32) : Prop :=
  (∀ a x, ((![v434] : Fin 1 → IVec S16 32) a x).toNat < S19648.size a)
theorem k0_idx169_inb : ∀ (v434 : IVec S16 32) (k0_hw169 : k0_chk169 v434), ∀ a x, ((![v434] : Fin 1 → IVec S16 32) a x).toNat < S19648.size a := fun v434 k0_hw169 => k0_hw169

def k0_chk170 (v437 : IVec S16 32) : Prop :=
  (∀ a x, ((![v437] : Fin 1 → IVec S16 32) a x).toNat < S24576.size a)
theorem k0_idx170_inb : ∀ (v437 : IVec S16 32) (k0_hw170 : k0_chk170 v437), ∀ a x, ((![v437] : Fin 1 → IVec S16 32) a x).toNat < S24576.size a := fun v437 k0_hw170 => k0_hw170

def k0_chk171 (v440 : IVec S16 32) : Prop :=
  (∀ a x, ((![v440] : Fin 1 → IVec S16 32) a x).toNat < S19648.size a)
theorem k0_idx171_inb : ∀ (v440 : IVec S16 32) (k0_hw171 : k0_chk171 v440), ∀ a x, ((![v440] : Fin 1 → IVec S16 32) a x).toNat < S19648.size a := fun v440 k0_hw171 => k0_hw171

def k0_chk172 (v443 : IVec S16 32) : Prop :=
  (∀ a x, ((![v443] : Fin 1 → IVec S16 32) a x).toNat < S24576.size a)
theorem k0_idx172_inb : ∀ (v443 : IVec S16 32) (k0_hw172 : k0_chk172 v443), ∀ a x, ((![v443] : Fin 1 → IVec S16 32) a x).toNat < S24576.size a := fun v443 k0_hw172 => k0_hw172

def k0_chk173 (v446 : IVec S16 32) : Prop :=
  (∀ a x, ((![v446] : Fin 1 → IVec S16 32) a x).toNat < S19648.size a)
theorem k0_idx173_inb : ∀ (v446 : IVec S16 32) (k0_hw173 : k0_chk173 v446), ∀ a x, ((![v446] : Fin 1 → IVec S16 32) a x).toNat < S19648.size a := fun v446 k0_hw173 => k0_hw173

def k0_chk174 (v449 : IVec S16 32) : Prop :=
  (∀ a x, ((![v449] : Fin 1 → IVec S16 32) a x).toNat < S24576.size a)
theorem k0_idx174_inb : ∀ (v449 : IVec S16 32) (k0_hw174 : k0_chk174 v449), ∀ a x, ((![v449] : Fin 1 → IVec S16 32) a x).toNat < S24576.size a := fun v449 k0_hw174 => k0_hw174

def k0_chk175 (v452 : IVec S16 32) : Prop :=
  (∀ a x, ((![v452] : Fin 1 → IVec S16 32) a x).toNat < S19648.size a)
theorem k0_idx175_inb : ∀ (v452 : IVec S16 32) (k0_hw175 : k0_chk175 v452), ∀ a x, ((![v452] : Fin 1 → IVec S16 32) a x).toNat < S19648.size a := fun v452 k0_hw175 => k0_hw175

def k0_chk176 (v455 : IVec S16 32) : Prop :=
  (∀ a x, ((![v455] : Fin 1 → IVec S16 32) a x).toNat < S24576.size a)
theorem k0_idx176_inb : ∀ (v455 : IVec S16 32) (k0_hw176 : k0_chk176 v455), ∀ a x, ((![v455] : Fin 1 → IVec S16 32) a x).toNat < S24576.size a := fun v455 k0_hw176 => k0_hw176

def k0_chk177 (v458 : IVec S16 32) : Prop :=
  (∀ a x, ((![v458] : Fin 1 → IVec S16 32) a x).toNat < S19648.size a)
theorem k0_idx177_inb : ∀ (v458 : IVec S16 32) (k0_hw177 : k0_chk177 v458), ∀ a x, ((![v458] : Fin 1 → IVec S16 32) a x).toNat < S19648.size a := fun v458 k0_hw177 => k0_hw177

def k0_chk178 (v461 : IVec S16 32) : Prop :=
  (∀ a x, ((![v461] : Fin 1 → IVec S16 32) a x).toNat < S24576.size a)
theorem k0_idx178_inb : ∀ (v461 : IVec S16 32) (k0_hw178 : k0_chk178 v461), ∀ a x, ((![v461] : Fin 1 → IVec S16 32) a x).toNat < S24576.size a := fun v461 k0_hw178 => k0_hw178

def k0_chk179 (v464 : IVec S16 32) : Prop :=
  (∀ a x, ((![v464] : Fin 1 → IVec S16 32) a x).toNat < S19648.size a)
theorem k0_idx179_inb : ∀ (v464 : IVec S16 32) (k0_hw179 : k0_chk179 v464), ∀ a x, ((![v464] : Fin 1 → IVec S16 32) a x).toNat < S19648.size a := fun v464 k0_hw179 => k0_hw179

def k0_chk180 (v467 : IVec S16 32) : Prop :=
  (∀ a x, ((![v467] : Fin 1 → IVec S16 32) a x).toNat < S24576.size a)
theorem k0_idx180_inb : ∀ (v467 : IVec S16 32) (k0_hw180 : k0_chk180 v467), ∀ a x, ((![v467] : Fin 1 → IVec S16 32) a x).toNat < S24576.size a := fun v467 k0_hw180 => k0_hw180

def k0_chk181 (v470 : IVec S16 32) : Prop :=
  (∀ a x, ((![v470] : Fin 1 → IVec S16 32) a x).toNat < S19648.size a)
theorem k0_idx181_inb : ∀ (v470 : IVec S16 32) (k0_hw181 : k0_chk181 v470), ∀ a x, ((![v470] : Fin 1 → IVec S16 32) a x).toNat < S19648.size a := fun v470 k0_hw181 => k0_hw181

def k0_chk182 (v473 : IVec S16 32) : Prop :=
  (∀ a x, ((![v473] : Fin 1 → IVec S16 32) a x).toNat < S24576.size a)
theorem k0_idx182_inb : ∀ (v473 : IVec S16 32) (k0_hw182 : k0_chk182 v473), ∀ a x, ((![v473] : Fin 1 → IVec S16 32) a x).toNat < S24576.size a := fun v473 k0_hw182 => k0_hw182

def k0_chk183 (v476 : IVec S16 32) : Prop :=
  (∀ a x, ((![v476] : Fin 1 → IVec S16 32) a x).toNat < S19648.size a)
theorem k0_idx183_inb : ∀ (v476 : IVec S16 32) (k0_hw183 : k0_chk183 v476), ∀ a x, ((![v476] : Fin 1 → IVec S16 32) a x).toNat < S19648.size a := fun v476 k0_hw183 => k0_hw183

def k0_chk184 (v479 : IVec S16 32) : Prop :=
  (∀ a x, ((![v479] : Fin 1 → IVec S16 32) a x).toNat < S24576.size a)
theorem k0_idx184_inb : ∀ (v479 : IVec S16 32) (k0_hw184 : k0_chk184 v479), ∀ a x, ((![v479] : Fin 1 → IVec S16 32) a x).toNat < S24576.size a := fun v479 k0_hw184 => k0_hw184

def k0_chk185 (v482 : IVec S16 32) : Prop :=
  (∀ a x, ((![v482] : Fin 1 → IVec S16 32) a x).toNat < S19648.size a)
theorem k0_idx185_inb : ∀ (v482 : IVec S16 32) (k0_hw185 : k0_chk185 v482), ∀ a x, ((![v482] : Fin 1 → IVec S16 32) a x).toNat < S19648.size a := fun v482 k0_hw185 => k0_hw185

def k0_chk186 (v485 : IVec S16 32) : Prop :=
  (∀ a x, ((![v485] : Fin 1 → IVec S16 32) a x).toNat < S24576.size a)
theorem k0_idx186_inb : ∀ (v485 : IVec S16 32) (k0_hw186 : k0_chk186 v485), ∀ a x, ((![v485] : Fin 1 → IVec S16 32) a x).toNat < S24576.size a := fun v485 k0_hw186 => k0_hw186

def k0_chk187 (v488 : IVec S16 32) : Prop :=
  (∀ a x, ((![v488] : Fin 1 → IVec S16 32) a x).toNat < S19648.size a)
theorem k0_idx187_inb : ∀ (v488 : IVec S16 32) (k0_hw187 : k0_chk187 v488), ∀ a x, ((![v488] : Fin 1 → IVec S16 32) a x).toNat < S19648.size a := fun v488 k0_hw187 => k0_hw187

def k0_chk188 (v491 : IVec S16 32) : Prop :=
  (∀ a x, ((![v491] : Fin 1 → IVec S16 32) a x).toNat < S24576.size a)
theorem k0_idx188_inb : ∀ (v491 : IVec S16 32) (k0_hw188 : k0_chk188 v491), ∀ a x, ((![v491] : Fin 1 → IVec S16 32) a x).toNat < S24576.size a := fun v491 k0_hw188 => k0_hw188

def k0_chk189 (v494 : IVec S16 32) : Prop :=
  (∀ a x, ((![v494] : Fin 1 → IVec S16 32) a x).toNat < S19648.size a)
theorem k0_idx189_inb : ∀ (v494 : IVec S16 32) (k0_hw189 : k0_chk189 v494), ∀ a x, ((![v494] : Fin 1 → IVec S16 32) a x).toNat < S19648.size a := fun v494 k0_hw189 => k0_hw189

def k0_chk190 (v497 : IVec S16 32) : Prop :=
  (∀ a x, ((![v497] : Fin 1 → IVec S16 32) a x).toNat < S24576.size a)
theorem k0_idx190_inb : ∀ (v497 : IVec S16 32) (k0_hw190 : k0_chk190 v497), ∀ a x, ((![v497] : Fin 1 → IVec S16 32) a x).toNat < S24576.size a := fun v497 k0_hw190 => k0_hw190

def k0_chk191 (v500 : IVec S16 32) : Prop :=
  (∀ a x, ((![v500] : Fin 1 → IVec S16 32) a x).toNat < S19648.size a)
theorem k0_idx191_inb : ∀ (v500 : IVec S16 32) (k0_hw191 : k0_chk191 v500), ∀ a x, ((![v500] : Fin 1 → IVec S16 32) a x).toNat < S19648.size a := fun v500 k0_hw191 => k0_hw191

def k0_chk192 (v503 : IVec S16 32) : Prop :=
  (∀ a x, ((![v503] : Fin 1 → IVec S16 32) a x).toNat < S24576.size a)
theorem k0_idx192_inb : ∀ (v503 : IVec S16 32) (k0_hw192 : k0_chk192 v503), ∀ a x, ((![v503] : Fin 1 → IVec S16 32) a x).toNat < S24576.size a := fun v503 k0_hw192 => k0_hw192
@[reducible] def k0_t7_loop : Scf.Loop 32 :=
  let c0_i32_125 : BitVec 32 := 0#32
  let c96_i32_126 : BitVec 32 := 96#32
  let v217 : BitVec 32 := Scalar.addi c0_i32_125 c96_i32_126
  let c1_i32_127 : BitVec 32 := 1#32
  ⟨c0_i32_125, v217, c1_i32_127⟩
def k0_off9 (k0_t7 : Fin k0_t7_loop.trips) : Fin 1 → Nat :=
  let c0_i32_125 : BitVec 32 := 0#32
  let c1_i32_127 : BitVec 32 := 1#32
  let arg10 : BitVec 32 := Scf.iv c0_i32_125 c1_i32_127 k0_t7
  let c16_i32_288 : BitVec 32 := 16#32
  let v404 : BitVec 32 := Scalar.muli arg10 c16_i32_288
  let v405 : Index := Scalar.indexCast v404
  ![v405.toNat]

def k0_chk193 (v410 : IVec S16 32) : Prop :=
  (∀ a x, ((![v410] : Fin 1 → IVec S16 32) a x).toNat < S19648.size a)
theorem k0_idx193_inb : ∀ (v410 : IVec S16 32) (k0_hw193 : k0_chk193 v410), ∀ a x, ((![v410] : Fin 1 → IVec S16 32) a x).toNat < S19648.size a := fun v410 k0_hw193 => k0_hw193

def k0_chk194 (v413 : IVec S16 32) : Prop :=
  (∀ a x, ((![v413] : Fin 1 → IVec S16 32) a x).toNat < S24576.size a)
theorem k0_idx194_inb : ∀ (v413 : IVec S16 32) (k0_hw194 : k0_chk194 v413), ∀ a x, ((![v413] : Fin 1 → IVec S16 32) a x).toNat < S24576.size a := fun v413 k0_hw194 => k0_hw194

def k0_chk195 (v416 : IVec S16 32) : Prop :=
  (∀ a x, ((![v416] : Fin 1 → IVec S16 32) a x).toNat < S19648.size a)
theorem k0_idx195_inb : ∀ (v416 : IVec S16 32) (k0_hw195 : k0_chk195 v416), ∀ a x, ((![v416] : Fin 1 → IVec S16 32) a x).toNat < S19648.size a := fun v416 k0_hw195 => k0_hw195

def k0_chk196 (v419 : IVec S16 32) : Prop :=
  (∀ a x, ((![v419] : Fin 1 → IVec S16 32) a x).toNat < S24576.size a)
theorem k0_idx196_inb : ∀ (v419 : IVec S16 32) (k0_hw196 : k0_chk196 v419), ∀ a x, ((![v419] : Fin 1 → IVec S16 32) a x).toNat < S24576.size a := fun v419 k0_hw196 => k0_hw196

def k0_chk197 (v422 : IVec S16 32) : Prop :=
  (∀ a x, ((![v422] : Fin 1 → IVec S16 32) a x).toNat < S19648.size a)
theorem k0_idx197_inb : ∀ (v422 : IVec S16 32) (k0_hw197 : k0_chk197 v422), ∀ a x, ((![v422] : Fin 1 → IVec S16 32) a x).toNat < S19648.size a := fun v422 k0_hw197 => k0_hw197

def k0_chk198 (v425 : IVec S16 32) : Prop :=
  (∀ a x, ((![v425] : Fin 1 → IVec S16 32) a x).toNat < S24576.size a)
theorem k0_idx198_inb : ∀ (v425 : IVec S16 32) (k0_hw198 : k0_chk198 v425), ∀ a x, ((![v425] : Fin 1 → IVec S16 32) a x).toNat < S24576.size a := fun v425 k0_hw198 => k0_hw198

def k0_chk199 (v428 : IVec S16 32) : Prop :=
  (∀ a x, ((![v428] : Fin 1 → IVec S16 32) a x).toNat < S19648.size a)
theorem k0_idx199_inb : ∀ (v428 : IVec S16 32) (k0_hw199 : k0_chk199 v428), ∀ a x, ((![v428] : Fin 1 → IVec S16 32) a x).toNat < S19648.size a := fun v428 k0_hw199 => k0_hw199

def k0_chk200 (v431 : IVec S16 32) : Prop :=
  (∀ a x, ((![v431] : Fin 1 → IVec S16 32) a x).toNat < S24576.size a)
theorem k0_idx200_inb : ∀ (v431 : IVec S16 32) (k0_hw200 : k0_chk200 v431), ∀ a x, ((![v431] : Fin 1 → IVec S16 32) a x).toNat < S24576.size a := fun v431 k0_hw200 => k0_hw200

def k0_chk201 (v434 : IVec S16 32) : Prop :=
  (∀ a x, ((![v434] : Fin 1 → IVec S16 32) a x).toNat < S19648.size a)
theorem k0_idx201_inb : ∀ (v434 : IVec S16 32) (k0_hw201 : k0_chk201 v434), ∀ a x, ((![v434] : Fin 1 → IVec S16 32) a x).toNat < S19648.size a := fun v434 k0_hw201 => k0_hw201

def k0_chk202 (v437 : IVec S16 32) : Prop :=
  (∀ a x, ((![v437] : Fin 1 → IVec S16 32) a x).toNat < S24576.size a)
theorem k0_idx202_inb : ∀ (v437 : IVec S16 32) (k0_hw202 : k0_chk202 v437), ∀ a x, ((![v437] : Fin 1 → IVec S16 32) a x).toNat < S24576.size a := fun v437 k0_hw202 => k0_hw202

def k0_chk203 (v440 : IVec S16 32) : Prop :=
  (∀ a x, ((![v440] : Fin 1 → IVec S16 32) a x).toNat < S19648.size a)
theorem k0_idx203_inb : ∀ (v440 : IVec S16 32) (k0_hw203 : k0_chk203 v440), ∀ a x, ((![v440] : Fin 1 → IVec S16 32) a x).toNat < S19648.size a := fun v440 k0_hw203 => k0_hw203

def k0_chk204 (v443 : IVec S16 32) : Prop :=
  (∀ a x, ((![v443] : Fin 1 → IVec S16 32) a x).toNat < S24576.size a)
theorem k0_idx204_inb : ∀ (v443 : IVec S16 32) (k0_hw204 : k0_chk204 v443), ∀ a x, ((![v443] : Fin 1 → IVec S16 32) a x).toNat < S24576.size a := fun v443 k0_hw204 => k0_hw204

def k0_chk205 (v446 : IVec S16 32) : Prop :=
  (∀ a x, ((![v446] : Fin 1 → IVec S16 32) a x).toNat < S19648.size a)
theorem k0_idx205_inb : ∀ (v446 : IVec S16 32) (k0_hw205 : k0_chk205 v446), ∀ a x, ((![v446] : Fin 1 → IVec S16 32) a x).toNat < S19648.size a := fun v446 k0_hw205 => k0_hw205

def k0_chk206 (v449 : IVec S16 32) : Prop :=
  (∀ a x, ((![v449] : Fin 1 → IVec S16 32) a x).toNat < S24576.size a)
theorem k0_idx206_inb : ∀ (v449 : IVec S16 32) (k0_hw206 : k0_chk206 v449), ∀ a x, ((![v449] : Fin 1 → IVec S16 32) a x).toNat < S24576.size a := fun v449 k0_hw206 => k0_hw206

def k0_chk207 (v452 : IVec S16 32) : Prop :=
  (∀ a x, ((![v452] : Fin 1 → IVec S16 32) a x).toNat < S19648.size a)
theorem k0_idx207_inb : ∀ (v452 : IVec S16 32) (k0_hw207 : k0_chk207 v452), ∀ a x, ((![v452] : Fin 1 → IVec S16 32) a x).toNat < S19648.size a := fun v452 k0_hw207 => k0_hw207

def k0_chk208 (v455 : IVec S16 32) : Prop :=
  (∀ a x, ((![v455] : Fin 1 → IVec S16 32) a x).toNat < S24576.size a)
theorem k0_idx208_inb : ∀ (v455 : IVec S16 32) (k0_hw208 : k0_chk208 v455), ∀ a x, ((![v455] : Fin 1 → IVec S16 32) a x).toNat < S24576.size a := fun v455 k0_hw208 => k0_hw208

def k0_chk209 (v458 : IVec S16 32) : Prop :=
  (∀ a x, ((![v458] : Fin 1 → IVec S16 32) a x).toNat < S19648.size a)
theorem k0_idx209_inb : ∀ (v458 : IVec S16 32) (k0_hw209 : k0_chk209 v458), ∀ a x, ((![v458] : Fin 1 → IVec S16 32) a x).toNat < S19648.size a := fun v458 k0_hw209 => k0_hw209

def k0_chk210 (v461 : IVec S16 32) : Prop :=
  (∀ a x, ((![v461] : Fin 1 → IVec S16 32) a x).toNat < S24576.size a)
theorem k0_idx210_inb : ∀ (v461 : IVec S16 32) (k0_hw210 : k0_chk210 v461), ∀ a x, ((![v461] : Fin 1 → IVec S16 32) a x).toNat < S24576.size a := fun v461 k0_hw210 => k0_hw210

def k0_chk211 (v464 : IVec S16 32) : Prop :=
  (∀ a x, ((![v464] : Fin 1 → IVec S16 32) a x).toNat < S19648.size a)
theorem k0_idx211_inb : ∀ (v464 : IVec S16 32) (k0_hw211 : k0_chk211 v464), ∀ a x, ((![v464] : Fin 1 → IVec S16 32) a x).toNat < S19648.size a := fun v464 k0_hw211 => k0_hw211

def k0_chk212 (v467 : IVec S16 32) : Prop :=
  (∀ a x, ((![v467] : Fin 1 → IVec S16 32) a x).toNat < S24576.size a)
theorem k0_idx212_inb : ∀ (v467 : IVec S16 32) (k0_hw212 : k0_chk212 v467), ∀ a x, ((![v467] : Fin 1 → IVec S16 32) a x).toNat < S24576.size a := fun v467 k0_hw212 => k0_hw212

def k0_chk213 (v470 : IVec S16 32) : Prop :=
  (∀ a x, ((![v470] : Fin 1 → IVec S16 32) a x).toNat < S19648.size a)
theorem k0_idx213_inb : ∀ (v470 : IVec S16 32) (k0_hw213 : k0_chk213 v470), ∀ a x, ((![v470] : Fin 1 → IVec S16 32) a x).toNat < S19648.size a := fun v470 k0_hw213 => k0_hw213

def k0_chk214 (v473 : IVec S16 32) : Prop :=
  (∀ a x, ((![v473] : Fin 1 → IVec S16 32) a x).toNat < S24576.size a)
theorem k0_idx214_inb : ∀ (v473 : IVec S16 32) (k0_hw214 : k0_chk214 v473), ∀ a x, ((![v473] : Fin 1 → IVec S16 32) a x).toNat < S24576.size a := fun v473 k0_hw214 => k0_hw214

def k0_chk215 (v476 : IVec S16 32) : Prop :=
  (∀ a x, ((![v476] : Fin 1 → IVec S16 32) a x).toNat < S19648.size a)
theorem k0_idx215_inb : ∀ (v476 : IVec S16 32) (k0_hw215 : k0_chk215 v476), ∀ a x, ((![v476] : Fin 1 → IVec S16 32) a x).toNat < S19648.size a := fun v476 k0_hw215 => k0_hw215

def k0_chk216 (v479 : IVec S16 32) : Prop :=
  (∀ a x, ((![v479] : Fin 1 → IVec S16 32) a x).toNat < S24576.size a)
theorem k0_idx216_inb : ∀ (v479 : IVec S16 32) (k0_hw216 : k0_chk216 v479), ∀ a x, ((![v479] : Fin 1 → IVec S16 32) a x).toNat < S24576.size a := fun v479 k0_hw216 => k0_hw216

def k0_chk217 (v482 : IVec S16 32) : Prop :=
  (∀ a x, ((![v482] : Fin 1 → IVec S16 32) a x).toNat < S19648.size a)
theorem k0_idx217_inb : ∀ (v482 : IVec S16 32) (k0_hw217 : k0_chk217 v482), ∀ a x, ((![v482] : Fin 1 → IVec S16 32) a x).toNat < S19648.size a := fun v482 k0_hw217 => k0_hw217

def k0_chk218 (v485 : IVec S16 32) : Prop :=
  (∀ a x, ((![v485] : Fin 1 → IVec S16 32) a x).toNat < S24576.size a)
theorem k0_idx218_inb : ∀ (v485 : IVec S16 32) (k0_hw218 : k0_chk218 v485), ∀ a x, ((![v485] : Fin 1 → IVec S16 32) a x).toNat < S24576.size a := fun v485 k0_hw218 => k0_hw218

def k0_chk219 (v488 : IVec S16 32) : Prop :=
  (∀ a x, ((![v488] : Fin 1 → IVec S16 32) a x).toNat < S19648.size a)
theorem k0_idx219_inb : ∀ (v488 : IVec S16 32) (k0_hw219 : k0_chk219 v488), ∀ a x, ((![v488] : Fin 1 → IVec S16 32) a x).toNat < S19648.size a := fun v488 k0_hw219 => k0_hw219

def k0_chk220 (v491 : IVec S16 32) : Prop :=
  (∀ a x, ((![v491] : Fin 1 → IVec S16 32) a x).toNat < S24576.size a)
theorem k0_idx220_inb : ∀ (v491 : IVec S16 32) (k0_hw220 : k0_chk220 v491), ∀ a x, ((![v491] : Fin 1 → IVec S16 32) a x).toNat < S24576.size a := fun v491 k0_hw220 => k0_hw220

def k0_chk221 (v494 : IVec S16 32) : Prop :=
  (∀ a x, ((![v494] : Fin 1 → IVec S16 32) a x).toNat < S19648.size a)
theorem k0_idx221_inb : ∀ (v494 : IVec S16 32) (k0_hw221 : k0_chk221 v494), ∀ a x, ((![v494] : Fin 1 → IVec S16 32) a x).toNat < S19648.size a := fun v494 k0_hw221 => k0_hw221

def k0_chk222 (v497 : IVec S16 32) : Prop :=
  (∀ a x, ((![v497] : Fin 1 → IVec S16 32) a x).toNat < S24576.size a)
theorem k0_idx222_inb : ∀ (v497 : IVec S16 32) (k0_hw222 : k0_chk222 v497), ∀ a x, ((![v497] : Fin 1 → IVec S16 32) a x).toNat < S24576.size a := fun v497 k0_hw222 => k0_hw222

def k0_chk223 (v500 : IVec S16 32) : Prop :=
  (∀ a x, ((![v500] : Fin 1 → IVec S16 32) a x).toNat < S19648.size a)
theorem k0_idx223_inb : ∀ (v500 : IVec S16 32) (k0_hw223 : k0_chk223 v500), ∀ a x, ((![v500] : Fin 1 → IVec S16 32) a x).toNat < S19648.size a := fun v500 k0_hw223 => k0_hw223

def k0_chk224 (v503 : IVec S16 32) : Prop :=
  (∀ a x, ((![v503] : Fin 1 → IVec S16 32) a x).toNat < S24576.size a)
theorem k0_idx224_inb : ∀ (v503 : IVec S16 32) (k0_hw224 : k0_chk224 v503), ∀ a x, ((![v503] : Fin 1 → IVec S16 32) a x).toNat < S24576.size a := fun v503 k0_hw224 => k0_hw224
@[reducible] def k0_t8_loop : Scf.Loop 32 :=
  let c0_i32_141 : BitVec 32 := 0#32
  let c96_i32_142 : BitVec 32 := 96#32
  let v235 : BitVec 32 := Scalar.addi c0_i32_141 c96_i32_142
  let c1_i32_143 : BitVec 32 := 1#32
  ⟨c0_i32_141, v235, c1_i32_143⟩
def k0_off10 (k0_t8 : Fin k0_t8_loop.trips) : Fin 1 → Nat :=
  let c0_i32_141 : BitVec 32 := 0#32
  let c1_i32_143 : BitVec 32 := 1#32
  let arg10 : BitVec 32 := Scf.iv c0_i32_141 c1_i32_143 k0_t8
  let c16_i32_288 : BitVec 32 := 16#32
  let v404 : BitVec 32 := Scalar.muli arg10 c16_i32_288
  let v405 : Index := Scalar.indexCast v404
  ![v405.toNat]

def k0_chk225 (v410 : IVec S16 32) : Prop :=
  (∀ a x, ((![v410] : Fin 1 → IVec S16 32) a x).toNat < S19648.size a)
theorem k0_idx225_inb : ∀ (v410 : IVec S16 32) (k0_hw225 : k0_chk225 v410), ∀ a x, ((![v410] : Fin 1 → IVec S16 32) a x).toNat < S19648.size a := fun v410 k0_hw225 => k0_hw225

def k0_chk226 (v413 : IVec S16 32) : Prop :=
  (∀ a x, ((![v413] : Fin 1 → IVec S16 32) a x).toNat < S24576.size a)
theorem k0_idx226_inb : ∀ (v413 : IVec S16 32) (k0_hw226 : k0_chk226 v413), ∀ a x, ((![v413] : Fin 1 → IVec S16 32) a x).toNat < S24576.size a := fun v413 k0_hw226 => k0_hw226

def k0_chk227 (v416 : IVec S16 32) : Prop :=
  (∀ a x, ((![v416] : Fin 1 → IVec S16 32) a x).toNat < S19648.size a)
theorem k0_idx227_inb : ∀ (v416 : IVec S16 32) (k0_hw227 : k0_chk227 v416), ∀ a x, ((![v416] : Fin 1 → IVec S16 32) a x).toNat < S19648.size a := fun v416 k0_hw227 => k0_hw227

def k0_chk228 (v419 : IVec S16 32) : Prop :=
  (∀ a x, ((![v419] : Fin 1 → IVec S16 32) a x).toNat < S24576.size a)
theorem k0_idx228_inb : ∀ (v419 : IVec S16 32) (k0_hw228 : k0_chk228 v419), ∀ a x, ((![v419] : Fin 1 → IVec S16 32) a x).toNat < S24576.size a := fun v419 k0_hw228 => k0_hw228

def k0_chk229 (v422 : IVec S16 32) : Prop :=
  (∀ a x, ((![v422] : Fin 1 → IVec S16 32) a x).toNat < S19648.size a)
theorem k0_idx229_inb : ∀ (v422 : IVec S16 32) (k0_hw229 : k0_chk229 v422), ∀ a x, ((![v422] : Fin 1 → IVec S16 32) a x).toNat < S19648.size a := fun v422 k0_hw229 => k0_hw229

def k0_chk230 (v425 : IVec S16 32) : Prop :=
  (∀ a x, ((![v425] : Fin 1 → IVec S16 32) a x).toNat < S24576.size a)
theorem k0_idx230_inb : ∀ (v425 : IVec S16 32) (k0_hw230 : k0_chk230 v425), ∀ a x, ((![v425] : Fin 1 → IVec S16 32) a x).toNat < S24576.size a := fun v425 k0_hw230 => k0_hw230

def k0_chk231 (v428 : IVec S16 32) : Prop :=
  (∀ a x, ((![v428] : Fin 1 → IVec S16 32) a x).toNat < S19648.size a)
theorem k0_idx231_inb : ∀ (v428 : IVec S16 32) (k0_hw231 : k0_chk231 v428), ∀ a x, ((![v428] : Fin 1 → IVec S16 32) a x).toNat < S19648.size a := fun v428 k0_hw231 => k0_hw231

def k0_chk232 (v431 : IVec S16 32) : Prop :=
  (∀ a x, ((![v431] : Fin 1 → IVec S16 32) a x).toNat < S24576.size a)
theorem k0_idx232_inb : ∀ (v431 : IVec S16 32) (k0_hw232 : k0_chk232 v431), ∀ a x, ((![v431] : Fin 1 → IVec S16 32) a x).toNat < S24576.size a := fun v431 k0_hw232 => k0_hw232

def k0_chk233 (v434 : IVec S16 32) : Prop :=
  (∀ a x, ((![v434] : Fin 1 → IVec S16 32) a x).toNat < S19648.size a)
theorem k0_idx233_inb : ∀ (v434 : IVec S16 32) (k0_hw233 : k0_chk233 v434), ∀ a x, ((![v434] : Fin 1 → IVec S16 32) a x).toNat < S19648.size a := fun v434 k0_hw233 => k0_hw233

def k0_chk234 (v437 : IVec S16 32) : Prop :=
  (∀ a x, ((![v437] : Fin 1 → IVec S16 32) a x).toNat < S24576.size a)
theorem k0_idx234_inb : ∀ (v437 : IVec S16 32) (k0_hw234 : k0_chk234 v437), ∀ a x, ((![v437] : Fin 1 → IVec S16 32) a x).toNat < S24576.size a := fun v437 k0_hw234 => k0_hw234

def k0_chk235 (v440 : IVec S16 32) : Prop :=
  (∀ a x, ((![v440] : Fin 1 → IVec S16 32) a x).toNat < S19648.size a)
theorem k0_idx235_inb : ∀ (v440 : IVec S16 32) (k0_hw235 : k0_chk235 v440), ∀ a x, ((![v440] : Fin 1 → IVec S16 32) a x).toNat < S19648.size a := fun v440 k0_hw235 => k0_hw235

def k0_chk236 (v443 : IVec S16 32) : Prop :=
  (∀ a x, ((![v443] : Fin 1 → IVec S16 32) a x).toNat < S24576.size a)
theorem k0_idx236_inb : ∀ (v443 : IVec S16 32) (k0_hw236 : k0_chk236 v443), ∀ a x, ((![v443] : Fin 1 → IVec S16 32) a x).toNat < S24576.size a := fun v443 k0_hw236 => k0_hw236

def k0_chk237 (v446 : IVec S16 32) : Prop :=
  (∀ a x, ((![v446] : Fin 1 → IVec S16 32) a x).toNat < S19648.size a)
theorem k0_idx237_inb : ∀ (v446 : IVec S16 32) (k0_hw237 : k0_chk237 v446), ∀ a x, ((![v446] : Fin 1 → IVec S16 32) a x).toNat < S19648.size a := fun v446 k0_hw237 => k0_hw237

def k0_chk238 (v449 : IVec S16 32) : Prop :=
  (∀ a x, ((![v449] : Fin 1 → IVec S16 32) a x).toNat < S24576.size a)
theorem k0_idx238_inb : ∀ (v449 : IVec S16 32) (k0_hw238 : k0_chk238 v449), ∀ a x, ((![v449] : Fin 1 → IVec S16 32) a x).toNat < S24576.size a := fun v449 k0_hw238 => k0_hw238

def k0_chk239 (v452 : IVec S16 32) : Prop :=
  (∀ a x, ((![v452] : Fin 1 → IVec S16 32) a x).toNat < S19648.size a)
theorem k0_idx239_inb : ∀ (v452 : IVec S16 32) (k0_hw239 : k0_chk239 v452), ∀ a x, ((![v452] : Fin 1 → IVec S16 32) a x).toNat < S19648.size a := fun v452 k0_hw239 => k0_hw239

def k0_chk240 (v455 : IVec S16 32) : Prop :=
  (∀ a x, ((![v455] : Fin 1 → IVec S16 32) a x).toNat < S24576.size a)
theorem k0_idx240_inb : ∀ (v455 : IVec S16 32) (k0_hw240 : k0_chk240 v455), ∀ a x, ((![v455] : Fin 1 → IVec S16 32) a x).toNat < S24576.size a := fun v455 k0_hw240 => k0_hw240

def k0_chk241 (v458 : IVec S16 32) : Prop :=
  (∀ a x, ((![v458] : Fin 1 → IVec S16 32) a x).toNat < S19648.size a)
theorem k0_idx241_inb : ∀ (v458 : IVec S16 32) (k0_hw241 : k0_chk241 v458), ∀ a x, ((![v458] : Fin 1 → IVec S16 32) a x).toNat < S19648.size a := fun v458 k0_hw241 => k0_hw241

def k0_chk242 (v461 : IVec S16 32) : Prop :=
  (∀ a x, ((![v461] : Fin 1 → IVec S16 32) a x).toNat < S24576.size a)
theorem k0_idx242_inb : ∀ (v461 : IVec S16 32) (k0_hw242 : k0_chk242 v461), ∀ a x, ((![v461] : Fin 1 → IVec S16 32) a x).toNat < S24576.size a := fun v461 k0_hw242 => k0_hw242

def k0_chk243 (v464 : IVec S16 32) : Prop :=
  (∀ a x, ((![v464] : Fin 1 → IVec S16 32) a x).toNat < S19648.size a)
theorem k0_idx243_inb : ∀ (v464 : IVec S16 32) (k0_hw243 : k0_chk243 v464), ∀ a x, ((![v464] : Fin 1 → IVec S16 32) a x).toNat < S19648.size a := fun v464 k0_hw243 => k0_hw243

def k0_chk244 (v467 : IVec S16 32) : Prop :=
  (∀ a x, ((![v467] : Fin 1 → IVec S16 32) a x).toNat < S24576.size a)
theorem k0_idx244_inb : ∀ (v467 : IVec S16 32) (k0_hw244 : k0_chk244 v467), ∀ a x, ((![v467] : Fin 1 → IVec S16 32) a x).toNat < S24576.size a := fun v467 k0_hw244 => k0_hw244

def k0_chk245 (v470 : IVec S16 32) : Prop :=
  (∀ a x, ((![v470] : Fin 1 → IVec S16 32) a x).toNat < S19648.size a)
theorem k0_idx245_inb : ∀ (v470 : IVec S16 32) (k0_hw245 : k0_chk245 v470), ∀ a x, ((![v470] : Fin 1 → IVec S16 32) a x).toNat < S19648.size a := fun v470 k0_hw245 => k0_hw245

def k0_chk246 (v473 : IVec S16 32) : Prop :=
  (∀ a x, ((![v473] : Fin 1 → IVec S16 32) a x).toNat < S24576.size a)
theorem k0_idx246_inb : ∀ (v473 : IVec S16 32) (k0_hw246 : k0_chk246 v473), ∀ a x, ((![v473] : Fin 1 → IVec S16 32) a x).toNat < S24576.size a := fun v473 k0_hw246 => k0_hw246

def k0_chk247 (v476 : IVec S16 32) : Prop :=
  (∀ a x, ((![v476] : Fin 1 → IVec S16 32) a x).toNat < S19648.size a)
theorem k0_idx247_inb : ∀ (v476 : IVec S16 32) (k0_hw247 : k0_chk247 v476), ∀ a x, ((![v476] : Fin 1 → IVec S16 32) a x).toNat < S19648.size a := fun v476 k0_hw247 => k0_hw247

def k0_chk248 (v479 : IVec S16 32) : Prop :=
  (∀ a x, ((![v479] : Fin 1 → IVec S16 32) a x).toNat < S24576.size a)
theorem k0_idx248_inb : ∀ (v479 : IVec S16 32) (k0_hw248 : k0_chk248 v479), ∀ a x, ((![v479] : Fin 1 → IVec S16 32) a x).toNat < S24576.size a := fun v479 k0_hw248 => k0_hw248

def k0_chk249 (v482 : IVec S16 32) : Prop :=
  (∀ a x, ((![v482] : Fin 1 → IVec S16 32) a x).toNat < S19648.size a)
theorem k0_idx249_inb : ∀ (v482 : IVec S16 32) (k0_hw249 : k0_chk249 v482), ∀ a x, ((![v482] : Fin 1 → IVec S16 32) a x).toNat < S19648.size a := fun v482 k0_hw249 => k0_hw249

def k0_chk250 (v485 : IVec S16 32) : Prop :=
  (∀ a x, ((![v485] : Fin 1 → IVec S16 32) a x).toNat < S24576.size a)
theorem k0_idx250_inb : ∀ (v485 : IVec S16 32) (k0_hw250 : k0_chk250 v485), ∀ a x, ((![v485] : Fin 1 → IVec S16 32) a x).toNat < S24576.size a := fun v485 k0_hw250 => k0_hw250

def k0_chk251 (v488 : IVec S16 32) : Prop :=
  (∀ a x, ((![v488] : Fin 1 → IVec S16 32) a x).toNat < S19648.size a)
theorem k0_idx251_inb : ∀ (v488 : IVec S16 32) (k0_hw251 : k0_chk251 v488), ∀ a x, ((![v488] : Fin 1 → IVec S16 32) a x).toNat < S19648.size a := fun v488 k0_hw251 => k0_hw251

def k0_chk252 (v491 : IVec S16 32) : Prop :=
  (∀ a x, ((![v491] : Fin 1 → IVec S16 32) a x).toNat < S24576.size a)
theorem k0_idx252_inb : ∀ (v491 : IVec S16 32) (k0_hw252 : k0_chk252 v491), ∀ a x, ((![v491] : Fin 1 → IVec S16 32) a x).toNat < S24576.size a := fun v491 k0_hw252 => k0_hw252

def k0_chk253 (v494 : IVec S16 32) : Prop :=
  (∀ a x, ((![v494] : Fin 1 → IVec S16 32) a x).toNat < S19648.size a)
theorem k0_idx253_inb : ∀ (v494 : IVec S16 32) (k0_hw253 : k0_chk253 v494), ∀ a x, ((![v494] : Fin 1 → IVec S16 32) a x).toNat < S19648.size a := fun v494 k0_hw253 => k0_hw253

def k0_chk254 (v497 : IVec S16 32) : Prop :=
  (∀ a x, ((![v497] : Fin 1 → IVec S16 32) a x).toNat < S24576.size a)
theorem k0_idx254_inb : ∀ (v497 : IVec S16 32) (k0_hw254 : k0_chk254 v497), ∀ a x, ((![v497] : Fin 1 → IVec S16 32) a x).toNat < S24576.size a := fun v497 k0_hw254 => k0_hw254

def k0_chk255 (v500 : IVec S16 32) : Prop :=
  (∀ a x, ((![v500] : Fin 1 → IVec S16 32) a x).toNat < S19648.size a)
theorem k0_idx255_inb : ∀ (v500 : IVec S16 32) (k0_hw255 : k0_chk255 v500), ∀ a x, ((![v500] : Fin 1 → IVec S16 32) a x).toNat < S19648.size a := fun v500 k0_hw255 => k0_hw255

def k0_chk256 (v503 : IVec S16 32) : Prop :=
  (∀ a x, ((![v503] : Fin 1 → IVec S16 32) a x).toNat < S24576.size a)
theorem k0_idx256_inb : ∀ (v503 : IVec S16 32) (k0_hw256 : k0_chk256 v503), ∀ a x, ((![v503] : Fin 1 → IVec S16 32) a x).toNat < S24576.size a := fun v503 k0_hw256 => k0_hw256
@[reducible] def k0_t9_loop : Scf.Loop 32 :=
  let c0_i32_157 : BitVec 32 := 0#32
  let c96_i32_158 : BitVec 32 := 96#32
  let v253 : BitVec 32 := Scalar.addi c0_i32_157 c96_i32_158
  let c1_i32_159 : BitVec 32 := 1#32
  ⟨c0_i32_157, v253, c1_i32_159⟩
def k0_off11 (k0_t9 : Fin k0_t9_loop.trips) : Fin 1 → Nat :=
  let c0_i32_157 : BitVec 32 := 0#32
  let c1_i32_159 : BitVec 32 := 1#32
  let arg10 : BitVec 32 := Scf.iv c0_i32_157 c1_i32_159 k0_t9
  let c16_i32_288 : BitVec 32 := 16#32
  let v404 : BitVec 32 := Scalar.muli arg10 c16_i32_288
  let v405 : Index := Scalar.indexCast v404
  ![v405.toNat]

def k0_chk257 (v410 : IVec S16 32) : Prop :=
  (∀ a x, ((![v410] : Fin 1 → IVec S16 32) a x).toNat < S19648.size a)
theorem k0_idx257_inb : ∀ (v410 : IVec S16 32) (k0_hw257 : k0_chk257 v410), ∀ a x, ((![v410] : Fin 1 → IVec S16 32) a x).toNat < S19648.size a := fun v410 k0_hw257 => k0_hw257

def k0_chk258 (v413 : IVec S16 32) : Prop :=
  (∀ a x, ((![v413] : Fin 1 → IVec S16 32) a x).toNat < S24576.size a)
theorem k0_idx258_inb : ∀ (v413 : IVec S16 32) (k0_hw258 : k0_chk258 v413), ∀ a x, ((![v413] : Fin 1 → IVec S16 32) a x).toNat < S24576.size a := fun v413 k0_hw258 => k0_hw258

def k0_chk259 (v416 : IVec S16 32) : Prop :=
  (∀ a x, ((![v416] : Fin 1 → IVec S16 32) a x).toNat < S19648.size a)
theorem k0_idx259_inb : ∀ (v416 : IVec S16 32) (k0_hw259 : k0_chk259 v416), ∀ a x, ((![v416] : Fin 1 → IVec S16 32) a x).toNat < S19648.size a := fun v416 k0_hw259 => k0_hw259

def k0_chk260 (v419 : IVec S16 32) : Prop :=
  (∀ a x, ((![v419] : Fin 1 → IVec S16 32) a x).toNat < S24576.size a)
theorem k0_idx260_inb : ∀ (v419 : IVec S16 32) (k0_hw260 : k0_chk260 v419), ∀ a x, ((![v419] : Fin 1 → IVec S16 32) a x).toNat < S24576.size a := fun v419 k0_hw260 => k0_hw260

def k0_chk261 (v422 : IVec S16 32) : Prop :=
  (∀ a x, ((![v422] : Fin 1 → IVec S16 32) a x).toNat < S19648.size a)
theorem k0_idx261_inb : ∀ (v422 : IVec S16 32) (k0_hw261 : k0_chk261 v422), ∀ a x, ((![v422] : Fin 1 → IVec S16 32) a x).toNat < S19648.size a := fun v422 k0_hw261 => k0_hw261

def k0_chk262 (v425 : IVec S16 32) : Prop :=
  (∀ a x, ((![v425] : Fin 1 → IVec S16 32) a x).toNat < S24576.size a)
theorem k0_idx262_inb : ∀ (v425 : IVec S16 32) (k0_hw262 : k0_chk262 v425), ∀ a x, ((![v425] : Fin 1 → IVec S16 32) a x).toNat < S24576.size a := fun v425 k0_hw262 => k0_hw262

def k0_chk263 (v428 : IVec S16 32) : Prop :=
  (∀ a x, ((![v428] : Fin 1 → IVec S16 32) a x).toNat < S19648.size a)
theorem k0_idx263_inb : ∀ (v428 : IVec S16 32) (k0_hw263 : k0_chk263 v428), ∀ a x, ((![v428] : Fin 1 → IVec S16 32) a x).toNat < S19648.size a := fun v428 k0_hw263 => k0_hw263

def k0_chk264 (v431 : IVec S16 32) : Prop :=
  (∀ a x, ((![v431] : Fin 1 → IVec S16 32) a x).toNat < S24576.size a)
theorem k0_idx264_inb : ∀ (v431 : IVec S16 32) (k0_hw264 : k0_chk264 v431), ∀ a x, ((![v431] : Fin 1 → IVec S16 32) a x).toNat < S24576.size a := fun v431 k0_hw264 => k0_hw264

def k0_chk265 (v434 : IVec S16 32) : Prop :=
  (∀ a x, ((![v434] : Fin 1 → IVec S16 32) a x).toNat < S19648.size a)
theorem k0_idx265_inb : ∀ (v434 : IVec S16 32) (k0_hw265 : k0_chk265 v434), ∀ a x, ((![v434] : Fin 1 → IVec S16 32) a x).toNat < S19648.size a := fun v434 k0_hw265 => k0_hw265

def k0_chk266 (v437 : IVec S16 32) : Prop :=
  (∀ a x, ((![v437] : Fin 1 → IVec S16 32) a x).toNat < S24576.size a)
theorem k0_idx266_inb : ∀ (v437 : IVec S16 32) (k0_hw266 : k0_chk266 v437), ∀ a x, ((![v437] : Fin 1 → IVec S16 32) a x).toNat < S24576.size a := fun v437 k0_hw266 => k0_hw266

def k0_chk267 (v440 : IVec S16 32) : Prop :=
  (∀ a x, ((![v440] : Fin 1 → IVec S16 32) a x).toNat < S19648.size a)
theorem k0_idx267_inb : ∀ (v440 : IVec S16 32) (k0_hw267 : k0_chk267 v440), ∀ a x, ((![v440] : Fin 1 → IVec S16 32) a x).toNat < S19648.size a := fun v440 k0_hw267 => k0_hw267

def k0_chk268 (v443 : IVec S16 32) : Prop :=
  (∀ a x, ((![v443] : Fin 1 → IVec S16 32) a x).toNat < S24576.size a)
theorem k0_idx268_inb : ∀ (v443 : IVec S16 32) (k0_hw268 : k0_chk268 v443), ∀ a x, ((![v443] : Fin 1 → IVec S16 32) a x).toNat < S24576.size a := fun v443 k0_hw268 => k0_hw268

def k0_chk269 (v446 : IVec S16 32) : Prop :=
  (∀ a x, ((![v446] : Fin 1 → IVec S16 32) a x).toNat < S19648.size a)
theorem k0_idx269_inb : ∀ (v446 : IVec S16 32) (k0_hw269 : k0_chk269 v446), ∀ a x, ((![v446] : Fin 1 → IVec S16 32) a x).toNat < S19648.size a := fun v446 k0_hw269 => k0_hw269

def k0_chk270 (v449 : IVec S16 32) : Prop :=
  (∀ a x, ((![v449] : Fin 1 → IVec S16 32) a x).toNat < S24576.size a)
theorem k0_idx270_inb : ∀ (v449 : IVec S16 32) (k0_hw270 : k0_chk270 v449), ∀ a x, ((![v449] : Fin 1 → IVec S16 32) a x).toNat < S24576.size a := fun v449 k0_hw270 => k0_hw270

def k0_chk271 (v452 : IVec S16 32) : Prop :=
  (∀ a x, ((![v452] : Fin 1 → IVec S16 32) a x).toNat < S19648.size a)
theorem k0_idx271_inb : ∀ (v452 : IVec S16 32) (k0_hw271 : k0_chk271 v452), ∀ a x, ((![v452] : Fin 1 → IVec S16 32) a x).toNat < S19648.size a := fun v452 k0_hw271 => k0_hw271

def k0_chk272 (v455 : IVec S16 32) : Prop :=
  (∀ a x, ((![v455] : Fin 1 → IVec S16 32) a x).toNat < S24576.size a)
theorem k0_idx272_inb : ∀ (v455 : IVec S16 32) (k0_hw272 : k0_chk272 v455), ∀ a x, ((![v455] : Fin 1 → IVec S16 32) a x).toNat < S24576.size a := fun v455 k0_hw272 => k0_hw272

def k0_chk273 (v458 : IVec S16 32) : Prop :=
  (∀ a x, ((![v458] : Fin 1 → IVec S16 32) a x).toNat < S19648.size a)
theorem k0_idx273_inb : ∀ (v458 : IVec S16 32) (k0_hw273 : k0_chk273 v458), ∀ a x, ((![v458] : Fin 1 → IVec S16 32) a x).toNat < S19648.size a := fun v458 k0_hw273 => k0_hw273

def k0_chk274 (v461 : IVec S16 32) : Prop :=
  (∀ a x, ((![v461] : Fin 1 → IVec S16 32) a x).toNat < S24576.size a)
theorem k0_idx274_inb : ∀ (v461 : IVec S16 32) (k0_hw274 : k0_chk274 v461), ∀ a x, ((![v461] : Fin 1 → IVec S16 32) a x).toNat < S24576.size a := fun v461 k0_hw274 => k0_hw274

def k0_chk275 (v464 : IVec S16 32) : Prop :=
  (∀ a x, ((![v464] : Fin 1 → IVec S16 32) a x).toNat < S19648.size a)
theorem k0_idx275_inb : ∀ (v464 : IVec S16 32) (k0_hw275 : k0_chk275 v464), ∀ a x, ((![v464] : Fin 1 → IVec S16 32) a x).toNat < S19648.size a := fun v464 k0_hw275 => k0_hw275

def k0_chk276 (v467 : IVec S16 32) : Prop :=
  (∀ a x, ((![v467] : Fin 1 → IVec S16 32) a x).toNat < S24576.size a)
theorem k0_idx276_inb : ∀ (v467 : IVec S16 32) (k0_hw276 : k0_chk276 v467), ∀ a x, ((![v467] : Fin 1 → IVec S16 32) a x).toNat < S24576.size a := fun v467 k0_hw276 => k0_hw276

def k0_chk277 (v470 : IVec S16 32) : Prop :=
  (∀ a x, ((![v470] : Fin 1 → IVec S16 32) a x).toNat < S19648.size a)
theorem k0_idx277_inb : ∀ (v470 : IVec S16 32) (k0_hw277 : k0_chk277 v470), ∀ a x, ((![v470] : Fin 1 → IVec S16 32) a x).toNat < S19648.size a := fun v470 k0_hw277 => k0_hw277

def k0_chk278 (v473 : IVec S16 32) : Prop :=
  (∀ a x, ((![v473] : Fin 1 → IVec S16 32) a x).toNat < S24576.size a)
theorem k0_idx278_inb : ∀ (v473 : IVec S16 32) (k0_hw278 : k0_chk278 v473), ∀ a x, ((![v473] : Fin 1 → IVec S16 32) a x).toNat < S24576.size a := fun v473 k0_hw278 => k0_hw278

def k0_chk279 (v476 : IVec S16 32) : Prop :=
  (∀ a x, ((![v476] : Fin 1 → IVec S16 32) a x).toNat < S19648.size a)
theorem k0_idx279_inb : ∀ (v476 : IVec S16 32) (k0_hw279 : k0_chk279 v476), ∀ a x, ((![v476] : Fin 1 → IVec S16 32) a x).toNat < S19648.size a := fun v476 k0_hw279 => k0_hw279

def k0_chk280 (v479 : IVec S16 32) : Prop :=
  (∀ a x, ((![v479] : Fin 1 → IVec S16 32) a x).toNat < S24576.size a)
theorem k0_idx280_inb : ∀ (v479 : IVec S16 32) (k0_hw280 : k0_chk280 v479), ∀ a x, ((![v479] : Fin 1 → IVec S16 32) a x).toNat < S24576.size a := fun v479 k0_hw280 => k0_hw280

def k0_chk281 (v482 : IVec S16 32) : Prop :=
  (∀ a x, ((![v482] : Fin 1 → IVec S16 32) a x).toNat < S19648.size a)
theorem k0_idx281_inb : ∀ (v482 : IVec S16 32) (k0_hw281 : k0_chk281 v482), ∀ a x, ((![v482] : Fin 1 → IVec S16 32) a x).toNat < S19648.size a := fun v482 k0_hw281 => k0_hw281

def k0_chk282 (v485 : IVec S16 32) : Prop :=
  (∀ a x, ((![v485] : Fin 1 → IVec S16 32) a x).toNat < S24576.size a)
theorem k0_idx282_inb : ∀ (v485 : IVec S16 32) (k0_hw282 : k0_chk282 v485), ∀ a x, ((![v485] : Fin 1 → IVec S16 32) a x).toNat < S24576.size a := fun v485 k0_hw282 => k0_hw282

def k0_chk283 (v488 : IVec S16 32) : Prop :=
  (∀ a x, ((![v488] : Fin 1 → IVec S16 32) a x).toNat < S19648.size a)
theorem k0_idx283_inb : ∀ (v488 : IVec S16 32) (k0_hw283 : k0_chk283 v488), ∀ a x, ((![v488] : Fin 1 → IVec S16 32) a x).toNat < S19648.size a := fun v488 k0_hw283 => k0_hw283

def k0_chk284 (v491 : IVec S16 32) : Prop :=
  (∀ a x, ((![v491] : Fin 1 → IVec S16 32) a x).toNat < S24576.size a)
theorem k0_idx284_inb : ∀ (v491 : IVec S16 32) (k0_hw284 : k0_chk284 v491), ∀ a x, ((![v491] : Fin 1 → IVec S16 32) a x).toNat < S24576.size a := fun v491 k0_hw284 => k0_hw284

def k0_chk285 (v494 : IVec S16 32) : Prop :=
  (∀ a x, ((![v494] : Fin 1 → IVec S16 32) a x).toNat < S19648.size a)
theorem k0_idx285_inb : ∀ (v494 : IVec S16 32) (k0_hw285 : k0_chk285 v494), ∀ a x, ((![v494] : Fin 1 → IVec S16 32) a x).toNat < S19648.size a := fun v494 k0_hw285 => k0_hw285

def k0_chk286 (v497 : IVec S16 32) : Prop :=
  (∀ a x, ((![v497] : Fin 1 → IVec S16 32) a x).toNat < S24576.size a)
theorem k0_idx286_inb : ∀ (v497 : IVec S16 32) (k0_hw286 : k0_chk286 v497), ∀ a x, ((![v497] : Fin 1 → IVec S16 32) a x).toNat < S24576.size a := fun v497 k0_hw286 => k0_hw286

def k0_chk287 (v500 : IVec S16 32) : Prop :=
  (∀ a x, ((![v500] : Fin 1 → IVec S16 32) a x).toNat < S19648.size a)
theorem k0_idx287_inb : ∀ (v500 : IVec S16 32) (k0_hw287 : k0_chk287 v500), ∀ a x, ((![v500] : Fin 1 → IVec S16 32) a x).toNat < S19648.size a := fun v500 k0_hw287 => k0_hw287

def k0_chk288 (v503 : IVec S16 32) : Prop :=
  (∀ a x, ((![v503] : Fin 1 → IVec S16 32) a x).toNat < S24576.size a)
theorem k0_idx288_inb : ∀ (v503 : IVec S16 32) (k0_hw288 : k0_chk288 v503), ∀ a x, ((![v503] : Fin 1 → IVec S16 32) a x).toNat < S24576.size a := fun v503 k0_hw288 => k0_hw288
@[reducible] def k0_t10_loop : Scf.Loop 32 :=
  let c0_i32_173 : BitVec 32 := 0#32
  let c96_i32_174 : BitVec 32 := 96#32
  let v271 : BitVec 32 := Scalar.addi c0_i32_173 c96_i32_174
  let c1_i32_175 : BitVec 32 := 1#32
  ⟨c0_i32_173, v271, c1_i32_175⟩
def k0_off12 (k0_t10 : Fin k0_t10_loop.trips) : Fin 1 → Nat :=
  let c0_i32_173 : BitVec 32 := 0#32
  let c1_i32_175 : BitVec 32 := 1#32
  let arg10 : BitVec 32 := Scf.iv c0_i32_173 c1_i32_175 k0_t10
  let c16_i32_288 : BitVec 32 := 16#32
  let v404 : BitVec 32 := Scalar.muli arg10 c16_i32_288
  let v405 : Index := Scalar.indexCast v404
  ![v405.toNat]

def k0_chk289 (v410 : IVec S16 32) : Prop :=
  (∀ a x, ((![v410] : Fin 1 → IVec S16 32) a x).toNat < S19648.size a)
theorem k0_idx289_inb : ∀ (v410 : IVec S16 32) (k0_hw289 : k0_chk289 v410), ∀ a x, ((![v410] : Fin 1 → IVec S16 32) a x).toNat < S19648.size a := fun v410 k0_hw289 => k0_hw289

def k0_chk290 (v413 : IVec S16 32) : Prop :=
  (∀ a x, ((![v413] : Fin 1 → IVec S16 32) a x).toNat < S24576.size a)
theorem k0_idx290_inb : ∀ (v413 : IVec S16 32) (k0_hw290 : k0_chk290 v413), ∀ a x, ((![v413] : Fin 1 → IVec S16 32) a x).toNat < S24576.size a := fun v413 k0_hw290 => k0_hw290

def k0_chk291 (v416 : IVec S16 32) : Prop :=
  (∀ a x, ((![v416] : Fin 1 → IVec S16 32) a x).toNat < S19648.size a)
theorem k0_idx291_inb : ∀ (v416 : IVec S16 32) (k0_hw291 : k0_chk291 v416), ∀ a x, ((![v416] : Fin 1 → IVec S16 32) a x).toNat < S19648.size a := fun v416 k0_hw291 => k0_hw291

def k0_chk292 (v419 : IVec S16 32) : Prop :=
  (∀ a x, ((![v419] : Fin 1 → IVec S16 32) a x).toNat < S24576.size a)
theorem k0_idx292_inb : ∀ (v419 : IVec S16 32) (k0_hw292 : k0_chk292 v419), ∀ a x, ((![v419] : Fin 1 → IVec S16 32) a x).toNat < S24576.size a := fun v419 k0_hw292 => k0_hw292

def k0_chk293 (v422 : IVec S16 32) : Prop :=
  (∀ a x, ((![v422] : Fin 1 → IVec S16 32) a x).toNat < S19648.size a)
theorem k0_idx293_inb : ∀ (v422 : IVec S16 32) (k0_hw293 : k0_chk293 v422), ∀ a x, ((![v422] : Fin 1 → IVec S16 32) a x).toNat < S19648.size a := fun v422 k0_hw293 => k0_hw293

def k0_chk294 (v425 : IVec S16 32) : Prop :=
  (∀ a x, ((![v425] : Fin 1 → IVec S16 32) a x).toNat < S24576.size a)
theorem k0_idx294_inb : ∀ (v425 : IVec S16 32) (k0_hw294 : k0_chk294 v425), ∀ a x, ((![v425] : Fin 1 → IVec S16 32) a x).toNat < S24576.size a := fun v425 k0_hw294 => k0_hw294

def k0_chk295 (v428 : IVec S16 32) : Prop :=
  (∀ a x, ((![v428] : Fin 1 → IVec S16 32) a x).toNat < S19648.size a)
theorem k0_idx295_inb : ∀ (v428 : IVec S16 32) (k0_hw295 : k0_chk295 v428), ∀ a x, ((![v428] : Fin 1 → IVec S16 32) a x).toNat < S19648.size a := fun v428 k0_hw295 => k0_hw295

def k0_chk296 (v431 : IVec S16 32) : Prop :=
  (∀ a x, ((![v431] : Fin 1 → IVec S16 32) a x).toNat < S24576.size a)
theorem k0_idx296_inb : ∀ (v431 : IVec S16 32) (k0_hw296 : k0_chk296 v431), ∀ a x, ((![v431] : Fin 1 → IVec S16 32) a x).toNat < S24576.size a := fun v431 k0_hw296 => k0_hw296

def k0_chk297 (v434 : IVec S16 32) : Prop :=
  (∀ a x, ((![v434] : Fin 1 → IVec S16 32) a x).toNat < S19648.size a)
theorem k0_idx297_inb : ∀ (v434 : IVec S16 32) (k0_hw297 : k0_chk297 v434), ∀ a x, ((![v434] : Fin 1 → IVec S16 32) a x).toNat < S19648.size a := fun v434 k0_hw297 => k0_hw297

def k0_chk298 (v437 : IVec S16 32) : Prop :=
  (∀ a x, ((![v437] : Fin 1 → IVec S16 32) a x).toNat < S24576.size a)
theorem k0_idx298_inb : ∀ (v437 : IVec S16 32) (k0_hw298 : k0_chk298 v437), ∀ a x, ((![v437] : Fin 1 → IVec S16 32) a x).toNat < S24576.size a := fun v437 k0_hw298 => k0_hw298

def k0_chk299 (v440 : IVec S16 32) : Prop :=
  (∀ a x, ((![v440] : Fin 1 → IVec S16 32) a x).toNat < S19648.size a)
theorem k0_idx299_inb : ∀ (v440 : IVec S16 32) (k0_hw299 : k0_chk299 v440), ∀ a x, ((![v440] : Fin 1 → IVec S16 32) a x).toNat < S19648.size a := fun v440 k0_hw299 => k0_hw299

def k0_chk300 (v443 : IVec S16 32) : Prop :=
  (∀ a x, ((![v443] : Fin 1 → IVec S16 32) a x).toNat < S24576.size a)
theorem k0_idx300_inb : ∀ (v443 : IVec S16 32) (k0_hw300 : k0_chk300 v443), ∀ a x, ((![v443] : Fin 1 → IVec S16 32) a x).toNat < S24576.size a := fun v443 k0_hw300 => k0_hw300

def k0_chk301 (v446 : IVec S16 32) : Prop :=
  (∀ a x, ((![v446] : Fin 1 → IVec S16 32) a x).toNat < S19648.size a)
theorem k0_idx301_inb : ∀ (v446 : IVec S16 32) (k0_hw301 : k0_chk301 v446), ∀ a x, ((![v446] : Fin 1 → IVec S16 32) a x).toNat < S19648.size a := fun v446 k0_hw301 => k0_hw301

def k0_chk302 (v449 : IVec S16 32) : Prop :=
  (∀ a x, ((![v449] : Fin 1 → IVec S16 32) a x).toNat < S24576.size a)
theorem k0_idx302_inb : ∀ (v449 : IVec S16 32) (k0_hw302 : k0_chk302 v449), ∀ a x, ((![v449] : Fin 1 → IVec S16 32) a x).toNat < S24576.size a := fun v449 k0_hw302 => k0_hw302

def k0_chk303 (v452 : IVec S16 32) : Prop :=
  (∀ a x, ((![v452] : Fin 1 → IVec S16 32) a x).toNat < S19648.size a)
theorem k0_idx303_inb : ∀ (v452 : IVec S16 32) (k0_hw303 : k0_chk303 v452), ∀ a x, ((![v452] : Fin 1 → IVec S16 32) a x).toNat < S19648.size a := fun v452 k0_hw303 => k0_hw303

def k0_chk304 (v455 : IVec S16 32) : Prop :=
  (∀ a x, ((![v455] : Fin 1 → IVec S16 32) a x).toNat < S24576.size a)
theorem k0_idx304_inb : ∀ (v455 : IVec S16 32) (k0_hw304 : k0_chk304 v455), ∀ a x, ((![v455] : Fin 1 → IVec S16 32) a x).toNat < S24576.size a := fun v455 k0_hw304 => k0_hw304

def k0_chk305 (v458 : IVec S16 32) : Prop :=
  (∀ a x, ((![v458] : Fin 1 → IVec S16 32) a x).toNat < S19648.size a)
theorem k0_idx305_inb : ∀ (v458 : IVec S16 32) (k0_hw305 : k0_chk305 v458), ∀ a x, ((![v458] : Fin 1 → IVec S16 32) a x).toNat < S19648.size a := fun v458 k0_hw305 => k0_hw305

def k0_chk306 (v461 : IVec S16 32) : Prop :=
  (∀ a x, ((![v461] : Fin 1 → IVec S16 32) a x).toNat < S24576.size a)
theorem k0_idx306_inb : ∀ (v461 : IVec S16 32) (k0_hw306 : k0_chk306 v461), ∀ a x, ((![v461] : Fin 1 → IVec S16 32) a x).toNat < S24576.size a := fun v461 k0_hw306 => k0_hw306

def k0_chk307 (v464 : IVec S16 32) : Prop :=
  (∀ a x, ((![v464] : Fin 1 → IVec S16 32) a x).toNat < S19648.size a)
theorem k0_idx307_inb : ∀ (v464 : IVec S16 32) (k0_hw307 : k0_chk307 v464), ∀ a x, ((![v464] : Fin 1 → IVec S16 32) a x).toNat < S19648.size a := fun v464 k0_hw307 => k0_hw307

def k0_chk308 (v467 : IVec S16 32) : Prop :=
  (∀ a x, ((![v467] : Fin 1 → IVec S16 32) a x).toNat < S24576.size a)
theorem k0_idx308_inb : ∀ (v467 : IVec S16 32) (k0_hw308 : k0_chk308 v467), ∀ a x, ((![v467] : Fin 1 → IVec S16 32) a x).toNat < S24576.size a := fun v467 k0_hw308 => k0_hw308

def k0_chk309 (v470 : IVec S16 32) : Prop :=
  (∀ a x, ((![v470] : Fin 1 → IVec S16 32) a x).toNat < S19648.size a)
theorem k0_idx309_inb : ∀ (v470 : IVec S16 32) (k0_hw309 : k0_chk309 v470), ∀ a x, ((![v470] : Fin 1 → IVec S16 32) a x).toNat < S19648.size a := fun v470 k0_hw309 => k0_hw309

def k0_chk310 (v473 : IVec S16 32) : Prop :=
  (∀ a x, ((![v473] : Fin 1 → IVec S16 32) a x).toNat < S24576.size a)
theorem k0_idx310_inb : ∀ (v473 : IVec S16 32) (k0_hw310 : k0_chk310 v473), ∀ a x, ((![v473] : Fin 1 → IVec S16 32) a x).toNat < S24576.size a := fun v473 k0_hw310 => k0_hw310

def k0_chk311 (v476 : IVec S16 32) : Prop :=
  (∀ a x, ((![v476] : Fin 1 → IVec S16 32) a x).toNat < S19648.size a)
theorem k0_idx311_inb : ∀ (v476 : IVec S16 32) (k0_hw311 : k0_chk311 v476), ∀ a x, ((![v476] : Fin 1 → IVec S16 32) a x).toNat < S19648.size a := fun v476 k0_hw311 => k0_hw311

def k0_chk312 (v479 : IVec S16 32) : Prop :=
  (∀ a x, ((![v479] : Fin 1 → IVec S16 32) a x).toNat < S24576.size a)
theorem k0_idx312_inb : ∀ (v479 : IVec S16 32) (k0_hw312 : k0_chk312 v479), ∀ a x, ((![v479] : Fin 1 → IVec S16 32) a x).toNat < S24576.size a := fun v479 k0_hw312 => k0_hw312

def k0_chk313 (v482 : IVec S16 32) : Prop :=
  (∀ a x, ((![v482] : Fin 1 → IVec S16 32) a x).toNat < S19648.size a)
theorem k0_idx313_inb : ∀ (v482 : IVec S16 32) (k0_hw313 : k0_chk313 v482), ∀ a x, ((![v482] : Fin 1 → IVec S16 32) a x).toNat < S19648.size a := fun v482 k0_hw313 => k0_hw313

def k0_chk314 (v485 : IVec S16 32) : Prop :=
  (∀ a x, ((![v485] : Fin 1 → IVec S16 32) a x).toNat < S24576.size a)
theorem k0_idx314_inb : ∀ (v485 : IVec S16 32) (k0_hw314 : k0_chk314 v485), ∀ a x, ((![v485] : Fin 1 → IVec S16 32) a x).toNat < S24576.size a := fun v485 k0_hw314 => k0_hw314

def k0_chk315 (v488 : IVec S16 32) : Prop :=
  (∀ a x, ((![v488] : Fin 1 → IVec S16 32) a x).toNat < S19648.size a)
theorem k0_idx315_inb : ∀ (v488 : IVec S16 32) (k0_hw315 : k0_chk315 v488), ∀ a x, ((![v488] : Fin 1 → IVec S16 32) a x).toNat < S19648.size a := fun v488 k0_hw315 => k0_hw315

def k0_chk316 (v491 : IVec S16 32) : Prop :=
  (∀ a x, ((![v491] : Fin 1 → IVec S16 32) a x).toNat < S24576.size a)
theorem k0_idx316_inb : ∀ (v491 : IVec S16 32) (k0_hw316 : k0_chk316 v491), ∀ a x, ((![v491] : Fin 1 → IVec S16 32) a x).toNat < S24576.size a := fun v491 k0_hw316 => k0_hw316

def k0_chk317 (v494 : IVec S16 32) : Prop :=
  (∀ a x, ((![v494] : Fin 1 → IVec S16 32) a x).toNat < S19648.size a)
theorem k0_idx317_inb : ∀ (v494 : IVec S16 32) (k0_hw317 : k0_chk317 v494), ∀ a x, ((![v494] : Fin 1 → IVec S16 32) a x).toNat < S19648.size a := fun v494 k0_hw317 => k0_hw317

def k0_chk318 (v497 : IVec S16 32) : Prop :=
  (∀ a x, ((![v497] : Fin 1 → IVec S16 32) a x).toNat < S24576.size a)
theorem k0_idx318_inb : ∀ (v497 : IVec S16 32) (k0_hw318 : k0_chk318 v497), ∀ a x, ((![v497] : Fin 1 → IVec S16 32) a x).toNat < S24576.size a := fun v497 k0_hw318 => k0_hw318

def k0_chk319 (v500 : IVec S16 32) : Prop :=
  (∀ a x, ((![v500] : Fin 1 → IVec S16 32) a x).toNat < S19648.size a)
theorem k0_idx319_inb : ∀ (v500 : IVec S16 32) (k0_hw319 : k0_chk319 v500), ∀ a x, ((![v500] : Fin 1 → IVec S16 32) a x).toNat < S19648.size a := fun v500 k0_hw319 => k0_hw319

def k0_chk320 (v503 : IVec S16 32) : Prop :=
  (∀ a x, ((![v503] : Fin 1 → IVec S16 32) a x).toNat < S24576.size a)
theorem k0_idx320_inb : ∀ (v503 : IVec S16 32) (k0_hw320 : k0_chk320 v503), ∀ a x, ((![v503] : Fin 1 → IVec S16 32) a x).toNat < S24576.size a := fun v503 k0_hw320 => k0_hw320
@[reducible] def k0_t11_loop : Scf.Loop 32 :=
  let c0_i32_189 : BitVec 32 := 0#32
  let c96_i32_190 : BitVec 32 := 96#32
  let v289 : BitVec 32 := Scalar.addi c0_i32_189 c96_i32_190
  let c1_i32_191 : BitVec 32 := 1#32
  ⟨c0_i32_189, v289, c1_i32_191⟩
def k0_off13 (k0_t11 : Fin k0_t11_loop.trips) : Fin 1 → Nat :=
  let c0_i32_189 : BitVec 32 := 0#32
  let c1_i32_191 : BitVec 32 := 1#32
  let arg10 : BitVec 32 := Scf.iv c0_i32_189 c1_i32_191 k0_t11
  let c16_i32_288 : BitVec 32 := 16#32
  let v404 : BitVec 32 := Scalar.muli arg10 c16_i32_288
  let v405 : Index := Scalar.indexCast v404
  ![v405.toNat]

def k0_chk321 (v410 : IVec S16 32) : Prop :=
  (∀ a x, ((![v410] : Fin 1 → IVec S16 32) a x).toNat < S19648.size a)
theorem k0_idx321_inb : ∀ (v410 : IVec S16 32) (k0_hw321 : k0_chk321 v410), ∀ a x, ((![v410] : Fin 1 → IVec S16 32) a x).toNat < S19648.size a := fun v410 k0_hw321 => k0_hw321

def k0_chk322 (v413 : IVec S16 32) : Prop :=
  (∀ a x, ((![v413] : Fin 1 → IVec S16 32) a x).toNat < S24576.size a)
theorem k0_idx322_inb : ∀ (v413 : IVec S16 32) (k0_hw322 : k0_chk322 v413), ∀ a x, ((![v413] : Fin 1 → IVec S16 32) a x).toNat < S24576.size a := fun v413 k0_hw322 => k0_hw322

def k0_chk323 (v416 : IVec S16 32) : Prop :=
  (∀ a x, ((![v416] : Fin 1 → IVec S16 32) a x).toNat < S19648.size a)
theorem k0_idx323_inb : ∀ (v416 : IVec S16 32) (k0_hw323 : k0_chk323 v416), ∀ a x, ((![v416] : Fin 1 → IVec S16 32) a x).toNat < S19648.size a := fun v416 k0_hw323 => k0_hw323

def k0_chk324 (v419 : IVec S16 32) : Prop :=
  (∀ a x, ((![v419] : Fin 1 → IVec S16 32) a x).toNat < S24576.size a)
theorem k0_idx324_inb : ∀ (v419 : IVec S16 32) (k0_hw324 : k0_chk324 v419), ∀ a x, ((![v419] : Fin 1 → IVec S16 32) a x).toNat < S24576.size a := fun v419 k0_hw324 => k0_hw324

def k0_chk325 (v422 : IVec S16 32) : Prop :=
  (∀ a x, ((![v422] : Fin 1 → IVec S16 32) a x).toNat < S19648.size a)
theorem k0_idx325_inb : ∀ (v422 : IVec S16 32) (k0_hw325 : k0_chk325 v422), ∀ a x, ((![v422] : Fin 1 → IVec S16 32) a x).toNat < S19648.size a := fun v422 k0_hw325 => k0_hw325

def k0_chk326 (v425 : IVec S16 32) : Prop :=
  (∀ a x, ((![v425] : Fin 1 → IVec S16 32) a x).toNat < S24576.size a)
theorem k0_idx326_inb : ∀ (v425 : IVec S16 32) (k0_hw326 : k0_chk326 v425), ∀ a x, ((![v425] : Fin 1 → IVec S16 32) a x).toNat < S24576.size a := fun v425 k0_hw326 => k0_hw326

def k0_chk327 (v428 : IVec S16 32) : Prop :=
  (∀ a x, ((![v428] : Fin 1 → IVec S16 32) a x).toNat < S19648.size a)
theorem k0_idx327_inb : ∀ (v428 : IVec S16 32) (k0_hw327 : k0_chk327 v428), ∀ a x, ((![v428] : Fin 1 → IVec S16 32) a x).toNat < S19648.size a := fun v428 k0_hw327 => k0_hw327

def k0_chk328 (v431 : IVec S16 32) : Prop :=
  (∀ a x, ((![v431] : Fin 1 → IVec S16 32) a x).toNat < S24576.size a)
theorem k0_idx328_inb : ∀ (v431 : IVec S16 32) (k0_hw328 : k0_chk328 v431), ∀ a x, ((![v431] : Fin 1 → IVec S16 32) a x).toNat < S24576.size a := fun v431 k0_hw328 => k0_hw328

def k0_chk329 (v434 : IVec S16 32) : Prop :=
  (∀ a x, ((![v434] : Fin 1 → IVec S16 32) a x).toNat < S19648.size a)
theorem k0_idx329_inb : ∀ (v434 : IVec S16 32) (k0_hw329 : k0_chk329 v434), ∀ a x, ((![v434] : Fin 1 → IVec S16 32) a x).toNat < S19648.size a := fun v434 k0_hw329 => k0_hw329

def k0_chk330 (v437 : IVec S16 32) : Prop :=
  (∀ a x, ((![v437] : Fin 1 → IVec S16 32) a x).toNat < S24576.size a)
theorem k0_idx330_inb : ∀ (v437 : IVec S16 32) (k0_hw330 : k0_chk330 v437), ∀ a x, ((![v437] : Fin 1 → IVec S16 32) a x).toNat < S24576.size a := fun v437 k0_hw330 => k0_hw330

def k0_chk331 (v440 : IVec S16 32) : Prop :=
  (∀ a x, ((![v440] : Fin 1 → IVec S16 32) a x).toNat < S19648.size a)
theorem k0_idx331_inb : ∀ (v440 : IVec S16 32) (k0_hw331 : k0_chk331 v440), ∀ a x, ((![v440] : Fin 1 → IVec S16 32) a x).toNat < S19648.size a := fun v440 k0_hw331 => k0_hw331

def k0_chk332 (v443 : IVec S16 32) : Prop :=
  (∀ a x, ((![v443] : Fin 1 → IVec S16 32) a x).toNat < S24576.size a)
theorem k0_idx332_inb : ∀ (v443 : IVec S16 32) (k0_hw332 : k0_chk332 v443), ∀ a x, ((![v443] : Fin 1 → IVec S16 32) a x).toNat < S24576.size a := fun v443 k0_hw332 => k0_hw332

def k0_chk333 (v446 : IVec S16 32) : Prop :=
  (∀ a x, ((![v446] : Fin 1 → IVec S16 32) a x).toNat < S19648.size a)
theorem k0_idx333_inb : ∀ (v446 : IVec S16 32) (k0_hw333 : k0_chk333 v446), ∀ a x, ((![v446] : Fin 1 → IVec S16 32) a x).toNat < S19648.size a := fun v446 k0_hw333 => k0_hw333

def k0_chk334 (v449 : IVec S16 32) : Prop :=
  (∀ a x, ((![v449] : Fin 1 → IVec S16 32) a x).toNat < S24576.size a)
theorem k0_idx334_inb : ∀ (v449 : IVec S16 32) (k0_hw334 : k0_chk334 v449), ∀ a x, ((![v449] : Fin 1 → IVec S16 32) a x).toNat < S24576.size a := fun v449 k0_hw334 => k0_hw334

def k0_chk335 (v452 : IVec S16 32) : Prop :=
  (∀ a x, ((![v452] : Fin 1 → IVec S16 32) a x).toNat < S19648.size a)
theorem k0_idx335_inb : ∀ (v452 : IVec S16 32) (k0_hw335 : k0_chk335 v452), ∀ a x, ((![v452] : Fin 1 → IVec S16 32) a x).toNat < S19648.size a := fun v452 k0_hw335 => k0_hw335

def k0_chk336 (v455 : IVec S16 32) : Prop :=
  (∀ a x, ((![v455] : Fin 1 → IVec S16 32) a x).toNat < S24576.size a)
theorem k0_idx336_inb : ∀ (v455 : IVec S16 32) (k0_hw336 : k0_chk336 v455), ∀ a x, ((![v455] : Fin 1 → IVec S16 32) a x).toNat < S24576.size a := fun v455 k0_hw336 => k0_hw336

def k0_chk337 (v458 : IVec S16 32) : Prop :=
  (∀ a x, ((![v458] : Fin 1 → IVec S16 32) a x).toNat < S19648.size a)
theorem k0_idx337_inb : ∀ (v458 : IVec S16 32) (k0_hw337 : k0_chk337 v458), ∀ a x, ((![v458] : Fin 1 → IVec S16 32) a x).toNat < S19648.size a := fun v458 k0_hw337 => k0_hw337

def k0_chk338 (v461 : IVec S16 32) : Prop :=
  (∀ a x, ((![v461] : Fin 1 → IVec S16 32) a x).toNat < S24576.size a)
theorem k0_idx338_inb : ∀ (v461 : IVec S16 32) (k0_hw338 : k0_chk338 v461), ∀ a x, ((![v461] : Fin 1 → IVec S16 32) a x).toNat < S24576.size a := fun v461 k0_hw338 => k0_hw338

def k0_chk339 (v464 : IVec S16 32) : Prop :=
  (∀ a x, ((![v464] : Fin 1 → IVec S16 32) a x).toNat < S19648.size a)
theorem k0_idx339_inb : ∀ (v464 : IVec S16 32) (k0_hw339 : k0_chk339 v464), ∀ a x, ((![v464] : Fin 1 → IVec S16 32) a x).toNat < S19648.size a := fun v464 k0_hw339 => k0_hw339

def k0_chk340 (v467 : IVec S16 32) : Prop :=
  (∀ a x, ((![v467] : Fin 1 → IVec S16 32) a x).toNat < S24576.size a)
theorem k0_idx340_inb : ∀ (v467 : IVec S16 32) (k0_hw340 : k0_chk340 v467), ∀ a x, ((![v467] : Fin 1 → IVec S16 32) a x).toNat < S24576.size a := fun v467 k0_hw340 => k0_hw340

def k0_chk341 (v470 : IVec S16 32) : Prop :=
  (∀ a x, ((![v470] : Fin 1 → IVec S16 32) a x).toNat < S19648.size a)
theorem k0_idx341_inb : ∀ (v470 : IVec S16 32) (k0_hw341 : k0_chk341 v470), ∀ a x, ((![v470] : Fin 1 → IVec S16 32) a x).toNat < S19648.size a := fun v470 k0_hw341 => k0_hw341

def k0_chk342 (v473 : IVec S16 32) : Prop :=
  (∀ a x, ((![v473] : Fin 1 → IVec S16 32) a x).toNat < S24576.size a)
theorem k0_idx342_inb : ∀ (v473 : IVec S16 32) (k0_hw342 : k0_chk342 v473), ∀ a x, ((![v473] : Fin 1 → IVec S16 32) a x).toNat < S24576.size a := fun v473 k0_hw342 => k0_hw342

def k0_chk343 (v476 : IVec S16 32) : Prop :=
  (∀ a x, ((![v476] : Fin 1 → IVec S16 32) a x).toNat < S19648.size a)
theorem k0_idx343_inb : ∀ (v476 : IVec S16 32) (k0_hw343 : k0_chk343 v476), ∀ a x, ((![v476] : Fin 1 → IVec S16 32) a x).toNat < S19648.size a := fun v476 k0_hw343 => k0_hw343

def k0_chk344 (v479 : IVec S16 32) : Prop :=
  (∀ a x, ((![v479] : Fin 1 → IVec S16 32) a x).toNat < S24576.size a)
theorem k0_idx344_inb : ∀ (v479 : IVec S16 32) (k0_hw344 : k0_chk344 v479), ∀ a x, ((![v479] : Fin 1 → IVec S16 32) a x).toNat < S24576.size a := fun v479 k0_hw344 => k0_hw344

def k0_chk345 (v482 : IVec S16 32) : Prop :=
  (∀ a x, ((![v482] : Fin 1 → IVec S16 32) a x).toNat < S19648.size a)
theorem k0_idx345_inb : ∀ (v482 : IVec S16 32) (k0_hw345 : k0_chk345 v482), ∀ a x, ((![v482] : Fin 1 → IVec S16 32) a x).toNat < S19648.size a := fun v482 k0_hw345 => k0_hw345

def k0_chk346 (v485 : IVec S16 32) : Prop :=
  (∀ a x, ((![v485] : Fin 1 → IVec S16 32) a x).toNat < S24576.size a)
theorem k0_idx346_inb : ∀ (v485 : IVec S16 32) (k0_hw346 : k0_chk346 v485), ∀ a x, ((![v485] : Fin 1 → IVec S16 32) a x).toNat < S24576.size a := fun v485 k0_hw346 => k0_hw346

def k0_chk347 (v488 : IVec S16 32) : Prop :=
  (∀ a x, ((![v488] : Fin 1 → IVec S16 32) a x).toNat < S19648.size a)
theorem k0_idx347_inb : ∀ (v488 : IVec S16 32) (k0_hw347 : k0_chk347 v488), ∀ a x, ((![v488] : Fin 1 → IVec S16 32) a x).toNat < S19648.size a := fun v488 k0_hw347 => k0_hw347

def k0_chk348 (v491 : IVec S16 32) : Prop :=
  (∀ a x, ((![v491] : Fin 1 → IVec S16 32) a x).toNat < S24576.size a)
theorem k0_idx348_inb : ∀ (v491 : IVec S16 32) (k0_hw348 : k0_chk348 v491), ∀ a x, ((![v491] : Fin 1 → IVec S16 32) a x).toNat < S24576.size a := fun v491 k0_hw348 => k0_hw348

def k0_chk349 (v494 : IVec S16 32) : Prop :=
  (∀ a x, ((![v494] : Fin 1 → IVec S16 32) a x).toNat < S19648.size a)
theorem k0_idx349_inb : ∀ (v494 : IVec S16 32) (k0_hw349 : k0_chk349 v494), ∀ a x, ((![v494] : Fin 1 → IVec S16 32) a x).toNat < S19648.size a := fun v494 k0_hw349 => k0_hw349

def k0_chk350 (v497 : IVec S16 32) : Prop :=
  (∀ a x, ((![v497] : Fin 1 → IVec S16 32) a x).toNat < S24576.size a)
theorem k0_idx350_inb : ∀ (v497 : IVec S16 32) (k0_hw350 : k0_chk350 v497), ∀ a x, ((![v497] : Fin 1 → IVec S16 32) a x).toNat < S24576.size a := fun v497 k0_hw350 => k0_hw350

def k0_chk351 (v500 : IVec S16 32) : Prop :=
  (∀ a x, ((![v500] : Fin 1 → IVec S16 32) a x).toNat < S19648.size a)
theorem k0_idx351_inb : ∀ (v500 : IVec S16 32) (k0_hw351 : k0_chk351 v500), ∀ a x, ((![v500] : Fin 1 → IVec S16 32) a x).toNat < S19648.size a := fun v500 k0_hw351 => k0_hw351

def k0_chk352 (v503 : IVec S16 32) : Prop :=
  (∀ a x, ((![v503] : Fin 1 → IVec S16 32) a x).toNat < S24576.size a)
theorem k0_idx352_inb : ∀ (v503 : IVec S16 32) (k0_hw352 : k0_chk352 v503), ∀ a x, ((![v503] : Fin 1 → IVec S16 32) a x).toNat < S24576.size a := fun v503 k0_hw352 => k0_hw352
@[reducible] def k0_t12_loop : Scf.Loop 32 :=
  let c0_i32_205 : BitVec 32 := 0#32
  let c96_i32_206 : BitVec 32 := 96#32
  let v307 : BitVec 32 := Scalar.addi c0_i32_205 c96_i32_206
  let c1_i32_207 : BitVec 32 := 1#32
  ⟨c0_i32_205, v307, c1_i32_207⟩
def k0_off14 (k0_t12 : Fin k0_t12_loop.trips) : Fin 1 → Nat :=
  let c0_i32_205 : BitVec 32 := 0#32
  let c1_i32_207 : BitVec 32 := 1#32
  let arg10 : BitVec 32 := Scf.iv c0_i32_205 c1_i32_207 k0_t12
  let c16_i32_288 : BitVec 32 := 16#32
  let v404 : BitVec 32 := Scalar.muli arg10 c16_i32_288
  let v405 : Index := Scalar.indexCast v404
  ![v405.toNat]

def k0_chk353 (v410 : IVec S16 32) : Prop :=
  (∀ a x, ((![v410] : Fin 1 → IVec S16 32) a x).toNat < S19648.size a)
theorem k0_idx353_inb : ∀ (v410 : IVec S16 32) (k0_hw353 : k0_chk353 v410), ∀ a x, ((![v410] : Fin 1 → IVec S16 32) a x).toNat < S19648.size a := fun v410 k0_hw353 => k0_hw353

def k0_chk354 (v413 : IVec S16 32) : Prop :=
  (∀ a x, ((![v413] : Fin 1 → IVec S16 32) a x).toNat < S24576.size a)
theorem k0_idx354_inb : ∀ (v413 : IVec S16 32) (k0_hw354 : k0_chk354 v413), ∀ a x, ((![v413] : Fin 1 → IVec S16 32) a x).toNat < S24576.size a := fun v413 k0_hw354 => k0_hw354

def k0_chk355 (v416 : IVec S16 32) : Prop :=
  (∀ a x, ((![v416] : Fin 1 → IVec S16 32) a x).toNat < S19648.size a)
theorem k0_idx355_inb : ∀ (v416 : IVec S16 32) (k0_hw355 : k0_chk355 v416), ∀ a x, ((![v416] : Fin 1 → IVec S16 32) a x).toNat < S19648.size a := fun v416 k0_hw355 => k0_hw355

def k0_chk356 (v419 : IVec S16 32) : Prop :=
  (∀ a x, ((![v419] : Fin 1 → IVec S16 32) a x).toNat < S24576.size a)
theorem k0_idx356_inb : ∀ (v419 : IVec S16 32) (k0_hw356 : k0_chk356 v419), ∀ a x, ((![v419] : Fin 1 → IVec S16 32) a x).toNat < S24576.size a := fun v419 k0_hw356 => k0_hw356

def k0_chk357 (v422 : IVec S16 32) : Prop :=
  (∀ a x, ((![v422] : Fin 1 → IVec S16 32) a x).toNat < S19648.size a)
theorem k0_idx357_inb : ∀ (v422 : IVec S16 32) (k0_hw357 : k0_chk357 v422), ∀ a x, ((![v422] : Fin 1 → IVec S16 32) a x).toNat < S19648.size a := fun v422 k0_hw357 => k0_hw357

def k0_chk358 (v425 : IVec S16 32) : Prop :=
  (∀ a x, ((![v425] : Fin 1 → IVec S16 32) a x).toNat < S24576.size a)
theorem k0_idx358_inb : ∀ (v425 : IVec S16 32) (k0_hw358 : k0_chk358 v425), ∀ a x, ((![v425] : Fin 1 → IVec S16 32) a x).toNat < S24576.size a := fun v425 k0_hw358 => k0_hw358

def k0_chk359 (v428 : IVec S16 32) : Prop :=
  (∀ a x, ((![v428] : Fin 1 → IVec S16 32) a x).toNat < S19648.size a)
theorem k0_idx359_inb : ∀ (v428 : IVec S16 32) (k0_hw359 : k0_chk359 v428), ∀ a x, ((![v428] : Fin 1 → IVec S16 32) a x).toNat < S19648.size a := fun v428 k0_hw359 => k0_hw359

def k0_chk360 (v431 : IVec S16 32) : Prop :=
  (∀ a x, ((![v431] : Fin 1 → IVec S16 32) a x).toNat < S24576.size a)
theorem k0_idx360_inb : ∀ (v431 : IVec S16 32) (k0_hw360 : k0_chk360 v431), ∀ a x, ((![v431] : Fin 1 → IVec S16 32) a x).toNat < S24576.size a := fun v431 k0_hw360 => k0_hw360

def k0_chk361 (v434 : IVec S16 32) : Prop :=
  (∀ a x, ((![v434] : Fin 1 → IVec S16 32) a x).toNat < S19648.size a)
theorem k0_idx361_inb : ∀ (v434 : IVec S16 32) (k0_hw361 : k0_chk361 v434), ∀ a x, ((![v434] : Fin 1 → IVec S16 32) a x).toNat < S19648.size a := fun v434 k0_hw361 => k0_hw361

def k0_chk362 (v437 : IVec S16 32) : Prop :=
  (∀ a x, ((![v437] : Fin 1 → IVec S16 32) a x).toNat < S24576.size a)
theorem k0_idx362_inb : ∀ (v437 : IVec S16 32) (k0_hw362 : k0_chk362 v437), ∀ a x, ((![v437] : Fin 1 → IVec S16 32) a x).toNat < S24576.size a := fun v437 k0_hw362 => k0_hw362

def k0_chk363 (v440 : IVec S16 32) : Prop :=
  (∀ a x, ((![v440] : Fin 1 → IVec S16 32) a x).toNat < S19648.size a)
theorem k0_idx363_inb : ∀ (v440 : IVec S16 32) (k0_hw363 : k0_chk363 v440), ∀ a x, ((![v440] : Fin 1 → IVec S16 32) a x).toNat < S19648.size a := fun v440 k0_hw363 => k0_hw363

def k0_chk364 (v443 : IVec S16 32) : Prop :=
  (∀ a x, ((![v443] : Fin 1 → IVec S16 32) a x).toNat < S24576.size a)
theorem k0_idx364_inb : ∀ (v443 : IVec S16 32) (k0_hw364 : k0_chk364 v443), ∀ a x, ((![v443] : Fin 1 → IVec S16 32) a x).toNat < S24576.size a := fun v443 k0_hw364 => k0_hw364

def k0_chk365 (v446 : IVec S16 32) : Prop :=
  (∀ a x, ((![v446] : Fin 1 → IVec S16 32) a x).toNat < S19648.size a)
theorem k0_idx365_inb : ∀ (v446 : IVec S16 32) (k0_hw365 : k0_chk365 v446), ∀ a x, ((![v446] : Fin 1 → IVec S16 32) a x).toNat < S19648.size a := fun v446 k0_hw365 => k0_hw365

def k0_chk366 (v449 : IVec S16 32) : Prop :=
  (∀ a x, ((![v449] : Fin 1 → IVec S16 32) a x).toNat < S24576.size a)
theorem k0_idx366_inb : ∀ (v449 : IVec S16 32) (k0_hw366 : k0_chk366 v449), ∀ a x, ((![v449] : Fin 1 → IVec S16 32) a x).toNat < S24576.size a := fun v449 k0_hw366 => k0_hw366

def k0_chk367 (v452 : IVec S16 32) : Prop :=
  (∀ a x, ((![v452] : Fin 1 → IVec S16 32) a x).toNat < S19648.size a)
theorem k0_idx367_inb : ∀ (v452 : IVec S16 32) (k0_hw367 : k0_chk367 v452), ∀ a x, ((![v452] : Fin 1 → IVec S16 32) a x).toNat < S19648.size a := fun v452 k0_hw367 => k0_hw367

def k0_chk368 (v455 : IVec S16 32) : Prop :=
  (∀ a x, ((![v455] : Fin 1 → IVec S16 32) a x).toNat < S24576.size a)
theorem k0_idx368_inb : ∀ (v455 : IVec S16 32) (k0_hw368 : k0_chk368 v455), ∀ a x, ((![v455] : Fin 1 → IVec S16 32) a x).toNat < S24576.size a := fun v455 k0_hw368 => k0_hw368

def k0_chk369 (v458 : IVec S16 32) : Prop :=
  (∀ a x, ((![v458] : Fin 1 → IVec S16 32) a x).toNat < S19648.size a)
theorem k0_idx369_inb : ∀ (v458 : IVec S16 32) (k0_hw369 : k0_chk369 v458), ∀ a x, ((![v458] : Fin 1 → IVec S16 32) a x).toNat < S19648.size a := fun v458 k0_hw369 => k0_hw369

def k0_chk370 (v461 : IVec S16 32) : Prop :=
  (∀ a x, ((![v461] : Fin 1 → IVec S16 32) a x).toNat < S24576.size a)
theorem k0_idx370_inb : ∀ (v461 : IVec S16 32) (k0_hw370 : k0_chk370 v461), ∀ a x, ((![v461] : Fin 1 → IVec S16 32) a x).toNat < S24576.size a := fun v461 k0_hw370 => k0_hw370

def k0_chk371 (v464 : IVec S16 32) : Prop :=
  (∀ a x, ((![v464] : Fin 1 → IVec S16 32) a x).toNat < S19648.size a)
theorem k0_idx371_inb : ∀ (v464 : IVec S16 32) (k0_hw371 : k0_chk371 v464), ∀ a x, ((![v464] : Fin 1 → IVec S16 32) a x).toNat < S19648.size a := fun v464 k0_hw371 => k0_hw371

def k0_chk372 (v467 : IVec S16 32) : Prop :=
  (∀ a x, ((![v467] : Fin 1 → IVec S16 32) a x).toNat < S24576.size a)
theorem k0_idx372_inb : ∀ (v467 : IVec S16 32) (k0_hw372 : k0_chk372 v467), ∀ a x, ((![v467] : Fin 1 → IVec S16 32) a x).toNat < S24576.size a := fun v467 k0_hw372 => k0_hw372

def k0_chk373 (v470 : IVec S16 32) : Prop :=
  (∀ a x, ((![v470] : Fin 1 → IVec S16 32) a x).toNat < S19648.size a)
theorem k0_idx373_inb : ∀ (v470 : IVec S16 32) (k0_hw373 : k0_chk373 v470), ∀ a x, ((![v470] : Fin 1 → IVec S16 32) a x).toNat < S19648.size a := fun v470 k0_hw373 => k0_hw373

def k0_chk374 (v473 : IVec S16 32) : Prop :=
  (∀ a x, ((![v473] : Fin 1 → IVec S16 32) a x).toNat < S24576.size a)
theorem k0_idx374_inb : ∀ (v473 : IVec S16 32) (k0_hw374 : k0_chk374 v473), ∀ a x, ((![v473] : Fin 1 → IVec S16 32) a x).toNat < S24576.size a := fun v473 k0_hw374 => k0_hw374

def k0_chk375 (v476 : IVec S16 32) : Prop :=
  (∀ a x, ((![v476] : Fin 1 → IVec S16 32) a x).toNat < S19648.size a)
theorem k0_idx375_inb : ∀ (v476 : IVec S16 32) (k0_hw375 : k0_chk375 v476), ∀ a x, ((![v476] : Fin 1 → IVec S16 32) a x).toNat < S19648.size a := fun v476 k0_hw375 => k0_hw375

def k0_chk376 (v479 : IVec S16 32) : Prop :=
  (∀ a x, ((![v479] : Fin 1 → IVec S16 32) a x).toNat < S24576.size a)
theorem k0_idx376_inb : ∀ (v479 : IVec S16 32) (k0_hw376 : k0_chk376 v479), ∀ a x, ((![v479] : Fin 1 → IVec S16 32) a x).toNat < S24576.size a := fun v479 k0_hw376 => k0_hw376

def k0_chk377 (v482 : IVec S16 32) : Prop :=
  (∀ a x, ((![v482] : Fin 1 → IVec S16 32) a x).toNat < S19648.size a)
theorem k0_idx377_inb : ∀ (v482 : IVec S16 32) (k0_hw377 : k0_chk377 v482), ∀ a x, ((![v482] : Fin 1 → IVec S16 32) a x).toNat < S19648.size a := fun v482 k0_hw377 => k0_hw377

def k0_chk378 (v485 : IVec S16 32) : Prop :=
  (∀ a x, ((![v485] : Fin 1 → IVec S16 32) a x).toNat < S24576.size a)
theorem k0_idx378_inb : ∀ (v485 : IVec S16 32) (k0_hw378 : k0_chk378 v485), ∀ a x, ((![v485] : Fin 1 → IVec S16 32) a x).toNat < S24576.size a := fun v485 k0_hw378 => k0_hw378

def k0_chk379 (v488 : IVec S16 32) : Prop :=
  (∀ a x, ((![v488] : Fin 1 → IVec S16 32) a x).toNat < S19648.size a)
theorem k0_idx379_inb : ∀ (v488 : IVec S16 32) (k0_hw379 : k0_chk379 v488), ∀ a x, ((![v488] : Fin 1 → IVec S16 32) a x).toNat < S19648.size a := fun v488 k0_hw379 => k0_hw379

def k0_chk380 (v491 : IVec S16 32) : Prop :=
  (∀ a x, ((![v491] : Fin 1 → IVec S16 32) a x).toNat < S24576.size a)
theorem k0_idx380_inb : ∀ (v491 : IVec S16 32) (k0_hw380 : k0_chk380 v491), ∀ a x, ((![v491] : Fin 1 → IVec S16 32) a x).toNat < S24576.size a := fun v491 k0_hw380 => k0_hw380

def k0_chk381 (v494 : IVec S16 32) : Prop :=
  (∀ a x, ((![v494] : Fin 1 → IVec S16 32) a x).toNat < S19648.size a)
theorem k0_idx381_inb : ∀ (v494 : IVec S16 32) (k0_hw381 : k0_chk381 v494), ∀ a x, ((![v494] : Fin 1 → IVec S16 32) a x).toNat < S19648.size a := fun v494 k0_hw381 => k0_hw381

def k0_chk382 (v497 : IVec S16 32) : Prop :=
  (∀ a x, ((![v497] : Fin 1 → IVec S16 32) a x).toNat < S24576.size a)
theorem k0_idx382_inb : ∀ (v497 : IVec S16 32) (k0_hw382 : k0_chk382 v497), ∀ a x, ((![v497] : Fin 1 → IVec S16 32) a x).toNat < S24576.size a := fun v497 k0_hw382 => k0_hw382

def k0_chk383 (v500 : IVec S16 32) : Prop :=
  (∀ a x, ((![v500] : Fin 1 → IVec S16 32) a x).toNat < S19648.size a)
theorem k0_idx383_inb : ∀ (v500 : IVec S16 32) (k0_hw383 : k0_chk383 v500), ∀ a x, ((![v500] : Fin 1 → IVec S16 32) a x).toNat < S19648.size a := fun v500 k0_hw383 => k0_hw383

def k0_chk384 (v503 : IVec S16 32) : Prop :=
  (∀ a x, ((![v503] : Fin 1 → IVec S16 32) a x).toNat < S24576.size a)
theorem k0_idx384_inb : ∀ (v503 : IVec S16 32) (k0_hw384 : k0_chk384 v503), ∀ a x, ((![v503] : Fin 1 → IVec S16 32) a x).toNat < S24576.size a := fun v503 k0_hw384 => k0_hw384
@[reducible] def k0_t13_loop : Scf.Loop 32 :=
  let c0_i32_221 : BitVec 32 := 0#32
  let c96_i32_222 : BitVec 32 := 96#32
  let v325 : BitVec 32 := Scalar.addi c0_i32_221 c96_i32_222
  let c1_i32_223 : BitVec 32 := 1#32
  ⟨c0_i32_221, v325, c1_i32_223⟩
def k0_off15 (k0_t13 : Fin k0_t13_loop.trips) : Fin 1 → Nat :=
  let c0_i32_221 : BitVec 32 := 0#32
  let c1_i32_223 : BitVec 32 := 1#32
  let arg10 : BitVec 32 := Scf.iv c0_i32_221 c1_i32_223 k0_t13
  let c16_i32_288 : BitVec 32 := 16#32
  let v404 : BitVec 32 := Scalar.muli arg10 c16_i32_288
  let v405 : Index := Scalar.indexCast v404
  ![v405.toNat]

def k0_chk385 (v410 : IVec S16 32) : Prop :=
  (∀ a x, ((![v410] : Fin 1 → IVec S16 32) a x).toNat < S19648.size a)
theorem k0_idx385_inb : ∀ (v410 : IVec S16 32) (k0_hw385 : k0_chk385 v410), ∀ a x, ((![v410] : Fin 1 → IVec S16 32) a x).toNat < S19648.size a := fun v410 k0_hw385 => k0_hw385

def k0_chk386 (v413 : IVec S16 32) : Prop :=
  (∀ a x, ((![v413] : Fin 1 → IVec S16 32) a x).toNat < S24576.size a)
theorem k0_idx386_inb : ∀ (v413 : IVec S16 32) (k0_hw386 : k0_chk386 v413), ∀ a x, ((![v413] : Fin 1 → IVec S16 32) a x).toNat < S24576.size a := fun v413 k0_hw386 => k0_hw386

def k0_chk387 (v416 : IVec S16 32) : Prop :=
  (∀ a x, ((![v416] : Fin 1 → IVec S16 32) a x).toNat < S19648.size a)
theorem k0_idx387_inb : ∀ (v416 : IVec S16 32) (k0_hw387 : k0_chk387 v416), ∀ a x, ((![v416] : Fin 1 → IVec S16 32) a x).toNat < S19648.size a := fun v416 k0_hw387 => k0_hw387

def k0_chk388 (v419 : IVec S16 32) : Prop :=
  (∀ a x, ((![v419] : Fin 1 → IVec S16 32) a x).toNat < S24576.size a)
theorem k0_idx388_inb : ∀ (v419 : IVec S16 32) (k0_hw388 : k0_chk388 v419), ∀ a x, ((![v419] : Fin 1 → IVec S16 32) a x).toNat < S24576.size a := fun v419 k0_hw388 => k0_hw388

def k0_chk389 (v422 : IVec S16 32) : Prop :=
  (∀ a x, ((![v422] : Fin 1 → IVec S16 32) a x).toNat < S19648.size a)
theorem k0_idx389_inb : ∀ (v422 : IVec S16 32) (k0_hw389 : k0_chk389 v422), ∀ a x, ((![v422] : Fin 1 → IVec S16 32) a x).toNat < S19648.size a := fun v422 k0_hw389 => k0_hw389

def k0_chk390 (v425 : IVec S16 32) : Prop :=
  (∀ a x, ((![v425] : Fin 1 → IVec S16 32) a x).toNat < S24576.size a)
theorem k0_idx390_inb : ∀ (v425 : IVec S16 32) (k0_hw390 : k0_chk390 v425), ∀ a x, ((![v425] : Fin 1 → IVec S16 32) a x).toNat < S24576.size a := fun v425 k0_hw390 => k0_hw390

def k0_chk391 (v428 : IVec S16 32) : Prop :=
  (∀ a x, ((![v428] : Fin 1 → IVec S16 32) a x).toNat < S19648.size a)
theorem k0_idx391_inb : ∀ (v428 : IVec S16 32) (k0_hw391 : k0_chk391 v428), ∀ a x, ((![v428] : Fin 1 → IVec S16 32) a x).toNat < S19648.size a := fun v428 k0_hw391 => k0_hw391

def k0_chk392 (v431 : IVec S16 32) : Prop :=
  (∀ a x, ((![v431] : Fin 1 → IVec S16 32) a x).toNat < S24576.size a)
theorem k0_idx392_inb : ∀ (v431 : IVec S16 32) (k0_hw392 : k0_chk392 v431), ∀ a x, ((![v431] : Fin 1 → IVec S16 32) a x).toNat < S24576.size a := fun v431 k0_hw392 => k0_hw392

def k0_chk393 (v434 : IVec S16 32) : Prop :=
  (∀ a x, ((![v434] : Fin 1 → IVec S16 32) a x).toNat < S19648.size a)
theorem k0_idx393_inb : ∀ (v434 : IVec S16 32) (k0_hw393 : k0_chk393 v434), ∀ a x, ((![v434] : Fin 1 → IVec S16 32) a x).toNat < S19648.size a := fun v434 k0_hw393 => k0_hw393

def k0_chk394 (v437 : IVec S16 32) : Prop :=
  (∀ a x, ((![v437] : Fin 1 → IVec S16 32) a x).toNat < S24576.size a)
theorem k0_idx394_inb : ∀ (v437 : IVec S16 32) (k0_hw394 : k0_chk394 v437), ∀ a x, ((![v437] : Fin 1 → IVec S16 32) a x).toNat < S24576.size a := fun v437 k0_hw394 => k0_hw394

def k0_chk395 (v440 : IVec S16 32) : Prop :=
  (∀ a x, ((![v440] : Fin 1 → IVec S16 32) a x).toNat < S19648.size a)
theorem k0_idx395_inb : ∀ (v440 : IVec S16 32) (k0_hw395 : k0_chk395 v440), ∀ a x, ((![v440] : Fin 1 → IVec S16 32) a x).toNat < S19648.size a := fun v440 k0_hw395 => k0_hw395

def k0_chk396 (v443 : IVec S16 32) : Prop :=
  (∀ a x, ((![v443] : Fin 1 → IVec S16 32) a x).toNat < S24576.size a)
theorem k0_idx396_inb : ∀ (v443 : IVec S16 32) (k0_hw396 : k0_chk396 v443), ∀ a x, ((![v443] : Fin 1 → IVec S16 32) a x).toNat < S24576.size a := fun v443 k0_hw396 => k0_hw396

def k0_chk397 (v446 : IVec S16 32) : Prop :=
  (∀ a x, ((![v446] : Fin 1 → IVec S16 32) a x).toNat < S19648.size a)
theorem k0_idx397_inb : ∀ (v446 : IVec S16 32) (k0_hw397 : k0_chk397 v446), ∀ a x, ((![v446] : Fin 1 → IVec S16 32) a x).toNat < S19648.size a := fun v446 k0_hw397 => k0_hw397

def k0_chk398 (v449 : IVec S16 32) : Prop :=
  (∀ a x, ((![v449] : Fin 1 → IVec S16 32) a x).toNat < S24576.size a)
theorem k0_idx398_inb : ∀ (v449 : IVec S16 32) (k0_hw398 : k0_chk398 v449), ∀ a x, ((![v449] : Fin 1 → IVec S16 32) a x).toNat < S24576.size a := fun v449 k0_hw398 => k0_hw398

def k0_chk399 (v452 : IVec S16 32) : Prop :=
  (∀ a x, ((![v452] : Fin 1 → IVec S16 32) a x).toNat < S19648.size a)
theorem k0_idx399_inb : ∀ (v452 : IVec S16 32) (k0_hw399 : k0_chk399 v452), ∀ a x, ((![v452] : Fin 1 → IVec S16 32) a x).toNat < S19648.size a := fun v452 k0_hw399 => k0_hw399

def k0_chk400 (v455 : IVec S16 32) : Prop :=
  (∀ a x, ((![v455] : Fin 1 → IVec S16 32) a x).toNat < S24576.size a)
theorem k0_idx400_inb : ∀ (v455 : IVec S16 32) (k0_hw400 : k0_chk400 v455), ∀ a x, ((![v455] : Fin 1 → IVec S16 32) a x).toNat < S24576.size a := fun v455 k0_hw400 => k0_hw400

def k0_chk401 (v458 : IVec S16 32) : Prop :=
  (∀ a x, ((![v458] : Fin 1 → IVec S16 32) a x).toNat < S19648.size a)
theorem k0_idx401_inb : ∀ (v458 : IVec S16 32) (k0_hw401 : k0_chk401 v458), ∀ a x, ((![v458] : Fin 1 → IVec S16 32) a x).toNat < S19648.size a := fun v458 k0_hw401 => k0_hw401

def k0_chk402 (v461 : IVec S16 32) : Prop :=
  (∀ a x, ((![v461] : Fin 1 → IVec S16 32) a x).toNat < S24576.size a)
theorem k0_idx402_inb : ∀ (v461 : IVec S16 32) (k0_hw402 : k0_chk402 v461), ∀ a x, ((![v461] : Fin 1 → IVec S16 32) a x).toNat < S24576.size a := fun v461 k0_hw402 => k0_hw402

def k0_chk403 (v464 : IVec S16 32) : Prop :=
  (∀ a x, ((![v464] : Fin 1 → IVec S16 32) a x).toNat < S19648.size a)
theorem k0_idx403_inb : ∀ (v464 : IVec S16 32) (k0_hw403 : k0_chk403 v464), ∀ a x, ((![v464] : Fin 1 → IVec S16 32) a x).toNat < S19648.size a := fun v464 k0_hw403 => k0_hw403

def k0_chk404 (v467 : IVec S16 32) : Prop :=
  (∀ a x, ((![v467] : Fin 1 → IVec S16 32) a x).toNat < S24576.size a)
theorem k0_idx404_inb : ∀ (v467 : IVec S16 32) (k0_hw404 : k0_chk404 v467), ∀ a x, ((![v467] : Fin 1 → IVec S16 32) a x).toNat < S24576.size a := fun v467 k0_hw404 => k0_hw404

def k0_chk405 (v470 : IVec S16 32) : Prop :=
  (∀ a x, ((![v470] : Fin 1 → IVec S16 32) a x).toNat < S19648.size a)
theorem k0_idx405_inb : ∀ (v470 : IVec S16 32) (k0_hw405 : k0_chk405 v470), ∀ a x, ((![v470] : Fin 1 → IVec S16 32) a x).toNat < S19648.size a := fun v470 k0_hw405 => k0_hw405

def k0_chk406 (v473 : IVec S16 32) : Prop :=
  (∀ a x, ((![v473] : Fin 1 → IVec S16 32) a x).toNat < S24576.size a)
theorem k0_idx406_inb : ∀ (v473 : IVec S16 32) (k0_hw406 : k0_chk406 v473), ∀ a x, ((![v473] : Fin 1 → IVec S16 32) a x).toNat < S24576.size a := fun v473 k0_hw406 => k0_hw406

def k0_chk407 (v476 : IVec S16 32) : Prop :=
  (∀ a x, ((![v476] : Fin 1 → IVec S16 32) a x).toNat < S19648.size a)
theorem k0_idx407_inb : ∀ (v476 : IVec S16 32) (k0_hw407 : k0_chk407 v476), ∀ a x, ((![v476] : Fin 1 → IVec S16 32) a x).toNat < S19648.size a := fun v476 k0_hw407 => k0_hw407

def k0_chk408 (v479 : IVec S16 32) : Prop :=
  (∀ a x, ((![v479] : Fin 1 → IVec S16 32) a x).toNat < S24576.size a)
theorem k0_idx408_inb : ∀ (v479 : IVec S16 32) (k0_hw408 : k0_chk408 v479), ∀ a x, ((![v479] : Fin 1 → IVec S16 32) a x).toNat < S24576.size a := fun v479 k0_hw408 => k0_hw408

def k0_chk409 (v482 : IVec S16 32) : Prop :=
  (∀ a x, ((![v482] : Fin 1 → IVec S16 32) a x).toNat < S19648.size a)
theorem k0_idx409_inb : ∀ (v482 : IVec S16 32) (k0_hw409 : k0_chk409 v482), ∀ a x, ((![v482] : Fin 1 → IVec S16 32) a x).toNat < S19648.size a := fun v482 k0_hw409 => k0_hw409

def k0_chk410 (v485 : IVec S16 32) : Prop :=
  (∀ a x, ((![v485] : Fin 1 → IVec S16 32) a x).toNat < S24576.size a)
theorem k0_idx410_inb : ∀ (v485 : IVec S16 32) (k0_hw410 : k0_chk410 v485), ∀ a x, ((![v485] : Fin 1 → IVec S16 32) a x).toNat < S24576.size a := fun v485 k0_hw410 => k0_hw410

def k0_chk411 (v488 : IVec S16 32) : Prop :=
  (∀ a x, ((![v488] : Fin 1 → IVec S16 32) a x).toNat < S19648.size a)
theorem k0_idx411_inb : ∀ (v488 : IVec S16 32) (k0_hw411 : k0_chk411 v488), ∀ a x, ((![v488] : Fin 1 → IVec S16 32) a x).toNat < S19648.size a := fun v488 k0_hw411 => k0_hw411

def k0_chk412 (v491 : IVec S16 32) : Prop :=
  (∀ a x, ((![v491] : Fin 1 → IVec S16 32) a x).toNat < S24576.size a)
theorem k0_idx412_inb : ∀ (v491 : IVec S16 32) (k0_hw412 : k0_chk412 v491), ∀ a x, ((![v491] : Fin 1 → IVec S16 32) a x).toNat < S24576.size a := fun v491 k0_hw412 => k0_hw412

def k0_chk413 (v494 : IVec S16 32) : Prop :=
  (∀ a x, ((![v494] : Fin 1 → IVec S16 32) a x).toNat < S19648.size a)
theorem k0_idx413_inb : ∀ (v494 : IVec S16 32) (k0_hw413 : k0_chk413 v494), ∀ a x, ((![v494] : Fin 1 → IVec S16 32) a x).toNat < S19648.size a := fun v494 k0_hw413 => k0_hw413

def k0_chk414 (v497 : IVec S16 32) : Prop :=
  (∀ a x, ((![v497] : Fin 1 → IVec S16 32) a x).toNat < S24576.size a)
theorem k0_idx414_inb : ∀ (v497 : IVec S16 32) (k0_hw414 : k0_chk414 v497), ∀ a x, ((![v497] : Fin 1 → IVec S16 32) a x).toNat < S24576.size a := fun v497 k0_hw414 => k0_hw414

def k0_chk415 (v500 : IVec S16 32) : Prop :=
  (∀ a x, ((![v500] : Fin 1 → IVec S16 32) a x).toNat < S19648.size a)
theorem k0_idx415_inb : ∀ (v500 : IVec S16 32) (k0_hw415 : k0_chk415 v500), ∀ a x, ((![v500] : Fin 1 → IVec S16 32) a x).toNat < S19648.size a := fun v500 k0_hw415 => k0_hw415

def k0_chk416 (v503 : IVec S16 32) : Prop :=
  (∀ a x, ((![v503] : Fin 1 → IVec S16 32) a x).toNat < S24576.size a)
theorem k0_idx416_inb : ∀ (v503 : IVec S16 32) (k0_hw416 : k0_chk416 v503), ∀ a x, ((![v503] : Fin 1 → IVec S16 32) a x).toNat < S24576.size a := fun v503 k0_hw416 => k0_hw416
@[reducible] def k0_t14_loop : Scf.Loop 32 :=
  let c0_i32_237 : BitVec 32 := 0#32
  let c96_i32_238 : BitVec 32 := 96#32
  let v343 : BitVec 32 := Scalar.addi c0_i32_237 c96_i32_238
  let c1_i32_239 : BitVec 32 := 1#32
  ⟨c0_i32_237, v343, c1_i32_239⟩
def k0_off16 (k0_t14 : Fin k0_t14_loop.trips) : Fin 1 → Nat :=
  let c0_i32_237 : BitVec 32 := 0#32
  let c1_i32_239 : BitVec 32 := 1#32
  let arg10 : BitVec 32 := Scf.iv c0_i32_237 c1_i32_239 k0_t14
  let c16_i32_288 : BitVec 32 := 16#32
  let v404 : BitVec 32 := Scalar.muli arg10 c16_i32_288
  let v405 : Index := Scalar.indexCast v404
  ![v405.toNat]

def k0_chk417 (v410 : IVec S16 32) : Prop :=
  (∀ a x, ((![v410] : Fin 1 → IVec S16 32) a x).toNat < S19648.size a)
theorem k0_idx417_inb : ∀ (v410 : IVec S16 32) (k0_hw417 : k0_chk417 v410), ∀ a x, ((![v410] : Fin 1 → IVec S16 32) a x).toNat < S19648.size a := fun v410 k0_hw417 => k0_hw417

def k0_chk418 (v413 : IVec S16 32) : Prop :=
  (∀ a x, ((![v413] : Fin 1 → IVec S16 32) a x).toNat < S24576.size a)
theorem k0_idx418_inb : ∀ (v413 : IVec S16 32) (k0_hw418 : k0_chk418 v413), ∀ a x, ((![v413] : Fin 1 → IVec S16 32) a x).toNat < S24576.size a := fun v413 k0_hw418 => k0_hw418

def k0_chk419 (v416 : IVec S16 32) : Prop :=
  (∀ a x, ((![v416] : Fin 1 → IVec S16 32) a x).toNat < S19648.size a)
theorem k0_idx419_inb : ∀ (v416 : IVec S16 32) (k0_hw419 : k0_chk419 v416), ∀ a x, ((![v416] : Fin 1 → IVec S16 32) a x).toNat < S19648.size a := fun v416 k0_hw419 => k0_hw419

def k0_chk420 (v419 : IVec S16 32) : Prop :=
  (∀ a x, ((![v419] : Fin 1 → IVec S16 32) a x).toNat < S24576.size a)
theorem k0_idx420_inb : ∀ (v419 : IVec S16 32) (k0_hw420 : k0_chk420 v419), ∀ a x, ((![v419] : Fin 1 → IVec S16 32) a x).toNat < S24576.size a := fun v419 k0_hw420 => k0_hw420

def k0_chk421 (v422 : IVec S16 32) : Prop :=
  (∀ a x, ((![v422] : Fin 1 → IVec S16 32) a x).toNat < S19648.size a)
theorem k0_idx421_inb : ∀ (v422 : IVec S16 32) (k0_hw421 : k0_chk421 v422), ∀ a x, ((![v422] : Fin 1 → IVec S16 32) a x).toNat < S19648.size a := fun v422 k0_hw421 => k0_hw421

def k0_chk422 (v425 : IVec S16 32) : Prop :=
  (∀ a x, ((![v425] : Fin 1 → IVec S16 32) a x).toNat < S24576.size a)
theorem k0_idx422_inb : ∀ (v425 : IVec S16 32) (k0_hw422 : k0_chk422 v425), ∀ a x, ((![v425] : Fin 1 → IVec S16 32) a x).toNat < S24576.size a := fun v425 k0_hw422 => k0_hw422

def k0_chk423 (v428 : IVec S16 32) : Prop :=
  (∀ a x, ((![v428] : Fin 1 → IVec S16 32) a x).toNat < S19648.size a)
theorem k0_idx423_inb : ∀ (v428 : IVec S16 32) (k0_hw423 : k0_chk423 v428), ∀ a x, ((![v428] : Fin 1 → IVec S16 32) a x).toNat < S19648.size a := fun v428 k0_hw423 => k0_hw423

def k0_chk424 (v431 : IVec S16 32) : Prop :=
  (∀ a x, ((![v431] : Fin 1 → IVec S16 32) a x).toNat < S24576.size a)
theorem k0_idx424_inb : ∀ (v431 : IVec S16 32) (k0_hw424 : k0_chk424 v431), ∀ a x, ((![v431] : Fin 1 → IVec S16 32) a x).toNat < S24576.size a := fun v431 k0_hw424 => k0_hw424

def k0_chk425 (v434 : IVec S16 32) : Prop :=
  (∀ a x, ((![v434] : Fin 1 → IVec S16 32) a x).toNat < S19648.size a)
theorem k0_idx425_inb : ∀ (v434 : IVec S16 32) (k0_hw425 : k0_chk425 v434), ∀ a x, ((![v434] : Fin 1 → IVec S16 32) a x).toNat < S19648.size a := fun v434 k0_hw425 => k0_hw425

def k0_chk426 (v437 : IVec S16 32) : Prop :=
  (∀ a x, ((![v437] : Fin 1 → IVec S16 32) a x).toNat < S24576.size a)
theorem k0_idx426_inb : ∀ (v437 : IVec S16 32) (k0_hw426 : k0_chk426 v437), ∀ a x, ((![v437] : Fin 1 → IVec S16 32) a x).toNat < S24576.size a := fun v437 k0_hw426 => k0_hw426

def k0_chk427 (v440 : IVec S16 32) : Prop :=
  (∀ a x, ((![v440] : Fin 1 → IVec S16 32) a x).toNat < S19648.size a)
theorem k0_idx427_inb : ∀ (v440 : IVec S16 32) (k0_hw427 : k0_chk427 v440), ∀ a x, ((![v440] : Fin 1 → IVec S16 32) a x).toNat < S19648.size a := fun v440 k0_hw427 => k0_hw427

def k0_chk428 (v443 : IVec S16 32) : Prop :=
  (∀ a x, ((![v443] : Fin 1 → IVec S16 32) a x).toNat < S24576.size a)
theorem k0_idx428_inb : ∀ (v443 : IVec S16 32) (k0_hw428 : k0_chk428 v443), ∀ a x, ((![v443] : Fin 1 → IVec S16 32) a x).toNat < S24576.size a := fun v443 k0_hw428 => k0_hw428

def k0_chk429 (v446 : IVec S16 32) : Prop :=
  (∀ a x, ((![v446] : Fin 1 → IVec S16 32) a x).toNat < S19648.size a)
theorem k0_idx429_inb : ∀ (v446 : IVec S16 32) (k0_hw429 : k0_chk429 v446), ∀ a x, ((![v446] : Fin 1 → IVec S16 32) a x).toNat < S19648.size a := fun v446 k0_hw429 => k0_hw429

def k0_chk430 (v449 : IVec S16 32) : Prop :=
  (∀ a x, ((![v449] : Fin 1 → IVec S16 32) a x).toNat < S24576.size a)
theorem k0_idx430_inb : ∀ (v449 : IVec S16 32) (k0_hw430 : k0_chk430 v449), ∀ a x, ((![v449] : Fin 1 → IVec S16 32) a x).toNat < S24576.size a := fun v449 k0_hw430 => k0_hw430

def k0_chk431 (v452 : IVec S16 32) : Prop :=
  (∀ a x, ((![v452] : Fin 1 → IVec S16 32) a x).toNat < S19648.size a)
theorem k0_idx431_inb : ∀ (v452 : IVec S16 32) (k0_hw431 : k0_chk431 v452), ∀ a x, ((![v452] : Fin 1 → IVec S16 32) a x).toNat < S19648.size a := fun v452 k0_hw431 => k0_hw431

def k0_chk432 (v455 : IVec S16 32) : Prop :=
  (∀ a x, ((![v455] : Fin 1 → IVec S16 32) a x).toNat < S24576.size a)
theorem k0_idx432_inb : ∀ (v455 : IVec S16 32) (k0_hw432 : k0_chk432 v455), ∀ a x, ((![v455] : Fin 1 → IVec S16 32) a x).toNat < S24576.size a := fun v455 k0_hw432 => k0_hw432

def k0_chk433 (v458 : IVec S16 32) : Prop :=
  (∀ a x, ((![v458] : Fin 1 → IVec S16 32) a x).toNat < S19648.size a)
theorem k0_idx433_inb : ∀ (v458 : IVec S16 32) (k0_hw433 : k0_chk433 v458), ∀ a x, ((![v458] : Fin 1 → IVec S16 32) a x).toNat < S19648.size a := fun v458 k0_hw433 => k0_hw433

def k0_chk434 (v461 : IVec S16 32) : Prop :=
  (∀ a x, ((![v461] : Fin 1 → IVec S16 32) a x).toNat < S24576.size a)
theorem k0_idx434_inb : ∀ (v461 : IVec S16 32) (k0_hw434 : k0_chk434 v461), ∀ a x, ((![v461] : Fin 1 → IVec S16 32) a x).toNat < S24576.size a := fun v461 k0_hw434 => k0_hw434

def k0_chk435 (v464 : IVec S16 32) : Prop :=
  (∀ a x, ((![v464] : Fin 1 → IVec S16 32) a x).toNat < S19648.size a)
theorem k0_idx435_inb : ∀ (v464 : IVec S16 32) (k0_hw435 : k0_chk435 v464), ∀ a x, ((![v464] : Fin 1 → IVec S16 32) a x).toNat < S19648.size a := fun v464 k0_hw435 => k0_hw435

def k0_chk436 (v467 : IVec S16 32) : Prop :=
  (∀ a x, ((![v467] : Fin 1 → IVec S16 32) a x).toNat < S24576.size a)
theorem k0_idx436_inb : ∀ (v467 : IVec S16 32) (k0_hw436 : k0_chk436 v467), ∀ a x, ((![v467] : Fin 1 → IVec S16 32) a x).toNat < S24576.size a := fun v467 k0_hw436 => k0_hw436

def k0_chk437 (v470 : IVec S16 32) : Prop :=
  (∀ a x, ((![v470] : Fin 1 → IVec S16 32) a x).toNat < S19648.size a)
theorem k0_idx437_inb : ∀ (v470 : IVec S16 32) (k0_hw437 : k0_chk437 v470), ∀ a x, ((![v470] : Fin 1 → IVec S16 32) a x).toNat < S19648.size a := fun v470 k0_hw437 => k0_hw437

def k0_chk438 (v473 : IVec S16 32) : Prop :=
  (∀ a x, ((![v473] : Fin 1 → IVec S16 32) a x).toNat < S24576.size a)
theorem k0_idx438_inb : ∀ (v473 : IVec S16 32) (k0_hw438 : k0_chk438 v473), ∀ a x, ((![v473] : Fin 1 → IVec S16 32) a x).toNat < S24576.size a := fun v473 k0_hw438 => k0_hw438

def k0_chk439 (v476 : IVec S16 32) : Prop :=
  (∀ a x, ((![v476] : Fin 1 → IVec S16 32) a x).toNat < S19648.size a)
theorem k0_idx439_inb : ∀ (v476 : IVec S16 32) (k0_hw439 : k0_chk439 v476), ∀ a x, ((![v476] : Fin 1 → IVec S16 32) a x).toNat < S19648.size a := fun v476 k0_hw439 => k0_hw439

def k0_chk440 (v479 : IVec S16 32) : Prop :=
  (∀ a x, ((![v479] : Fin 1 → IVec S16 32) a x).toNat < S24576.size a)
theorem k0_idx440_inb : ∀ (v479 : IVec S16 32) (k0_hw440 : k0_chk440 v479), ∀ a x, ((![v479] : Fin 1 → IVec S16 32) a x).toNat < S24576.size a := fun v479 k0_hw440 => k0_hw440

def k0_chk441 (v482 : IVec S16 32) : Prop :=
  (∀ a x, ((![v482] : Fin 1 → IVec S16 32) a x).toNat < S19648.size a)
theorem k0_idx441_inb : ∀ (v482 : IVec S16 32) (k0_hw441 : k0_chk441 v482), ∀ a x, ((![v482] : Fin 1 → IVec S16 32) a x).toNat < S19648.size a := fun v482 k0_hw441 => k0_hw441

def k0_chk442 (v485 : IVec S16 32) : Prop :=
  (∀ a x, ((![v485] : Fin 1 → IVec S16 32) a x).toNat < S24576.size a)
theorem k0_idx442_inb : ∀ (v485 : IVec S16 32) (k0_hw442 : k0_chk442 v485), ∀ a x, ((![v485] : Fin 1 → IVec S16 32) a x).toNat < S24576.size a := fun v485 k0_hw442 => k0_hw442

def k0_chk443 (v488 : IVec S16 32) : Prop :=
  (∀ a x, ((![v488] : Fin 1 → IVec S16 32) a x).toNat < S19648.size a)
theorem k0_idx443_inb : ∀ (v488 : IVec S16 32) (k0_hw443 : k0_chk443 v488), ∀ a x, ((![v488] : Fin 1 → IVec S16 32) a x).toNat < S19648.size a := fun v488 k0_hw443 => k0_hw443

def k0_chk444 (v491 : IVec S16 32) : Prop :=
  (∀ a x, ((![v491] : Fin 1 → IVec S16 32) a x).toNat < S24576.size a)
theorem k0_idx444_inb : ∀ (v491 : IVec S16 32) (k0_hw444 : k0_chk444 v491), ∀ a x, ((![v491] : Fin 1 → IVec S16 32) a x).toNat < S24576.size a := fun v491 k0_hw444 => k0_hw444

def k0_chk445 (v494 : IVec S16 32) : Prop :=
  (∀ a x, ((![v494] : Fin 1 → IVec S16 32) a x).toNat < S19648.size a)
theorem k0_idx445_inb : ∀ (v494 : IVec S16 32) (k0_hw445 : k0_chk445 v494), ∀ a x, ((![v494] : Fin 1 → IVec S16 32) a x).toNat < S19648.size a := fun v494 k0_hw445 => k0_hw445

def k0_chk446 (v497 : IVec S16 32) : Prop :=
  (∀ a x, ((![v497] : Fin 1 → IVec S16 32) a x).toNat < S24576.size a)
theorem k0_idx446_inb : ∀ (v497 : IVec S16 32) (k0_hw446 : k0_chk446 v497), ∀ a x, ((![v497] : Fin 1 → IVec S16 32) a x).toNat < S24576.size a := fun v497 k0_hw446 => k0_hw446

def k0_chk447 (v500 : IVec S16 32) : Prop :=
  (∀ a x, ((![v500] : Fin 1 → IVec S16 32) a x).toNat < S19648.size a)
theorem k0_idx447_inb : ∀ (v500 : IVec S16 32) (k0_hw447 : k0_chk447 v500), ∀ a x, ((![v500] : Fin 1 → IVec S16 32) a x).toNat < S19648.size a := fun v500 k0_hw447 => k0_hw447

def k0_chk448 (v503 : IVec S16 32) : Prop :=
  (∀ a x, ((![v503] : Fin 1 → IVec S16 32) a x).toNat < S24576.size a)
theorem k0_idx448_inb : ∀ (v503 : IVec S16 32) (k0_hw448 : k0_chk448 v503), ∀ a x, ((![v503] : Fin 1 → IVec S16 32) a x).toNat < S24576.size a := fun v503 k0_hw448 => k0_hw448
@[reducible] def k0_t15_loop : Scf.Loop 32 :=
  let c0_i32_253 : BitVec 32 := 0#32
  let c96_i32_254 : BitVec 32 := 96#32
  let v361 : BitVec 32 := Scalar.addi c0_i32_253 c96_i32_254
  let c1_i32_255 : BitVec 32 := 1#32
  ⟨c0_i32_253, v361, c1_i32_255⟩
def k0_off17 (k0_t15 : Fin k0_t15_loop.trips) : Fin 1 → Nat :=
  let c0_i32_253 : BitVec 32 := 0#32
  let c1_i32_255 : BitVec 32 := 1#32
  let arg10 : BitVec 32 := Scf.iv c0_i32_253 c1_i32_255 k0_t15
  let c16_i32_288 : BitVec 32 := 16#32
  let v404 : BitVec 32 := Scalar.muli arg10 c16_i32_288
  let v405 : Index := Scalar.indexCast v404
  ![v405.toNat]

def k0_chk449 (v410 : IVec S16 32) : Prop :=
  (∀ a x, ((![v410] : Fin 1 → IVec S16 32) a x).toNat < S19648.size a)
theorem k0_idx449_inb : ∀ (v410 : IVec S16 32) (k0_hw449 : k0_chk449 v410), ∀ a x, ((![v410] : Fin 1 → IVec S16 32) a x).toNat < S19648.size a := fun v410 k0_hw449 => k0_hw449

def k0_chk450 (v413 : IVec S16 32) : Prop :=
  (∀ a x, ((![v413] : Fin 1 → IVec S16 32) a x).toNat < S24576.size a)
theorem k0_idx450_inb : ∀ (v413 : IVec S16 32) (k0_hw450 : k0_chk450 v413), ∀ a x, ((![v413] : Fin 1 → IVec S16 32) a x).toNat < S24576.size a := fun v413 k0_hw450 => k0_hw450

def k0_chk451 (v416 : IVec S16 32) : Prop :=
  (∀ a x, ((![v416] : Fin 1 → IVec S16 32) a x).toNat < S19648.size a)
theorem k0_idx451_inb : ∀ (v416 : IVec S16 32) (k0_hw451 : k0_chk451 v416), ∀ a x, ((![v416] : Fin 1 → IVec S16 32) a x).toNat < S19648.size a := fun v416 k0_hw451 => k0_hw451

def k0_chk452 (v419 : IVec S16 32) : Prop :=
  (∀ a x, ((![v419] : Fin 1 → IVec S16 32) a x).toNat < S24576.size a)
theorem k0_idx452_inb : ∀ (v419 : IVec S16 32) (k0_hw452 : k0_chk452 v419), ∀ a x, ((![v419] : Fin 1 → IVec S16 32) a x).toNat < S24576.size a := fun v419 k0_hw452 => k0_hw452

def k0_chk453 (v422 : IVec S16 32) : Prop :=
  (∀ a x, ((![v422] : Fin 1 → IVec S16 32) a x).toNat < S19648.size a)
theorem k0_idx453_inb : ∀ (v422 : IVec S16 32) (k0_hw453 : k0_chk453 v422), ∀ a x, ((![v422] : Fin 1 → IVec S16 32) a x).toNat < S19648.size a := fun v422 k0_hw453 => k0_hw453

def k0_chk454 (v425 : IVec S16 32) : Prop :=
  (∀ a x, ((![v425] : Fin 1 → IVec S16 32) a x).toNat < S24576.size a)
theorem k0_idx454_inb : ∀ (v425 : IVec S16 32) (k0_hw454 : k0_chk454 v425), ∀ a x, ((![v425] : Fin 1 → IVec S16 32) a x).toNat < S24576.size a := fun v425 k0_hw454 => k0_hw454

def k0_chk455 (v428 : IVec S16 32) : Prop :=
  (∀ a x, ((![v428] : Fin 1 → IVec S16 32) a x).toNat < S19648.size a)
theorem k0_idx455_inb : ∀ (v428 : IVec S16 32) (k0_hw455 : k0_chk455 v428), ∀ a x, ((![v428] : Fin 1 → IVec S16 32) a x).toNat < S19648.size a := fun v428 k0_hw455 => k0_hw455

def k0_chk456 (v431 : IVec S16 32) : Prop :=
  (∀ a x, ((![v431] : Fin 1 → IVec S16 32) a x).toNat < S24576.size a)
theorem k0_idx456_inb : ∀ (v431 : IVec S16 32) (k0_hw456 : k0_chk456 v431), ∀ a x, ((![v431] : Fin 1 → IVec S16 32) a x).toNat < S24576.size a := fun v431 k0_hw456 => k0_hw456

def k0_chk457 (v434 : IVec S16 32) : Prop :=
  (∀ a x, ((![v434] : Fin 1 → IVec S16 32) a x).toNat < S19648.size a)
theorem k0_idx457_inb : ∀ (v434 : IVec S16 32) (k0_hw457 : k0_chk457 v434), ∀ a x, ((![v434] : Fin 1 → IVec S16 32) a x).toNat < S19648.size a := fun v434 k0_hw457 => k0_hw457

def k0_chk458 (v437 : IVec S16 32) : Prop :=
  (∀ a x, ((![v437] : Fin 1 → IVec S16 32) a x).toNat < S24576.size a)
theorem k0_idx458_inb : ∀ (v437 : IVec S16 32) (k0_hw458 : k0_chk458 v437), ∀ a x, ((![v437] : Fin 1 → IVec S16 32) a x).toNat < S24576.size a := fun v437 k0_hw458 => k0_hw458

def k0_chk459 (v440 : IVec S16 32) : Prop :=
  (∀ a x, ((![v440] : Fin 1 → IVec S16 32) a x).toNat < S19648.size a)
theorem k0_idx459_inb : ∀ (v440 : IVec S16 32) (k0_hw459 : k0_chk459 v440), ∀ a x, ((![v440] : Fin 1 → IVec S16 32) a x).toNat < S19648.size a := fun v440 k0_hw459 => k0_hw459

def k0_chk460 (v443 : IVec S16 32) : Prop :=
  (∀ a x, ((![v443] : Fin 1 → IVec S16 32) a x).toNat < S24576.size a)
theorem k0_idx460_inb : ∀ (v443 : IVec S16 32) (k0_hw460 : k0_chk460 v443), ∀ a x, ((![v443] : Fin 1 → IVec S16 32) a x).toNat < S24576.size a := fun v443 k0_hw460 => k0_hw460

def k0_chk461 (v446 : IVec S16 32) : Prop :=
  (∀ a x, ((![v446] : Fin 1 → IVec S16 32) a x).toNat < S19648.size a)
theorem k0_idx461_inb : ∀ (v446 : IVec S16 32) (k0_hw461 : k0_chk461 v446), ∀ a x, ((![v446] : Fin 1 → IVec S16 32) a x).toNat < S19648.size a := fun v446 k0_hw461 => k0_hw461

def k0_chk462 (v449 : IVec S16 32) : Prop :=
  (∀ a x, ((![v449] : Fin 1 → IVec S16 32) a x).toNat < S24576.size a)
theorem k0_idx462_inb : ∀ (v449 : IVec S16 32) (k0_hw462 : k0_chk462 v449), ∀ a x, ((![v449] : Fin 1 → IVec S16 32) a x).toNat < S24576.size a := fun v449 k0_hw462 => k0_hw462

def k0_chk463 (v452 : IVec S16 32) : Prop :=
  (∀ a x, ((![v452] : Fin 1 → IVec S16 32) a x).toNat < S19648.size a)
theorem k0_idx463_inb : ∀ (v452 : IVec S16 32) (k0_hw463 : k0_chk463 v452), ∀ a x, ((![v452] : Fin 1 → IVec S16 32) a x).toNat < S19648.size a := fun v452 k0_hw463 => k0_hw463

def k0_chk464 (v455 : IVec S16 32) : Prop :=
  (∀ a x, ((![v455] : Fin 1 → IVec S16 32) a x).toNat < S24576.size a)
theorem k0_idx464_inb : ∀ (v455 : IVec S16 32) (k0_hw464 : k0_chk464 v455), ∀ a x, ((![v455] : Fin 1 → IVec S16 32) a x).toNat < S24576.size a := fun v455 k0_hw464 => k0_hw464

def k0_chk465 (v458 : IVec S16 32) : Prop :=
  (∀ a x, ((![v458] : Fin 1 → IVec S16 32) a x).toNat < S19648.size a)
theorem k0_idx465_inb : ∀ (v458 : IVec S16 32) (k0_hw465 : k0_chk465 v458), ∀ a x, ((![v458] : Fin 1 → IVec S16 32) a x).toNat < S19648.size a := fun v458 k0_hw465 => k0_hw465

def k0_chk466 (v461 : IVec S16 32) : Prop :=
  (∀ a x, ((![v461] : Fin 1 → IVec S16 32) a x).toNat < S24576.size a)
theorem k0_idx466_inb : ∀ (v461 : IVec S16 32) (k0_hw466 : k0_chk466 v461), ∀ a x, ((![v461] : Fin 1 → IVec S16 32) a x).toNat < S24576.size a := fun v461 k0_hw466 => k0_hw466

def k0_chk467 (v464 : IVec S16 32) : Prop :=
  (∀ a x, ((![v464] : Fin 1 → IVec S16 32) a x).toNat < S19648.size a)
theorem k0_idx467_inb : ∀ (v464 : IVec S16 32) (k0_hw467 : k0_chk467 v464), ∀ a x, ((![v464] : Fin 1 → IVec S16 32) a x).toNat < S19648.size a := fun v464 k0_hw467 => k0_hw467

def k0_chk468 (v467 : IVec S16 32) : Prop :=
  (∀ a x, ((![v467] : Fin 1 → IVec S16 32) a x).toNat < S24576.size a)
theorem k0_idx468_inb : ∀ (v467 : IVec S16 32) (k0_hw468 : k0_chk468 v467), ∀ a x, ((![v467] : Fin 1 → IVec S16 32) a x).toNat < S24576.size a := fun v467 k0_hw468 => k0_hw468

def k0_chk469 (v470 : IVec S16 32) : Prop :=
  (∀ a x, ((![v470] : Fin 1 → IVec S16 32) a x).toNat < S19648.size a)
theorem k0_idx469_inb : ∀ (v470 : IVec S16 32) (k0_hw469 : k0_chk469 v470), ∀ a x, ((![v470] : Fin 1 → IVec S16 32) a x).toNat < S19648.size a := fun v470 k0_hw469 => k0_hw469

def k0_chk470 (v473 : IVec S16 32) : Prop :=
  (∀ a x, ((![v473] : Fin 1 → IVec S16 32) a x).toNat < S24576.size a)
theorem k0_idx470_inb : ∀ (v473 : IVec S16 32) (k0_hw470 : k0_chk470 v473), ∀ a x, ((![v473] : Fin 1 → IVec S16 32) a x).toNat < S24576.size a := fun v473 k0_hw470 => k0_hw470

def k0_chk471 (v476 : IVec S16 32) : Prop :=
  (∀ a x, ((![v476] : Fin 1 → IVec S16 32) a x).toNat < S19648.size a)
theorem k0_idx471_inb : ∀ (v476 : IVec S16 32) (k0_hw471 : k0_chk471 v476), ∀ a x, ((![v476] : Fin 1 → IVec S16 32) a x).toNat < S19648.size a := fun v476 k0_hw471 => k0_hw471

def k0_chk472 (v479 : IVec S16 32) : Prop :=
  (∀ a x, ((![v479] : Fin 1 → IVec S16 32) a x).toNat < S24576.size a)
theorem k0_idx472_inb : ∀ (v479 : IVec S16 32) (k0_hw472 : k0_chk472 v479), ∀ a x, ((![v479] : Fin 1 → IVec S16 32) a x).toNat < S24576.size a := fun v479 k0_hw472 => k0_hw472

def k0_chk473 (v482 : IVec S16 32) : Prop :=
  (∀ a x, ((![v482] : Fin 1 → IVec S16 32) a x).toNat < S19648.size a)
theorem k0_idx473_inb : ∀ (v482 : IVec S16 32) (k0_hw473 : k0_chk473 v482), ∀ a x, ((![v482] : Fin 1 → IVec S16 32) a x).toNat < S19648.size a := fun v482 k0_hw473 => k0_hw473

def k0_chk474 (v485 : IVec S16 32) : Prop :=
  (∀ a x, ((![v485] : Fin 1 → IVec S16 32) a x).toNat < S24576.size a)
theorem k0_idx474_inb : ∀ (v485 : IVec S16 32) (k0_hw474 : k0_chk474 v485), ∀ a x, ((![v485] : Fin 1 → IVec S16 32) a x).toNat < S24576.size a := fun v485 k0_hw474 => k0_hw474

def k0_chk475 (v488 : IVec S16 32) : Prop :=
  (∀ a x, ((![v488] : Fin 1 → IVec S16 32) a x).toNat < S19648.size a)
theorem k0_idx475_inb : ∀ (v488 : IVec S16 32) (k0_hw475 : k0_chk475 v488), ∀ a x, ((![v488] : Fin 1 → IVec S16 32) a x).toNat < S19648.size a := fun v488 k0_hw475 => k0_hw475

def k0_chk476 (v491 : IVec S16 32) : Prop :=
  (∀ a x, ((![v491] : Fin 1 → IVec S16 32) a x).toNat < S24576.size a)
theorem k0_idx476_inb : ∀ (v491 : IVec S16 32) (k0_hw476 : k0_chk476 v491), ∀ a x, ((![v491] : Fin 1 → IVec S16 32) a x).toNat < S24576.size a := fun v491 k0_hw476 => k0_hw476

def k0_chk477 (v494 : IVec S16 32) : Prop :=
  (∀ a x, ((![v494] : Fin 1 → IVec S16 32) a x).toNat < S19648.size a)
theorem k0_idx477_inb : ∀ (v494 : IVec S16 32) (k0_hw477 : k0_chk477 v494), ∀ a x, ((![v494] : Fin 1 → IVec S16 32) a x).toNat < S19648.size a := fun v494 k0_hw477 => k0_hw477

def k0_chk478 (v497 : IVec S16 32) : Prop :=
  (∀ a x, ((![v497] : Fin 1 → IVec S16 32) a x).toNat < S24576.size a)
theorem k0_idx478_inb : ∀ (v497 : IVec S16 32) (k0_hw478 : k0_chk478 v497), ∀ a x, ((![v497] : Fin 1 → IVec S16 32) a x).toNat < S24576.size a := fun v497 k0_hw478 => k0_hw478

def k0_chk479 (v500 : IVec S16 32) : Prop :=
  (∀ a x, ((![v500] : Fin 1 → IVec S16 32) a x).toNat < S19648.size a)
theorem k0_idx479_inb : ∀ (v500 : IVec S16 32) (k0_hw479 : k0_chk479 v500), ∀ a x, ((![v500] : Fin 1 → IVec S16 32) a x).toNat < S19648.size a := fun v500 k0_hw479 => k0_hw479

def k0_chk480 (v503 : IVec S16 32) : Prop :=
  (∀ a x, ((![v503] : Fin 1 → IVec S16 32) a x).toNat < S24576.size a)
theorem k0_idx480_inb : ∀ (v503 : IVec S16 32) (k0_hw480 : k0_chk480 v503), ∀ a x, ((![v503] : Fin 1 → IVec S16 32) a x).toNat < S24576.size a := fun v503 k0_hw480 => k0_hw480
@[reducible] def k0_t16_loop : Scf.Loop 32 :=
  let c0_i32_269 : BitVec 32 := 0#32
  let c96_i32_270 : BitVec 32 := 96#32
  let v379 : BitVec 32 := Scalar.addi c0_i32_269 c96_i32_270
  let c1_i32_271 : BitVec 32 := 1#32
  ⟨c0_i32_269, v379, c1_i32_271⟩
def k0_off18 (k0_t16 : Fin k0_t16_loop.trips) : Fin 1 → Nat :=
  let c0_i32_269 : BitVec 32 := 0#32
  let c1_i32_271 : BitVec 32 := 1#32
  let arg10 : BitVec 32 := Scf.iv c0_i32_269 c1_i32_271 k0_t16
  let c16_i32_288 : BitVec 32 := 16#32
  let v404 : BitVec 32 := Scalar.muli arg10 c16_i32_288
  let v405 : Index := Scalar.indexCast v404
  ![v405.toNat]

def k0_chk481 (v410 : IVec S16 32) : Prop :=
  (∀ a x, ((![v410] : Fin 1 → IVec S16 32) a x).toNat < S19648.size a)
theorem k0_idx481_inb : ∀ (v410 : IVec S16 32) (k0_hw481 : k0_chk481 v410), ∀ a x, ((![v410] : Fin 1 → IVec S16 32) a x).toNat < S19648.size a := fun v410 k0_hw481 => k0_hw481

def k0_chk482 (v413 : IVec S16 32) : Prop :=
  (∀ a x, ((![v413] : Fin 1 → IVec S16 32) a x).toNat < S24576.size a)
theorem k0_idx482_inb : ∀ (v413 : IVec S16 32) (k0_hw482 : k0_chk482 v413), ∀ a x, ((![v413] : Fin 1 → IVec S16 32) a x).toNat < S24576.size a := fun v413 k0_hw482 => k0_hw482

def k0_chk483 (v416 : IVec S16 32) : Prop :=
  (∀ a x, ((![v416] : Fin 1 → IVec S16 32) a x).toNat < S19648.size a)
theorem k0_idx483_inb : ∀ (v416 : IVec S16 32) (k0_hw483 : k0_chk483 v416), ∀ a x, ((![v416] : Fin 1 → IVec S16 32) a x).toNat < S19648.size a := fun v416 k0_hw483 => k0_hw483

def k0_chk484 (v419 : IVec S16 32) : Prop :=
  (∀ a x, ((![v419] : Fin 1 → IVec S16 32) a x).toNat < S24576.size a)
theorem k0_idx484_inb : ∀ (v419 : IVec S16 32) (k0_hw484 : k0_chk484 v419), ∀ a x, ((![v419] : Fin 1 → IVec S16 32) a x).toNat < S24576.size a := fun v419 k0_hw484 => k0_hw484

def k0_chk485 (v422 : IVec S16 32) : Prop :=
  (∀ a x, ((![v422] : Fin 1 → IVec S16 32) a x).toNat < S19648.size a)
theorem k0_idx485_inb : ∀ (v422 : IVec S16 32) (k0_hw485 : k0_chk485 v422), ∀ a x, ((![v422] : Fin 1 → IVec S16 32) a x).toNat < S19648.size a := fun v422 k0_hw485 => k0_hw485

def k0_chk486 (v425 : IVec S16 32) : Prop :=
  (∀ a x, ((![v425] : Fin 1 → IVec S16 32) a x).toNat < S24576.size a)
theorem k0_idx486_inb : ∀ (v425 : IVec S16 32) (k0_hw486 : k0_chk486 v425), ∀ a x, ((![v425] : Fin 1 → IVec S16 32) a x).toNat < S24576.size a := fun v425 k0_hw486 => k0_hw486

def k0_chk487 (v428 : IVec S16 32) : Prop :=
  (∀ a x, ((![v428] : Fin 1 → IVec S16 32) a x).toNat < S19648.size a)
theorem k0_idx487_inb : ∀ (v428 : IVec S16 32) (k0_hw487 : k0_chk487 v428), ∀ a x, ((![v428] : Fin 1 → IVec S16 32) a x).toNat < S19648.size a := fun v428 k0_hw487 => k0_hw487

def k0_chk488 (v431 : IVec S16 32) : Prop :=
  (∀ a x, ((![v431] : Fin 1 → IVec S16 32) a x).toNat < S24576.size a)
theorem k0_idx488_inb : ∀ (v431 : IVec S16 32) (k0_hw488 : k0_chk488 v431), ∀ a x, ((![v431] : Fin 1 → IVec S16 32) a x).toNat < S24576.size a := fun v431 k0_hw488 => k0_hw488

def k0_chk489 (v434 : IVec S16 32) : Prop :=
  (∀ a x, ((![v434] : Fin 1 → IVec S16 32) a x).toNat < S19648.size a)
theorem k0_idx489_inb : ∀ (v434 : IVec S16 32) (k0_hw489 : k0_chk489 v434), ∀ a x, ((![v434] : Fin 1 → IVec S16 32) a x).toNat < S19648.size a := fun v434 k0_hw489 => k0_hw489

def k0_chk490 (v437 : IVec S16 32) : Prop :=
  (∀ a x, ((![v437] : Fin 1 → IVec S16 32) a x).toNat < S24576.size a)
theorem k0_idx490_inb : ∀ (v437 : IVec S16 32) (k0_hw490 : k0_chk490 v437), ∀ a x, ((![v437] : Fin 1 → IVec S16 32) a x).toNat < S24576.size a := fun v437 k0_hw490 => k0_hw490

def k0_chk491 (v440 : IVec S16 32) : Prop :=
  (∀ a x, ((![v440] : Fin 1 → IVec S16 32) a x).toNat < S19648.size a)
theorem k0_idx491_inb : ∀ (v440 : IVec S16 32) (k0_hw491 : k0_chk491 v440), ∀ a x, ((![v440] : Fin 1 → IVec S16 32) a x).toNat < S19648.size a := fun v440 k0_hw491 => k0_hw491

def k0_chk492 (v443 : IVec S16 32) : Prop :=
  (∀ a x, ((![v443] : Fin 1 → IVec S16 32) a x).toNat < S24576.size a)
theorem k0_idx492_inb : ∀ (v443 : IVec S16 32) (k0_hw492 : k0_chk492 v443), ∀ a x, ((![v443] : Fin 1 → IVec S16 32) a x).toNat < S24576.size a := fun v443 k0_hw492 => k0_hw492

def k0_chk493 (v446 : IVec S16 32) : Prop :=
  (∀ a x, ((![v446] : Fin 1 → IVec S16 32) a x).toNat < S19648.size a)
theorem k0_idx493_inb : ∀ (v446 : IVec S16 32) (k0_hw493 : k0_chk493 v446), ∀ a x, ((![v446] : Fin 1 → IVec S16 32) a x).toNat < S19648.size a := fun v446 k0_hw493 => k0_hw493

def k0_chk494 (v449 : IVec S16 32) : Prop :=
  (∀ a x, ((![v449] : Fin 1 → IVec S16 32) a x).toNat < S24576.size a)
theorem k0_idx494_inb : ∀ (v449 : IVec S16 32) (k0_hw494 : k0_chk494 v449), ∀ a x, ((![v449] : Fin 1 → IVec S16 32) a x).toNat < S24576.size a := fun v449 k0_hw494 => k0_hw494

def k0_chk495 (v452 : IVec S16 32) : Prop :=
  (∀ a x, ((![v452] : Fin 1 → IVec S16 32) a x).toNat < S19648.size a)
theorem k0_idx495_inb : ∀ (v452 : IVec S16 32) (k0_hw495 : k0_chk495 v452), ∀ a x, ((![v452] : Fin 1 → IVec S16 32) a x).toNat < S19648.size a := fun v452 k0_hw495 => k0_hw495

def k0_chk496 (v455 : IVec S16 32) : Prop :=
  (∀ a x, ((![v455] : Fin 1 → IVec S16 32) a x).toNat < S24576.size a)
theorem k0_idx496_inb : ∀ (v455 : IVec S16 32) (k0_hw496 : k0_chk496 v455), ∀ a x, ((![v455] : Fin 1 → IVec S16 32) a x).toNat < S24576.size a := fun v455 k0_hw496 => k0_hw496

def k0_chk497 (v458 : IVec S16 32) : Prop :=
  (∀ a x, ((![v458] : Fin 1 → IVec S16 32) a x).toNat < S19648.size a)
theorem k0_idx497_inb : ∀ (v458 : IVec S16 32) (k0_hw497 : k0_chk497 v458), ∀ a x, ((![v458] : Fin 1 → IVec S16 32) a x).toNat < S19648.size a := fun v458 k0_hw497 => k0_hw497

def k0_chk498 (v461 : IVec S16 32) : Prop :=
  (∀ a x, ((![v461] : Fin 1 → IVec S16 32) a x).toNat < S24576.size a)
theorem k0_idx498_inb : ∀ (v461 : IVec S16 32) (k0_hw498 : k0_chk498 v461), ∀ a x, ((![v461] : Fin 1 → IVec S16 32) a x).toNat < S24576.size a := fun v461 k0_hw498 => k0_hw498

def k0_chk499 (v464 : IVec S16 32) : Prop :=
  (∀ a x, ((![v464] : Fin 1 → IVec S16 32) a x).toNat < S19648.size a)
theorem k0_idx499_inb : ∀ (v464 : IVec S16 32) (k0_hw499 : k0_chk499 v464), ∀ a x, ((![v464] : Fin 1 → IVec S16 32) a x).toNat < S19648.size a := fun v464 k0_hw499 => k0_hw499

def k0_chk500 (v467 : IVec S16 32) : Prop :=
  (∀ a x, ((![v467] : Fin 1 → IVec S16 32) a x).toNat < S24576.size a)
theorem k0_idx500_inb : ∀ (v467 : IVec S16 32) (k0_hw500 : k0_chk500 v467), ∀ a x, ((![v467] : Fin 1 → IVec S16 32) a x).toNat < S24576.size a := fun v467 k0_hw500 => k0_hw500

def k0_chk501 (v470 : IVec S16 32) : Prop :=
  (∀ a x, ((![v470] : Fin 1 → IVec S16 32) a x).toNat < S19648.size a)
theorem k0_idx501_inb : ∀ (v470 : IVec S16 32) (k0_hw501 : k0_chk501 v470), ∀ a x, ((![v470] : Fin 1 → IVec S16 32) a x).toNat < S19648.size a := fun v470 k0_hw501 => k0_hw501

def k0_chk502 (v473 : IVec S16 32) : Prop :=
  (∀ a x, ((![v473] : Fin 1 → IVec S16 32) a x).toNat < S24576.size a)
theorem k0_idx502_inb : ∀ (v473 : IVec S16 32) (k0_hw502 : k0_chk502 v473), ∀ a x, ((![v473] : Fin 1 → IVec S16 32) a x).toNat < S24576.size a := fun v473 k0_hw502 => k0_hw502

def k0_chk503 (v476 : IVec S16 32) : Prop :=
  (∀ a x, ((![v476] : Fin 1 → IVec S16 32) a x).toNat < S19648.size a)
theorem k0_idx503_inb : ∀ (v476 : IVec S16 32) (k0_hw503 : k0_chk503 v476), ∀ a x, ((![v476] : Fin 1 → IVec S16 32) a x).toNat < S19648.size a := fun v476 k0_hw503 => k0_hw503

def k0_chk504 (v479 : IVec S16 32) : Prop :=
  (∀ a x, ((![v479] : Fin 1 → IVec S16 32) a x).toNat < S24576.size a)
theorem k0_idx504_inb : ∀ (v479 : IVec S16 32) (k0_hw504 : k0_chk504 v479), ∀ a x, ((![v479] : Fin 1 → IVec S16 32) a x).toNat < S24576.size a := fun v479 k0_hw504 => k0_hw504

def k0_chk505 (v482 : IVec S16 32) : Prop :=
  (∀ a x, ((![v482] : Fin 1 → IVec S16 32) a x).toNat < S19648.size a)
theorem k0_idx505_inb : ∀ (v482 : IVec S16 32) (k0_hw505 : k0_chk505 v482), ∀ a x, ((![v482] : Fin 1 → IVec S16 32) a x).toNat < S19648.size a := fun v482 k0_hw505 => k0_hw505

def k0_chk506 (v485 : IVec S16 32) : Prop :=
  (∀ a x, ((![v485] : Fin 1 → IVec S16 32) a x).toNat < S24576.size a)
theorem k0_idx506_inb : ∀ (v485 : IVec S16 32) (k0_hw506 : k0_chk506 v485), ∀ a x, ((![v485] : Fin 1 → IVec S16 32) a x).toNat < S24576.size a := fun v485 k0_hw506 => k0_hw506

def k0_chk507 (v488 : IVec S16 32) : Prop :=
  (∀ a x, ((![v488] : Fin 1 → IVec S16 32) a x).toNat < S19648.size a)
theorem k0_idx507_inb : ∀ (v488 : IVec S16 32) (k0_hw507 : k0_chk507 v488), ∀ a x, ((![v488] : Fin 1 → IVec S16 32) a x).toNat < S19648.size a := fun v488 k0_hw507 => k0_hw507

def k0_chk508 (v491 : IVec S16 32) : Prop :=
  (∀ a x, ((![v491] : Fin 1 → IVec S16 32) a x).toNat < S24576.size a)
theorem k0_idx508_inb : ∀ (v491 : IVec S16 32) (k0_hw508 : k0_chk508 v491), ∀ a x, ((![v491] : Fin 1 → IVec S16 32) a x).toNat < S24576.size a := fun v491 k0_hw508 => k0_hw508

def k0_chk509 (v494 : IVec S16 32) : Prop :=
  (∀ a x, ((![v494] : Fin 1 → IVec S16 32) a x).toNat < S19648.size a)
theorem k0_idx509_inb : ∀ (v494 : IVec S16 32) (k0_hw509 : k0_chk509 v494), ∀ a x, ((![v494] : Fin 1 → IVec S16 32) a x).toNat < S19648.size a := fun v494 k0_hw509 => k0_hw509

def k0_chk510 (v497 : IVec S16 32) : Prop :=
  (∀ a x, ((![v497] : Fin 1 → IVec S16 32) a x).toNat < S24576.size a)
theorem k0_idx510_inb : ∀ (v497 : IVec S16 32) (k0_hw510 : k0_chk510 v497), ∀ a x, ((![v497] : Fin 1 → IVec S16 32) a x).toNat < S24576.size a := fun v497 k0_hw510 => k0_hw510

def k0_chk511 (v500 : IVec S16 32) : Prop :=
  (∀ a x, ((![v500] : Fin 1 → IVec S16 32) a x).toNat < S19648.size a)
theorem k0_idx511_inb : ∀ (v500 : IVec S16 32) (k0_hw511 : k0_chk511 v500), ∀ a x, ((![v500] : Fin 1 → IVec S16 32) a x).toNat < S19648.size a := fun v500 k0_hw511 => k0_hw511

def k0_chk512 (v503 : IVec S16 32) : Prop :=
  (∀ a x, ((![v503] : Fin 1 → IVec S16 32) a x).toNat < S24576.size a)
theorem k0_idx512_inb : ∀ (v503 : IVec S16 32) (k0_hw512 : k0_chk512 v503), ∀ a x, ((![v503] : Fin 1 → IVec S16 32) a x).toNat < S24576.size a := fun v503 k0_hw512 => k0_hw512
abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_24 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_25 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_26 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_27 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_28 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_29 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_30 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_31 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_32 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_33 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_34 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_35 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_36 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_37 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x6 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x6 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x6 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x6 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x6 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x24 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x6 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x6 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x6 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x36 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x6 .i32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x6 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x8 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x8 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S512x55 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 1 → Memref sig .tc .vmem S128x128 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S6x120x256 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x128 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S128x128 .f32 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 1 → Memref sig .tc .vmem S1x128 .f32 := fun | 0 => Memref.whole cc1_stg23_0 | ⟨_ + 1, h⟩ => absurd h (Nat.not_lt.2 (Nat.le_add_left _ _))
abbrev sem1_23 : Fin 1 → DmaSem sig := fun | 0 => cc1_sem23_0 | ⟨_ + 1, h⟩ => absurd h (Nat.not_lt.2 (Nat.le_add_left _ _))
abbrev reads1_23 : Fin grid1.rank → Bool := ![false]

abbrev stage1_24 : Fin 1 → Memref sig .tc .vmem S1x128 .f32 := fun | 0 => Memref.whole cc1_stg24_0 | ⟨_ + 1, h⟩ => absurd h (Nat.not_lt.2 (Nat.le_add_left _ _))
abbrev sem1_24 : Fin 1 → DmaSem sig := fun | 0 => cc1_sem24_0 | ⟨_ + 1, h⟩ => absurd h (Nat.not_lt.2 (Nat.le_add_left _ _))
abbrev reads1_24 : Fin grid1.rank → Bool := ![false]

abbrev stage1_25 : Fin 1 → Memref sig .tc .vmem S128x128 .f32 := fun | 0 => Memref.whole cc1_stg25_0 | ⟨_ + 1, h⟩ => absurd h (Nat.not_lt.2 (Nat.le_add_left _ _))
abbrev sem1_25 : Fin 1 → DmaSem sig := fun | 0 => cc1_sem25_0 | ⟨_ + 1, h⟩ => absurd h (Nat.not_lt.2 (Nat.le_add_left _ _))
abbrev reads1_25 : Fin grid1.rank → Bool := ![false]

abbrev stage1_26 : Fin 1 → Memref sig .tc .vmem S1x128 .f32 := fun | 0 => Memref.whole cc1_stg26_0 | ⟨_ + 1, h⟩ => absurd h (Nat.not_lt.2 (Nat.le_add_left _ _))
abbrev sem1_26 : Fin 1 → DmaSem sig := fun | 0 => cc1_sem26_0 | ⟨_ + 1, h⟩ => absurd h (Nat.not_lt.2 (Nat.le_add_left _ _))
abbrev reads1_26 : Fin grid1.rank → Bool := ![false]

abbrev stage1_27 : Fin 1 → Memref sig .tc .vmem S2x128 .f32 := fun | 0 => Memref.whole cc1_stg27_0 | ⟨_ + 1, h⟩ => absurd h (Nat.not_lt.2 (Nat.le_add_left _ _))
abbrev sem1_27 : Fin 1 → DmaSem sig := fun | 0 => cc1_sem27_0 | ⟨_ + 1, h⟩ => absurd h (Nat.not_lt.2 (Nat.le_add_left _ _))
abbrev reads1_27 : Fin grid1.rank → Bool := ![false]

abbrev stage1_28 : Fin 1 → Memref sig .tc .vmem S1x128 .f32 := fun | 0 => Memref.whole cc1_stg28_0 | ⟨_ + 1, h⟩ => absurd h (Nat.not_lt.2 (Nat.le_add_left _ _))
abbrev sem1_28 : Fin 1 → DmaSem sig := fun | 0 => cc1_sem28_0 | ⟨_ + 1, h⟩ => absurd h (Nat.not_lt.2 (Nat.le_add_left _ _))
abbrev reads1_28 : Fin grid1.rank → Bool := ![false]

abbrev stage1_29 : Fin 1 → Memref sig .tc .vmem S17x32 .f32 := fun | 0 => Memref.whole cc1_stg29_0 | ⟨_ + 1, h⟩ => absurd h (Nat.not_lt.2 (Nat.le_add_left _ _))
abbrev sem1_29 : Fin 1 → DmaSem sig := fun | 0 => cc1_sem29_0 | ⟨_ + 1, h⟩ => absurd h (Nat.not_lt.2 (Nat.le_add_left _ _))
abbrev reads1_29 : Fin grid1.rank → Bool := ![false]

abbrev stage1_30 : Fin 1 → Memref sig .tc .vmem S1x32 .f32 := fun | 0 => Memref.whole cc1_stg30_0 | ⟨_ + 1, h⟩ => absurd h (Nat.not_lt.2 (Nat.le_add_left _ _))
abbrev sem1_30 : Fin 1 → DmaSem sig := fun | 0 => cc1_sem30_0 | ⟨_ + 1, h⟩ => absurd h (Nat.not_lt.2 (Nat.le_add_left _ _))
abbrev reads1_30 : Fin grid1.rank → Bool := ![false]

abbrev stage1_31 : Fin 1 → Memref sig .tc .vmem S128x256 .f32 := fun | 0 => Memref.whole cc1_stg31_0 | ⟨_ + 1, h⟩ => absurd h (Nat.not_lt.2 (Nat.le_add_left _ _))
abbrev sem1_31 : Fin 1 → DmaSem sig := fun | 0 => cc1_sem31_0 | ⟨_ + 1, h⟩ => absurd h (Nat.not_lt.2 (Nat.le_add_left _ _))
abbrev reads1_31 : Fin grid1.rank → Bool := ![false]

abbrev stage1_32 : Fin 1 → Memref sig .tc .vmem S128x256 .f32 := fun | 0 => Memref.whole cc1_stg32_0 | ⟨_ + 1, h⟩ => absurd h (Nat.not_lt.2 (Nat.le_add_left _ _))
abbrev sem1_32 : Fin 1 → DmaSem sig := fun | 0 => cc1_sem32_0 | ⟨_ + 1, h⟩ => absurd h (Nat.not_lt.2 (Nat.le_add_left _ _))
abbrev reads1_32 : Fin grid1.rank → Bool := ![false]

abbrev stage1_33 : Fin 1 → Memref sig .tc .vmem S128x256 .f32 := fun | 0 => Memref.whole cc1_stg33_0 | ⟨_ + 1, h⟩ => absurd h (Nat.not_lt.2 (Nat.le_add_left _ _))
abbrev sem1_33 : Fin 1 → DmaSem sig := fun | 0 => cc1_sem33_0 | ⟨_ + 1, h⟩ => absurd h (Nat.not_lt.2 (Nat.le_add_left _ _))
abbrev reads1_33 : Fin grid1.rank → Bool := ![false]

abbrev stage1_34 : Fin 1 → Memref sig .tc .vmem S55x256 .f32 := fun | 0 => Memref.whole cc1_stg34_0 | ⟨_ + 1, h⟩ => absurd h (Nat.not_lt.2 (Nat.le_add_left _ _))
abbrev sem1_34 : Fin 1 → DmaSem sig := fun | 0 => cc1_sem34_0 | ⟨_ + 1, h⟩ => absurd h (Nat.not_lt.2 (Nat.le_add_left _ _))
abbrev reads1_34 : Fin grid1.rank → Bool := ![false]

abbrev stage1_35 : Fin 1 → Memref sig .tc .vmem S32x256 .f32 := fun | 0 => Memref.whole cc1_stg35_0 | ⟨_ + 1, h⟩ => absurd h (Nat.not_lt.2 (Nat.le_add_left _ _))
abbrev sem1_35 : Fin 1 → DmaSem sig := fun | 0 => cc1_sem35_0 | ⟨_ + 1, h⟩ => absurd h (Nat.not_lt.2 (Nat.le_add_left _ _))
abbrev reads1_35 : Fin grid1.rank → Bool := ![false]

abbrev stage1_36 : Fin 1 → Memref sig .tc .vmem S1x256 .f32 := fun | 0 => Memref.whole cc1_stg36_0 | ⟨_ + 1, h⟩ => absurd h (Nat.not_lt.2 (Nat.le_add_left _ _))
abbrev sem1_36 : Fin 1 → DmaSem sig := fun | 0 => cc1_sem36_0 | ⟨_ + 1, h⟩ => absurd h (Nat.not_lt.2 (Nat.le_add_left _ _))
abbrev reads1_36 : Fin grid1.rank → Bool := ![false]

abbrev stage1_37 : Fin 2 → Memref sig .tc .vmem S512x256 .f32 := fun | 0 => Memref.whole cc1_stg37_0 | 1 => Memref.whole cc1_stg37_1 | ⟨_ + 2, h⟩ => absurd h (Nat.not_lt.2 (Nat.le_add_left _ _))
abbrev sem1_37 : Fin 2 → DmaSem sig := fun | 0 => cc1_sem37_0 | 1 => cc1_sem37_1 | ⟨_ + 2, h⟩ => absurd h (Nat.not_lt.2 (Nat.le_add_left _ _))
abbrev reads1_37 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "sixth" => some ((6⁻¹ : ℝ) : EReal)
  | _ => none
-- ==== ReferenceIdeal.lean ====
abbrev S16384x6 : Shape := ⟨2, ![16384, 6]⟩
abbrev S16384x6x4 : Shape := ⟨3, ![16384, 6, 4]⟩
abbrev S16384x1 : Shape := ⟨2, ![16384, 1]⟩
abbrev S16384x8 : Shape := ⟨2, ![16384, 8]⟩
abbrev S16384x55 : Shape := ⟨2, ![16384, 55]⟩
abbrev S412x16 : Shape := ⟨2, ![412, 16]⟩
abbrev S355x16 : Shape := ⟨2, ![355, 16]⟩
abbrev S78x16 : Shape := ⟨2, ![78, 16]⟩
abbrev S6x16 : Shape := ⟨2, ![6, 16]⟩
abbrev S377x16 : Shape := ⟨2, ![377, 16]⟩
abbrev S137x128 : Shape := ⟨2, ![137, 128]⟩
abbrev S128 : Shape := ⟨1, ![128]⟩
abbrev S128x128 : Shape := ⟨2, ![128, 128]⟩
abbrev S18x128 : Shape := ⟨2, ![18, 128]⟩
abbrev S2x128 : Shape := ⟨2, ![2, 128]⟩
abbrev S17x32 : Shape := ⟨2, ![17, 32]⟩
abbrev S32 : Shape := ⟨1, ![32]⟩
abbrev S471x256 : Shape := ⟨2, ![471, 256]⟩
abbrev S256 : Shape := ⟨1, ![256]⟩
abbrev S_ : Shape := ⟨0, ![]⟩
abbrev S16384x6x1 : Shape := ⟨3, ![16384, 6, 1]⟩
abbrev S1 : Shape := ⟨1, ![1]⟩
abbrev S1x1x1 : Shape := ⟨3, ![1, 1, 1]⟩
abbrev S16384x6x16 : Shape := ⟨3, ![16384, 6, 16]⟩
abbrev S16384x6x4x1 : Shape := ⟨4, ![16384, 6, 4, 1]⟩
abbrev S1x1x1x1 : Shape := ⟨4, ![1, 1, 1, 1]⟩
abbrev S16384x6x4x16 : Shape := ⟨4, ![16384, 6, 4, 16]⟩
abbrev S16384x6x64 : Shape := ⟨3, ![16384, 6, 64]⟩
abbrev S16384x6x9 : Shape := ⟨3, ![16384, 6, 9]⟩
abbrev S16384x6x137 : Shape := ⟨3, ![16384, 6, 137]⟩
abbrev S16384x6x128 : Shape := ⟨3, ![16384, 6, 128]⟩
abbrev S1x1x128 : Shape := ⟨3, ![1, 1, 128]⟩
abbrev S16384x128 : Shape := ⟨2, ![16384, 128]⟩
abbrev S16384x6x2 : Shape := ⟨3, ![16384, 6, 2]⟩
abbrev S16384x6x18 : Shape := ⟨3, ![16384, 6, 18]⟩
abbrev S16384 : Shape := ⟨1, ![16384]⟩
abbrev S16384x2 : Shape := ⟨2, ![16384, 2]⟩
abbrev S1x128 : Shape := ⟨2, ![1, 128]⟩
abbrev S16384x17 : Shape := ⟨2, ![16384, 17]⟩
abbrev S16384x32 : Shape := ⟨2, ![16384, 32]⟩
abbrev S1x32 : Shape := ⟨2, ![1, 32]⟩
abbrev S16384x471 : Shape := ⟨2, ![16384, 471]⟩
abbrev S16384x256 : Shape := ⟨2, ![16384, 256]⟩
abbrev S1x256 : Shape := ⟨2, ![1, 256]⟩

abbrev nBuf : Space → Nat
  | .hbm => 277
  | .vmem => 0
  | .smem => 0
  | _ => 0

abbrev hbmTy0_0 (i : Nat) : BufTy := match i % 128 with
  | 0 => ⟨S16384x6, .i32⟩
  | 1 => ⟨S16384x6x4, .i32⟩
  | 2 => ⟨S16384x6, .i32⟩
  | 3 => ⟨S16384x6, .i32⟩
  | 4 => ⟨S16384x6, .i32⟩
  | 5 => ⟨S16384x6, .i32⟩
  | 6 => ⟨S16384x6, .i32⟩
  | 7 => ⟨S16384x6, .f32⟩
  | 8 => ⟨S16384x6, .f32⟩
  | 9 => ⟨S16384x6, .f32⟩
  | 10 => ⟨S16384x6, .f32⟩
  | 11 => ⟨S16384x6, .f32⟩
  | 12 => ⟨S16384x6, .f32⟩
  | 13 => ⟨S16384x6, .f32⟩
  | 14 => ⟨S16384x6x4, .f32⟩
  | 15 => ⟨S16384x6, .f32⟩
  | 16 => ⟨S16384x6, .f32⟩
  | 17 => ⟨S16384x6, .f32⟩
  | 18 => ⟨S16384x6, .f32⟩
  | 19 => ⟨S16384x1, .f32⟩
  | 20 => ⟨S16384x8, .f32⟩
  | 21 => ⟨S16384x8, .f32⟩
  | 22 => ⟨S16384x55, .f32⟩
  | 23 => ⟨S412x16, .f32⟩
  | 24 => ⟨S355x16, .f32⟩
  | 25 => ⟨S78x16, .f32⟩
  | 26 => ⟨S6x16, .f32⟩
  | 27 => ⟨S377x16, .f32⟩
  | 28 => ⟨S6x16, .f32⟩
  | 29 => ⟨S137x128, .f32⟩
  | 30 => ⟨S128, .f32⟩
  | 31 => ⟨S128x128, .f32⟩
  | 32 => ⟨S128, .f32⟩
  | 33 => ⟨S18x128, .f32⟩
  | 34 => ⟨S128, .f32⟩
  | 35 => ⟨S128x128, .f32⟩
  | 36 => ⟨S128, .f32⟩
  | 37 => ⟨S2x128, .f32⟩
  | 38 => ⟨S128, .f32⟩
  | 39 => ⟨S17x32, .f32⟩
  | 40 => ⟨S32, .f32⟩
  | 41 => ⟨S471x256, .f32⟩
  | 42 => ⟨S256, .f32⟩
  | 43 => ⟨S_, .i32⟩
  | 44 => ⟨S16384x6, .i32⟩
  | 45 => ⟨S16384x6, .i1⟩
  | 46 => ⟨S_, .i32⟩
  | 47 => ⟨S16384x6, .i32⟩
  | 48 => ⟨S16384x6, .i32⟩
  | 49 => ⟨S16384x6, .i32⟩
  | 50 => ⟨S16384x6x1, .i32⟩
  | 51 => ⟨S1, .i32⟩
  | 52 => ⟨S_, .i32⟩
  | 53 => ⟨S16384x6x1, .i32⟩
  | 54 => ⟨S16384x6x1, .i1⟩
  | 55 => ⟨S1x1x1, .i32⟩
  | 56 => ⟨S16384x6x1, .i32⟩
  | 57 => ⟨S16384x6x1, .i1⟩
  | 58 => ⟨S16384x6x1, .i1⟩
  | 59 => ⟨S_, .i1⟩
  | 60 => ⟨S16384x6, .i1⟩
  | 61 => ⟨S16384x6x16, .f32⟩
  | 62 => ⟨S16384x6x16, .i1⟩
  | 63 => ⟨S_, .f32⟩
  | 64 => ⟨S16384x6x16, .f32⟩
  | 65 => ⟨S16384x6x16, .f32⟩
  | 66 => ⟨S_, .i32⟩
  | 67 => ⟨S16384x6x4, .i32⟩
  | 68 => ⟨S16384x6x4, .i1⟩
  | 69 => ⟨S_, .i32⟩
  | 70 => ⟨S16384x6x4, .i32⟩
  | 71 => ⟨S16384x6x4, .i32⟩
  | 72 => ⟨S16384x6x4, .i32⟩
  | 73 => ⟨S16384x6x4x1, .i32⟩
  | 74 => ⟨S1, .i32⟩
  | 75 => ⟨S_, .i32⟩
  | 76 => ⟨S16384x6x4x1, .i32⟩
  | 77 => ⟨S16384x6x4x1, .i1⟩
  | 78 => ⟨S1x1x1x1, .i32⟩
  | 79 => ⟨S16384x6x4x1, .i32⟩
  | 80 => ⟨S16384x6x4x1, .i1⟩
  | 81 => ⟨S16384x6x4x1, .i1⟩
  | 82 => ⟨S_, .i1⟩
  | 83 => ⟨S16384x6x4, .i1⟩
  | 84 => ⟨S16384x6x4x16, .f32⟩
  | 85 => ⟨S16384x6x4x16, .i1⟩
  | 86 => ⟨S_, .f32⟩
  | 87 => ⟨S16384x6x4x16, .f32⟩
  | 88 => ⟨S16384x6x4x16, .f32⟩
  | 89 => ⟨S16384x6x64, .f32⟩
  | 90 => ⟨S_, .i32⟩
  | 91 => ⟨S16384x6, .i32⟩
  | 92 => ⟨S16384x6, .i1⟩
  | 93 => ⟨S_, .i32⟩
  | 94 => ⟨S16384x6, .i32⟩
  | 95 => ⟨S16384x6, .i32⟩
  | 96 => ⟨S16384x6, .i32⟩
  | 97 => ⟨S16384x6x1, .i32⟩
  | 98 => ⟨S1, .i32⟩
  | 99 => ⟨S_, .i32⟩
  | 100 => ⟨S16384x6x1, .i32⟩
  | 101 => ⟨S16384x6x1, .i1⟩
  | 102 => ⟨S1x1x1, .i32⟩
  | 103 => ⟨S16384x6x1, .i32⟩
  | 104 => ⟨S16384x6x1, .i1⟩
  | 105 => ⟨S16384x6x1, .i1⟩
  | 106 => ⟨S_, .i1⟩
  | 107 => ⟨S16384x6, .i1⟩
  | 108 => ⟨S16384x6x16, .f32⟩
  | 109 => ⟨S16384x6x16, .i1⟩
  | 110 => ⟨S_, .f32⟩
  | 111 => ⟨S16384x6x16, .f32⟩
  | 112 => ⟨S16384x6x16, .f32⟩
  | 113 => ⟨S_, .i32⟩
  | 114 => ⟨S16384x6, .i32⟩
  | 115 => ⟨S16384x6, .i1⟩
  | 116 => ⟨S_, .i32⟩
  | 117 => ⟨S16384x6, .i32⟩
  | 118 => ⟨S16384x6, .i32⟩
  | 119 => ⟨S16384x6, .i32⟩
  | 120 => ⟨S16384x6x1, .i32⟩
  | 121 => ⟨S1, .i32⟩
  | 122 => ⟨S_, .i32⟩
  | 123 => ⟨S16384x6x1, .i32⟩
  | 124 => ⟨S16384x6x1, .i1⟩
  | 125 => ⟨S1x1x1, .i32⟩
  | 126 => ⟨S16384x6x1, .i32⟩
  | 127 => ⟨S16384x6x1, .i1⟩
  | _ => ⟨S16384x6, .i32⟩

abbrev hbmTy0_1 (i : Nat) : BufTy := match i % 128 with
  | 0 => ⟨S16384x6x1, .i1⟩
  | 1 => ⟨S_, .i1⟩
  | 2 => ⟨S16384x6, .i1⟩
  | 3 => ⟨S16384x6x16, .f32⟩
  | 4 => ⟨S16384x6x16, .i1⟩
  | 5 => ⟨S_, .f32⟩
  | 6 => ⟨S16384x6x16, .f32⟩
  | 7 => ⟨S16384x6x16, .f32⟩
  | 8 => ⟨S_, .i32⟩
  | 9 => ⟨S16384x6, .i32⟩
  | 10 => ⟨S16384x6, .i1⟩
  | 11 => ⟨S_, .i32⟩
  | 12 => ⟨S16384x6, .i32⟩
  | 13 => ⟨S16384x6, .i32⟩
  | 14 => ⟨S16384x6, .i32⟩
  | 15 => ⟨S16384x6x1, .i32⟩
  | 16 => ⟨S1, .i32⟩
  | 17 => ⟨S_, .i32⟩
  | 18 => ⟨S16384x6x1, .i32⟩
  | 19 => ⟨S16384x6x1, .i1⟩
  | 20 => ⟨S1x1x1, .i32⟩
  | 21 => ⟨S16384x6x1, .i32⟩
  | 22 => ⟨S16384x6x1, .i1⟩
  | 23 => ⟨S16384x6x1, .i1⟩
  | 24 => ⟨S_, .i1⟩
  | 25 => ⟨S16384x6, .i1⟩
  | 26 => ⟨S16384x6x16, .f32⟩
  | 27 => ⟨S16384x6x16, .i1⟩
  | 28 => ⟨S_, .f32⟩
  | 29 => ⟨S16384x6x16, .f32⟩
  | 30 => ⟨S16384x6x16, .f32⟩
  | 31 => ⟨S16384x6x1, .f32⟩
  | 32 => ⟨S16384x6x1, .f32⟩
  | 33 => ⟨S_, .f32⟩
  | 34 => ⟨S16384x6x1, .f32⟩
  | 35 => ⟨S16384x6x1, .f32⟩
  | 36 => ⟨S16384x6x1, .f32⟩
  | 37 => ⟨S16384x6x1, .f32⟩
  | 38 => ⟨S16384x6x1, .f32⟩
  | 39 => ⟨S16384x6x1, .f32⟩
  | 40 => ⟨S16384x6x1, .f32⟩
  | 41 => ⟨S_, .f32⟩
  | 42 => ⟨S16384x6, .f32⟩
  | 43 => ⟨S16384x6x1, .f32⟩
  | 44 => ⟨S_, .f32⟩
  | 45 => ⟨S16384x6x1, .f32⟩
  | 46 => ⟨S16384x6x1, .f32⟩
  | 47 => ⟨S16384x6x1, .f32⟩
  | 48 => ⟨S16384x6x9, .f32⟩
  | 49 => ⟨S16384x6x137, .f32⟩
  | 50 => ⟨S16384x6x128, .f32⟩
  | 51 => ⟨S1x1x128, .f32⟩
  | 52 => ⟨S16384x6x128, .f32⟩
  | 53 => ⟨S16384x6x128, .f32⟩
  | 54 => ⟨S_, .f32⟩
  | 55 => ⟨S16384x6x128, .f32⟩
  | 56 => ⟨S16384x6x128, .f32⟩
  | 57 => ⟨S16384x6x128, .f32⟩
  | 58 => ⟨S1x1x128, .f32⟩
  | 59 => ⟨S16384x6x128, .f32⟩
  | 60 => ⟨S16384x6x128, .f32⟩
  | 61 => ⟨S_, .f32⟩
  | 62 => ⟨S16384x128, .f32⟩
  | 63 => ⟨S_, .f32⟩
  | 64 => ⟨S16384x128, .f32⟩
  | 65 => ⟨S16384x128, .f32⟩
  | 66 => ⟨S_, .i32⟩
  | 67 => ⟨S16384x6, .i32⟩
  | 68 => ⟨S16384x6, .i1⟩
  | 69 => ⟨S_, .i32⟩
  | 70 => ⟨S16384x6, .i32⟩
  | 71 => ⟨S16384x6, .i32⟩
  | 72 => ⟨S16384x6, .i32⟩
  | 73 => ⟨S16384x6x1, .i32⟩
  | 74 => ⟨S1, .i32⟩
  | 75 => ⟨S_, .i32⟩
  | 76 => ⟨S16384x6x1, .i32⟩
  | 77 => ⟨S16384x6x1, .i1⟩
  | 78 => ⟨S1x1x1, .i32⟩
  | 79 => ⟨S16384x6x1, .i32⟩
  | 80 => ⟨S16384x6x1, .i1⟩
  | 81 => ⟨S16384x6x1, .i1⟩
  | 82 => ⟨S_, .i1⟩
  | 83 => ⟨S16384x6, .i1⟩
  | 84 => ⟨S16384x6x16, .f32⟩
  | 85 => ⟨S16384x6x16, .i1⟩
  | 86 => ⟨S_, .f32⟩
  | 87 => ⟨S16384x6x16, .f32⟩
  | 88 => ⟨S16384x6x16, .f32⟩
  | 89 => ⟨S16384x6x1, .f32⟩
  | 90 => ⟨S16384x6x1, .f32⟩
  | 91 => ⟨S_, .f32⟩
  | 92 => ⟨S16384x6x1, .f32⟩
  | 93 => ⟨S16384x6x1, .f32⟩
  | 94 => ⟨S16384x6x2, .f32⟩
  | 95 => ⟨S16384x6x18, .f32⟩
  | 96 => ⟨S16384x6x128, .f32⟩
  | 97 => ⟨S1x1x128, .f32⟩
  | 98 => ⟨S16384x6x128, .f32⟩
  | 99 => ⟨S16384x6x128, .f32⟩
  | 100 => ⟨S_, .f32⟩
  | 101 => ⟨S16384x6x128, .f32⟩
  | 102 => ⟨S16384x6x128, .f32⟩
  | 103 => ⟨S16384x6x128, .f32⟩
  | 104 => ⟨S1x1x128, .f32⟩
  | 105 => ⟨S16384x6x128, .f32⟩
  | 106 => ⟨S16384x6x128, .f32⟩
  | 107 => ⟨S_, .f32⟩
  | 108 => ⟨S16384x128, .f32⟩
  | 109 => ⟨S_, .f32⟩
  | 110 => ⟨S16384x128, .f32⟩
  | 111 => ⟨S16384x128, .f32⟩
  | 112 => ⟨S_, .f32⟩
  | 113 => ⟨S16384, .f32⟩
  | 114 => ⟨S16384x1, .f32⟩
  | 115 => ⟨S_, .f32⟩
  | 116 => ⟨S16384x1, .f32⟩
  | 117 => ⟨S16384x1, .f32⟩
  | 118 => ⟨S16384x6, .f32⟩
  | 119 => ⟨S_, .f32⟩
  | 120 => ⟨S16384x6, .f32⟩
  | 121 => ⟨S16384x6, .f32⟩
  | 122 => ⟨S_, .f32⟩
  | 123 => ⟨S16384, .f32⟩
  | 124 => ⟨S16384x1, .f32⟩
  | 125 => ⟨S_, .f32⟩
  | 126 => ⟨S16384x1, .f32⟩
  | 127 => ⟨S16384x1, .f32⟩
  | _ => ⟨S16384x6, .i32⟩

abbrev hbmTy0_2 (i : Nat) : BufTy := match i % 128 with
  | 0 => ⟨S16384x2, .f32⟩
  | 1 => ⟨S16384x128, .f32⟩
  | 2 => ⟨S1x128, .f32⟩
  | 3 => ⟨S16384x128, .f32⟩
  | 4 => ⟨S16384x128, .f32⟩
  | 5 => ⟨S16384x17, .f32⟩
  | 6 => ⟨S16384x32, .f32⟩
  | 7 => ⟨S1x32, .f32⟩
  | 8 => ⟨S16384x32, .f32⟩
  | 9 => ⟨S16384x32, .f32⟩
  | 10 => ⟨S_, .f32⟩
  | 11 => ⟨S16384x32, .f32⟩
  | 12 => ⟨S16384x32, .f32⟩
  | 13 => ⟨S16384x471, .f32⟩
  | 14 => ⟨S16384x256, .f32⟩
  | 15 => ⟨S1x256, .f32⟩
  | 16 => ⟨S16384x256, .f32⟩
  | 17 => ⟨S16384x256, .f32⟩
  | 18 => ⟨S_, .f32⟩
  | 19 => ⟨S16384x256, .f32⟩
  | 20 => ⟨S16384x256, .f32⟩
  | _ => ⟨S16384x6, .i32⟩

abbrev hbmTy (i : Nat) : BufTy := match i / 128 with
  | 0 => hbmTy0_0 i
  | 1 => hbmTy0_1 i
  | 2 => hbmTy0_2 i
  | _ => ⟨S16384x6, .i32⟩

abbrev bufTy : (tb : Table) → Fin (tcTables nBuf tb) → BufTy
  | .hbm, ⟨i, _⟩ => hbmTy i
  | _, _ => ⟨S16384x6, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_call0_c : Ref sig .tc := ⟨.hbm, 43, rfl⟩
abbrev main_call0_v0 : Ref sig .tc := ⟨.hbm, 44, rfl⟩
abbrev main_call0_v1 : Ref sig .tc := ⟨.hbm, 45, rfl⟩
abbrev main_call0_c_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_c_1 : Ref sig .tc := ⟨.hbm, 51, rfl⟩
abbrev main_call0_c_2 : Ref sig .tc := ⟨.hbm, 52, rfl⟩
abbrev main_call0_v6 : Ref sig .tc := ⟨.hbm, 53, rfl⟩
abbrev main_call0_v7 : Ref sig .tc := ⟨.hbm, 54, rfl⟩
abbrev main_call0_v8 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_3 : Ref sig .tc := ⟨.hbm, 59, rfl⟩
abbrev main_call0_v12 : Ref sig .tc := ⟨.hbm, 60, rfl⟩
abbrev main_call0_v13 : Ref sig .tc := ⟨.hbm, 61, rfl⟩
abbrev main_call0_v14 : Ref sig .tc := ⟨.hbm, 62, rfl⟩
abbrev main_call0_cst : Ref sig .tc := ⟨.hbm, 63, rfl⟩
abbrev main_call0_v15 : Ref sig .tc := ⟨.hbm, 64, rfl⟩
abbrev main_v0 : Ref sig .tc := ⟨.hbm, 65, rfl⟩
abbrev main_call1_c : Ref sig .tc := ⟨.hbm, 66, rfl⟩
abbrev main_call1_v0 : Ref sig .tc := ⟨.hbm, 67, rfl⟩
abbrev main_call1_v1 : Ref sig .tc := ⟨.hbm, 68, rfl⟩
abbrev main_call1_c_0 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_call1_v5 : Ref sig .tc := ⟨.hbm, 73, rfl⟩
abbrev main_call1_c_1 : Ref sig .tc := ⟨.hbm, 74, rfl⟩
abbrev main_call1_c_2 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_call1_c_3 : Ref sig .tc := ⟨.hbm, 82, rfl⟩
abbrev main_call1_v12 : Ref sig .tc := ⟨.hbm, 83, rfl⟩
abbrev main_call1_v13 : Ref sig .tc := ⟨.hbm, 84, rfl⟩
abbrev main_call1_v14 : Ref sig .tc := ⟨.hbm, 85, rfl⟩
abbrev main_call1_cst : Ref sig .tc := ⟨.hbm, 86, rfl⟩
abbrev main_call1_v15 : Ref sig .tc := ⟨.hbm, 87, rfl⟩
abbrev main_v1 : Ref sig .tc := ⟨.hbm, 88, rfl⟩
abbrev main_v2 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v3 : Ref sig .tc := ⟨.hbm, 112, rfl⟩
abbrev main_call3_c : Ref sig .tc := ⟨.hbm, 113, rfl⟩
abbrev main_call3_v0 : Ref sig .tc := ⟨.hbm, 114, rfl⟩
abbrev main_call3_v1 : Ref sig .tc := ⟨.hbm, 115, rfl⟩
abbrev main_call3_c_0 : Ref sig .tc := ⟨.hbm, 116, rfl⟩
abbrev main_call3_v2 : Ref sig .tc := ⟨.hbm, 117, rfl⟩
abbrev main_call3_v3 : Ref sig .tc := ⟨.hbm, 118, rfl⟩
abbrev main_call3_v4 : Ref sig .tc := ⟨.hbm, 119, rfl⟩
abbrev main_call3_v5 : Ref sig .tc := ⟨.hbm, 120, rfl⟩
abbrev main_call3_c_1 : Ref sig .tc := ⟨.hbm, 121, rfl⟩
abbrev main_call3_c_2 : Ref sig .tc := ⟨.hbm, 122, rfl⟩
abbrev main_call3_v6 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_3 : Ref sig .tc := ⟨.hbm, 129, rfl⟩
abbrev main_call3_v12 : Ref sig .tc := ⟨.hbm, 130, rfl⟩
abbrev main_call3_v13 : Ref sig .tc := ⟨.hbm, 131, rfl⟩
abbrev main_call3_v14 : Ref sig .tc := ⟨.hbm, 132, rfl⟩
abbrev main_call3_cst : Ref sig .tc := ⟨.hbm, 133, rfl⟩
abbrev main_call3_v15 : Ref sig .tc := ⟨.hbm, 134, rfl⟩
abbrev main_v4 : Ref sig .tc := ⟨.hbm, 135, rfl⟩
abbrev main_call4_c : Ref sig .tc := ⟨.hbm, 136, rfl⟩
abbrev main_call4_v0 : Ref sig .tc := ⟨.hbm, 137, rfl⟩
abbrev main_call4_v1 : Ref sig .tc := ⟨.hbm, 138, rfl⟩
abbrev main_call4_c_0 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_call4_v5 : Ref sig .tc := ⟨.hbm, 143, rfl⟩
abbrev main_call4_c_1 : Ref sig .tc := ⟨.hbm, 144, rfl⟩
abbrev main_call4_c_2 : Ref sig .tc := ⟨.hbm, 145, rfl⟩
abbrev main_call4_v6 : Ref sig .tc := ⟨.hbm, 146, rfl⟩
abbrev main_call4_v7 : Ref sig .tc := ⟨.hbm, 147, rfl⟩
abbrev main_call4_v8 : Ref sig .tc := ⟨.hbm, 148, rfl⟩
abbrev main_call4_v9 : Ref sig .tc := ⟨.hbm, 149, rfl⟩
abbrev main_call4_v10 : Ref sig .tc := ⟨.hbm, 150, rfl⟩
abbrev main_call4_v11 : Ref sig .tc := ⟨.hbm, 151, rfl⟩
abbrev main_call4_c_3 : Ref sig .tc := ⟨.hbm, 152, rfl⟩
abbrev main_call4_v12 : Ref sig .tc := ⟨.hbm, 153, rfl⟩
abbrev main_call4_v13 : Ref sig .tc := ⟨.hbm, 154, rfl⟩
abbrev main_call4_v14 : Ref sig .tc := ⟨.hbm, 155, rfl⟩
abbrev main_call4_cst : Ref sig .tc := ⟨.hbm, 156, rfl⟩
abbrev main_call4_v15 : Ref sig .tc := ⟨.hbm, 157, rfl⟩
abbrev main_v5 : Ref sig .tc := ⟨.hbm, 158, rfl⟩
abbrev main_v6 : Ref sig .tc := ⟨.hbm, 159, rfl⟩
abbrev main_v7 : Ref sig .tc := ⟨.hbm, 160, rfl⟩
abbrev main_cst : Ref sig .tc := ⟨.hbm, 161, rfl⟩
abbrev main_v8 : Ref sig .tc := ⟨.hbm, 162, rfl⟩
abbrev main_v9 : Ref sig .tc := ⟨.hbm, 163, rfl⟩
abbrev main_v10 : Ref sig .tc := ⟨.hbm, 164, rfl⟩
abbrev main_v11 : Ref sig .tc := ⟨.hbm, 165, rfl⟩
abbrev main_v12 : Ref sig .tc := ⟨.hbm, 166, rfl⟩
abbrev main_v13 : Ref sig .tc := ⟨.hbm, 167, rfl⟩
abbrev main_v14 : Ref sig .tc := ⟨.hbm, 168, rfl⟩
abbrev main_cst_0 : Ref sig .tc := ⟨.hbm, 169, rfl⟩
abbrev main_v15 : Ref sig .tc := ⟨.hbm, 170, rfl⟩
abbrev main_v16 : Ref sig .tc := ⟨.hbm, 171, rfl⟩
abbrev main_cst_1 : Ref sig .tc := ⟨.hbm, 172, rfl⟩
abbrev main_v17 : Ref sig .tc := ⟨.hbm, 173, rfl⟩
abbrev main_v18 : Ref sig .tc := ⟨.hbm, 174, rfl⟩
abbrev main_v19 : Ref sig .tc := ⟨.hbm, 175, rfl⟩
abbrev main_v20 : Ref sig .tc := ⟨.hbm, 176, rfl⟩
abbrev main_v21 : Ref sig .tc := ⟨.hbm, 177, rfl⟩
abbrev main_v22 : Ref sig .tc := ⟨.hbm, 178, rfl⟩
abbrev main_v23 : Ref sig .tc := ⟨.hbm, 179, rfl⟩
abbrev main_v24 : Ref sig .tc := ⟨.hbm, 180, rfl⟩
abbrev main_v25 : Ref sig .tc := ⟨.hbm, 181, rfl⟩
abbrev main_call5_cst : Ref sig .tc := ⟨.hbm, 182, rfl⟩
abbrev main_call5_v0 : Ref sig .tc := ⟨.hbm, 183, rfl⟩
abbrev main_v26 : Ref sig .tc := ⟨.hbm, 184, rfl⟩
abbrev main_v27 : Ref sig .tc := ⟨.hbm, 185, rfl⟩
abbrev main_v28 : Ref sig .tc := ⟨.hbm, 186, rfl⟩
abbrev main_v29 : Ref sig .tc := ⟨.hbm, 187, rfl⟩
abbrev main_v30 : Ref sig .tc := ⟨.hbm, 188, rfl⟩
abbrev main_cst_2 : Ref sig .tc := ⟨.hbm, 189, rfl⟩
abbrev main_v31 : Ref sig .tc := ⟨.hbm, 190, rfl⟩
abbrev main_cst_3 : Ref sig .tc := ⟨.hbm, 191, rfl⟩
abbrev main_v32 : Ref sig .tc := ⟨.hbm, 192, rfl⟩
abbrev main_v33 : Ref sig .tc := ⟨.hbm, 193, rfl⟩
abbrev main_call6_c : Ref sig .tc := ⟨.hbm, 194, rfl⟩
abbrev main_call6_v0 : Ref sig .tc := ⟨.hbm, 195, rfl⟩
abbrev main_call6_v1 : Ref sig .tc := ⟨.hbm, 196, rfl⟩
abbrev main_call6_c_0 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_v5 : Ref sig .tc := ⟨.hbm, 201, rfl⟩
abbrev main_call6_c_1 : Ref sig .tc := ⟨.hbm, 202, rfl⟩
abbrev main_call6_c_2 : Ref sig .tc := ⟨.hbm, 203, rfl⟩
abbrev main_call6_v6 : Ref sig .tc := ⟨.hbm, 204, rfl⟩
abbrev main_call6_v7 : Ref sig .tc := ⟨.hbm, 205, rfl⟩
abbrev main_call6_v8 : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_c_3 : Ref sig .tc := ⟨.hbm, 210, rfl⟩
abbrev main_call6_v12 : Ref sig .tc := ⟨.hbm, 211, rfl⟩
abbrev main_call6_v13 : Ref sig .tc := ⟨.hbm, 212, rfl⟩
abbrev main_call6_v14 : Ref sig .tc := ⟨.hbm, 213, rfl⟩
abbrev main_call6_cst : Ref sig .tc := ⟨.hbm, 214, rfl⟩
abbrev main_call6_v15 : Ref sig .tc := ⟨.hbm, 215, rfl⟩
abbrev main_v34 : Ref sig .tc := ⟨.hbm, 216, rfl⟩
abbrev main_v35 : Ref sig .tc := ⟨.hbm, 217, rfl⟩
abbrev main_v36 : Ref sig .tc := ⟨.hbm, 218, rfl⟩
abbrev main_cst_4 : Ref sig .tc := ⟨.hbm, 219, rfl⟩
abbrev main_v37 : Ref sig .tc := ⟨.hbm, 220, rfl⟩
abbrev main_v38 : Ref sig .tc := ⟨.hbm, 221, rfl⟩
abbrev main_v39 : Ref sig .tc := ⟨.hbm, 222, rfl⟩
abbrev main_v40 : Ref sig .tc := ⟨.hbm, 223, rfl⟩
abbrev main_v41 : Ref sig .tc := ⟨.hbm, 224, rfl⟩
abbrev main_v42 : Ref sig .tc := ⟨.hbm, 225, rfl⟩
abbrev main_v43 : Ref sig .tc := ⟨.hbm, 226, rfl⟩
abbrev main_v44 : Ref sig .tc := ⟨.hbm, 227, rfl⟩
abbrev main_call7_cst : Ref sig .tc := ⟨.hbm, 228, rfl⟩
abbrev main_call7_v0 : Ref sig .tc := ⟨.hbm, 229, rfl⟩
abbrev main_v45 : Ref sig .tc := ⟨.hbm, 230, rfl⟩
abbrev main_v46 : Ref sig .tc := ⟨.hbm, 231, rfl⟩
abbrev main_v47 : Ref sig .tc := ⟨.hbm, 232, rfl⟩
abbrev main_v48 : Ref sig .tc := ⟨.hbm, 233, rfl⟩
abbrev main_v49 : Ref sig .tc := ⟨.hbm, 234, rfl⟩
abbrev main_cst_5 : Ref sig .tc := ⟨.hbm, 235, rfl⟩
abbrev main_v50 : Ref sig .tc := ⟨.hbm, 236, rfl⟩
abbrev main_cst_6 : Ref sig .tc := ⟨.hbm, 237, rfl⟩
abbrev main_v51 : Ref sig .tc := ⟨.hbm, 238, rfl⟩
abbrev main_v52 : Ref sig .tc := ⟨.hbm, 239, rfl⟩
abbrev main_cst_7 : Ref sig .tc := ⟨.hbm, 240, rfl⟩
abbrev main_v53 : Ref sig .tc := ⟨.hbm, 241, rfl⟩
abbrev main_v54 : Ref sig .tc := ⟨.hbm, 242, rfl⟩
abbrev main_cst_8 : Ref sig .tc := ⟨.hbm, 243, rfl⟩
abbrev main_v55 : Ref sig .tc := ⟨.hbm, 244, rfl⟩
abbrev main_v56 : Ref sig .tc := ⟨.hbm, 245, rfl⟩
abbrev main_v57 : Ref sig .tc := ⟨.hbm, 246, rfl⟩
abbrev main_cst_9 : Ref sig .tc := ⟨.hbm, 247, rfl⟩
abbrev main_v58 : Ref sig .tc := ⟨.hbm, 248, rfl⟩
abbrev main_v59 : Ref sig .tc := ⟨.hbm, 249, rfl⟩
abbrev main_cst_10 : Ref sig .tc := ⟨.hbm, 250, rfl⟩
abbrev main_v60 : Ref sig .tc := ⟨.hbm, 251, rfl⟩
abbrev main_v61 : Ref sig .tc := ⟨.hbm, 252, rfl⟩
abbrev main_cst_11 : Ref sig .tc := ⟨.hbm, 253, rfl⟩
abbrev main_v62 : Ref sig .tc := ⟨.hbm, 254, rfl⟩
abbrev main_v63 : Ref sig .tc := ⟨.hbm, 255, rfl⟩
abbrev main_v64 : Ref sig .tc := ⟨.hbm, 256, rfl⟩
abbrev main_v65 : Ref sig .tc := ⟨.hbm, 257, rfl⟩
abbrev main_v66 : Ref sig .tc := ⟨.hbm, 258, rfl⟩
abbrev main_v67 : Ref sig .tc := ⟨.hbm, 259, rfl⟩
abbrev main_v68 : Ref sig .tc := ⟨.hbm, 260, rfl⟩
abbrev main_v69 : Ref sig .tc := ⟨.hbm, 261, rfl⟩
abbrev main_v70 : Ref sig .tc := ⟨.hbm, 262, rfl⟩
abbrev main_v71 : Ref sig .tc := ⟨.hbm, 263, rfl⟩
abbrev main_v72 : Ref sig .tc := ⟨.hbm, 264, rfl⟩
abbrev main_v73 : Ref sig .tc := ⟨.hbm, 265, rfl⟩
abbrev main_call8_cst : Ref sig .tc := ⟨.hbm, 266, rfl⟩
abbrev main_call8_v0 : Ref sig .tc := ⟨.hbm, 267, rfl⟩
abbrev main_v74 : Ref sig .tc := ⟨.hbm, 268, rfl⟩
abbrev main_v75 : Ref sig .tc := ⟨.hbm, 269, rfl⟩
abbrev main_v76 : Ref sig .tc := ⟨.hbm, 270, rfl⟩
abbrev main_v77 : Ref sig .tc := ⟨.hbm, 271, rfl⟩
abbrev main_v78 : Ref sig .tc := ⟨.hbm, 272, rfl⟩
abbrev main_v79 : Ref sig .tc := ⟨.hbm, 273, rfl⟩
abbrev main_call9_cst : Ref sig .tc := ⟨.hbm, 274, rfl⟩
abbrev main_call9_v0 : Ref sig .tc := ⟨.hbm, 275, rfl⟩
abbrev main_v80 : Ref sig .tc := ⟨.hbm, 276, rfl⟩

abbrev nD : Nat := 1
abbrev τ : Topo := Topo.v7x

variable {F : FTy → Type} [FloatOps F]
-- ==== Proof.TileProg.lean ====
/- The SparseCore kernel's body, written once more in short: every chunk is the same three pieces of text — the copy of
   its 1536 indices into tile memory, the 96 trips that gather sixteen rows of the table each, and the copy of the
   gathered rows out — so each piece is named once, with the chunk's number and the scratch row as its parameters, and
   the printed body is shown to be those pieces in order. -/
module

public import proofs.«01_k».proof.Proof.Gen.KernelIdeal
public import Idealize.ShloMosaic.Lib.SparseCore
public import Idealize.ShloMosaic.Lib.Pipeline.Regions

@[expose] public section

noncomputable section

namespace Cert.KernelIdeal.Gather

open Idealize.ShloMosaic Idealize.SL.Sem
open Cert.KernelIdeal Cert.KernelIdeal.Facts₀ Cert.KernelIdeal.Facts

variable {F : FTy → Type} [FloatOps F] [Named F]

/-- The programs of the tile at grid point `i`. -/
abbrev TileProg (i : grid0.Coords) (α : Type) : Type 1 :=
  Prog (TpuEff nD τ sig (Elt F) Λ₀ (.scVector ((i 0).castLE hcore0) ((i 1).castLE hsub0))) α

/-- The sixteen lanes' numbers. -/
def lane : IVec S16 32 := iota .scVector S16 32 [0] iota_S16_d0_w32_scVector

/-- The lanes' numbers rotated by `d`: the column each lane reads and writes in the `d`-th of the sixteen turns. -/
def rot (d : BitVec 32) : IVec S16 32 := andi (addi lane (broadcast S16 d)) (broadcast S16 15#32)

/-- Where in a block of sixteen rows of sixteen the `d`-th turn's lanes write. -/
def spot (d : BitVec 32) : IVec S16 32 := addi (muli lane (broadcast S16 16#32)) (rot d)

/-- The two rows of the staging scratch, each as 24576 words. -/
def slot0 (arg7 : Memref sig .scVector .vmem S2x24576 .f32) : Memref sig .scVector .vmem S24576 .f32 :=
  (arg7.slice (Rect.unit (s := S2x24576) ![0, 0] S1x24576.size inb_S2x24576_S1x24576_0_0) (fun _ => rfl)).squeeze S24576 squeezes_S1x24576_S24576

@[inherit_doc slot0]
def slot1 (arg7 : Memref sig .scVector .vmem S2x24576 .f32) : Memref sig .scVector .vmem S24576 .f32 :=
  (arg7.slice (Rect.unit (s := S2x24576) ![1, 0] S1x24576.size inb_S2x24576_S1x24576_1_0) (fun _ => rfl)).squeeze S24576 squeezes_S1x24576_S24576

/-- The indices of chunk `k` of the tile at `i`. -/
def idxSlice (i : grid0.Coords) (arg3 : Memref sig .scVector .hbm S786432 .i32) (k : Fin 16) : Memref sig .scVector .hbm S1536 .i32 :=
  arg3.slice (Rect.unit (s := S786432) (k0_off1 i (BitVec.ofNat 32 (1536 * k.val))) S1536.size (k0_off1_inb i k)) (fun _ => rfl)

/-- The rows chunk `k` of the tile at `i` writes. -/
def outSlice (i : grid0.Coords) (arg4 : Memref sig .scVector .hbm S12582912 .f32) (k : Fin 16) : Memref sig .scVector .hbm S24576 .f32 :=
  arg4.slice (Rect.unit (s := S12582912) (k0_off3 i (BitVec.ofNat 32 (1536 * k.val))) S24576.size (k0_off3_inb i k)) (fun _ => rfl)

/-- The table, copied into tile memory. -/
def copyTable (i : grid0.Coords) (arg2 : Memref sig .scVector .hbm S19648 .f32) (harg2 : arg2.IsWhole)
    (arg5 : Memref sig .scVector .vmem S19648 .f32) (harg5 : arg5.IsWhole) (s : DmaSem sig) : TileProg (F := F) i PUnit := do
  Prog.lift (.enqueueDma arg2 (.here arg5) (.dma s) harg2.wordExact harg5.wordExact ⟨Or.inl rfl, trivial⟩)
  Prog.lift (.waitDma2 s arg2 arg5 harg2.wordExact harg5.wordExact)

/-- Chunk `k`'s indices, copied into tile memory. -/
def copyIdx (i : grid0.Coords) (arg3 : Memref sig .scVector .hbm S786432 .i32)
    (arg6 : Memref sig .scVector .vmem S1536 .i32) (harg6 : arg6.IsWhole) (k : Fin 16) (s : DmaSem sig) : TileProg (F := F) i PUnit := do
  Prog.lift (.enqueueDma (idxSlice i arg3 k) (.here arg6) (.dma s) (View.wordExact_bits rfl) harg6.wordExact ⟨Or.inl rfl, trivial⟩)
  Prog.lift (.waitDma2 s (idxSlice i arg3 k) arg6 (View.wordExact_bits rfl) harg6.wordExact)

/-- The start of a staged row's copy out. -/
def sendRow (i : grid0.Coords) (arg4 : Memref sig .scVector .hbm S12582912 .f32) (k : Fin 16)
    (row : Memref sig .scVector .vmem S24576 .f32) (hrow : row.view.WordExact) (s : DmaSem sig) : TileProg (F := F) i PUnit :=
  Prog.lift (.enqueueDma row (.here (outSlice i arg4 k)) (.dma s) hrow (View.wordExact_bits rfl) ⟨Or.inl rfl, trivial⟩)

/-- The wait for that copy. -/
def awaitRow (i : grid0.Coords) (arg4 : Memref sig .scVector .hbm S12582912 .f32) (k : Fin 16)
    (row : Memref sig .scVector .vmem S24576 .f32) (hrow : row.view.WordExact) (s : DmaSem sig) : TileProg (F := F) i PUnit :=
  Prog.lift (.waitDma2 s row (outSlice i arg4 k) hrow (View.wordExact_bits rfl))

/-- One turn of a trip: sixteen words of the table at `addr`, written to the staged row at `pos`. -/
def turn (i : grid0.Coords) (arg5 : Memref sig .scVector .vmem S19648 .f32) (row : Memref sig .scVector .vmem S24576 .f32)
    (addr pos : IVec S16 32) : TileProg (F := F) i PUnit := do
  have ha : k0_chk1 addr := (← Prog.lift (TpuEff.assume (k0_chk1 addr) (k0_chk1.dec addr))).down
  let v : Vec F S16 .f32 ← SparseCore.vectorLoadIdx arg5 ![addr] (k0_idx1_inb addr ha) (View.loads_vmem h_S19648)
  have hp : k0_chk2 pos := (← Prog.lift (TpuEff.assume (k0_chk2 pos) (k0_chk2.dec pos))).down
  SparseCore.vectorStoreIdx row ![pos] v (fun _ => 1#1) false (k0_idx2_inb pos hp) (View.stores_vmem_bits_univ h_S24576 rfl)

/-- The sixteen turns of trip `t`, which copy the rows of the table that the sixteen indices `v` name. The loop's lower
    bound and step are parameters as the printed trip takes them. -/
def turns (i : grid0.Coords) (arg5 : Memref sig .scVector .vmem S19648 .f32) (row : Memref sig .scVector .vmem S24576 .f32)
    (lb st : BitVec 32) (t : Fin k0_t1_loop.trips) (v : IVec S16 32) : TileProg (F := F) i PUnit := do
  have a : IVec S16 32 := muli v (broadcast S16 16#32)
  have b : IVec S16 32 := broadcast S16 (Scalar.muli (Scf.iv lb st t) 256#32)
  turn i arg5 row (addi a (rot 0#32)) (addi (spot 0#32) b)
  turn i arg5 row (addi a (rot 1#32)) (addi (spot 1#32) b)
  turn i arg5 row (addi a (rot 2#32)) (addi (spot 2#32) b)
  turn i arg5 row (addi a (rot 3#32)) (addi (spot 3#32) b)
  turn i arg5 row (addi a (rot 4#32)) (addi (spot 4#32) b)
  turn i arg5 row (addi a (rot 5#32)) (addi (spot 5#32) b)
  turn i arg5 row (addi a (rot 6#32)) (addi (spot 6#32) b)
  turn i arg5 row (addi a (rot 7#32)) (addi (spot 7#32) b)
  turn i arg5 row (addi a (rot 8#32)) (addi (spot 8#32) b)
  turn i arg5 row (addi a (rot 9#32)) (addi (spot 9#32) b)
  turn i arg5 row (addi a (rot 10#32)) (addi (spot 10#32) b)
  turn i arg5 row (addi a (rot 11#32)) (addi (spot 11#32) b)
  turn i arg5 row (addi a (rot 12#32)) (addi (spot 12#32) b)
  turn i arg5 row (addi a (rot 13#32)) (addi (spot 13#32) b)
  turn i arg5 row (addi a (rot 14#32)) (addi (spot 14#32) b)
  turn i arg5 row (addi a (rot 15#32)) (addi (spot 15#32) b)

/-- Trip `t` of a chunk: its sixteen indices, and their turns. -/
def trip (i : grid0.Coords) (arg5 : Memref sig .scVector .vmem S19648 .f32) (arg6 : Memref sig .scVector .vmem S1536 .i32)
    (row : Memref sig .scVector .vmem S24576 .f32) (lb st : BitVec 32) (t : Fin k0_t1_loop.trips) : TileProg (F := F) i PUnit := do
  let v : Vec F S16 .i32 ← Prog.lift (.load arg6 (Rect.unit (s := S1536) (k0_off2 t) S16.size (k0_off2_inb t)).toLoadRect (View.loadsAt_vmem h_S16))
  turns i arg5 row lb st t v

/-- The 96 trips of a chunk. -/
def gatherRow (i : grid0.Coords) (arg5 : Memref sig .scVector .vmem S19648 .f32) (arg6 : Memref sig .scVector .vmem S1536 .i32)
    (row : Memref sig .scVector .vmem S24576 .f32) (lb : BitVec 32) : TileProg (F := F) i PUnit :=
  Scf.Loop.for k0_t1_loop k0_t1_ok ⟨⟩ fun t _ => do
    trip i arg5 arg6 row lb 1#32 t
    pure ⟨⟩

section Body

variable (i : grid0.Coords) (arg2 : Memref sig .scVector .hbm S19648 .f32) (harg2 : arg2.IsWhole)
    (arg3 : Memref sig .scVector .hbm S786432 .i32) (arg4 : Memref sig .scVector .hbm S12582912 .f32)
    (arg5 : Memref sig .scVector .vmem S19648 .f32) (harg5 : arg5.IsWhole)
    (arg6 : Memref sig .scVector .vmem S1536 .i32) (harg6 : arg6.IsWhole)
    (arg7 : Memref sig .scVector .vmem S2x24576 .f32) (s8 s9 : DmaSem sig) (r : Fin 17 → DmaSem sig)

theorem slot0_exact (arg7 : Memref sig .scVector .vmem S2x24576 .f32) : (slot0 arg7).view.WordExact := (View.wordExact_bits rfl).reshape _ _
theorem slot1_exact (arg7 : Memref sig .scVector .vmem S2x24576 .f32) : (slot1 arg7).view.WordExact := (View.wordExact_bits rfl).reshape _ _

/-- The number of the tile's first index. -/
def firstIdx : BitVec 32 :=
  Scalar.muli (Scalar.addi (Scalar.muli (BitVec.ofNat 32 (i 1).val) 2#32) (BitVec.ofNat 32 (i 0).val)) 24576#32

/-- The body, cut where the printed one is. -/
def cutBody : TileProg (F := F) i PUnit := do
  copyTable i arg2 harg2 arg5 harg5 (r 0)
  copyIdx i arg3 arg6 harg6 0 (r 1)
  (do gatherRow i arg5 arg6 (slot0 arg7) 0#32
      sendRow i arg4 0 (slot0 arg7) (slot0_exact arg7) s8
      copyIdx i arg3 arg6 harg6 1 (r 2)
      gatherRow i arg5 arg6 (slot1 arg7) 0#32
      sendRow i arg4 1 (slot1 arg7) (slot1_exact arg7) s9)
  let ⟨z, _⟩ : Σ' (_ : BitVec 32), BitVec 32 ←
   (do awaitRow i arg4 0 (slot0 arg7) (slot0_exact arg7) s8
       copyIdx i arg3 arg6 harg6 2 (r 3)
       gatherRow i arg5 arg6 (slot0 arg7) 0#32
       sendRow i arg4 2 (slot0 arg7) (slot0_exact arg7) s8
       awaitRow i arg4 1 (slot1 arg7) (slot1_exact arg7) s9
       copyIdx i arg3 arg6 harg6 3 (r 4)
       pure ⟨0#32, 96#32⟩)
  (do gatherRow i arg5 arg6 (slot1 arg7) z
      sendRow i arg4 3 (slot1 arg7) (slot1_exact arg7) s9
      awaitRow i arg4 2 (slot0 arg7) (slot0_exact arg7) s8
      copyIdx i arg3 arg6 harg6 4 (r 5)
      gatherRow i arg5 arg6 (slot0 arg7) 0#32
      pure ⟨⟩)
  (do sendRow i arg4 4 (slot0 arg7) (slot0_exact arg7) s8
      awaitRow i arg4 3 (slot1 arg7) (slot1_exact arg7) s9
      copyIdx i arg3 arg6 harg6 5 (r 6)
      gatherRow i arg5 arg6 (slot1 arg7) 0#32
      sendRow i arg4 5 (slot1 arg7) (slot1_exact arg7) s9
      awaitRow i arg4 4 (slot0 arg7) (slot0_exact arg7) s8
      pure ⟨⟩)
  (do copyIdx i arg3 arg6 harg6 6 (r 7)
      gatherRow i arg5 arg6 (slot0 arg7) 0#32
      sendRow i arg4 6 (slot0 arg7) (slot0_exact arg7) s8
      awaitRow i arg4 5 (slot1 arg7) (slot1_exact arg7) s9
      copyIdx i arg3 arg6 harg6 7 (r 8)
      gatherRow i arg5 arg6 (slot1 arg7) 0#32
      pure ⟨⟩)
  let _ : BitVec 32 ←
   (do sendRow i arg4 7 (slot1 arg7) (slot1_exact arg7) s9
       awaitRow i arg4 6 (slot0 arg7) (slot0_exact arg7) s8
       copyIdx i arg3 arg6 harg6 8 (r 9)
       gatherRow i arg5 arg6 (slot0 arg7) 0#32
       sendRow i arg4 8 (slot0 arg7) (slot0_exact arg7) s8
       pure (Scalar.addi (firstIdx i) 10752#32))
  (do awaitRow i arg4 7 (slot1 arg7) (slot1_exact arg7) s9
      copyIdx i arg3 arg6 harg6 9 (r 10)
      gatherRow i arg5 arg6 (slot1 arg7) 0#32
      sendRow i arg4 9 (slot1 arg7) (slot1_exact arg7) s9
      awaitRow i arg4 8 (slot0 arg7) (slot0_exact arg7) s8
      pure ⟨⟩)
  (do copyIdx i arg3 arg6 harg6 10 (r 11)
      gatherRow i arg5 arg6 (slot0 arg7) 0#32
      sendRow i arg4 10 (slot0 arg7) (slot0_exact arg7) s8
      awaitRow i arg4 9 (slot1 arg7) (slot1_exact arg7) s9
      copyIdx i arg3 arg6 harg6 11 (r 12)
      gatherRow i arg5 arg6 (slot1 arg7) 0#32
      pure ⟨⟩)
  (do sendRow i arg4 11 (slot1 arg7) (slot1_exact arg7) s9
      awaitRow i arg4 10 (slot0 arg7) (slot0_exact arg7) s8
      copyIdx i arg3 arg6 harg6 12 (r 13)
      gatherRow i arg5 arg6 (slot0 arg7) 0#32
      sendRow i arg4 12 (slot0 arg7) (slot0_exact arg7) s8
      pure ⟨⟩)
  (do awaitRow i arg4 11 (slot1 arg7) (slot1_exact arg7) s9
      copyIdx i arg3 arg6 harg6 13 (r 14)
      gatherRow i arg5 arg6 (slot1 arg7) 0#32
      sendRow i arg4 13 (slot1 arg7) (slot1_exact arg7) s9
      awaitRow i arg4 12 (slot0 arg7) (slot0_exact arg7) s8
      copyIdx i arg3 arg6 harg6 14 (r 15)
      pure ⟨⟩)
  (do gatherRow i arg5 arg6 (slot0 arg7) 0#32
      sendRow i arg4 14 (slot0 arg7) (slot0_exact arg7) s8
      awaitRow i arg4 13 (slot1 arg7) (slot1_exact arg7) s9
      copyIdx i arg3 arg6 harg6 15 (r 16)
      gatherRow i arg5 arg6 (slot1 arg7) 0#32
      pure ⟨⟩)
  sendRow i arg4 15 (slot1 arg7) (slot1_exact arg7) s9
  awaitRow i arg4 15 (slot1 arg7) (slot1_exact arg7) s9
  awaitRow i arg4 14 (slot0 arg7) (slot0_exact arg7) s8

/-- The staging row a chunk uses: the chunks alternate between the two. -/
def slot (p : Bool) : Memref sig .scVector .vmem S24576 .f32 := bif p then slot1 arg7 else slot0 arg7

theorem slot_exact (p : Bool) : (slot arg7 p).view.WordExact := by
  cases p
  · exact slot0_exact arg7
  · exact slot1_exact arg7

/-- Chunk `k`: its indices in, its rows gathered, their copy out begun. -/
def chunk (p : Bool) (k : Fin 16) : TileProg (F := F) i PUnit := do
  copyIdx i arg3 arg6 harg6 k (r k.succ)
  gatherRow i arg5 arg6 (slot arg7 p) 0#32
  sendRow i arg4 k (slot arg7 p) (slot_exact arg7 p) (bif p then s9 else s8)

/-- The chunks `l`, when chunks `a` and `b` are on their way out of the rows `p` and the other: each takes its row over
    from the chunk two before it. -/
def chunks : Bool → Fin 16 → Fin 16 → List (Fin 16) → TileProg (F := F) i PUnit
  | p, a, b, [] => do
    awaitRow i arg4 b (slot arg7 !p) (slot_exact arg7 !p) (bif !p then s9 else s8)
    awaitRow i arg4 a (slot arg7 p) (slot_exact arg7 p) (bif p then s9 else s8)
  | p, a, b, k :: l => do
    awaitRow i arg4 a (slot arg7 p) (slot_exact arg7 p) (bif p then s9 else s8)
    chunk i arg3 arg4 arg5 arg6 harg6 arg7 s8 s9 r p k
    chunks (!p) b k l

/-- The body, chunk by chunk. -/
def flatBody : TileProg (F := F) i PUnit := do
  copyTable i arg2 harg2 arg5 harg5 (r 0)
  chunk i arg3 arg4 arg5 arg6 harg6 arg7 s8 s9 r false 0
  chunk i arg3 arg4 arg5 arg6 harg6 arg7 s8 s9 r true 1
  chunks i arg3 arg4 arg5 arg6 harg6 arg7 s8 s9 r false 0 1 [2, 3, 4, 5, 6, 7, 8, 9, 10, 11, 12, 13, 14, 15]

theorem cutBody_eq : cutBody (F := F) i arg2 harg2 arg3 arg4 arg5 harg5 arg6 harg6 arg7 s8 s9 r
    = flatBody i arg2 harg2 arg3 arg4 arg5 harg5 arg6 harg6 arg7 s8 s9 r := by
  simp only [cutBody, flatBody, chunk, chunks, slot, cond_true, cond_false, Bool.not_true, Bool.not_false, bind_assoc, pure_bind]
  rfl

/-- The printed body is the pieces in order. -/
theorem cc0_body_eq (i : grid0.Coords) (arg2 : Memref sig .scVector .hbm S19648 .f32) (harg2 : arg2.IsWhole)
    (arg3 : Memref sig .scVector .hbm S786432 .i32) (harg3 : arg3.IsWhole) (arg4 : Memref sig .scVector .hbm S12582912 .f32) (harg4 : arg4.IsWhole)
    (arg5 : Memref sig .scVector .vmem S19648 .f32) (harg5 : arg5.IsWhole) (arg6 : Memref sig .scVector .vmem S1536 .i32) (harg6 : arg6.IsWhole)
    (arg7 : Memref sig .scVector .vmem S2x24576 .f32) (harg7 : arg7.IsWhole) (s8 s9 r0 r1 r2 r3 r4 r5 r6 r7 r8 r9 r10 r11 r12 r13 r14 r15 r16 : DmaSems sig S_) :
    cc0_body (F := F) i arg2 harg2 arg3 harg3 arg4 harg4 arg5 harg5 arg6 harg6 arg7 harg7 s8 s9 r0 r1 r2 r3 r4 r5 r6 r7 r8 r9 r10 r11 r12 r13 r14 r15 r16
      = flatBody i arg2 harg2 arg3 arg4 arg5 harg5 arg6 harg6 arg7 s8.sem s9.sem
          ![r0.sem, r1.sem, r2.sem, r3.sem, r4.sem, r5.sem, r6.sem, r7.sem, r8.sem, r9.sem, r10.sem, r11.sem, r12.sem, r13.sem, r14.sem, r15.sem, r16.sem] := by
  rw [← cutBody_eq]; chain_rfl

end Body

end Cert.KernelIdeal.Gather
-- ==== Proof.Setup.lean ====
/- The program as the launch theorem for a TensorCore, its SparseCores' sequencers and their tiles reads it: its labels,
   its definitions, and the ghost state the proof uses — the handshakes' rounds, the rounds of the TensorCore kernel's
   windows, and the counters that local copies take their tokens from. -/
module

public import proofs.«01_k».proof.Proof.TileProg
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, fun b c _ => rfl,
    fun _ => rfl⟩

/-- The handshakes' rounds; the window cells' rounds; the ghost state of the whole proof. -/
abbrev UH : Type := URounds (GSem nD τ sig) ℕ
@[inherit_doc UH] abbrev UP : Type := URounds (GSem nD τ sig) Unit
@[inherit_doc UH] abbrev UU : Type := UH × (UP × Counters)

/-- The logic's model. -/
abbrev MM (F : FTy → Type) : Type := MT nD τ sig (HIx 1) (Elt F) ℕ UU ℕ

abbrev EH : Emb UH (MM F) := embL
abbrev EP : Emb UP (MM F) := (Emb.inl : Emb UP (UP × Counters)).trans embR

instance EP_landsIn : (EP : Emb UP (MM F)).LandsIn (upEmb : UEmb _ (MM F)) := by
  unfold EP embR; infer_instance

/-- Tile `i` of device `d`. -/
abbrev thr (d : Dev nD) (i : grid0.Coords) : Thread nD τ := V d ((i 0).castLE hcore0) ((i 1).castLE hsub0)

/-- Place `k` of a buffer of one axis. -/
def at1 {n : Nat} (k : Nat) (h : k < n) : (⟨1, ![n]⟩ : Shape).Idx := fun a => ⟨k, by rw [Fin.eq_zero a]; exact h⟩

theorem at1_congr {n k k' : Nat} (e : k = k') (h : k < n) : at1 k h = at1 k' (e ▸ h) := by subst e; rfl

/-- The tile's buffers: the table, all indices and all gathered rows in main memory; the table, a chunk's indices and
    two chunks of rows in its own. -/
abbrev mT : Memref sig .scVector .hbm S19648 .f32 := Memref.whole main_v143_scv
@[inherit_doc mT] abbrev mI : Memref sig .scVector .hbm S786432 .i32 := Memref.whole main_v142_scv
@[inherit_doc mT] abbrev mO : Memref sig .scVector .hbm S12582912 .f32 := Memref.whole main_v144_scv
@[inherit_doc mT] abbrev sT : Memref sig .scVector .vmem S19648 .f32 := Memref.whole cc0_scratch0
@[inherit_doc mT] abbrev sI : Memref sig .scVector .vmem S1536 .i32 := Memref.whole cc0_scratch1
@[inherit_doc mT] abbrev sR : Memref sig .scVector .vmem S2x24576 .f32 := Memref.whole cc0_scratch2

end Cert.KernelIdeal.Gather
-- ==== Proof.Turn.lean ====
/- What one trip of the gather does: its sixteen turns each copy sixteen words of the table to the staged row, every
   word to the place it belongs, so that the trip's block of 256 words is right once all have run. -/
module

public import proofs.«01_k».proof.Proof.Setup

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## An indexed store of right values -/

/-- A store that puts at each place it names what `want` has there leaves right what was right, and makes right the
    places it names. -/
theorem storeIdx_right {s : Shape} {e : EltTy} {d : Fin 1 → Nat} (g want : Vec F s e) (idxs : Fin s.rank → IVec ⟨1, d⟩ 32)
    (v : Vec F ⟨1, d⟩ e) (h : ∀ a x, (idxs a x).toNat < s.size a) (hv : ∀ x, v x = want (idxAt idxs h x)) (p : s.Idx)
    (hp : g p = want p ∨ ∃ x, p = idxAt idxs h x) :
    storeIdx g idxs v (fun _ => 1#1) false h p = want p := by
  have key : ∀ (step : Vec F s e → Fin (d 0) → Vec F s e),
      (∀ g k, step g k (idxAt idxs h (Shape.ofLane k)) = want (idxAt idxs h (Shape.ofLane k))) →
      (∀ g k, p ≠ idxAt idxs h (Shape.ofLane k) → step g k p = g p) →
      ∀ (l : List (Fin (d 0))) (g : Vec F s e), (g p = want p ∨ ∃ k ∈ l, p = idxAt idxs h (Shape.ofLane k)) →
        l.foldl step g p = want p := by
    intro step h1 h2 l
    induction l with
    | nil => rintro g (hg | ⟨k, hk, -⟩); exacts [hg, absurd hk List.not_mem_nil]
    | cons k l ih =>
      intro g hg
      rw [List.foldl_cons]
      apply ih
      by_cases hk : p = idxAt idxs h (Shape.ofLane k)
      · left; rw [hk]; exact h1 g k
      · rcases hg with hg | ⟨k', hk', hpk⟩
        · left; rw [h2 g k hk, hg]
        · right
          rcases List.mem_cons.mp hk' with rfl | hm
          · exact absurd hpk hk
          · exact ⟨k', hm, hpk⟩
  unfold storeIdx
  refine key _ (fun g k => ?_) (fun g k hk => ?_) (List.finRange (d 0)) g ?_
  · simp [hv]
  · have : ¬ ∀ a, (p a).val = (idxAt idxs h (Shape.ofLane k) a).val := fun hh => hk (funext fun a => Fin.ext (hh a))
    simp [this]
  rcases hp with hp | ⟨x, hx⟩
  · exact .inl hp
  · refine .inr ⟨x 0, List.mem_finRange _, ?_⟩
    rw [hx]; congr 1; funext a; rw [Fin.eq_zero a]; rfl

/-! ## A turn -/

section Turn

variable (d : Dev nD) (i : grid0.Coords)

/-- The staged row `row`, right at the places `A` names: it has there what `want` has. -/
def RowHas (row : Memref sig .scVector .vmem S24576 .f32) (want : Vec F S24576 .f32) (A : S24576.Idx → Prop) : sProp (MM F) :=
  iprop(∃ f : Buf (Elt F) ((row.access (.whole S24576)).loc (thr d i)),
    ⌜∀ p, A p → (row.access (.whole S24576)).read (Elt F) f p = want p⌝
      ∗ (row.access (.whole S24576)).loc (thr d i) ↦[(row.access (.whole S24576)).set]{fullShare} f)

/-- The tile's copy of the table. -/
def TabIs (tab : Vec F S19648 .f32) : sProp (MM F) :=
  iprop((sT.access (.whole S19648)).loc (thr d i) ↦[Finset.univ]{fullShare} tab)

theorem turn_spec (row : Memref sig .scVector .vmem S24576 .f32) (want : Vec F S24576 .f32) (A B : S24576.Idx → Prop)
    (tab : Vec F S19648 .f32) (addr pos : IVec S16 32) (ha : k0_chk1 addr) (hp : k0_chk2 pos)
    (hv : ∀ l : S16.Idx, tab (idxAt ![addr] (k0_idx1_inb addr ha) l) = want (idxAt ![pos] (k0_idx2_inb pos hp) l))
    (hB : ∀ p, B p → A p ∨ ∃ l : S16.Idx, p = idxAt ![pos] (k0_idx2_inb pos hp) l) :
    iprop(TabIs d i tab ∗ RowHas d i row want A)
      ⊢ wp frame (wpE (defs₀ (F := F)) 𝒱₀ (thr d i) none) Set.univ (turn i sT row addr pos)
          fun _ => iprop(TabIs d i tab ∗ RowHas d i row want B) := by
  unfold turn TabIs RowHas
  iintro ⟨Ht, %f, %hf, Hr⟩
  simp only [Prog.bind_lift]
  rw [wp_assume_of _ _ _ _ ha]
  iapply (SparseCore.wp_vectorLoadIdx 𝒱₀ (thr d i) none Set.univ (base := sT) (S := Finset.univ) (q := fullShare)
    (Finset.subset_univ _)) $$ Ht
  iintro Ht
  rw [wp_assume_of _ _ _ _ hp, ← Prog.bind_pure (SparseCore.vectorStoreIdx _ _ _ _ _ _ _)]
  iapply (SparseCore.wp_vectorStoreIdx 𝒱₀ (thr d i) none Set.univ (base := row)) $$ Hr
  iintro Hr
  rw [wp_pure]
  imodintro
  iframe Ht
  iexists _
  isplitr [Hr]
  rotate_left
  · iexact Hr
  ipureintro
  intro p hBp
  rw [View.read_write_univ]
  refine storeIdx_right _ want ![pos] _ hp (fun x => ?_) p ?_
  · rw [← hv x]
    exact congrFun (Memref.read_access_whole (Elt F) cc0_scratch0 tab) _
  · rcases hB p hBp with h | h
    · exact .inl (hf p h)
    · exact .inr h

end Turn

end Cert.KernelIdeal.Gather
-- ==== Proof.Trip.lean ====
/- A trip of the gather, and the 96 trips of a chunk: after trip `t` the first `256 (t + 1)` words of the staged row are
   right, so after the last the whole row is. -/
module

public import proofs.«01_k».proof.Proof.Turn

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The turns' numbers -/

theorem rot_toNat (n : Nat) (hn : n < 16) (x : S16.Idx) : (rot (BitVec.ofNat 32 n) x).toNat = ((x 0).val + n) % 16 := by
  have hx : (x 0).val < 16 := (x 0).isLt
  show ((BitVec.ofNat 32 (0 * 16 + (x 0).val) + BitVec.ofNat 32 n) &&& 15#32).toNat = _
  rw [BitVec.toNat_and, BitVec.toNat_add, BitVec.toNat_ofNat, BitVec.toNat_ofNat, show (15#32).toNat = 2 ^ 4 - 1 from rfl,
    Nat.and_two_pow_sub_one_eq_mod]
  omega

theorem addr_toNat (v : IVec S16 32) (hv : ∀ x, (v x).toNat < 1228) (n : Nat) (hn : n < 16) (x : S16.Idx) :
    (addi (muli v (broadcast S16 16#32)) (rot (BitVec.ofNat 32 n)) x).toNat = 16 * (v x).toNat + ((x 0).val + n) % 16 := by
  have h := rot_toNat n hn x
  have h2 := hv x
  show ((v x * 16#32) + rot (BitVec.ofNat 32 n) x).toNat = _
  rw [BitVec.toNat_add, BitVec.toNat_mul, h, show (16#32).toNat = 16 from rfl]
  omega

theorem pos_toNat (n : Nat) (hn : n < 16) (t : Fin k0_t1_loop.trips) (x : S16.Idx) :
    (addi (spot (BitVec.ofNat 32 n)) (broadcast S16 (Scalar.muli (Scf.iv 0#32 1#32 t) 256#32)) x).toNat
      = 256 * t.val + 16 * (x 0).val + ((x 0).val + n) % 16 := by
  have h := rot_toNat n hn x
  have hx : (x 0).val < 16 := (x 0).isLt
  have ht : t.val < 96 := t.isLt
  show (BitVec.ofNat 32 (0 * 16 + (x 0).val) * 16#32 + rot (BitVec.ofNat 32 n) x + (0#32 + BitVec.ofNat 32 t.val * 1#32) * 256#32).toNat = _
  simp only [BitVec.toNat_add, BitVec.toNat_mul, h, BitVec.toNat_ofNat]
  omega

/-- The words of a staged row that are right when trip `t` has made `n` of its turns. -/
def Done (t n : Nat) (p : S24576.Idx) : Prop :=
  (p 0).val < 256 * t ∨ (p 0).val < 256 * (t + 1) ∧ ((p 0).val % 16 + 16 - (p 0).val / 16 % 16) % 16 < n

theorem done_succ (t : Nat) (p : S24576.Idx) : Done (t + 1) 0 p ↔ Done t 16 p := by
  unfold Done
  omega

/-- The words a chunk's row is to hold: rows of sixteen words of the table, one for each of the chunk's indices. -/
def rowWant (tab : Vec F S19648 .f32) (idx : Vec F S1536 .i32) : Vec F S24576 .f32 := fun p =>
  tab (at1 ((16 * BitVec.toNat (idx (at1 ((p 0).val / 16) (by have : (p 0).val < 24576 := (p 0).isLt; omega))) + (p 0).val % 16) % 19648)
    (Nat.mod_lt _ (by decide)))

section Trip

variable (d : Dev nD) (i : grid0.Coords)

/-- The tile's copy of a chunk's indices. -/
def IdxIs (idx : Vec F S1536 .i32) : sProp (MM F) :=
  iprop(sI.view.loc (thr d i) ↦[Finset.univ]{fullShare} idx)

variable (row : Memref sig .scVector .vmem S24576 .f32) (tab : Vec F S19648 .f32) (idx : Vec F S1536 .i32)

theorem turn_step (hidx : ∀ j, BitVec.toNat (idx j) < 1228) (t : Fin k0_t1_loop.trips) (v : IVec S16 32)
    (hv : ∀ x : S16.Idx, v x = idx (at1 (16 * t.val + (x 0).val) (by
      have h1 : (x 0).val < 16 := (x 0).isLt
      have h2 : t.val < 96 := t.isLt
      omega))) (n : Nat) (hn : n < 16) :
    iprop(TabIs d i tab ∗ RowHas d i row (rowWant tab idx) (Done t n))
      ⊢ wp frame (wpE (defs₀ (F := F)) 𝒱₀ (thr d i) none) Set.univ
          (turn i sT row (addi (muli v (broadcast S16 16#32)) (rot (BitVec.ofNat 32 n)))
            (addi (spot (BitVec.ofNat 32 n)) (broadcast S16 (Scalar.muli (Scf.iv 0#32 1#32 t) 256#32))))
          fun _ => iprop(TabIs d i tab ∗ RowHas d i row (rowWant tab idx) (Done t (n + 1))) := by
  have ht : t.val < 96 := t.isLt
  have hvlt : ∀ x, (v x).toNat < 1228 := fun x => by rw [hv]; exact hidx _
  have ha := fun x => addr_toNat v hvlt n hn x
  have hp := fun x => pos_toNat n hn t x
  have hca : k0_chk1 (addi (muli v (broadcast S16 16#32)) (rot (BitVec.ofNat 32 n))) := by
    intro a x
    rw [Fin.eq_zero a]
    refine (ha x).trans_lt ?_
    have := hvlt x
    show _ < 19648; omega
  have hcp : k0_chk2 (addi (spot (BitVec.ofNat 32 n)) (broadcast S16 (Scalar.muli (Scf.iv 0#32 1#32 t) 256#32))) := by
    intro a x
    rw [Fin.eq_zero a]
    refine (hp x).trans_lt ?_
    have hx : (x 0).val < 16 := (x 0).isLt
    show _ < 24576; omega
  refine turn_spec d i row _ _ _ tab _ _ hca hcp (fun l => ?_) (fun p hB => ?_)
  · have hl : (l 0).val < 16 := (l 0).isLt
    have e2 : ((idxAt ![addi (spot (BitVec.ofNat 32 n)) (broadcast S16 (Scalar.muli (Scf.iv 0#32 1#32 t) 256#32))] (k0_idx2_inb _ hcp) l : S24576.Idx) 0).val = _ := hp l
    unfold rowWant
    congr 1
    funext a
    rw [Fin.eq_zero a]
    apply Fin.ext
    refine (ha l).trans ?_
    have hvl := hvlt l
    have e3 : ((idxAt ![addi (spot (BitVec.ofNat 32 n)) (broadcast S16 (Scalar.muli (Scf.iv 0#32 1#32 t) 256#32))] (k0_idx2_inb _ hcp) l : S24576.Idx) 0).val / 16
        = 16 * t.val + (l 0).val := by omega
    show _ = (16 * BitVec.toNat (idx (at1 (((idxAt ![addi (spot (BitVec.ofNat 32 n)) (broadcast S16 (Scalar.muli (Scf.iv 0#32 1#32 t) 256#32))] (k0_idx2_inb _ hcp) l : S24576.Idx) 0).val / 16) _)) + _) % 19648
    rw [at1_congr e3, ← hv l, e2]
    omega
  · have hp0 : (p 0).val < 24576 := (p 0).isLt
    by_cases hA : Done t n p
    · exact .inl hA
    · right
      have hq : (p 0).val / 16 % 16 < 16 := Nat.mod_lt _ (by decide)
      refine ⟨at1 ((p 0).val / 16 % 16) hq, funext fun a => ?_⟩
      rw [Fin.eq_zero a]
      apply Fin.ext
      refine Eq.trans ?_ (hp _).symm
      unfold Done at hA hB
      show (p 0).val = 256 * t.val + 16 * ((p 0).val / 16 % 16) + ((p 0).val / 16 % 16 + n) % 16
      omega

theorem turns_spec (hidx : ∀ j, BitVec.toNat (idx j) < 1228) (t : Fin k0_t1_loop.trips) (v : IVec S16 32)
    (hv : ∀ x : S16.Idx, v x = idx (at1 (16 * t.val + (x 0).val) (by
      have h1 : (x 0).val < 16 := (x 0).isLt
      have h2 : t.val < 96 := t.isLt
      omega))) :
    iprop(TabIs d i tab ∗ RowHas d i row (rowWant tab idx) (Done t 0))
      ⊢ wp frame (wpE (defs₀ (F := F)) 𝒱₀ (thr d i) none) Set.univ (turns i sT row 0#32 1#32 t v)
          fun _ => iprop(TabIs d i tab ∗ RowHas d i row (rowWant tab idx) (Done (t + 1) 0)) := by
  have step := turn_step d i row tab idx hidx t v hv
  have last : iprop(TabIs d i tab ∗ RowHas d i row (rowWant tab idx) (Done t 16))
      ⊢ iprop(TabIs d i tab ∗ RowHas d i row (rowWant tab idx) (Done (t + 1) 0)) := by
    rw [show Done (t + 1) 0 = Done t 16 from funext fun p => propext (done_succ t p)]
  unfold turns
  iterate 15
    rw [wp_bind]
    refine (step _ (by decide)).trans (wp_mono frame _ _ fun _ => ?_)
  exact (step 15 (by decide)).trans (wp_mono frame _ _ fun _ => last)

theorem trip_spec (hidx : ∀ j, BitVec.toNat (idx j) < 1228) (t : Fin k0_t1_loop.trips) :
    iprop(TabIs d i tab ∗ IdxIs d i idx ∗ RowHas d i row (rowWant tab idx) (Done t 0))
      ⊢ wp frame (wpE (defs₀ (F := F)) 𝒱₀ (thr d i) none) Set.univ (trip i sT sI row 0#32 1#32 t)
          fun _ => iprop(TabIs d i tab ∗ IdxIs d i idx ∗ RowHas d i row (rowWant tab idx) (Done (t + 1) 0)) := by
  have hv : ∀ x : S16.Idx, (sI.view.readAt (Elt F) (Rect.unit (s := S1536) (k0_off2 t) S16.size (k0_off2_inb t)).toLoadRect idx) x
      = idx (at1 (16 * t.val + (x 0).val) (by
      have h1 : (x 0).val < 16 := (x 0).isLt
      have h2 : t.val < 96 := t.isLt
      omega)) := by
    intro x
    refine congrArg idx (funext fun a => ?_)
    rw [Fin.eq_zero a]
    apply Fin.ext
    have h : k0_off2 t 0 = 16 * t.val := congrFun (k0_off2_eq t) 0
    show k0_off2 t 0 + 1 * (x 0).val = 16 * t.val + (x 0).val
    omega
  unfold trip
  simp only [Prog.bind_lift]
  iintro ⟨Ht, Hi, Hr⟩
  unfold IdxIs
  iapply (wp_load 𝒱₀ (thr d i) none Set.univ (m := sI) (S := Finset.univ) (Finset.subset_univ _)) $$ Hi
  iintro Hi
  iapply (wp_wand_r frame _ _)
  isplitl [Ht Hr]
  · iapply (turns_spec d i row tab idx hidx t _ hv) $$ [Ht Hr]
    iframe
  · iintro %_ ⟨Ht, Hr⟩
    iframe

/-- The 96 trips leave the staged row holding the chunk's words. -/
theorem gatherRow_spec (hidx : ∀ j, BitVec.toNat (idx j) < 1228) :
    iprop(TabIs d i tab ∗ IdxIs d i idx ∗ RowHas d i row (rowWant tab idx) fun _ => False)
      ⊢ wp frame (wpE (defs₀ (F := F)) 𝒱₀ (thr d i) none) Set.univ (gatherRow i sT sI row 0#32)
          fun _ => iprop(TabIs d i tab ∗ IdxIs d i idx ∗ RowHas d i row (rowWant tab idx) fun _ => True) := by
  unfold gatherRow
  have h0 : Done 0 0 = fun _ => False := funext fun p => propext (by unfold Done; simp only [iff_false]; omega)
  have h96 : Done 96 0 = fun _ => True := funext fun p => propext (by
    have : (p 0).val < 24576 := (p 0).isLt
    unfold Done; simp only [iff_true]; omega)
  iintro H
  iapply (Scf.wp_for frame _ _ _ _ _ k0_t1_ok _ _
    (fun t _ => iprop(TabIs d i tab ∗ IdxIs d i idx ∗ RowHas d i row (rowWant tab idx) (Done t 0))) fun t _ => ?_)
  · rw [wp_bind]
    exact (trip_spec d i row tab idx hidx t).trans (wp_mono frame _ _ fun _ => by rw [wp_pure]; exact fupd_intro)
  · rw [h0]
    iframe H
    iintro %_ H
    rw [show Scf.trips k0_t1_loop.lb k0_t1_loop.ub k0_t1_loop.st = 96 from rfl, h96]
    iexact H

end Trip

end Cert.KernelIdeal.Gather
-- ==== Proof.Chunk.lean ====
/- A chunk of the gather — its indices in, its rows gathered, their copy out begun — and the wait for that copy. -/
module

public import proofs.«01_k».proof.Proof.Trip

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

variable (d : Dev nD) (i : grid0.Coords)

/-- What the tile owes, its waits so far being those of `W` and of its own copies. -/
def Owed (O : CellTallies nD τ sig (HIx 1)) (W : Waits sig (HIx 1)) : sProp (MM F) :=
  iprop(Transfers.MayWaits (thr d i) none O ∗ ∃ W', ⌜∀ p ∈ W', p ∈ W ∨ p.2 = none⌝ ∗ owes (thr d i) O W')

theorem owed_open {O : CellTallies nD τ sig (HIx 1)} {W : Waits sig (HIx 1)} :
    Owed (F := F) d i O W ⊢ iprop(Transfers.MayWaits (thr d i) none O ∗ ∃ W', ⌜∀ p ∈ W', p ∈ W ∨ p.2 = none⌝ ∗ owes (thr d i) O W') := .rfl

theorem owed_insert {O : CellTallies nD τ sig (HIx 1)} {W W' : Waits sig (HIx 1)} (hW' : ∀ p ∈ W', p ∈ W ∨ p.2 = none) (s : SemLoc sig) :
    iprop(Transfers.MayWaits (thr d i) none O ∗ owes (thr d i) O (insert (s, none) W')) ⊢ Owed (F := F) d i O W := by
  unfold Owed
  iintro ⟨#Hmw, HO⟩
  isplitr
  · iexact Hmw
  iexists _
  isplitr [HO]
  rotate_left
  · iexact HO
  ipureintro
  intro p hp
  rcases Finset.mem_insert.mp hp with rfl | hp
  exacts [.inr rfl, hW' p hp]

/-- A copy over a whole buffer leaves what was copied. -/
theorem write_whole (b : Ref sig .scVector) (f w : b.ty.Contents (Elt F)) :
    (Memref.whole b : Memref sig .scVector _ _ _).view.write (Elt F) f w Finset.univ = w :=
  View.read_write_univ (v := (Memref.whole b : Memref sig .scVector _ _ _).view) f w

/-- A read share of all the indices; chunk `k`'s indices. -/
def IdxAll (q : PosShare TreeShare) (idx : Vec F S786432 .i32) : sProp (MM F) :=
  iprop(mI.view.loc (thr d i) ↦[Finset.univ]{q} idx)

@[inherit_doc IdxAll]
def chunkIdx (idx : Vec F S786432 .i32) (k : Fin 16) : Vec F S1536 .i32 := (idxSlice i mI k).view.read (Elt F) idx

theorem copyTable_spec (q : PosShare TreeShare) (tab : Vec F S19648 .f32) (s : DmaSem sig) (O W) :
    iprop((mT.view.loc (thr d i) ↦[Finset.univ]{q} tab) ∗ (∃ f, sT.view.loc (thr d i) ↦[Finset.univ]{fullShare} f)
        ∗ semVal (thr d i, .dma s) 0 ∗ Owed (F := F) d i O W)
      ⊢ wp frame (wpE (defs₀ (F := F)) 𝒱₀ (thr d i) none) Set.univ (copyTable i mT (Memref.isWhole_whole _) sT (Memref.isWhole_whole _) s)
          fun _ => iprop((mT.view.loc (thr d i) ↦[Finset.univ]{q} tab) ∗ TabIs d i tab ∗ semVal (thr d i, .dma s) 0 ∗ Owed (F := F) d i O W) := by
  unfold copyTable TabIs
  iintro ⟨Ht, ⟨%f, Hs⟩, Hv, Ho⟩
  ihave Ho := (owed_open d i) $$ Ho
  icases Ho with ⟨#Hmw, %W', %hW', HO⟩
  sl_exec
  rw [wp_ret]
  imodintro
  rw [write_whole]
  iframe Ht Hv
  isplitl [Hs]
  · iexact Hs
  iapply (owed_insert d i hW' (SemLoc.dma s)) $$ [HO]
  iframe Hmw HO

theorem copyIdx_spec (q : PosShare TreeShare) (idx : Vec F S786432 .i32) (k : Fin 16) (s : DmaSem sig) (O W) :
    iprop(IdxAll d i q idx ∗ (∃ f, sI.view.loc (thr d i) ↦[Finset.univ]{fullShare} f)
        ∗ semVal (thr d i, .dma s) 0 ∗ Owed (F := F) d i O W)
      ⊢ wp frame (wpE (defs₀ (F := F)) 𝒱₀ (thr d i) none) Set.univ (copyIdx i mI sI (Memref.isWhole_whole _) k s)
          fun _ => iprop(IdxAll d i q idx ∗ IdxIs d i (chunkIdx i idx k) ∗ semVal (thr d i, .dma s) 0 ∗ Owed (F := F) d i O W) := by
  unfold copyIdx IdxAll IdxIs
  iintro ⟨Ht, ⟨%f, Hs⟩, Hv, Ho⟩
  ihave Ho := (owed_open d i) $$ Ho
  icases Ho with ⟨#Hmw, %W', %hW', HO⟩
  sl_exec
  rw [wp_ret]
  imodintro
  rw [write_whole]
  iframe Ht Hv
  isplitl [Hs]
  · iexact Hs
  iapply (owed_insert d i hW' (SemLoc.dma s)) $$ [HO]
  iframe Hmw HO

/-! ## A staged row's way out -/

theorem access_whole_set (row : Memref sig .scVector .vmem S24576 .f32) : (row.access (.whole S24576)).set = row.view.set := by
  show (row.view.slice (.whole S24576)).set = _
  rw [View.set_slice, Rect.set_whole]
  rfl

theorem access_whole_read (row : Memref sig .scVector .vmem S24576 .f32) (f : row.view.ty.Contents (Elt F)) :
    (row.access (.whole S24576)).read (Elt F) f = row.view.read (Elt F) f := by
  funext p
  show _root_.cast _ (f (row.view.emb ((Rect.whole S24576).emb p))) = _
  rw [Rect.emb_whole_apply]
  rfl

/-- A staged row, whatever it holds. -/
def RowAny (row : Memref sig .scVector .vmem S24576 .f32) : sProp (MM F) :=
  iprop(∃ f : Buf (Elt F) (row.view.loc (thr d i)), row.view.loc (thr d i) ↦[row.view.set]{fullShare} f)

theorem rowHas_of_any (row : Memref sig .scVector .vmem S24576 .f32) (want : Vec F S24576 .f32) :
    RowAny d i row ⊢ RowHas d i row want fun _ => False := by
  unfold RowAny RowHas
  rw [access_whole_set]
  iintro ⟨%f, H⟩
  iexists f
  isplitr
  · ipureintro; exact fun _ h => h.elim
  iexact H

/-- The words of chunk `k` in the result, holding `g`. -/
def Piece (k : Fin 16) (g : Vec F S12582912 .f32) : sProp (MM F) :=
  iprop((outSlice i mO k).view.loc (thr d i) ↦[(outSlice i mO k).view.set]{fullShare} g)

/-- Chunk `k` on its way out of row `row`, in a copy that semaphore `s` counts. -/
def Sent (row : Memref sig .scVector .vmem S24576 .f32) (s : DmaSem sig) (k : Fin 16) (g : Vec F S12582912 .f32) : sProp (MM F) :=
  Transfers.Flight countersEmb (thr d i) (.dma s) none ((outSlice i mO k).view.amount (.dma s)) iprop(Piece d i k g ∗ RowAny d i row)

theorem sendRow_spec (row : Memref sig .scVector .vmem S24576 .f32) (hrow : row.view.WordExact) (s : DmaSem sig) (k : Fin 16)
    (want : Vec F S24576 .f32) (g : Vec F S12582912 .f32) (hg : ∀ p, want p = g ((outSlice i mO k).view.emb p)) :
    iprop((RowHas d i row want fun _ => True) ∗ (∃ g, Piece d i k g) ∗ semVal (thr d i, .dma s) 0)
      ⊢ wp frame (wpE (defs₀ (F := F)) 𝒱₀ (thr d i) none) Set.univ (sendRow i mO k row hrow s) fun _ => Sent d i row s k g := by
  unfold sendRow RowHas
  rw [access_whole_set]
  iintro ⟨⟨%f, %hf, Hr⟩, ⟨%g0, Hp⟩, Hv⟩
  unfold Piece
  iapply (Transfers.wp_dmaLocal countersEmb 𝒱₀ (thr d i) none (src := row) (dst := outSlice i mO k) (Sd := (outSlice i mO k).view.set) (fd := g0) (fs := f) (q := fullShare) none _ rfl (View.amount_pos _ _ (show 0 < S24576.numel by decide)) (Finset.Subset.refl _)) $$ [Hr Hp Hv]
  · iframe
  iintro Hfl
  rw [wp_ret]
  imodintro
  unfold Sent
  iapply (Transfers.Flight_mono countersEmb (thr d i) (BIClass.sep_mono ?piece ?any)) $$ Hfl
  case any => exact exists_intro (Φ := fun f => row.view.loc (thr d i) ↦[row.view.set]{fullShare} f) f
  case piece =>
    refine Entails.of_eq (pointsTo_congr fun x hx => ?_)
    obtain ⟨p, -, rfl⟩ := Finset.mem_map.mp hx
    refine (View.write_emb_of_mem (v := (outSlice i mO k).view) (Val := Elt F) g0 _ (Finset.mem_univ p)).trans ?_
    refine Eq.trans ?_ (hg p)
    exact (congrFun (access_whole_read row f) p).symm.trans (hf p trivial)

theorem awaitRow_spec (row : Memref sig .scVector .vmem S24576 .f32) (hrow : row.view.WordExact) (s : DmaSem sig) (k : Fin 16)
    (g : Vec F S12582912 .f32) (O W) :
    iprop(Sent d i row s k g ∗ Owed (F := F) d i O W)
      ⊢ wp frame (wpE (defs₀ (F := F)) 𝒱₀ (thr d i) none) Set.univ (awaitRow i mO k row hrow s)
          fun _ => iprop(Piece d i k g ∗ RowAny d i row ∗ semVal (thr d i, .dma s) 0 ∗ Owed (F := F) d i O W) := by
  unfold awaitRow Sent
  iintro ⟨Hf, Ho⟩
  ihave Ho := (owed_open d i) $$ Ho
  icases Ho with ⟨#Hmw, %W', %hW', HO⟩
  iapply (Transfers.wp_waitLocalO countersEmb 𝒱₀ (thr d i) none none rfl) $$ [Hf HO]
  · iframe Hf HO
    iapply (Transfers.MayWaits.elim (SemLoc.dma s)) $$ Hmw
  iintro ⟨⟨Hp, Hr⟩, Hv, HO⟩
  rw [wp_ret]
  imodintro
  iframe Hp Hr Hv
  iapply (owed_insert d i hW' (SemLoc.dma s)) $$ [HO]
  iframe Hmw HO

/-! ## The gathered words -/

/-- What the gather computes: for each index, the sixteen words of the table's row that it names. -/
def gathered (tab : Vec F S19648 .f32) (idx : Vec F S786432 .i32) : Vec F S12582912 .f32 := fun p =>
  tab (at1 ((16 * BitVec.toNat (idx (at1 ((p 0).val / 16) (by have : (p 0).val < 12582912 := (p 0).isLt; omega))) + (p 0).val % 16) % 19648)
    (Nat.mod_lt _ (by decide)))

/-- Where the chunk's word `p` lies in the whole. -/
def outAt (k : Fin 16) (p : S24576.Idx) : S12582912.Idx := (outSlice i mO k).view.emb p

/-- A chunk's row is its part of the whole. -/
theorem rowWant_eq (tab : Vec F S19648 .f32) (idx : Vec F S786432 .i32) (k : Fin 16) (p : S24576.Idx) :
    rowWant tab (chunkIdx i idx k) p = gathered tab idx (outAt i k p) := by
  have hk : k.val < 16 := k.isLt
  have hp : (p 0).val < 24576 := (p 0).isLt
  have h0 : (i 0).val < 2 := (i 0).isLt
  have h1 : (i 1).val < 16 := (i 1).isLt
  have e1 : k0_off1 i (BitVec.ofNat 32 (1536 * k.val)) 0 = _ := congrFun (k0_off1_eq i k) 0
  have e3 : k0_off3 i (BitVec.ofNat 32 (1536 * k.val)) 0 = _ := congrFun (k0_off3_eq i k) 0
  have ep : (outAt i k p 0).val = k0_off3 i (BitVec.ofNat 32 (1536 * k.val)) 0 + 1 * (p 0).val := rfl
  simp only [Matrix.cons_val_zero] at e1 e3
  have hi : chunkIdx i idx k (at1 ((p 0).val / 16) (by omega))
      = idx (at1 ((outAt i k p 0).val / 16) (by omega)) := by
    refine congrArg idx (funext fun a => ?_)
    rw [Fin.eq_zero a]
    apply Fin.ext
    show k0_off1 i (BitVec.ofNat 32 (1536 * k.val)) 0 + 1 * ((p 0).val / 16) = (outAt i k p 0).val / 16
    omega
  unfold rowWant gathered
  refine congrArg tab (at1_congr ?_ _)
  rw [hi, show (outAt i k p 0).val % 16 = (p 0).val % 16 by omega]

/-! ## The chunks -/

section Chunks

variable (q : PosShare TreeShare) (tab : Vec F S19648 .f32) (idx : Vec F S786432 .i32) (r : Fin 17 → DmaSem sig) (s8 s9 : DmaSem sig)
variable (O : CellTallies nD τ sig (HIx 1)) (W : Waits sig (HIx 1))

/-- What every chunk finds and leaves: the table, the indices, a buffer for a chunk's indices. -/
def Base : sProp (MM F) :=
  iprop(TabIs d i tab ∗ IdxAll d i q idx ∗ (∃ f, sI.view.loc (thr d i) ↦[Finset.univ]{fullShare} f) ∗ Owed (F := F) d i O W)

/-- The semaphore of the staged row `p`. -/
abbrev rowSem (p : Bool) : DmaSem sig := bif p then s9 else s8

theorem chunk_spec (hidx : ∀ j, BitVec.toNat (idx j) < 1228) (p : Bool) (k : Fin 16) :
    iprop(Base d i q tab idx O W ∗ semVal (thr d i, .dma (r k.succ)) 0 ∗ RowAny d i (slot sR p) ∗ semVal (thr d i, .dma (rowSem s8 s9 p)) 0
        ∗ ∃ g, Piece d i k g)
      ⊢ wp frame (wpE (defs₀ (F := F)) 𝒱₀ (thr d i) none) Set.univ (chunk i mI mO sT sI (Memref.isWhole_whole _) sR s8 s9 r p k)
          fun _ => iprop(Base d i q tab idx O W ∗ semVal (thr d i, .dma (r k.succ)) 0 ∗ Sent d i (slot sR p) (rowSem s8 s9 p) k (gathered tab idx)) := by
  unfold chunk Base
  iintro ⟨⟨Ht, Hi, Hs, Ho⟩, Hv, Hr, Hw, Hp⟩
  rw [wp_bind]
  iapply (wp_wand_r frame _ _)
  isplitl [Hi Hs Hv Ho]
  · iapply (copyIdx_spec d i q idx k (r k.succ) O W) $$ [Hi Hs Hv Ho]
    iframe
  iintro %_ ⟨Hi, Hs, Hv, Ho⟩
  rw [wp_bind]
  iapply (wp_wand_r frame _ _)
  isplitl [Ht Hs Hr]
  · iapply (gatherRow_spec d i (slot sR p) tab (chunkIdx i idx k) fun j => hidx _) $$ [Ht Hs Hr]
    iframe Ht Hs
    iapply (rowHas_of_any d i (slot sR p)) $$ Hr
  iintro %_ ⟨Ht, Hs, Hr⟩
  iapply (wp_wand_r frame _ _)
  isplitl [Hr Hw Hp]
  · iapply (sendRow_spec d i (slot sR p) (slot_exact sR p) (rowSem s8 s9 p) k _ (gathered tab idx) (rowWant_eq i tab idx k)) $$ [Hr Hw Hp]
    iframe
  iintro %_ Hf
  iframe
  unfold IdxIs
  iexists _
  iexact Hs

/-- The chunks `l` before they run, and after. -/
def Todo : List (Fin 16) → sProp (MM F)
  | [] => iprop(emp)
  | k :: l => iprop((semVal (thr d i, .dma (r k.succ)) 0 ∗ ∃ g, Piece d i k g) ∗ Todo l)

@[inherit_doc Todo]
def Gathered : List (Fin 16) → sProp (MM F)
  | [] => iprop(emp)
  | k :: l => iprop((semVal (thr d i, .dma (r k.succ)) 0 ∗ Piece d i k (gathered tab idx)) ∗ Gathered l)

theorem todo_cons (k : Fin 16) (l : List (Fin 16)) :
    Todo (F := F) d i r (k :: l) ⊢ iprop((semVal (thr d i, .dma (r k.succ)) 0 ∗ ∃ g, Piece d i k g) ∗ Todo d i r l) := .rfl

theorem gathered_cons (k : Fin 16) (l : List (Fin 16)) :
    iprop((semVal (thr d i, .dma (r k.succ)) 0 ∗ Piece d i k (gathered tab idx)) ∗ Gathered d i tab idx r l) ⊢ Gathered d i tab idx r (k :: l) := .rfl

theorem chunks_spec (hidx : ∀ j, BitVec.toNat (idx j) < 1228) (l : List (Fin 16)) : ∀ (p : Bool) (a b : Fin 16),
    iprop(Base d i q tab idx O W ∗ Sent d i (slot sR p) (rowSem s8 s9 p) a (gathered tab idx)
        ∗ Sent d i (slot sR !p) (rowSem s8 s9 !p) b (gathered tab idx) ∗ Todo d i r l)
      ⊢ wp frame (wpE (defs₀ (F := F)) 𝒱₀ (thr d i) none) Set.univ (chunks i mI mO sT sI (Memref.isWhole_whole _) sR s8 s9 r p a b l)
          fun _ => iprop(Base d i q tab idx O W ∗ Piece d i a (gathered tab idx) ∗ Piece d i b (gathered tab idx) ∗ Gathered d i tab idx r l
            ∗ (RowAny d i (slot sR p) ∗ semVal (thr d i, .dma (rowSem s8 s9 p)) 0)
            ∗ RowAny d i (slot sR !p) ∗ semVal (thr d i, .dma (rowSem s8 s9 !p)) 0) := by
  induction l with
  | nil =>
    intro p a b
    unfold chunks Todo Gathered Base
    iintro ⟨⟨Ht, Hi, Hs, Ho⟩, Ha, Hb, -⟩
    rw [wp_bind]
    iapply (wp_wand_r frame _ _)
    isplitl [Hb Ho]
    · iapply (awaitRow_spec d i (slot sR !p) (slot_exact sR !p) _ b (gathered tab idx) O W) $$ [Hb Ho]
      iframe
    iintro %_ ⟨Hpb, Hrb, Hvb, Ho⟩
    iapply (wp_wand_r frame _ _)
    isplitl [Ha Ho]
    · iapply (awaitRow_spec d i (slot sR p) (slot_exact sR p) _ a (gathered tab idx) O W) $$ [Ha Ho]
      iframe
    iintro %_ ⟨Hpa, Hra, Hva, Ho⟩
    iframe
  | cons k l ih =>
    intro p a b
    unfold chunks Todo Gathered
    iintro ⟨Hbase, Ha, Hb, ⟨Hv, Hp⟩, Hl⟩
    rw [wp_bind]
    unfold Base
    icases Hbase with ⟨Ht, Hi, Hs, Ho⟩
    iapply (wp_wand_r frame _ _)
    isplitl [Ha Ho]
    · iapply (awaitRow_spec d i (slot sR p) (slot_exact sR p) _ a (gathered tab idx) O W) $$ [Ha Ho]
      iframe
    iintro %_ ⟨Hpa, Hra, Hva, Ho⟩
    rw [wp_bind]
    iapply (wp_wand_r frame _ _)
    isplitl [Ht Hi Hs Ho Hv Hra Hva Hp]
    · iapply (chunk_spec d i q tab idx r s8 s9 O W hidx p k) $$ [Ht Hi Hs Ho Hv Hra Hva Hp]
      unfold Base
      iframe
    iintro %_ ⟨Hbase, Hv, Ha⟩
    iapply (wp_wand_r frame _ _)
    isplitl [Hbase Hb Ha Hl]
    · iapply (ih (!p) b k) $$ [Hbase Hb Ha Hl]
      rw [Bool.not_not]
      iframe
    iintro %_ ⟨Hbase, Hpb, Hpk, Hl, Hrow, Hrow'⟩
    rw [Bool.not_not]
    unfold Base
    iframe

/-- The whole body: from the indices and the table the tile's part of the result. -/
theorem flatBody_spec (hidx : ∀ j, BitVec.toNat (idx j) < 1228) (q' : PosShare TreeShare) :
    iprop((mT.view.loc (thr d i) ↦[Finset.univ]{q'} tab) ∗ IdxAll d i q idx
        ∗ (∃ f, sT.view.loc (thr d i) ↦[Finset.univ]{fullShare} f) ∗ (∃ f, sI.view.loc (thr d i) ↦[Finset.univ]{fullShare} f)
        ∗ RowAny d i (slot0 sR) ∗ RowAny d i (slot1 sR) ∗ semVal (thr d i, .dma s8) 0 ∗ semVal (thr d i, .dma s9) 0
        ∗ semVal (thr d i, .dma (r 0)) 0 ∗ Todo d i r [0, 1, 2, 3, 4, 5, 6, 7, 8, 9, 10, 11, 12, 13, 14, 15] ∗ Owed (F := F) d i O W)
      ⊢ wp frame (wpE (defs₀ (F := F)) 𝒱₀ (thr d i) none) Set.univ
          (flatBody i mT (Memref.isWhole_whole _) mI mO sT (Memref.isWhole_whole _) sI (Memref.isWhole_whole _) sR s8 s9 r)
          fun _ => iprop((mT.view.loc (thr d i) ↦[Finset.univ]{q'} tab) ∗ IdxAll d i q idx
            ∗ (∃ f, sT.view.loc (thr d i) ↦[Finset.univ]{fullShare} f) ∗ (∃ f, sI.view.loc (thr d i) ↦[Finset.univ]{fullShare} f)
            ∗ RowAny d i (slot0 sR) ∗ RowAny d i (slot1 sR) ∗ semVal (thr d i, .dma s8) 0 ∗ semVal (thr d i, .dma s9) 0
            ∗ semVal (thr d i, .dma (r 0)) 0 ∗ Gathered d i tab idx r [0, 1, 2, 3, 4, 5, 6, 7, 8, 9, 10, 11, 12, 13, 14, 15]
            ∗ Owed (F := F) d i O W) := by
  unfold flatBody
  iintro ⟨HT, HI, Hst, Hsi, Hr0, Hr1, Hv8, Hv9, Hv, Htodo, Ho⟩
  rw [wp_bind]
  iapply (wp_wand_r frame _ _)
  isplitl [HT Hst Hv Ho]
  · iapply (copyTable_spec d i q' tab (r 0) O W) $$ [HT Hst Hv Ho]
    iframe
  iintro %_ ⟨HT, Ht, Hv, Ho⟩
  ihave Htodo := (todo_cons d i r _ _) $$ Htodo
  icases Htodo with ⟨⟨Hva, Hpa⟩, Htodo⟩
  rw [wp_bind]
  iapply (wp_wand_r frame _ _)
  isplitl [Ht HI Hsi Ho Hva Hr0 Hv8 Hpa]
  · iapply (chunk_spec d i q tab idx r s8 s9 O W hidx false 0) $$ [Ht HI Hsi Ho Hva Hr0 Hv8 Hpa]
    unfold Base
    iframe
    isplitl [Hr0]; · iexact Hr0
    iexact Hv8
  iintro %_ ⟨Hbase, Hva, Ha⟩
  ihave Htodo := (todo_cons d i r _ _) $$ Htodo
  icases Htodo with ⟨⟨Hvb, Hpb⟩, Htodo⟩
  rw [wp_bind]
  iapply (wp_wand_r frame _ _)
  isplitl [Hbase Hvb Hr1 Hv9 Hpb]
  · iapply (chunk_spec d i q tab idx r s8 s9 O W hidx true 1) $$ [Hbase Hvb Hr1 Hv9 Hpb]
    iframe
    isplitl [Hr1]; · iexact Hr1
    iexact Hv9
  iintro %_ ⟨Hbase, Hvb, Hb⟩
  iapply (wp_wand_r frame _ _)
  isplitl [Hbase Ha Hb Htodo]
  · iapply (chunks_spec d i q tab idx r s8 s9 O W hidx [2, 3, 4, 5, 6, 7, 8, 9, 10, 11, 12, 13, 14, 15] false 0 1) $$ [Hbase Ha Hb Htodo]
    iframe
    iexact Hb
  iintro %_ ⟨Hbase, Hpa, Hpb, Hl, ⟨Hr0, Hv8⟩, Hr1, Hv9⟩
  unfold Base
  icases Hbase with ⟨Ht, HI, Hsi, Ho⟩
  iframe HT HI Hsi Hv Ho
  isplitl [Ht]
  · unfold TabIs; iexists tab; iexact Ht
  isplitl [Hr0]; · iexact Hr0
  isplitl [Hr1]; · iexact Hr1
  isplitl [Hv8]; · iexact Hv8
  isplitl [Hv9]; · iexact Hv9
  iapply (gathered_cons d i tab idx r _ _) $$ [Hva Hpa Hvb Hpb Hl]
  iframe Hva Hpa
  iapply (gathered_cons d i tab idx r _ _) $$ [Hvb Hpb Hl]
  iframe

end Chunks

end Cert.KernelIdeal.Gather
-- ==== Proof.Tile.lean ====
/- A tile's task: its scratch buffers and semaphores taken out of what the launch hands it, the body run, and all of it
   handed back with the tile's part of the result. -/
module

public import proofs.«01_k».proof.Proof.Chunk

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-! ## Lists of chunks and sets of chunks -/

section Lists

variable (d : Dev nD) (i : grid0.Coords) (tab : Vec F S19648 .f32) (idx : Vec F S786432 .i32) (r : Fin 17 → DmaSem sig)

theorem todo_eq : ∀ l : List (Fin 16), l.Nodup →
    Todo (F := F) d i r l = bigSep l.toFinset fun k => iprop(semVal (thr d i, .dma (r k.succ)) 0 ∗ ∃ g, Piece d i k g)
  | [], _ => rfl
  | k :: l, h => by
    rw [List.nodup_cons] at h
    rw [List.toFinset_cons, bigSep_insert (by simpa using h.1), ← todo_eq l h.2]
    rfl

theorem gathered_eq : ∀ l : List (Fin 16), l.Nodup →
    Gathered (F := F) d i tab idx r l
      = bigSep l.toFinset fun k => iprop(semVal (thr d i, .dma (r k.succ)) 0 ∗ Piece d i k (gathered tab idx))
  | [], _ => rfl
  | k :: l, h => by
    rw [List.nodup_cons] at h
    rw [List.toFinset_cons, bigSep_insert (by simpa using h.1), ← gathered_eq l h.2]
    rfl

abbrev allChunks : List (Fin 16) := [0, 1, 2, 3, 4, 5, 6, 7, 8, 9, 10, 11, 12, 13, 14, 15]

theorem allChunks_univ : allChunks.toFinset = (Finset.univ : Finset (Fin 16)) := by decide

end Lists

/-! ## The staged rows -/

section Rows

variable (d : Dev nD) (i : grid0.Coords)

theorem slot0_set : (slot0 sR).view.set = Finset.univ.filter fun x : S2x24576.Idx => (x 0).val = 0 := by
  show (((View.whole cc0_scratch2).slice _).reshape _ _).set = _
  rw [View.set_reshape, View.set_slice_whole]
  ext x
  rw [Rect.mem_set_unit, Finset.mem_filter]
  have h0 : (x 0).val < 2 := (x 0).isLt
  have h1 : (x 1).val < 24576 := (x 1).isLt
  constructor
  · intro h
    have := h 0
    simp at this
    exact ⟨Finset.mem_univ _, by omega⟩
  · rintro ⟨-, h⟩ a
    match a with
    | 0 => exact ⟨by simp, by simp [h]⟩
    | 1 => exact ⟨by simp, by simpa using h1⟩

theorem slot1_set : (slot1 sR).view.set = Finset.univ.filter fun x : S2x24576.Idx => ¬ (x 0).val = 0 := by
  show (((View.whole cc0_scratch2).slice _).reshape _ _).set = _
  rw [View.set_reshape, View.set_slice_whole]
  ext x
  rw [Rect.mem_set_unit, Finset.mem_filter]
  have h0 : (x 0).val < 2 := (x 0).isLt
  have h1 : (x 1).val < 24576 := (x 1).isLt
  constructor
  · intro h
    have := h 0
    simp at this
    exact ⟨Finset.mem_univ _, by omega⟩
  · rintro ⟨-, h⟩ a
    match a with
    | 0 => exact ⟨by simp; omega, by simp; omega⟩
    | 1 => exact ⟨by simp, by simpa using h1⟩

theorem slots_disjoint : Disjoint (slot0 sR).view.set (slot1 sR).view.set := by
  rw [slot0_set, slot1_set]; exact Finset.disjoint_filter_filter_not _ _ _

theorem slots_cover : (slot0 sR).view.set ∪ (slot1 sR).view.set = Finset.univ := by
  rw [slot0_set, slot1_set]; exact Finset.filter_union_filter_not_eq _ _

theorem row_sets (f : Buf (Elt F) (sR.view.loc (thr d i))) :
    (sR.view.loc (thr d i) ↦[(slot0 sR).view.set ∪ (slot1 sR).view.set]{fullShare} f : sProp (MM F)) = (sR.view.loc (thr d i) ↦[Finset.univ]{fullShare} f) :=
  congrArg (fun S => (sR.view.loc (thr d i) ↦[S]{fullShare} f : sProp (MM F))) slots_cover

/-- The two rows are the buffer. -/
theorem rows_split : (iprop(∃ f, sR.view.loc (thr d i) ↦[Finset.univ]{fullShare} f) : sProp (MM F)) ⊢ iprop(RowAny d i (slot0 sR) ∗ RowAny d i (slot1 sR)) := by
  iintro ⟨%f, H⟩
  ihave H := (Entails.of_eq (row_sets d i f).symm) $$ H
  ihave H := (pointsTo_union (ℓ := sR.view.loc (thr d i)) (q := fullShare) (f := f) slots_disjoint).1 $$ H
  icases H with ⟨H0, H1⟩
  unfold RowAny
  isplitl [H0]
  · iexists f; iexact H0
  iexists f; iexact H1

theorem rows_join : iprop(RowAny d i (slot0 sR) ∗ RowAny d i (slot1 sR)) ⊢ (iprop(∃ f, sR.view.loc (thr d i) ↦[Finset.univ]{fullShare} f) : sProp (MM F)) := by
  unfold RowAny
  iintro ⟨⟨%f, H0⟩, %g, H1⟩
  ihave H := (pointsTo_join (ℓ := sR.view.loc (thr d i)) (f := f) (g := g) slots_disjoint) $$ [H0 H1]
  · isplitl [H0]; · iexact H0
    iexact H1
  iexists _
  iapply (Entails.of_eq (row_sets d i _)) $$ H

end Rows

/-! ## The tile's own buffers and semaphores -/

section Own

variable (d : Dev nD) (i : grid0.Coords)

theorem bigSep_succ {n : Nat} (Φ : Fin (n + 1) → sProp (MM F)) :
    bigSep Finset.univ Φ = iprop(Φ 0 ∗ bigSep Finset.univ fun k : Fin n => Φ k.succ) := by
  rw [Fin.univ_succ, Finset.cons_eq_insert, SparseCore.bigSep_insert' (by simp [Fin.succ_ne_zero]), bigSep_map]
  rfl

/-- The copies' semaphores: one for the table and one for each chunk's indices. -/
def copySem : Fin 17 → DmaSem sig :=
  ![cc0_scoped0.sem, cc0_scoped1.sem, cc0_scoped2.sem, cc0_scoped3.sem, cc0_scoped4.sem, cc0_scoped5.sem, cc0_scoped6.sem, cc0_scoped7.sem,
    cc0_scoped8.sem, cc0_scoped9.sem, cc0_scoped10.sem, cc0_scoped11.sem, cc0_scoped12.sem, cc0_scoped13.sem, cc0_scoped14.sem, cc0_scoped15.sem,
    cc0_scoped16.sem]

/-- All semaphores of the body, the rows' first. -/
def bodySem : Fin 19 → DmaSem sig := Fin.cons cc0_scratch3.sem (Fin.cons cc0_scratch4.sem copySem)

theorem bodySem_val (j : Fin 19) : (bodySem j).val = j.val := by
  revert j; decide

theorem bodySem_inj : Function.Injective bodySem := fun a b h =>
  Fin.ext (by rw [← bodySem_val a, ← bodySem_val b, h])

theorem bodySem_scoped (j : Fin 19) : (SemLoc.dma (bodySem j) : SemLoc sig).isScoped .scVector = true := by
  revert j; decide

/-- The body's semaphores as cells of the tile. -/
def bodyCell : Fin 19 ↪ GSem nD τ sig :=
  ⟨fun j => (thr d i, .dma (bodySem j)), fun a b h => bodySem_inj (by injection h with _ h; injection h)⟩

/-- The tile's other semaphores, at zero. -/
def otherSems : sProp (MM F) := bigSep (ownCells (thr d i) \ Finset.univ.map (bodyCell d i)) fun g => semVal g 0

theorem ownSems0_eq :
    (ownSems0 (thr d i) : sProp (MM F))
      = iprop((semVal (thr d i, .dma cc0_scratch3.sem) 0 ∗ semVal (thr d i, .dma cc0_scratch4.sem) 0 ∗ semVal (thr d i, .dma (copySem 0)) 0
          ∗ bigSep Finset.univ fun k : Fin 16 => semVal (thr d i, .dma (copySem k.succ)) 0) ∗ otherSems d i) := by
  have hsub : Finset.univ.map (bodyCell d i) ⊆ ownCells (thr d i) := by
    intro g hg
    obtain ⟨j, -, rfl⟩ := Finset.mem_map.mp hg
    exact mem_ownCells.mpr ⟨rfl, bodySem_scoped j⟩
  unfold ownSems0 otherSems
  rw [SparseCore.bigSep_sdiff_split' hsub, bigSep_map, bigSep_succ, bigSep_succ, bigSep_succ]
  rfl

def bodyRef : Fin 3 → Ref sig .scVector := ![cc0_scratch0, cc0_scratch1, cc0_scratch2]

theorem bodyRef_inj : Function.Injective bodyRef := by
  have : ∀ a b : Fin 3, bodyRef a = bodyRef b → a = b := by decide
  exact fun a b => this a b

def bodyDev : Fin 3 ↪ DevRef τ sig :=
  ⟨fun j => (thr d i).2.devRef (bodyRef j), fun _ _ h => bodyRef_inj (Proc.devRef_injective _ h)⟩

/-- The tile's other buffers. -/
def otherBufs : sProp (MM F) :=
  bigSep (ownRefs (thr d i).2 \ Finset.univ.map (bodyDev d i)) fun b => iprop(∃ f, ((d, b) : Loc nD τ sig) ↦{fullShare} f)

theorem ownBufs_eq :
    (ownBufs (thr d i) : sProp (MM F))
      = iprop(((∃ f, sT.view.loc (thr d i) ↦[Finset.univ]{fullShare} f) ∗ (∃ f, sI.view.loc (thr d i) ↦[Finset.univ]{fullShare} f)
          ∗ (∃ f, sR.view.loc (thr d i) ↦[Finset.univ]{fullShare} f)) ∗ otherBufs d i) := by
  have hsub : Finset.univ.map (bodyDev d i) ⊆ ownRefs (thr d i).2 := by
    intro g hg
    obtain ⟨j, -, rfl⟩ := Finset.mem_map.mp hg
    apply SparseCore.Cfg.mem_ownRefs_of_owner
    match j with
    | 0 => rfl
    | 1 => rfl
    | 2 => rfl
  unfold ownBufs otherBufs
  rw [SparseCore.bigSep_sdiff_split' hsub, bigSep_map, bigSep_succ, bigSep_succ, bigSep_univ_of_subsingleton (0 : Fin 1)]
  rfl

end Own

/-! ## The task -/

section Task

variable (d : Dev nD) (i : grid0.Coords) (q q' : PosShare TreeShare) (tab : Vec F S19648 .f32) (idx : Vec F S786432 .i32)

/-- What the tile is handed: read shares of the table and of the indices, and its words of the result. -/
def Task : sProp (MM F) :=
  iprop((mT.view.loc (thr d i) ↦[Finset.univ]{q'} tab) ∗ IdxAll d i q idx ∗ bigSep Finset.univ fun k : Fin 16 => iprop(∃ g, Piece d i k g))

theorem piece_any (k : Fin 16) (g : Vec F S12582912 .f32) : iprop(Piece (F := F) d i k g) ⊢ iprop(∃ g, Piece d i k g) := by
  iintro H; iexists g; iexact H

theorem task_of_pieces (g : Vec F S12582912 .f32) :
    iprop((mT.view.loc (thr d i) ↦[Finset.univ]{q'} tab) ∗ IdxAll d i q idx ∗ bigSep Finset.univ fun k : Fin 16 => Piece d i k g)
      ⊢ Task d i q q' tab idx := by
  unfold Task
  iintro ⟨HT, HI, HP⟩
  iframe HT HI
  have h : (bigSep Finset.univ fun k : Fin 16 => Piece d i k g) ⊢ bigSep Finset.univ fun k : Fin 16 => iprop(∃ g, Piece (F := F) d i k g) :=
    bigSep_mono fun k _ => piece_any d i k g
  iapply h $$ HP

/-- What it hands back: the same, its words of the result gathered. -/
def TaskDone : sProp (MM F) :=
  iprop((mT.view.loc (thr d i) ↦[Finset.univ]{q'} tab) ∗ IdxAll d i q idx ∗ bigSep Finset.univ fun k : Fin 16 => Piece d i k (gathered tab idx))

theorem pts_storable (ℓ : Loc nD τ sig) (S : Finset (Idx ℓ)) (q : PosShare TreeShare) (f : Buf (Elt F) ℓ) :
    BI.Storable (upEmb : UEmb _ (MM F)) (ℓ ↦[S]{q} f : sProp (MM F)) := inferInstance

instance piece_storable (k : Fin 16) (g : Vec F S12582912 .f32) : BI.Storable (upEmb : UEmb _ (MM F)) (Piece (F := F) d i k g) := by
  exact pts_storable _ _ _ _
instance idxAll_storable : BI.Storable (upEmb : UEmb _ (MM F)) (IdxAll (F := F) d i q idx) := by exact pts_storable _ _ _ _
instance tab_storable : BI.Storable (upEmb : UEmb _ (MM F)) (iprop(mT.view.loc (thr d i) ↦[Finset.univ]{q'} tab) : sProp (MM F)) := pts_storable _ _ _ _
instance task_storable : BI.Storable (upEmb : UEmb _ (MM F)) (Task (F := F) d i q q' tab idx) := by unfold Task; infer_instance
instance taskDone_storable : BI.Storable (upEmb : UEmb _ (MM F)) (TaskDone (F := F) d i q q' tab idx) := by unfold TaskDone; infer_instance

theorem body_spec (hidx : ∀ j, BitVec.toNat (idx j) < 1228) (O : CellTallies nD τ sig (HIx 1)) (W : Waits sig (HIx 1)) (hO : ∀ g, O g none = 0) :
    iprop(levAts (K (F := F)).L (K (F := F)).lev ∗ emp ∗ Task d i q q' tab idx ∗ scopedBufs (thr d i) ∗ scopedSems0 (thr d i) ∗ owes (thr d i) O W)
      ⊢ wp frame (wpE (defs₀ (F := F)) 𝒱₀ (thr d i) none) Set.univ
          (cc0_body i mT (Memref.isWhole_whole _) mI (Memref.isWhole_whole _) mO (Memref.isWhole_whole _) sT (Memref.isWhole_whole _)
            sI (Memref.isWhole_whole _) sR (Memref.isWhole_whole _) cc0_scratch3 cc0_scratch4 cc0_scoped0 cc0_scoped1 cc0_scoped2 cc0_scoped3 cc0_scoped4
            cc0_scoped5 cc0_scoped6 cc0_scoped7 cc0_scoped8 cc0_scoped9 cc0_scoped10 cc0_scoped11 cc0_scoped12 cc0_scoped13 cc0_scoped14 cc0_scoped15
            cc0_scoped16)
          fun _ => iprop(TaskDone d i q q' tab idx ∗ scopedBufs (thr d i) ∗ scopedSems0 (thr d i)
            ∗ ∃ W', ⌜∀ p ∈ W', p ∈ W ∨ p.2 = none ∨ p.2 = some (0 : Fin 1)⌝ ∗ owes (thr d i) O W') := by
  rw [(K (F := F)).scopedBufs_V launchFacts d _ _, SparseCore.Cfg.scopedSems0_V (Val := Elt F) d _ _, ownSems0_eq, ownBufs_eq, cc0_body_eq]
  unfold Task TaskDone
  iintro ⟨#Hlv, -, ⟨HT, HI, HP⟩, ⟨⟨Hst, Hsi, Hsr⟩, Hbufs⟩, ⟨⟨Hv8, Hv9, Hv, Hvs⟩, Hsems⟩, HO⟩
  ihave Hmw := (show levAts (K (F := F)).L (K (F := F)).lev ⊢ Transfers.MayWaits (thr d i) (default : HIx 1) O from
    (K (F := F)).mayWaits_none (thr := thr d i) hO) $$ Hlv
  ihave Hrows := (rows_split d i) $$ Hsr
  icases Hrows with ⟨Hr0, Hr1⟩
  iapply (wp_wand_r frame _ _)
  isplitl [HT HI HP Hst Hsi Hr0 Hr1 Hv8 Hv9 Hv Hvs HO Hmw]
  · iapply (flatBody_spec d i q tab idx copySem cc0_scratch3.sem cc0_scratch4.sem O W hidx q') $$ [HT HI HP Hst Hsi Hr0 Hr1 Hv8 Hv9 Hv Hvs HO Hmw]
    iframe HT HI Hst Hsi Hr0 Hr1 Hv8 Hv9 Hv
    isplitl [HP Hvs]
    · rw [todo_eq d i copySem allChunks (by decide), allChunks_univ, bigSep_sep']
      isplitl [Hvs]; · iexact Hvs
      iexact HP
    unfold Owed
    isplitl [Hmw]; · iexact Hmw
    iexists W
    isplitr [HO]
    · ipureintro; exact fun p hp => .inl hp
    iexact HO
  iintro %_ ⟨HT, HI, Hst, Hsi, Hr0, Hr1, Hv8, Hv9, Hv, Hdone, Ho⟩
  ihave Hsr := (rows_join d i) $$ [Hr0 Hr1]
  · isplitl [Hr0]; · iexact Hr0
    iexact Hr1
  ihave Hdone := (Entails.of_eq (show Gathered (F := F) d i tab idx copySem allChunks = iprop((bigSep Finset.univ fun k : Fin 16 => semVal (thr d i, .dma (copySem k.succ)) 0)
      ∗ bigSep Finset.univ fun k : Fin 16 => Piece d i k (gathered tab idx)) by
    rw [gathered_eq d i tab idx copySem allChunks (by decide), allChunks_univ, bigSep_sep'])) $$ Hdone
  icases Hdone with ⟨Hvs, HP⟩
  ihave Ho := (owed_open d i) $$ Ho
  icases Ho with ⟨-, %W', %hW', HO⟩
  iframe HT HI HP Hst Hsi Hsr Hbufs Hv8 Hv9 Hv Hvs Hsems
  iexists W'
  isplitr [HO]
  · ipureintro; exact fun p hp => (hW' p hp).imp_right .inl
  iexact HO

end Task

end Cert.KernelIdeal.Gather
-- ==== Proof.Calls.lean ====
/- The call of the gather: what goes to the SparseCores and what comes back, the tiles' obligation, and the whole arrays
   dealt to the tiles and gathered from them. -/
module

public import proofs.«01_k».proof.Proof.Tile

@[expose] public section

noncomputable section

namespace Cert.KernelIdeal.Gather

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-- The coordinates of a SparseCore's tile in the call's grid. -/
def coordsV (c : Fin (grid0.bound 0)) (s : Fin (grid0.bound 1)) : grid0.Coords :=
  fun | 0 => c | 1 => s | ⟨_ + 2, h⟩ => absurd h (Nat.not_lt.2 (Nat.le_add_left _ _))

abbrev tile (c : Fin 2) (s : Fin 16) : grid0.Coords := coordsV c s

/-- A tile's share of an array that all read. -/
def share (c : Fin 2) (s : Fin 16) : PosShare TreeShare :=
  Transfers.dealOf (Transfers.dealOf fullShare Finset.univ c) Finset.univ s

section Payloads

variable (tab : Dev nD → Vec F S19648 .f32) (idx : Dev nD → Vec F S786432 .i32)

abbrev taskOf (d : Dev nD) (c : Fin 2) (s : Fin 16) : sProp (MM F) := Task d (tile c s) (share c s) (share c s) (tab d) (idx d)
abbrev doneOf (d : Dev nD) (c : Fin 2) (s : Fin 16) : sProp (MM F) := TaskDone d (tile c s) (share c s) (share c s) (tab d) (idx d)

/-- What the handshakes of the call carry. -/
def P : (K (F := F)).Pay (nD := nD) (Val := Elt F) (Name := ℕ) (U := UU) where
  st := fun q d c => match q with | 0 => bigSep Finset.univ fun s : Fin 16 => taskOf tab idx d c s
  dn := fun q d c => match q with | 0 => bigSep Finset.univ fun s : Fin 16 => doneOf tab idx d c s
  go := fun q d c s => match q with | 0 => taskOf tab idx d c s
  td := fun q d c s => match q with | 0 => doneOf tab idx d c s
  x := fun _ _ => iprop(emp)

instance P_storable : (P (F := F) tab idx).IsStorable where
  st q d c := match q with
    | 0 => (inferInstance : BI.Storable (upEmb : UEmb _ (MM F)) (bigSep Finset.univ fun s : Fin 16 => taskOf tab idx d c s))
  dn q d c := match q with
    | 0 => (inferInstance : BI.Storable (upEmb : UEmb _ (MM F)) (bigSep Finset.univ fun s : Fin 16 => doneOf tab idx d c s))
  go q d c s := match q with | 0 => (inferInstance : BI.Storable (upEmb : UEmb _ (MM F)) (taskOf tab idx d c s))
  td q d c s := match q with | 0 => (inferInstance : BI.Storable (upEmb : UEmb _ (MM F)) (doneOf tab idx d c s))

theorem defs₀_vector (c : Fin τ.nSC) (s : Fin τ.nSub) :
    defs₀ (F := F) (.scVector c s) 0 ()
      = SparseCore.onTile hcore0 hsub0 (fun c s => cc0_body (coordsV c s)
          mT (Memref.isWhole_whole _) mI (Memref.isWhole_whole _) mO (Memref.isWhole_whole _) sT (Memref.isWhole_whole _)
          sI (Memref.isWhole_whole _) sR (Memref.isWhole_whole _) cc0_scratch3 cc0_scratch4 cc0_scoped0 cc0_scoped1 cc0_scoped2 cc0_scoped3 cc0_scoped4
          cc0_scoped5 cc0_scoped6 cc0_scoped7 cc0_scoped8 cc0_scoped9 cc0_scoped10 cc0_scoped11 cc0_scoped12 cc0_scoped13 cc0_scoped14 cc0_scoped15
          cc0_scoped16) ⟨⟩ c s := rfl

theorem tileObl (hidx : ∀ d j, BitVec.toNat (idx d j) < 1228) : (K (F := F)).TileObl (D (F := F)) 𝒱 (P tab idx) v₀ 0 := by
  intro d c s O W hO _ _
  simp only [show (P tab idx).ox = fun _ _ => 0 from rfl, add_zero]
  have hcs : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hcs, and_self, ↓reduceDIte]
  exact body_spec d (tile c s) (share c s) (share c s) (tab d) (idx d) (hidx d) O W hO

theorem vecSplit : (K (F := F)).VecSplit' (P tab idx) 0 := by
  intro d c
  show (bigSep Finset.univ fun s : Fin 16 => taskOf tab idx d c s) ⊢ |={Set.univ}=> iprop(
    (bigSep Finset.univ fun s : Fin 16 => taskOf tab idx d c s)
      ∗ ((bigSep Finset.univ fun s : Fin 16 => doneOf tab idx d c s) -∗ bigSep Finset.univ fun s : Fin 16 => doneOf tab idx d c s))
  iintro H; imodintro
  isplitl [H]; · iexact H
  iintro H; iexact H

end Payloads

/-! ## The arrays dealt to the tiles -/

section Deal

variable (d : Dev nD)

/-- An array read by all, in the tiles' shares. -/
theorem deal_eq {ℓ : Loc nD τ sig} (f : Buf (Elt F) ℓ) :
    (ℓ ↦{fullShare} f : sProp (MM F)) = bigSep Finset.univ fun c : Fin 2 => bigSep Finset.univ fun s : Fin 16 => ℓ ↦{share c s} f := by
  rw [Transfers.pointsTo_deal (Finset.univ : Finset (Fin 2)) Finset.univ_nonempty fullShare]
  exact bigSep_congr fun c _ => Transfers.pointsTo_deal (Finset.univ : Finset (Fin 16)) Finset.univ_nonempty _

/-- The words of the result that a chunk writes. -/
abbrev words (x : Fin 2 × Fin 16 × Fin 16) : Finset (Idx ((T d : Thread nD τ).loc main_v144)) :=
  (Rect.unit (s := S12582912) (k0_off3 (tile x.1 x.2.1) (BitVec.ofNat 32 (1536 * x.2.2.val))) S24576.size (k0_off3_inb (tile x.1 x.2.1) x.2.2)).set

theorem mem_words (x : Fin 2 × Fin 16 × Fin 16) (p : S12582912.Idx) :
    p ∈ words d x ↔ 786432 * x.2.1.val + 393216 * x.1.val + 24576 * x.2.2.val ≤ (p 0).val
      ∧ (p 0).val < 786432 * x.2.1.val + 393216 * x.1.val + 24576 * x.2.2.val + 24576 := by
  unfold words
  rw [Rect.mem_set_unit]
  have e : k0_off3 (tile x.1 x.2.1) (BitVec.ofNat 32 (1536 * x.2.2.val)) 0 = 786432 * x.2.1.val + 393216 * x.1.val + 24576 * x.2.2.val :=
    congrFun (k0_off3_eq (tile x.1 x.2.1) x.2.2) 0
  constructor
  · intro h
    have := h 0
    rw [e] at this
    exact this
  · intro h a
    rw [Fin.eq_zero a, e]
    exact h

theorem words_disjoint : ∀ x ∈ (Finset.univ : Finset (Fin 2 × Fin 16 × Fin 16)), ∀ y ∈ (Finset.univ : Finset (Fin 2 × Fin 16 × Fin 16)), x ≠ y →
    Disjoint (words d x) (words d y) := by
  intro x _ y _ h
  rw [Finset.disjoint_left]
  intro p hx hy
  rw [mem_words] at hx hy
  apply h
  obtain ⟨⟨a, ha⟩, ⟨b, hb⟩, ⟨k, hk⟩⟩ := x
  obtain ⟨⟨a', ha'⟩, ⟨b', hb'⟩, ⟨k', hk'⟩⟩ := y
  simp only at hx hy
  have e1 : b = b' := by omega
  have e2 : a = a' := by omega
  have e3 : k = k' := by omega
  subst e1 e2 e3
  rfl

theorem words_cover : (Finset.univ : Finset (Fin 2 × Fin 16 × Fin 16)).biUnion (words d) = Finset.univ := by
  refine Finset.eq_univ_iff_forall.mpr fun p => ?_
  have hp : (p 0).val < 12582912 := (p 0).isLt
  rw [Finset.mem_biUnion]
  refine ⟨(⟨(p 0).val % 786432 / 393216, by omega⟩, ⟨(p 0).val / 786432, by omega⟩, ⟨(p 0).val % 393216 / 24576, by omega⟩), Finset.mem_univ _, ?_⟩
  rw [mem_words]
  simp only
  omega

theorem piece_set (d : Dev nD) (c : Fin 2) (s k : Fin 16) : (outSlice (tile c s) mO k).view.set = words d (c, s, k) := View.set_slice_whole _ _

/-- The result, in the chunks' words. -/
theorem pieces_eq (g : Vec F S12582912 .f32) :
    ((T d : Thread nD τ).loc main_v144 ↦{fullShare} g : sProp (MM F))
      = bigSep Finset.univ fun c : Fin 2 => bigSep Finset.univ fun s : Fin 16 => bigSep Finset.univ fun k : Fin 16 => Piece d (tile c s) k g := by
  refine (congrArg (fun S => ((T d : Thread nD τ).loc main_v144 ↦[S]{fullShare} g : sProp (MM F))) (words_cover d).symm).trans ?_
  refine (pointsTo_biUnion (ℓ := (T d : Thread nD τ).loc main_v144) Finset.univ (words d) (words_disjoint d)).trans ?_
  refine (bigSep_univ_prod _).trans (bigSep_congr fun c _ => (bigSep_univ_prod _).trans (bigSep_congr fun s _ => bigSep_congr fun k _ => ?_))
  unfold Piece
  rw [piece_set d]
  rfl

variable (tab : Dev nD → Vec F S19648 .f32) (idx : Dev nD → Vec F S786432 .i32)

/-- The call's operands are what the tiles are handed. -/
theorem deal (g : Vec F S12582912 .f32) :
    iprop(((T d : Thread nD τ).loc main_v143 ↦{fullShare} (tab d : Buf (Elt F) ((T d : Thread nD τ).loc main_v143)))
        ∗ ((T d : Thread nD τ).loc main_v142 ↦{fullShare} (idx d : Buf (Elt F) ((T d : Thread nD τ).loc main_v142)))
        ∗ (T d : Thread nD τ).loc main_v144 ↦{fullShare} (g : Buf (Elt F) ((T d : Thread nD τ).loc main_v144)))
      ⊢ (bigSep Finset.univ fun c : Fin ((K (F := F)).nCore 0) => (P tab idx).st 0 d c : sProp (MM F)) := by
  show _ ⊢ bigSep Finset.univ fun c : Fin 2 => bigSep Finset.univ fun s : Fin 16 => taskOf tab idx d c s
  rw [deal_eq, deal_eq (ℓ := (T d : Thread nD τ).loc main_v142), pieces_eq]
  iintro ⟨HT, HI, HO⟩
  ihave H := (Entails.of_eq (show iprop((bigSep Finset.univ fun c : Fin 2 => bigSep Finset.univ fun s : Fin 16 => iprop(mT.view.loc (thr d (tile c s)) ↦[Finset.univ]{share c s} tab d))
      ∗ (bigSep Finset.univ fun c : Fin 2 => bigSep Finset.univ fun s : Fin 16 => IdxAll d (tile c s) (share c s) (idx d))
      ∗ bigSep Finset.univ fun c : Fin 2 => bigSep Finset.univ fun s : Fin 16 => bigSep Finset.univ fun k : Fin 16 => Piece d (tile c s) k g)
    = (bigSep Finset.univ fun c : Fin 2 => bigSep Finset.univ fun s : Fin 16 => iprop((mT.view.loc (thr d (tile c s)) ↦[Finset.univ]{share c s} tab d)
        ∗ IdxAll d (tile c s) (share c s) (idx d) ∗ bigSep Finset.univ fun k : Fin 16 => Piece d (tile c s) k g)) by
    simp only [bigSep_sep'])) $$ [HT HI HO]
  · isplitl [HT]; · iexact HT
    isplitl [HI]; · iexact HI
    iexact HO
  iapply (show (bigSep Finset.univ fun c : Fin 2 => bigSep Finset.univ fun s : Fin 16 => iprop((mT.view.loc (thr d (tile c s)) ↦[Finset.univ]{share c s} tab d)
        ∗ IdxAll d (tile c s) (share c s) (idx d) ∗ bigSep Finset.univ fun k : Fin 16 => Piece d (tile c s) k g))
      ⊢ bigSep Finset.univ fun c : Fin 2 => bigSep Finset.univ fun s : Fin 16 => taskOf tab idx d c s from
    bigSep_mono fun c _ => bigSep_mono fun s _ => task_of_pieces d (tile c s) _ _ _ _ g) $$ H

/-- What comes back is the operands and the gathered rows. -/
theorem collect :
    (bigSep Finset.univ fun c : Fin ((K (F := F)).nCore 0) => (P tab idx).dn 0 d c : sProp (MM F))
      ⊢ iprop(((T d : Thread nD τ).loc main_v143 ↦{fullShare} (tab d : Buf (Elt F) ((T d : Thread nD τ).loc main_v143)))
        ∗ ((T d : Thread nD τ).loc main_v142 ↦{fullShare} (idx d : Buf (Elt F) ((T d : Thread nD τ).loc main_v142)))
        ∗ (T d : Thread nD τ).loc main_v144 ↦{fullShare} (gathered (tab d) (idx d) : Buf (Elt F) ((T d : Thread nD τ).loc main_v144))) := by
  show (bigSep Finset.univ fun c : Fin 2 => bigSep Finset.univ fun s : Fin 16 => doneOf tab idx d c s) ⊢ _
  rw [deal_eq, deal_eq (ℓ := (T d : Thread nD τ).loc main_v142), pieces_eq]
  simp only [doneOf, TaskDone, bigSep_sep']
  iintro ⟨HT, HI, HO⟩
  isplitl [HT]; · iexact HT
  isplitl [HI]; · iexact HI
  iexact HO

end Deal

end Cert.KernelIdeal.Gather
-- ==== Proof.TcValue.lean ====
/- What one step of the TensorCore kernel computes from its 37 input blocks, as a function of those blocks alone:
   the six party slots one after the other, their means, the party and global branches, and the last layer. -/
module

public import proofs.«01_k».proof.Proof.Setup
public import Idealize.ShloMosaic.Lib.Pipeline.FrameBody
public import Idealize.ShloMosaic.Lib.VecWindow

@[expose] public section

noncomputable section

namespace Cert.KernelIdeal.Dense

open Cert.KernelIdeal Cert.KernelIdeal.Facts₀ Cert.KernelIdeal.Facts
open Idealize.ShloMosaic

variable {F : FTy → Type} [FloatOps F] [Named F]

/-- The 37 input blocks of a step, in the order of the kernel's windows. -/
structure Blocks (F : FTy → Type) where
  emb : Vec F S6x512x128 .f32
  hp : Vec F S512x6 .f32
  lvl : Vec F S512x6 .f32
  att : Vec F S512x6 .f32
  defn : Vec F S512x6 .f32
  spe : Vec F S512x6 .f32
  spa : Vec F S512x6 .f32
  spd : Vec F S512x6 .f32
  pp : Vec F S512x24 .f32
  exp : Vec F S512x6 .f32
  ehp : Vec F S512x6 .f32
  elvl : Vec F S512x6 .f32
  onehot : Vec F S512x36 .f32
  level : Vec F S512x6 .i32
  php : Vec F S512x6 .f32
  inb : Vec F S512x1 .f32
  badge : Vec F S512x8 .f32
  hms : Vec F S512x8 .f32
  map : Vec F S512x55 .f32
  pW1 : Vec F S128x128 .f32
  G : Vec F S6x120x256 .f32
  pb1 : Vec F S1x128 .f32
  pW2 : Vec F S128x128 .f32
  pb2 : Vec F S1x128 .f32
  eb1 : Vec F S1x128 .f32
  eW2 : Vec F S128x128 .f32
  eb2 : Vec F S1x128 .f32
  paW : Vec F S2x128 .f32
  pab : Vec F S1x128 .f32
  gW : Vec F S17x32 .f32
  gb : Vec F S1x32 .f32
  fWp : Vec F S128x256 .f32
  fWe : Vec F S128x256 .f32
  fWpa : Vec F S128x256 .f32
  fWm : Vec F S55x256 .f32
  fWg : Vec F S32x256 .f32
  fb : Vec F S1x256 .f32

/-- The zero the rectifiers compare with and the sums start from. -/
abbrev zero : F .f32 := Scalar.ofBits .f32 0x00000000#32

theorem slotInb : ∀ (p : Fin 6) (a : Fin 3), (![p.val, 0, 0] : Fin 3 → ℕ) a + S1x512x128.size a ≤ S6x512x128.size a := by decide
theorem sideInb : ∀ (p : Fin 6) (a : Fin 3), (![p.val, 0, 0] : Fin 3 → ℕ) a + S1x120x256.size a ≤ S6x120x256.size a := by decide

/-- Slot `p`'s gathered rows. -/
def slotRows (X : Vec F S6x512x128 .f32) (p : Fin 6) : FVec F S512x128 .f32 :=
  shapeCast S512x128 (View.ld X (Rect.unit (s := S6x512x128) ![p.val, 0, 0] S1x512x128.size (slotInb p)) : Vec F S1x512x128 .f32) shapeCasts_S1x512x128_S512x128

/-- Slot `p`'s plane of the table that spreads the 120 plain features. -/
def sidePlane (X : Vec F S6x120x256 .f32) (p : Fin 6) : FVec F S120x256 .f32 :=
  shapeCast S120x256 (View.ld X (Rect.unit (s := S6x120x256) ![p.val, 0, 0] S1x120x256.size (sideInb p)) : Vec F S1x120x256 .f32) shapeCasts_S1x120x256_S120x256

/-- The 120 plain features of each of the step's samples. -/
def plain (B : Blocks F) : FVec F S512x120 .f32 :=
  concatenate S512x120 1 [⟨S512x6, B.hp⟩, ⟨S512x6, B.lvl⟩, ⟨S512x6, B.att⟩, ⟨S512x6, B.defn⟩, ⟨S512x6, B.spe⟩, ⟨S512x6, B.spa⟩, ⟨S512x6, B.spd⟩,
    ⟨S512x24, (shapeCast S512x24 B.pp shapeCasts_S512x24_S512x24 : FVec F S512x24 .f32)⟩, ⟨S512x6, B.exp⟩, ⟨S512x6, B.ehp⟩, ⟨S512x6, B.elvl⟩,
    ⟨S512x36, (shapeCast S512x36 B.onehot shapeCasts_S512x36_S512x36 : FVec F S512x36 .f32)⟩]
    concatenates_S512x6_S512x6_S512x6_S512x6_S512x6_S512x6_S512x6_S512x24_S512x6_S512x6_S512x6_S512x36_S512x120_d1

/-- Both networks' first-layer share of the plain features of slot `p`. -/
def side (B : Blocks F) (p : Fin 6) : FVec F S512x256 .f32 :=
  matmul dot_S512x120_S120x256_S512x256_1_0_0_1_n_n none (plain B) (sidePlane B.G p) (constant S512x256 .f32 0x00000000#32)

/-- Slot `p`'s hidden layer of the player's network. -/
def playerHidden (B : Blocks F) (p : Fin 6) : FVec F S512x128 .f32 :=
  maximumf (addf (addf
      (matmul dot_S512x128_S128x128_S512x128_1_0_0_1_n_n none (slotRows B.emb p) (shapeCast S128x128 B.pW1 shapeCasts_S128x128_S128x128 : FVec F S128x128 .f32) (constant S512x128 .f32 0x00000000#32))
      (extractStridedSlice S512x128 ![0, 0] (side B p) slices_S512x256_o0_0_S512x128))
      (broadcastTo S512x128 (shapeCast S1x128 B.pb1 shapeCasts_S1x128_S1x128 : FVec F S1x128 .f32) broadcasts_S1x128_S512x128))
    (broadcast S512x128 zero)

/-- Slot `p`'s hidden layer of the enemy's network. -/
def enemyHidden (B : Blocks F) (p : Fin 6) : FVec F S512x128 .f32 :=
  maximumf (addf (extractStridedSlice S512x128 ![0, 128] (side B p) slices_S512x256_o0_128_S512x128)
      (broadcastTo S512x128 (shapeCast S1x128 B.eb1 shapeCasts_S1x128_S1x128 : FVec F S1x128 .f32) broadcasts_S1x128_S512x128))
    (broadcast S512x128 zero)

/-- Six terms added in order, from zero. -/
def sumSix (t : Fin 6 → FVec F S512x128 .f32) : FVec F S512x128 .f32 :=
  addf (addf (addf (addf (addf (addf (broadcast S512x128 zero) (t 0)) (t 1)) (t 2)) (t 3)) (t 4)) (t 5)

/-- Hidden layers through a network's second layer, averaged over the slots. -/
def secondLayer (hid : Fin 6 → FVec F S512x128 .f32) (W : Vec F S128x128 .f32) (b : Vec F S1x128 .f32) : FVec F S512x128 .f32 :=
  addf (mulf (sumSix fun p => matmul dot_S512x128_S128x128_S512x128_1_0_0_1_n_n none (hid p) W (constant S512x128 .f32 0x00000000#32))
      (broadcast S512x128 (Named.named κ "sixth" 0x3E2AAAAB#32)))
    (broadcastTo S512x128 (shapeCast S1x128 b shapeCasts_S1x128_S1x128 : FVec F S1x128 .f32) broadcasts_S1x128_S512x128)

/-- The mean over the six slots, as one column. -/
def meanSix (x : FVec F S512x6 .f32) : FVec F S512x1 .f32 :=
  divf (shapeCast S512x1 (multiReduction .add [1] S512 x 0x00000000#32 reduces_S512x6_S512 (.inl rfl) rfl : FVec F S512 .f32) shapeCasts_S512_S512x1)
    (broadcast S512x1 (Scalar.ofBits .f32 0x40C00000#32))

/-- The party branch. -/
def partyPart (B : Blocks F) : FVec F S512x128 .f32 :=
  addf (addf
      (mulf (broadcastTo S512x128 (meanSix B.php) broadcasts_S512x1_S512x128)
        (broadcastTo S512x128 (View.ld B.paW (Rect.unit (s := S2x128) ![0, 0] S1x128.size inb_S2x128_S1x128_0_0) : Vec F S1x128 .f32) broadcasts_S1x128_S512x128))
      (mulf (broadcastTo S512x128 (meanSix (divf (sitofp .f32 B.level) (broadcast S512x6 (Scalar.ofBits .f32 0x42C80000#32)))) broadcasts_S512x1_S512x128)
        (broadcastTo S512x128 (View.ld B.paW (Rect.unit (s := S2x128) ![1, 0] S1x128.size inb_S2x128_S1x128_1_0) : Vec F S1x128 .f32) broadcasts_S1x128_S512x128)))
    (broadcastTo S512x128 (shapeCast S1x128 B.pab shapeCasts_S1x128_S1x128 : FVec F S1x128 .f32) broadcasts_S1x128_S512x128)

/-- The global branch. -/
def globalPart (B : Blocks F) : FVec F S512x32 .f32 :=
  maximumf (addf
      (matmul dot_S512x17_S17x32_S512x32_1_0_0_1_n_n none
        (concatenate S512x17 1 [⟨S512x1, B.inb⟩, ⟨S512x8, B.badge⟩, ⟨S512x8, B.hms⟩] concatenates_S512x1_S512x8_S512x8_S512x17_d1 : FVec F S512x17 .f32)
        B.gW (constant S512x32 .f32 0x00000000#32))
      (broadcastTo S512x32 (shapeCast S1x32 B.gb shapeCasts_S1x32_S1x32 : FVec F S1x32 .f32) broadcasts_S1x32_S512x32))
    (broadcast S512x32 zero)

/-- A 128-wide branch through its rows of the last layer. -/
def throughLast (x : FVec F S512x128 .f32) (W : Vec F S128x256 .f32) : FVec F S512x256 .f32 :=
  matmul dot_S512x128_S128x256_S512x256_1_0_0_1_n_n none x (shapeCast S128x256 W shapeCasts_S128x256_S128x256 : FVec F S128x256 .f32) (constant S512x256 .f32 0x00000000#32)

/-- The step's output block. -/
def outBlock (B : Blocks F) : FVec F S512x256 .f32 :=
  maximumf (addf (addf (addf (addf (addf
      (throughLast (secondLayer (playerHidden B) B.pW2 B.pb2) B.fWp)
      (throughLast (secondLayer (enemyHidden B) B.eW2 B.eb2) B.fWe))
      (throughLast (partyPart B) B.fWpa))
      (matmul dot_S512x55_S55x256_S512x256_1_0_0_1_n_n none B.map (shapeCast S55x256 B.fWm shapeCasts_S55x256_S55x256 : FVec F S55x256 .f32) (constant S512x256 .f32 0x00000000#32)))
      (matmul dot_S512x32_S32x256_S512x256_1_0_0_1_n_n none (globalPart B) (shapeCast S32x256 B.fWg shapeCasts_S32x256_S32x256 : FVec F S32x256 .f32) (constant S512x256 .f32 0x00000000#32)))
      (broadcastTo S512x256 (shapeCast S1x256 B.fb shapeCasts_S1x256_S1x256 : FVec F S1x256 .f32) broadcasts_S1x256_S512x256))
    (broadcast S512x256 zero)

end Cert.KernelIdeal.Dense

end
-- ==== Proof.Body.lean ====
/- One step of the TensorCore kernel: from its 37 input blocks and a staging block to write, the body runs to its return,
   leaves the inputs as they were, and leaves `outBlock` of them in the last. -/
module

public import proofs.«01_k».proof.Proof.TcValue

@[expose] public section

noncomputable section

namespace Cert.KernelIdeal.Dense

open Cert.KernelIdeal Cert.KernelIdeal.Gen Cert.KernelIdeal.Gather
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-- The contents of `M`'s buffer on core `d`, and the buffer held whole at `f`. -/
abbrev Bf (d : Dev nD) {sp : Space} {S : Shape} {e : EltTy} (M : Memref sig .tc sp S e) : Type := Buf (Elt F) (M.view.loc (T d : Thread nD τ))
abbrev pt (d : Dev nD) {sp : Space} {S : Shape} {e : EltTy} (M : Memref sig .tc sp S e) (f : Bf (F := F) d M) : sProp (MM F) :=
  M.view.loc (T d : Thread nD τ) ↦{fullShare} f

/-- What a load of a whole two-axis block gives. -/
def loaded (d : Dev nD) {a b : ℕ} {e : EltTy} (M : Memref sig .tc .vmem ⟨2, ![a, b]⟩ e) (f : Bf (F := F) d M) : Vec F ⟨2, ![a, b]⟩ e :=
  M.view.readAt (Elt F) (Rect.unit (s := ⟨2, ![a, b]⟩) ![0, 0] ![a, b] (by intro i; fin_cases i <;> simp)).toLoadRect f

theorem loaded_eq (d : Dev nD) {a b : ℕ} {e : EltTy} (M : Memref sig .tc .vmem ⟨2, ![a, b]⟩ e) (f : Bf (F := F) d M) :
    loaded d M f = M.view.read (Elt F) f := View.readAt_full _ _ _

set_option maxHeartbeats 4000000 in
/-- The body run at any contents: the inputs come back, the last block ends at what the step stores. -/
theorem body_run (d : Dev nD) (i : grid1.Coords)
    (M0 : Memref sig .tc .vmem S6x512x128 .f32) (M1 M2 M3 M4 M5 M6 M7 : Memref sig .tc .vmem S512x6 .f32) (M8 : Memref sig .tc .vmem S512x24 .f32)
    (M9 M10 M11 : Memref sig .tc .vmem S512x6 .f32) (M12 : Memref sig .tc .vmem S512x36 .f32) (M13 : Memref sig .tc .vmem S512x6 .i32)
    (M14 : Memref sig .tc .vmem S512x6 .f32) (M15 : Memref sig .tc .vmem S512x1 .f32) (M16 M17 : Memref sig .tc .vmem S512x8 .f32)
    (M18 : Memref sig .tc .vmem S512x55 .f32) (M19 : Memref sig .tc .vmem S128x128 .f32) (M20 : Memref sig .tc .vmem S6x120x256 .f32)
    (M21 : Memref sig .tc .vmem S1x128 .f32) (M22 : Memref sig .tc .vmem S128x128 .f32) (M23 M24 : Memref sig .tc .vmem S1x128 .f32)
    (M25 : Memref sig .tc .vmem S128x128 .f32) (M26 : Memref sig .tc .vmem S1x128 .f32) (M27 : Memref sig .tc .vmem S2x128 .f32)
    (M28 : Memref sig .tc .vmem S1x128 .f32) (M29 : Memref sig .tc .vmem S17x32 .f32) (M30 : Memref sig .tc .vmem S1x32 .f32)
    (M31 M32 M33 : Memref sig .tc .vmem S128x256 .f32) (M34 : Memref sig .tc .vmem S55x256 .f32) (M35 : Memref sig .tc .vmem S32x256 .f32)
    (M36 : Memref sig .tc .vmem S1x256 .f32) (M37 : Memref sig .tc .vmem S512x256 .f32)
    (h0 : M0.IsWhole) (h1 : M1.IsWhole) (h2 : M2.IsWhole) (h3 : M3.IsWhole) (h4 : M4.IsWhole) (h5 : M5.IsWhole) (h6 : M6.IsWhole) (h7 : M7.IsWhole)
    (h8 : M8.IsWhole) (h9 : M9.IsWhole) (h10 : M10.IsWhole) (h11 : M11.IsWhole) (h12 : M12.IsWhole) (h13 : M13.IsWhole) (h14 : M14.IsWhole) (h15 :
    M15.IsWhole) (h16 : M16.IsWhole) (h17 : M17.IsWhole) (h18 : M18.IsWhole) (h19 : M19.IsWhole) (h20 : M20.IsWhole) (h21 : M21.IsWhole) (h22 :
    M22.IsWhole) (h23 : M23.IsWhole) (h24 : M24.IsWhole) (h25 : M25.IsWhole) (h26 : M26.IsWhole) (h27 : M27.IsWhole) (h28 : M28.IsWhole) (h29 :
    M29.IsWhole) (h30 : M30.IsWhole) (h31 : M31.IsWhole) (h32 : M32.IsWhole) (h33 : M33.IsWhole) (h34 : M34.IsWhole) (h35 : M35.IsWhole) (h36 :
    M36.IsWhole) (h37 : M37.IsWhole)
    (f0 : Bf (F := F) d M0) (f1 : Bf (F := F) d M1) (f2 : Bf (F := F) d M2) (f3 : Bf (F := F) d M3) (f4 : Bf (F := F) d M4) (f5 : Bf (F := F) d M5)
    (f6 : Bf (F := F) d M6) (f7 : Bf (F := F) d M7) (f8 : Bf (F := F) d M8) (f9 : Bf (F := F) d M9) (f10 : Bf (F := F) d M10) (f11 : Bf (F := F) d
    M11) (f12 : Bf (F := F) d M12) (f13 : Bf (F := F) d M13) (f14 : Bf (F := F) d M14) (f15 : Bf (F := F) d M15) (f16 : Bf (F := F) d M16) (f17 : Bf
    (F := F) d M17) (f18 : Bf (F := F) d M18) (f19 : Bf (F := F) d M19) (f20 : Bf (F := F) d M20) (f21 : Bf (F := F) d M21) (f22 : Bf (F := F) d M22)
    (f23 : Bf (F := F) d M23) (f24 : Bf (F := F) d M24) (f25 : Bf (F := F) d M25) (f26 : Bf (F := F) d M26) (f27 : Bf (F := F) d M27) (f28 : Bf (F :=
    F) d M28) (f29 : Bf (F := F) d M29) (f30 : Bf (F := F) d M30) (f31 : Bf (F := F) d M31) (f32 : Bf (F := F) d M32) (f33 : Bf (F := F) d M33) (f34 :
    Bf (F := F) d M34) (f35 : Bf (F := F) d M35) (f36 : Bf (F := F) d M36) (f37 : Bf (F := F) d M37)
    (E : Set ℕ) (Q : PUnit → sProp (MM F)) :
    iprop(pt d M0 f0 ∗ pt d M1 f1 ∗ pt d M2 f2 ∗ pt d M3 f3 ∗ pt d M4 f4 ∗ pt d M5 f5 ∗ pt d M6 f6 ∗ pt d M7 f7 ∗ pt d M8 f8 ∗ pt d M9 f9 ∗ pt d M10 f10 ∗
      pt d M11 f11 ∗ pt d M12 f12 ∗ pt d M13 f13 ∗ pt d M14 f14 ∗ pt d M15 f15 ∗ pt d M16 f16 ∗ pt d M17 f17 ∗ pt d M18 f18 ∗ pt d M19 f19 ∗ pt d M20
      f20 ∗ pt d M21 f21 ∗ pt d M22 f22 ∗ pt d M23 f23 ∗ pt d M24 f24 ∗ pt d M25 f25 ∗ pt d M26 f26 ∗ pt d M27 f27 ∗ pt d M28 f28 ∗ pt d M29 f29 ∗ pt
      d M30 f30 ∗ pt d M31 f31 ∗ pt d M32 f32 ∗ pt d M33 f33 ∗ pt d M34 f34 ∗ pt d M35 f35 ∗ pt d M36 f36 ∗ pt d M37 f37
      ∗ (iprop(pt d M0 f0 ∗ pt d M1 f1 ∗ pt d M2 f2 ∗ pt d M3 f3 ∗ pt d M4 f4 ∗ pt d M5 f5 ∗ pt d M6 f6 ∗ pt d M7 f7 ∗ pt d M8 f8 ∗ pt d M9 f9 ∗ pt d M10
          f10 ∗ pt d M11 f11 ∗ pt d M12 f12 ∗ pt d M13 f13 ∗ pt d M14 f14 ∗ pt d M15 f15 ∗ pt d M16 f16 ∗ pt d M17 f17 ∗ pt d M18 f18 ∗ pt d M19 f19 ∗
          pt d M20 f20 ∗ pt d M21 f21 ∗ pt d M22 f22 ∗ pt d M23 f23 ∗ pt d M24 f24 ∗ pt d M25 f25 ∗ pt d M26 f26 ∗ pt d M27 f27 ∗ pt d M28 f28 ∗ pt d
          M29 f29 ∗ pt d M30 f30 ∗ pt d M31 f31 ∗ pt d M32 f32 ∗ pt d M33 f33 ∗ pt d M34 f34 ∗ pt d M35 f35 ∗ pt d M36 f36
          ∗ ∃ g, ⌜M37.view.read (Elt F) g = outBlock (Blocks.mk
          (M0.view.read (Elt F) f0) (M1.view.read (Elt F) f1) (M2.view.read (Elt F) f2) (M3.view.read (Elt F) f3) (M4.view.read (Elt F) f4)
          (M5.view.read (Elt F) f5) (M6.view.read (Elt F) f6) (M7.view.read (Elt F) f7) (M8.view.read (Elt F) f8) (M9.view.read (Elt F) f9)
          (M10.view.read (Elt F) f10) (M11.view.read (Elt F) f11) (M12.view.read (Elt F) f12) (M13.view.read (Elt F) f13) (M14.view.read (Elt F) f14)
          (M15.view.read (Elt F) f15) (M16.view.read (Elt F) f16) (M17.view.read (Elt F) f17) (M18.view.read (Elt F) f18) (M19.view.read (Elt F) f19)
          (M20.view.read (Elt F) f20) (M21.view.read (Elt F) f21) (M22.view.read (Elt F) f22) (M23.view.read (Elt F) f23) (M24.view.read (Elt F) f24)
          (M25.view.read (Elt F) f25) (M26.view.read (Elt F) f26) (M27.view.read (Elt F) f27) (M28.view.read (Elt F) f28) (M29.view.read (Elt F) f29)
          (M30.view.read (Elt F) f30) (M31.view.read (Elt F) f31) (M32.view.read (Elt F) f32) (M33.view.read (Elt F) f33) (M34.view.read (Elt F) f34)
          (M35.view.read (Elt F) f35) (M36.view.read (Elt F) f36))⌝ ∗ pt d M37 g) -∗ Q ⟨⟩))
    ⊢ wp frame (wpE (defs₀ (F := F)) 𝒱₀ (T d) none) E
        (cc1__tc_body i M0 h0 M1 h1 M2 h2 M3 h3 M4 h4 M5 h5 M6 h6 M7 h7 M8 h8 M9 h9 M10 h10 M11 h11 M12 h12 M13 h13 M14 h14 M15 h15 M16 h16 M17 h17
        M18 h18 M19 h19 M20 h20 M21 h21 M22 h22 M23 h23 M24 h24 M25 h25 M26 h26 M27 h27 M28 h28 M29 h29 M30 h30 M31 h31 M32 h32 M33 h33 M34 h34 M35
        h35 M36 h36 M37 h37) Q := by
  iintro ⟨H0, H1, H2, H3, H4, H5, H6, H7, H8, H9, H10, H11, H12, H13, H14, H15, H16, H17, H18, H19, H20, H21, H22, H23, H24, H25, H26, H27, H28, H29, H30,
    H31, H32, H33, H34, H35, H36, H37, Hk⟩
  sl_exec_parts!
  sl_step
  iapply Hk
  (iframe H0 H1 H2 H3 H4 H5 H6 H7 H8 H9 H10 H11 H12 H13 H14 H15 H16 H17 H18 H19 H20 H21 H22 H23 H24 H25 H26 H27 H28 H29 H30 H31 H32 H33 H34 H35 H36)
  iexists _
  isplitr; swap; · iexact H37
  ipureintro
  unfold body_run.sl.H37_1
  rw [View.read_writes_full]
  exact (show _ = outBlock (Blocks.mk
      (M0.view.read (Elt F) f0) (loaded d M1 f1) (loaded d M2 f2) (loaded d M3 f3) (loaded d M4 f4) (loaded d M5 f5) (loaded d M6 f6) (loaded d M7 f7)
      (loaded d M8 f8) (loaded d M9 f9) (loaded d M10 f10) (loaded d M11 f11) (loaded d M12 f12) (loaded d M13 f13) (loaded d M14 f14) (loaded d M15
      f15) (loaded d M16 f16) (loaded d M17 f17) (loaded d M18 f18) (loaded d M19 f19) (M20.view.read (Elt F) f20) (loaded d M21 f21) (loaded d M22
      f22) (loaded d M23 f23) (loaded d M24 f24) (loaded d M25 f25) (loaded d M26 f26) (M27.view.read (Elt F) f27) (loaded d M28 f28) (loaded d M29
      f29) (loaded d M30 f30) (loaded d M31 f31) (loaded d M32 f32) (loaded d M33 f33) (loaded d M34 f34) (loaded d M35 f35) (loaded d M36 f36)) from rfl).trans (by simp only [loaded_eq])

end Cert.KernelIdeal.Dense

end
-- ==== Proof.Step.lean ====
/- One step of the TensorCore kernel between the contents its blocks read: the inputs at the 37 fields of `B` before and
   after, the output's block at anything before and at `outBlock B` after. -/
module

public import proofs.«01_k».proof.Proof.Body

@[expose] public section

noncomputable section

namespace Cert.KernelIdeal.Dense

open Cert.KernelIdeal Cert.KernelIdeal.Gen Cert.KernelIdeal.Gather
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

/-- The 37 input blocks held at the fields of `B`. -/
def Inputs (d : Dev nD)
(M0 : Memref sig .tc .vmem S6x512x128 .f32) (M1 M2 M3 M4 M5 M6 M7 : Memref sig .tc .vmem S512x6 .f32) (M8 : Memref sig .tc .vmem S512x24 .f32)
    (M9 M10 M11 : Memref sig .tc .vmem S512x6 .f32) (M12 : Memref sig .tc .vmem S512x36 .f32) (M13 : Memref sig .tc .vmem S512x6 .i32)
    (M14 : Memref sig .tc .vmem S512x6 .f32) (M15 : Memref sig .tc .vmem S512x1 .f32) (M16 M17 : Memref sig .tc .vmem S512x8 .f32)
    (M18 : Memref sig .tc .vmem S512x55 .f32) (M19 : Memref sig .tc .vmem S128x128 .f32) (M20 : Memref sig .tc .vmem S6x120x256 .f32)
    (M21 : Memref sig .tc .vmem S1x128 .f32) (M22 : Memref sig .tc .vmem S128x128 .f32) (M23 M24 : Memref sig .tc .vmem S1x128 .f32)
    (M25 : Memref sig .tc .vmem S128x128 .f32) (M26 : Memref sig .tc .vmem S1x128 .f32) (M27 : Memref sig .tc .vmem S2x128 .f32)
    (M28 : Memref sig .tc .vmem S1x128 .f32) (M29 : Memref sig .tc .vmem S17x32 .f32) (M30 : Memref sig .tc .vmem S1x32 .f32)
    (M31 M32 M33 : Memref sig .tc .vmem S128x256 .f32) (M34 : Memref sig .tc .vmem S55x256 .f32) (M35 : Memref sig .tc .vmem S32x256 .f32)
    (M36 : Memref sig .tc .vmem S1x256 .f32)
    (B : Blocks F) : sProp (MM F) :=
  iprop(owns (T d) M0 fullShare B.emb ∗ owns (T d) M1 fullShare B.hp ∗ owns (T d) M2 fullShare B.lvl ∗ owns (T d) M3 fullShare B.att ∗ owns (T d) M4
      fullShare B.defn ∗ owns (T d) M5 fullShare B.spe ∗ owns (T d) M6 fullShare B.spa ∗ owns (T d) M7 fullShare B.spd ∗ owns (T d) M8 fullShare B.pp
      ∗ owns (T d) M9 fullShare B.exp ∗ owns (T d) M10 fullShare B.ehp ∗ owns (T d) M11 fullShare B.elvl ∗ owns (T d) M12 fullShare B.onehot ∗ owns (T
      d) M13 fullShare B.level ∗ owns (T d) M14 fullShare B.php ∗ owns (T d) M15 fullShare B.inb ∗ owns (T d) M16 fullShare B.badge ∗ owns (T d) M17
      fullShare B.hms ∗ owns (T d) M18 fullShare B.map ∗ owns (T d) M19 fullShare B.pW1 ∗ owns (T d) M20 fullShare B.G ∗ owns (T d) M21 fullShare
      B.pb1 ∗ owns (T d) M22 fullShare B.pW2 ∗ owns (T d) M23 fullShare B.pb2 ∗ owns (T d) M24 fullShare B.eb1 ∗ owns (T d) M25 fullShare B.eW2 ∗ owns
      (T d) M26 fullShare B.eb2 ∗ owns (T d) M27 fullShare B.paW ∗ owns (T d) M28 fullShare B.pab ∗ owns (T d) M29 fullShare B.gW ∗ owns (T d) M30
      fullShare B.gb ∗ owns (T d) M31 fullShare B.fWp ∗ owns (T d) M32 fullShare B.fWe ∗ owns (T d) M33 fullShare B.fWpa ∗ owns (T d) M34 fullShare
      B.fWm ∗ owns (T d) M35 fullShare B.fWg ∗ owns (T d) M36 fullShare B.fb)

theorem body_step (d : Dev nD) (i : grid1.Coords)
    (M0 : Memref sig .tc .vmem S6x512x128 .f32) (M1 M2 M3 M4 M5 M6 M7 : Memref sig .tc .vmem S512x6 .f32) (M8 : Memref sig .tc .vmem S512x24 .f32)
    (M9 M10 M11 : Memref sig .tc .vmem S512x6 .f32) (M12 : Memref sig .tc .vmem S512x36 .f32) (M13 : Memref sig .tc .vmem S512x6 .i32)
    (M14 : Memref sig .tc .vmem S512x6 .f32) (M15 : Memref sig .tc .vmem S512x1 .f32) (M16 M17 : Memref sig .tc .vmem S512x8 .f32)
    (M18 : Memref sig .tc .vmem S512x55 .f32) (M19 : Memref sig .tc .vmem S128x128 .f32) (M20 : Memref sig .tc .vmem S6x120x256 .f32)
    (M21 : Memref sig .tc .vmem S1x128 .f32) (M22 : Memref sig .tc .vmem S128x128 .f32) (M23 M24 : Memref sig .tc .vmem S1x128 .f32)
    (M25 : Memref sig .tc .vmem S128x128 .f32) (M26 : Memref sig .tc .vmem S1x128 .f32) (M27 : Memref sig .tc .vmem S2x128 .f32)
    (M28 : Memref sig .tc .vmem S1x128 .f32) (M29 : Memref sig .tc .vmem S17x32 .f32) (M30 : Memref sig .tc .vmem S1x32 .f32)
    (M31 M32 M33 : Memref sig .tc .vmem S128x256 .f32) (M34 : Memref sig .tc .vmem S55x256 .f32) (M35 : Memref sig .tc .vmem S32x256 .f32)
    (M36 : Memref sig .tc .vmem S1x256 .f32) (M37 : Memref sig .tc .vmem S512x256 .f32)
    (h0 : M0.IsWhole) (h1 : M1.IsWhole) (h2 : M2.IsWhole) (h3 : M3.IsWhole) (h4 : M4.IsWhole) (h5 : M5.IsWhole) (h6 : M6.IsWhole) (h7 : M7.IsWhole)
    (h8 : M8.IsWhole) (h9 : M9.IsWhole) (h10 : M10.IsWhole) (h11 : M11.IsWhole) (h12 : M12.IsWhole) (h13 : M13.IsWhole) (h14 : M14.IsWhole) (h15 :
    M15.IsWhole) (h16 : M16.IsWhole) (h17 : M17.IsWhole) (h18 : M18.IsWhole) (h19 : M19.IsWhole) (h20 : M20.IsWhole) (h21 : M21.IsWhole) (h22 :
    M22.IsWhole) (h23 : M23.IsWhole) (h24 : M24.IsWhole) (h25 : M25.IsWhole) (h26 : M26.IsWhole) (h27 : M27.IsWhole) (h28 : M28.IsWhole) (h29 :
    M29.IsWhole) (h30 : M30.IsWhole) (h31 : M31.IsWhole) (h32 : M32.IsWhole) (h33 : M33.IsWhole) (h34 : M34.IsWhole) (h35 : M35.IsWhole) (h36 :
    M36.IsWhole) (h37 : M37.IsWhole)
    (B : Blocks F) (E : Set ℕ) :
    iprop(Inputs d M0 M1 M2 M3 M4 M5 M6 M7 M8 M9 M10 M11 M12 M13 M14 M15 M16 M17 M18 M19 M20 M21 M22 M23 M24 M25 M26 M27 M28 M29 M30 M31 M32 M33 M34 M35 M36 B
      ∗ ∃ X, owns (T d) M37 fullShare X)
    ⊢ wp frame (wpE (defs₀ (F := F)) 𝒱₀ (T d) none) E
        (cc1__tc_body i M0 h0 M1 h1 M2 h2 M3 h3 M4 h4 M5 h5 M6 h6 M7 h7 M8 h8 M9 h9 M10 h10 M11 h11 M12 h12 M13 h13 M14 h14 M15 h15 M16 h16 M17 h17
        M18 h18 M19 h19 M20 h20 M21 h21 M22 h22 M23 h23 M24 h24 M25 h25 M26 h26 M27 h27 M28 h28 M29 h29 M30 h30 M31 h31 M32 h32 M33 h33 M34 h34 M35
        h35 M36 h36 M37 h37)
        fun _ => iprop(Inputs d M0 M1 M2 M3 M4 M5 M6 M7 M8 M9 M10 M11 M12 M13 M14 M15 M16 M17 M18 M19 M20 M21 M22 M23 M24 M25 M26 M27 M28 M29 M30 M31 M32 M33 M34 M35 M36 B
          ∗ owns (T d) M37 fullShare (outBlock B)) := by
  have whole : ∀ {sp : Space} {S : Shape} {e : EltTy} (M : Memref sig .tc sp S e) (h : M.IsWhole) (X : S.Idx → Elt F e),
      (owns (T d) M fullShare X : sProp (MM F)) = iprop(∃ f, ⌜M.view.read (Elt F) f = X⌝ ∗ pt d M f) := fun M h X => by
    unfold owns pt; simp only [h.set_eq_univ]
  have again : ∀ {sp : Space} {S : Shape} {e : EltTy} (M : Memref sig .tc sp S e) (f : Bf (F := F) d M),
      (pt d M f : sProp (MM F)) ⊢ iprop(∃ g, ⌜M.view.read (Elt F) g = M.view.read (Elt F) f⌝ ∗ pt d M g) := fun M f => by
    iintro H; iexists f; isplitr; · ipureintro; rfl
    iexact H
  have flat : ∀ P Q R : sProp (MM F), iprop((P ∗ Q) ∗ R) = iprop(P ∗ Q ∗ R) := fun P Q R => equiv_iff.mp ⟨BI.sep_assoc, BI.sep_assoc'⟩
  obtain ⟨b0, b1, b2, b3, b4, b5, b6, b7, b8, b9, b10, b11, b12, b13, b14, b15, b16, b17, b18, b19, b20, b21, b22, b23, b24, b25, b26, b27, b28, b29, b30, b31, b32, b33, b34, b35, b36⟩ := B
  unfold Inputs
  simp only [whole M0 h0, whole M1 h1, whole M2 h2, whole M3 h3, whole M4 h4, whole M5 h5, whole M6 h6, whole M7 h7, whole M8 h8, whole M9 h9, whole
  M10 h10, whole M11 h11, whole M12 h12, whole M13 h13, whole M14 h14, whole M15 h15, whole M16 h16, whole M17 h17, whole M18 h18, whole M19 h19,
  whole M20 h20, whole M21 h21, whole M22 h22, whole M23 h23, whole M24 h24, whole M25 h25, whole M26 h26, whole M27 h27, whole M28 h28, whole M29
  h29, whole M30 h30, whole M31 h31, whole M32 h32, whole M33 h33, whole M34 h34, whole M35 h35, whole M36 h36, whole M37 h37]
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16,
    H16⟩, ⟨%f17, %e17, H17⟩, ⟨%f18, %e18, H18⟩, ⟨%f19, %e19, H19⟩, ⟨%f20, %e20, H20⟩, ⟨%f21, %e21, H21⟩, ⟨%f22, %e22, H22⟩, ⟨%f23, %e23, H23⟩, ⟨%f24,
    %e24, H24⟩, ⟨%f25, %e25, H25⟩, ⟨%f26, %e26, H26⟩, ⟨%f27, %e27, H27⟩, ⟨%f28, %e28, H28⟩, ⟨%f29, %e29, H29⟩, ⟨%f30, %e30, H30⟩, ⟨%f31, %e31, H31⟩,
    ⟨%f32, %e32, H32⟩, ⟨%f33, %e33, H33⟩, ⟨%f34, %e34, H34⟩, ⟨%f35, %e35, H35⟩, ⟨%f36, %e36, H36⟩⟩,
    ⟨%X, %f37, -, H37⟩⟩
  subst e0 e1 e2 e3 e4 e5 e6 e7 e8 e9 e10 e11 e12 e13 e14 e15 e16 e17 e18 e19 e20 e21 e22 e23 e24 e25 e26 e27 e28 e29 e30 e31 e32 e33 e34 e35 e36
  iapply (body_run d i M0 M1 M2 M3 M4 M5 M6 M7 M8 M9 M10 M11 M12 M13 M14 M15 M16 M17 M18 M19 M20 M21 M22 M23 M24 M25 M26 M27 M28 M29 M30 M31 M32 M33 M34 M35 M36 M37
    h0 h1 h2 h3 h4 h5 h6 h7 h8 h9 h10 h11 h12 h13 h14 h15 h16 h17 h18 h19 h20 h21 h22 h23 h24 h25 h26 h27 h28 h29 h30 h31 h32 h33 h34 h35 h36 h37
    f0 f1 f2 f3 f4 f5 f6 f7 f8 f9 f10 f11 f12 f13 f14 f15 f16 f17 f18 f19 f20 f21 f22 f23 f24 f25 f26 f27 f28 f29 f30 f31 f32 f33 f34 f35 f36 f37 E _)
  (iframe H0 H1 H2 H3 H4 H5 H6 H7 H8 H9 H10 H11 H12 H13 H14 H15 H16 H17 H18 H19 H20 H21 H22 H23 H24 H25 H26 H27 H28 H29 H30 H31 H32 H33 H34 H35 H36 H37)
  iintro H
  istop
  simp only [flat]
  repeat refine BIClass.sep_mono (again _ _) ?_
  iintro ⟨%g, %hg, H37⟩
  iexists g
  isplitr; · ipureintro; exact hg
  iexact H37

end Cert.KernelIdeal.Dense

end
-- ==== Proof.Region.lean ====
/- The TensorCore kernel's pipeline over the 32 blocks of 512 samples: its proof data — every input window holds its block of
   the array at the region's entry, the output window `outBlock` of them — the body's obligation at every step, and the
   region of @main. -/
module

public import proofs.«01_k».proof.Proof.Step
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameBody

@[expose] public section

noncomputable section

namespace Cert.KernelIdeal.Dense

open Cert.KernelIdeal Cert.KernelIdeal.Gen Cert.KernelIdeal.Gather
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation BodyObligationLoose RegionSeg)

variable {F : FTy → Type} [FloatOps F] [Named F]

section Data

variable (val : Dev nD → Valuation τ sig (Elt F)) (c : Dev nD)

/-- Window `w`'s array at the region's entry. -/
noncomputable def entry (w : Fin cfg1.W) : Buf (Elt F) ((cfg1.win w).arr.view.loc (c.tc : Thread nD τ)) :=
  val c (Proc.devRef .tc (Pipeline.arrRef spec1 w))

/-- Window `w`'s block of it at step `t`. -/
noncomputable def blockAt (w : Fin cfg1.W) (t : Fin cfg1.N) : ((cfg1.win w).xblock (cfg1.grid.coords t)).Idx → Elt F (cfg1.win w).elt :=
  ((cfg1.win w).blk t).view.read (Elt F) (entry val c w)

/-- The 37 input blocks of step `t`. -/
noncomputable def blocks (t : Fin cfg1.N) : Blocks F :=
  ⟨blockAt val c 0 t, blockAt val c 1 t, blockAt val c 2 t, blockAt val c 3 t, blockAt val c 4 t, blockAt val c 5 t, blockAt val c 6 t,
    blockAt val c 7 t, blockAt val c 8 t, blockAt val c 9 t, blockAt val c 10 t, blockAt val c 11 t, blockAt val c 12 t, blockAt val c 13 t,
    blockAt val c 14 t, blockAt val c 15 t, blockAt val c 16 t, blockAt val c 17 t, blockAt val c 18 t, blockAt val c 19 t, blockAt val c 20 t,
    blockAt val c 21 t, blockAt val c 22 t, blockAt val c 23 t, blockAt val c 24 t, blockAt val c 25 t, blockAt val c 26 t, blockAt val c 27 t,
    blockAt val c 28 t, blockAt val c 29 t, blockAt val c 30 t, blockAt val c 31 t, blockAt val c 32 t, blockAt val c 33 t, blockAt val c 34 t,
    blockAt val c 35 t, blockAt val c 36 t⟩

/-- What step `t` leaves in window `w`'s block. -/
noncomputable def afterAt (w : Fin cfg1.W) (t : Fin cfg1.N) : (cfg1.win w).block.Idx → Elt F (cfg1.win w).elt :=
  if h : w = 37 then h ▸ outBlock (blocks val c t)
  else (cfg1.win w).fill (cfg1.grid.coords t) (fun _ => Classical.arbitrary _) (blockAt val c w t)

/-- The pipeline's proof data. -/
noncomputable def dats (_ : Fin 1) (c : Dev nD) : Dat τ (Elt F) (HIx 1) ℕ UU ℕ cfg1 c where
  A := entry val c
  after := afterAt val c
  Φ _ := BI.emp
  q _ := fullShare
  owed _ := 0
  recorded _ := {p | (K (F := F)).lev (T c, p.1) p.2 ≤ 8}

theorem clip_eq : ∀ (w : Fin cfg1.W) (t t' : Fin cfg1.N), (cfg1.win w).clip (cfg1.grid.coords t) = (cfg1.win w).clip (cfg1.grid.coords t') := by
  intro w t t'; fin_cases w <;> rfl

theorem isOut_of_ne : ∀ w : Fin cfg1.W, w ≠ 37 → (cfg1.win w).isOut = false := by
  intro w; fin_cases w <;> first | (intro _; rfl) | (intro h; exact absurd rfl h)

/-- An input window's block is its part of the array, before the step and after it. -/
theorem before_eq (w : Fin cfg1.W) (hw : w ≠ 37) (t : Fin cfg1.N) (d : (cfg1.win w).block.Idx → Elt F (cfg1.win w).elt) :
    (dats val 0 c).before w t d = (cfg1.win w).fill (cfg1.grid.coords t) d (blockAt val c w t) := by
  refine (dats val 0 c).before_in_eq_fetched w (isOut_of_ne w hw) (fun _ => rfl) (fun t t' _ => clip_eq w t t') (fun t => ?_) t d
  show (cfg1.win w).cut _ (afterAt val c w t) = _
  unfold afterAt
  rw [dif_neg hw, Pipeline.Window.cut_fill]
  rfl

/-- The output window's block is left at `outBlock` of the step's inputs. -/
theorem after_out (t : Fin cfg1.N) : afterAt val c 37 t = outBlock (blocks val c t) := dif_pos rfl

/-- An input window's is left as it was. -/
theorem after_in (w : Fin cfg1.W) (hw : w ≠ 37) (t : Fin cfg1.N) :
    afterAt val c w t = (cfg1.win w).fill (cfg1.grid.coords t) (fun _ => Classical.arbitrary _) (blockAt val c w t) := dif_neg hw

end Data

section Obligation

variable (val : Dev nD → Valuation τ sig (Elt F)) (c : Dev nD)

/-- What window `w`'s block holds around step `t`: an input its part of the array, the output `X`. -/
noncomputable def held (t : Fin cfg1.N) (X : sProp (MM F)) (w : Fin cfg1.W) : sProp (MM F) :=
  if w = 37 then X
  else owns (T c) ((cfg1.win w).stage (cfg1.slots t w)) fullShare ((cfg1.win w).fill (cfg1.grid.coords t) (fun _ => Classical.arbitrary _) (blockAt val c w t))

theorem fill_any : ∀ (w : Fin cfg1.W) (t : Fin cfg1.N) (d d' : (cfg1.win w).block.Idx → Elt F (cfg1.win w).elt)
    (X : ((cfg1.win w).xblock (cfg1.grid.coords t)).Idx → Elt F (cfg1.win w).elt),
    (cfg1.win w).fill (cfg1.grid.coords t) d X = (cfg1.win w).fill (cfg1.grid.coords t) d' X := by
  intro w t; fin_cases w <;> exact fun _ _ _ => rfl

set_option maxHeartbeats 2000000 in
theorem held_eq (t : Fin cfg1.N) (X : sProp (MM F)) :
    bigSep Finset.univ (held val c t X)
      = iprop(Inputs c (st1_0 t) (st1_1 t) (st1_2 t) (st1_3 t) (st1_4 t) (st1_5 t) (st1_6 t) (st1_7 t) (st1_8 t) (st1_9 t) (st1_10 t) (st1_11 t)
          (st1_12 t) (st1_13 t) (st1_14 t) (st1_15 t) (st1_16 t) (st1_17 t) (st1_18 t) (st1_19 t) (st1_20 t) (st1_21 t) (st1_22 t) (st1_23 t)
          (st1_24 t) (st1_25 t) (st1_26 t) (st1_27 t) (st1_28 t) (st1_29 t) (st1_30 t) (st1_31 t) (st1_32 t) (st1_33 t) (st1_34 t) (st1_35 t)
          (st1_36 t) (blocks val c t) ∗ X) := by
  unfold Inputs
  have flat : ∀ P Q R : sProp (MM F), iprop((P ∗ Q) ∗ R) = iprop(P ∗ Q ∗ R) := fun P Q R => equiv_iff.mp ⟨BI.sep_assoc, BI.sep_assoc'⟩
  simp only [flat]
  exact (bigSep_W1 (held val c t X)).trans rfl

/-- What the loop hands the body is the inputs' parts of their arrays and the output's block at something. -/
theorem held_before (t : Fin cfg1.N) :
    bigSep Finset.univ (fun w : Fin cfg1.W => iprop(∃ d, owns (T c) ((cfg1.win w).stage (cfg1.slots t w)) fullShare ((dats val 0 c).before w t d)))
      ⊢ bigSep Finset.univ (held val c t iprop(∃ X, owns (T c) (st1_37 t) fullShare X)) :=
  bigSep_mono fun w _ => by
    by_cases h : w = 37
    · subst h
      rw [show held val c t iprop(∃ X, owns (T c) (st1_37 t) fullShare X) 37 = iprop(∃ X, owns (T c) (st1_37 t) fullShare X) from if_pos rfl]
      exact (show iprop(∃ d, owns (T c) (st1_37 t) fullShare ((dats val 0 c).before 37 t d)) ⊢ iprop(∃ X, owns (T c) (st1_37 t) fullShare X) from by
        iintro ⟨%d, H⟩; iexists _; iexact H)
    · rw [show held val c t iprop(∃ X, owns (T c) (st1_37 t) fullShare X) w = _ from if_neg h]
      refine (show iprop(∃ d, owns (T c) ((cfg1.win w).stage (cfg1.slots t w)) fullShare ((dats val 0 c).before w t d)) ⊢ _ from ?_)
      iintro ⟨%d, H⟩
      rw [before_eq val c w h t d, fill_any w t d (fun _ => Classical.arbitrary _)]
      iexact H

/-- What the body hands back is what the loop's next part expects. -/
theorem held_after (t : Fin cfg1.N) :
    bigSep Finset.univ (held val c t (owns (T c) (st1_37 t) fullShare (outBlock (blocks val c t))))
      ⊢ bigSep Finset.univ (fun w : Fin cfg1.W => owns (T c) ((cfg1.win w).stage (cfg1.slots t w)) fullShare ((dats val 0 c).after w t)) :=
  bigSep_mono fun w _ => by
    by_cases h : w = 37
    · subst h
      rw [show held val c t (owns (T c) (st1_37 t) fullShare (outBlock (blocks val c t))) 37 = _ from if_pos rfl,
        show (dats val 0 c).after 37 t = _ from after_out val c t]
      exact BI.Entails.refl _
    · rw [show held val c t (owns (T c) (st1_37 t) fullShare (outBlock (blocks val c t))) w = _ from if_neg h,
        show (dats val 0 c).after w t = _ from after_in val c w h t]
      exact BI.Entails.refl _

/-- The body's obligation at every step. -/
theorem obligation : BodyObligation (dats val 0 c) (defs₀ (F := F)) 𝒱₀ none Set.univ := fun t => by
  refine (show iprop((BI.emp : sProp (MM F)) ∗ (dats val 0 c).owesAt none t.castSucc
      ∗ bigSep Finset.univ (fun w : Fin cfg1.W => iprop(∃ d, owns (T c) ((cfg1.win w).stage (cfg1.slots t w)) fullShare ((dats val 0 c).before w t d))))
    ⊢ wp frame (wpE (defs₀ (F := F)) 𝒱₀ (T c) none) Set.univ (bodyAt1 t) fun _ => iprop((BI.emp : sProp (MM F)) ∗ (dats val 0 c).owesAt none t.castSucc
      ∗ bigSep Finset.univ (fun w : Fin cfg1.W => owns (T c) ((cfg1.win w).stage (cfg1.slots t w)) fullShare ((dats val 0 c).after w t))) from ?_)
  have before := held_before val c t
  have after := held_after val c t
  rw [held_eq] at before after
  iintro ⟨He, HO, Hw⟩
  ihave Hw := before $$ Hw
  iapply wp_wand_r
  isplitl [Hw]
  · iapply (body_step c (grid1.coords t) _ _ _ _ _ _ _ _ _ _ _ _ _ _ _ _ _ _ _ _ _ _ _ _ _ _ _ _ _ _ _ _ _ _ _ _ _ _
      _ _ _ _ _ _ _ _ _ _ _ _ _ _ _ _ _ _ _ _ _ _ _ _ _ _ _ _ _ _ _ _ _ _ _ _ _ _ (blocks val c t) Set.univ)
    iexact Hw
  iintro %_ Hw
  isplitl [He]; · iexact He
  isplitl [HO]; · iexact HO
  iapply after
  iexact Hw

end Obligation

end Cert.KernelIdeal.Dense

end
-- ==== Proof.Seg.lean ====
/- The dense call as one segment of `main`: entered with its arrays at some contents and left with the output's at the
   blocks its steps wrote. -/
module

public import proofs.«01_k».proof.Proof.Region
public import Idealize.ShloMosaic.Lib.Pipeline.RegionArrays

@[expose] public section

noncomputable section

namespace Cert.KernelIdeal.Dense

open Cert.KernelIdeal Cert.KernelIdeal.Gen Cert.KernelIdeal.Gather
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore (T)

variable {F : FTy → Type} [FloatOps F] [Named F]
variable (val : Dev nD → Valuation τ sig (Elt F))

/-- The windows' arrays. -/
noncomputable def arrs : Finset (DevRef τ sig) := Pipeline.arrRefs (τ := τ) spec1

/-- What the output array holds when the call returns. -/
noncomputable def result (c : Dev nD) : Buf (Elt F) ((SparseCore.T c : Thread nD τ).loc main_v146) := (dats val 0 c).arrAt 37 cfg1.N

/-- The contents after the call: the output array changed, everything else as before. -/
noncomputable def valOut (c : Dev nD) : Valuation τ sig (Elt F) :=
  Function.update (val c) (Proc.devRef .tc main_v146) (result val c)

theorem arr_ne : ∀ w : Fin cfg1.W, w ≠ 37 → Pipeline.arrRef spec1 w ≠ main_v146 := by
  intro w hw h
  exact hw (winFacts1.arr_inj (h.trans (rfl : main_v146 = Pipeline.arrRef spec1 37)))

theorem valOut_arr (c : Dev nD) (w : Fin cfg1.W) :
    (dats val 0 c).arrAt w cfg1.N = valOut val c (Proc.devRef .tc (Pipeline.arrRef spec1 w)) := by
  by_cases h : w = 37
  · subst h
    exact (Function.update_self (Proc.devRef .tc main_v146) (result val c) (val c)).symm
  · rw [(dats val 0 c).arrAt_in w (isOut_of_ne w h)]
    exact (Function.update_of_ne (fun e => arr_ne w h (Proc.devRef_injective _ e)) _ _).symm

/-- What the thread holds beside the arrays: the record of what it has waited on, none of it beyond the gather call. -/
noncomputable def waited (c : Dev nD) : sProp (MM F) := iprop(∃ W, ⌜(K (F := F)).WBelow (T c) W 8⌝ ∗ owes (T c) 0 W)

/-- The dense call. -/
noncomputable def seg : Pipeline.RegionSeg (pcfgs (F := F)) (fun p => (cfgs p).toPCfg_adm) (dats val) none defs₀ 𝒱₀ (K (F := F)).L (K (F := F)).lev 0 where
  win := launch1.win.to₀
  block_pos := block_pos1
  stage_whole := stage_whole1
  K := PEmpty
  osem k := k.elim
  ho := Pipeline.OwnSemFacts.none _
  hbody c := (obligation val c).loose
  hwaits := Pipeline.hwaits_of_owed_zero _ _ _ _ _ _ 0 fun _ _ => rfl
  pre c := iprop(StableHlo.held (T c) arrs (val c) ∗ waited c)
  post c := iprop(StableHlo.held (T c) arrs (valOut val c) ∗ waited c)
  X _ := BI.emp
  Y _ := BI.emp
  Z _ := BI.emp
  hentry c := by
    have arrays := Pipeline.arrays_held (pcfgs (F := F)) (fun p => (cfgs p).toPCfg_adm) (dats val) 0 launch1.toP c (fun w => by unfold Pipeline.Dat.share; exact ite_self _)
      ((dats val 0 c).arrAt · 0) (val c) (fun _ => rfl)
    refine (show iprop((StableHlo.held (T c) arrs (val c) ∗ waited c) ∗ Pipeline.ownSems0 _ c ∗ levAts (K (F := F)).L (K (F := F)).lev) ⊢ _ from ?_)
    rw [show StableHlo.held (T c) arrs (val c) = _ from arrays.symm, Pipeline.ownSems0_none, Pipeline.prefHeld_of_none _ rfl]
    unfold waited
    iintro ⟨⟨Ha, %W, %hW, HO⟩, -, -⟩
    imodintro
    isplitl [Ha]; · iexact Ha
    isplitr; · iempintro
    isplitl [HO]
    · unfold Pipeline.Dat.owesAt Pipeline.owesWithin Pipeline.Dat.bound
      iexists W; isplitr; · ipureintro; exact fun p hp => Or.inl (hW p hp)
      iexact HO
    isplitr; · iempintro
    iempintro
  hin c := by
    rw [scopedRest1_eq]
    iintro -
    iempintro
  hout c := by
    rw [scopedRest1_eq, Pipeline.ownSems0_none]
    iintro -
    isplitr; · iempintro
    isplitr; · iempintro
    iempintro
  hexit c := by
    have arrays := Pipeline.arrays_held (pcfgs (F := F)) (fun p => (cfgs p).toPCfg_adm) (dats val) 0 launch1.toP c (fun w => by unfold Pipeline.Dat.share; exact ite_self _)
      ((dats val 0 c).arrAt · cfg1.N) (valOut val c) (valOut_arr val c)
    refine (show _ ⊢ |={Set.univ}=> iprop(StableHlo.held (T c) arrs (valOut val c) ∗ waited c) from ?_)
    rw [show StableHlo.held (T c) arrs (valOut val c) = _ from arrays.symm]
    unfold waited
    iintro ⟨Ha, HO, -, -⟩
    imodintro
    isplitl [Ha]; · iexact Ha
    unfold Pipeline.Dat.owesAt Pipeline.owesWithin Pipeline.Dat.bound
    icases HO with ⟨%W, %hW, HO⟩; iexists W
    isplitr
    · ipureintro
      intro p hp
      rcases hW hp with h | ⟨w, s, rfl⟩
      · exact h
      · exact Nat.le_trans (Nat.le_of_eq rfl) (Nat.zero_le _)
    iexact HO

end Cert.KernelIdeal.Dense
-- ==== Proof.Host.lean ====
/- The operations of `main` before the gather call, as a list read off the program. -/
module

public import proofs.«01_k».proof.Proof.Setup
public import Idealize.ShloMosaic.Lib.StableHlo.RunRead

@[expose] public section

noncomputable section

namespace Cert.KernelIdeal.Host

open Cert.KernelIdeal Cert.KernelIdeal.Gen
open Idealize.ShloMosaic
open Idealize.SL.Sem (Prog)

variable {F : FTy → Type} [FloatOps F] [Named F]

/-- A program of the TensorCore's host side. -/
abbrev HostProg (F : FTy → Type) [FloatOps F] [Named F] :=
  Prog (TpuEff nD τ sig (Elt F) (SparseCore.Sig (Pipeline.Sig Λ₀ (Fin 1) fun p => (pcfgs (F := F) p).Adm) 1) .tc) PUnit.{1}

/-- `p` is the operations `ops`, one after the other, then `k`. -/
structure Line (p k : HostProg F) where
  ops : List (HloOp τ sig (Elt F))
  prog : p = StableHlo.seq ops >>= fun _ => k
  fresh : ∀ op ∈ ops, op.fresh = ∅
  sub : ∀ op ∈ ops, op.bufs ⊆ StableHlo.tcRefs τ sig

/-- No operation. -/
noncomputable def Line.stop (k : HostProg F) : Line k k := ⟨[], by rw [StableHlo.seq, pure_bind], fun _ h => (List.not_mem_nil h).elim, fun _ h => (List.not_mem_nil h).elim⟩

/-- One more operation in front. -/
noncomputable def Line.cons {p k : HostProg F} (op : HloOp τ sig (Elt F)) (h : op.fresh = ∅) (hs : op.bufs ⊆ StableHlo.tcRefs τ sig) (L : Line p k) :
    Line (hlo rfl op (fun _ => .ret (⟨⟩ : PUnit.{1})) >>= fun _ => p) k where
  ops := op :: L.ops
  prog := by rw [StableHlo.seq, bind_assoc, ← L.prog]
  fresh := fun o ho => by
    rcases List.mem_cons.mp ho with rfl | ho
    · exact h
    · exact L.fresh o ho
  sub := fun o ho => by
    rcases List.mem_cons.mp ho with rfl | ho
    · exact hs
    · exact L.sub o ho

variable (F) (d : Dev nD)

/-- What follows the gather call. -/
noncomputable def rest : Prog (TpuEff nD τ sig (Elt F) (SparseCore.Sig (Pipeline.Sig Λ₀ (Fin 1) fun p => (pcfgs (F := F) p).Adm) 1) .tc) PUnit.{1} := do
  hlo rfl (StableHlo.reshape main_v144 main_v145 (rfl : (.f32 : EltTy) = .f32) shapeCasts_S12582912_S6x16384x128) (fun _ => .ret ⟨⟩)
  Prog.lift (.customCall (SparseCore.inner (Pipeline.entry 0)) ())
  pure ⟨⟩

set_option maxRecDepth 20000 in
/-- `main`'s first part. -/
noncomputable def line0 : Line (main_part0 (F := F) d) (pure ⟨⟩) := by
  repeat refine Line.cons _ rfl (by simp only [StableHlo.nullary_bufs_sub, StableHlo.unary_bufs_sub, StableHlo.binary_bufs_sub, StableHlo.ternary_bufs_sub, StableHlo.reshape_bufs_sub, StableHlo.nary_bufs_sub]) ?_
  exact Line.stop _

set_option maxRecDepth 20000 in
/-- `main`'s second part. -/
noncomputable def line1 : Line (main_part1 (F := F) d) (pure ⟨⟩) := by
  repeat refine Line.cons _ rfl (by simp only [StableHlo.nullary_bufs_sub, StableHlo.unary_bufs_sub, StableHlo.binary_bufs_sub, StableHlo.ternary_bufs_sub, StableHlo.reshape_bufs_sub, StableHlo.nary_bufs_sub]) ?_
  exact Line.stop _

set_option maxRecDepth 20000 in
/-- `main`'s third part, up to the gather call. -/
noncomputable def line2 : Line (main_part2 (F := F) d) ((sc (F := F)).run d 0 >>= fun _ => rest F) := by
  repeat refine Line.cons _ rfl (by simp only [StableHlo.nullary_bufs_sub, StableHlo.unary_bufs_sub, StableHlo.binary_bufs_sub, StableHlo.ternary_bufs_sub, StableHlo.reshape_bufs_sub, StableHlo.nary_bufs_sub]) ?_
  exact Line.stop _

/-- The operations before the gather call. -/
noncomputable def pre : List (HloOp τ sig (Elt F)) := (line0 F 0).ops ++ ((line1 F 0).ops ++ (line2 F 0).ops)

theorem pre_fresh : ∀ op ∈ pre F, op.fresh = ∅ := fun op h => by
  rcases List.mem_append.mp h with h | h
  · exact (line0 F 0).fresh op h
  rcases List.mem_append.mp h with h | h
  · exact (line1 F 0).fresh op h
  · exact (line2 F 0).fresh op h

theorem pre_sub : ∀ op ∈ pre F, op.bufs ⊆ StableHlo.tcRefs τ sig := fun op h => by
  rcases List.mem_append.mp h with h | h
  · exact (line0 F 0).sub op h
  rcases List.mem_append.mp h with h | h
  · exact (line1 F 0).sub op h
  · exact (line2 F 0).sub op h

theorem dev_eq : ∀ d : Dev nD, d = 0 := fun d => Subsingleton.elim _ _

/-- `main` is those, the gather call and what follows it. -/
theorem main_eq : main (F := F) d = StableHlo.seq (pre F) >>= fun _ => (sc (F := F)).run d 0 >>= fun _ => rest F := by
  rw [dev_eq d]
  refine (show main (F := F) 0 = (main_part0 0 >>= fun _ => main_part1 0 >>= fun _ => main_part2 0) from rfl).trans ?_
  rw [(line0 F 0).prog, (line1 F 0).prog, (line2 F 0).prog]
  unfold pre
  simp only [StableHlo.seq_append, bind_assoc, pure_bind]

end Cert.KernelIdeal.Host

end
-- ==== Proof.Main.lean ====
/- `main` run from any launch memory: the host's operations, the gather call, the dense call, and what every buffer holds
   at the end. -/
module

public import proofs.«01_k».proof.Proof.Calls
public import proofs.«01_k».proof.Proof.Seg
public import proofs.«01_k».proof.Proof.Host
public import Idealize.ShloMosaic.Lib.SparseCore.Quiescent

@[expose] public section

noncomputable section

namespace Cert.KernelIdeal.Main

open Cert.KernelIdeal Cert.KernelIdeal.Gen Cert.KernelIdeal.Gather Cert.KernelIdeal.Host
open Idealize.ShloMosaic
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (m : (ℓ : Loc nD τ sig) → Buf (Elt F) ℓ) (ρ : Dev nD → PrngReg)

/-- A buffer of the TensorCore as its device knows it. -/
abbrev dv (r : Ref sig .tc) : DevRef τ sig := Proc.devRef .tc r

/-- The buffers before the gather call. -/
noncomputable def val1 (d : Dev nD) : Valuation τ sig (Elt F) := StableHlo.after (pre F) (StableHlo.launchContents m d)

/-- The table and the indices the gather call reads. -/
noncomputable def tab (d : Dev nD) : Vec F S19648 .f32 := val1 m d (dv main_v143)
@[inherit_doc tab] noncomputable def idx (d : Dev nD) : Vec F S786432 .i32 := val1 m d (dv main_v142)

/-- The buffers after it. -/
noncomputable def val2 (d : Dev nD) : Valuation τ sig (Elt F) :=
  Function.update (val1 m d) (dv main_v144) (gathered (tab m d) (idx m d))

/-- The gathered rows in the shape the dense call reads them. -/
noncomputable def shaped : HloOp τ sig (Elt F) :=
  StableHlo.reshape main_v144 main_v145 (rfl : (.f32 : EltTy) = .f32) shapeCasts_S12582912_S6x16384x128

/-- The buffers before the dense call. -/
noncomputable def val3 (d : Dev nD) : Valuation τ sig (Elt F) := (shaped (F := F)).result (val2 m d)

/-- The buffers at the end. -/
noncomputable def val4 (d : Dev nD) : Valuation τ sig (Elt F) := Dense.valOut (val3 m) d

/-- The buffers of the gather call. -/
noncomputable def three : Finset (DevRef τ sig) := {dv main_v143, dv main_v142, dv main_v144}

theorem three_sub : three ⊆ Pipeline.ucRefs τ sig := by decide

theorem held_three (d : Dev nD) (V : Valuation τ sig (Elt F)) :
    (StableHlo.held (T d) three V : sProp (MM F))
      = iprop(((T d : Thread nD τ).loc main_v143 ↦{fullShare} V (dv main_v143)) ∗ ((T d : Thread nD τ).loc main_v142 ↦{fullShare} V (dv main_v142))
          ∗ (T d : Thread nD τ).loc main_v144 ↦{fullShare} V (dv main_v144)) := by
  unfold StableHlo.held three
  rw [SparseCore.bigSep_insert' (by decide), SparseCore.bigSep_insert' (by decide), bigSep_singleton]

theorem val2_rest (d : Dev nD) : ∀ b ∈ Pipeline.ucRefs τ sig \ three, val1 m d b = val2 m d b := fun b hb =>
  (Function.update_of_ne (fun e => (Finset.mem_sdiff.mp hb).2 (by rw [e]; decide)) _ _).symm

/-- Around the gather call: from all buffers to its operands and the rest, -/
theorem split (d : Dev nD) :
    (StableHlo.held (T d) (Pipeline.ucRefs τ sig) (val1 m d) : sProp (MM F))
      ⊢ iprop((bigSep Finset.univ fun c : Fin ((K (F := F)).nCore 0) => (P (tab m) (idx m)).st 0 d c)
          ∗ StableHlo.held (T d) (Pipeline.ucRefs τ sig \ three) (val1 m d)) := by
  rw [StableHlo.held_sub_split (T d) three_sub, held_three]
  exact BIClass.sep_mono (deal d (tab m) (idx m) (val1 m d (dv main_v144))) (BI.Entails.refl _)

/-- and back, the rows gathered. -/
theorem join (d : Dev nD) :
    iprop((bigSep Finset.univ fun c : Fin ((K (F := F)).nCore 0) => (P (tab m) (idx m)).dn 0 d c)
        ∗ StableHlo.held (T d) (Pipeline.ucRefs τ sig \ three) (val1 m d))
      ⊢ (StableHlo.held (T d) (Pipeline.ucRefs τ sig) (val2 m d) : sProp (MM F)) := by
  rw [StableHlo.held_sub_split (T d) three_sub (val2 m d), held_three, ← StableHlo.held_congr (T d) (val2_rest m d),
    show val2 m d (dv main_v143) = tab m d from Function.update_of_ne (by decide) _ _,
    show val2 m d (dv main_v142) = idx m d from Function.update_of_ne (by decide) _ _,
    show val2 m d (dv main_v144) = gathered (tab m d) (idx m d) from Function.update_self _ _ _]
  exact BIClass.sep_mono (collect d (tab m) (idx m)) (BI.Entails.refl _)

theorem arrs_sub : Dense.arrs ⊆ Pipeline.ucRefs τ sig := Pipeline.arrRefs_sub_ucRefs spec1 winFacts1.arr_unscoped

theorem val4_rest (d : Dev nD) : ∀ b ∈ Pipeline.ucRefs τ sig \ Dense.arrs, val3 m d b = val4 m d b := fun b hb =>
  (Function.update_of_ne (fun e => (Finset.mem_sdiff.mp hb).2 (by
    rw [e]
    exact Finset.mem_map.mpr ⟨main_v146, Finset.mem_image.mpr ⟨37, Finset.mem_univ _, rfl⟩, rfl⟩)) _ _).symm

/-- The dense call's pipeline, nothing prefetched. -/
abbrev pinned := Pipeline.pin (pcfgs (F := F)) fun p => (cfgs p).toPCfg_adm

theorem pinned_inj : Function.Injective (Pipeline.cellOf (nD := nD) (τ := τ) (pinned (F := F))) := (launch1.toP (Val := Elt F)).cellOf_inj _

/-- What `main` holds of the dense call's ghost state. -/
noncomputable def ghost (d : Dev nD) : sProp (MM F) :=
  iprop(Pipeline.cellsGhost (nD := nD) (τ := τ) (pinned (F := F)) EP 0 d ∗ Pipeline.toksInit (pinned (F := F)) EP 0 d)

/-- What it ends with. -/
noncomputable def fin (d : Dev nD) : sProp (MM F) := StableHlo.held (T d) (Pipeline.ucRefs τ sig) (val4 m d)

/-- The host operation between the calls. -/
theorem shaped_sub : (shaped (F := F)).bufs ⊆ Pipeline.ucRefs τ sig := Pipeline.sub_ucRefs _ (StableHlo.reshape_bufs_sub ..)

/-- What `main` holds after the gather call, the record of its waits apart. -/
noncomputable def later (d : Dev nD) : sProp (MM F) :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
      iprop(dutyTok EH ((K (F := F)).startCell d ((K (F := F)).core q c)) ((K (F := F)).sRank ((K (F := F)).core q c) q.val) 0
        ∗ cred (tallyAt ((K (F := F)).doneCell d) (some q) 1)))

theorem tcSt_one (d : Dev nD) : ((K (F := F)).tcSt EH d 1 : sProp (MM F)) = iprop(Dense.waited d ∗ later d) := by
  unfold SparseCore.Cfg.tcSt Dense.waited later
  rw [(K (F := F)).Otc_end d (le_refl 1)]
  rfl

/-- The dense call as its own program. -/
noncomputable def denseCall (F : FTy → Type) [FloatOps F] [Named F] : Prog (TpuEff nD τ sig (Elt F) (ΛP (F := F)) .tc) PUnit.{1} :=
  .op (.customCall (Pipeline.entry 0) ()) fun _ => .ret PUnit.unit

theorem denseCall_lift (F : FTy → Type) [FloatOps F] [Named F] :
    ((Prog.lift (TpuEff.customCall (SparseCore.inner (Pipeline.entry 0)) ()) >>= fun _ => pure (PUnit.unit : PUnit.{1})) : Host.HostProg F)
      = SparseCore.liftProg (denseCall F) := rfl

/-- The dense call on device `d`. -/
theorem dense_call (d : Dev nD) (Q : PUnit → sProp (MM F)) :
    iprop((iprop(boundary (SparseCore.T d) ∗ StableHlo.held (SparseCore.T d) Dense.arrs (Dense.valOut (val3 m) d) ∗ Dense.waited d) -∗ Q ⟨⟩)
        ∗ boundary (SparseCore.T d) ∗ (StableHlo.held (SparseCore.T d) Dense.arrs (val3 m d) ∗ Dense.waited d)
        ∗ levAts (K (F := F)).L (K (F := F)).lev ∗ ghost d)
      ⊢ wp frame (wpE ((K (F := F)).defs (D (F := F))) 𝒱 (SparseCore.T d) none) Set.univ
          (Prog.lift (TpuEff.customCall (SparseCore.inner (Pipeline.entry 0)) ()) >>= fun _ => pure (PUnit.unit : PUnit.{1})) Q := by
  have lifted := (K (F := F)).wp_liftProg (D (F := F)) 𝒱 (SparseCore.T d) Set.univ none (denseCall F) Q
  rw [denseCall_lift F]
  refine BI.Entails.trans ?_ lifted
  have call := Pipeline.RegionSeg.wp (pcfgs (F := F)) (fun p => (cfgs p).toPCfg_adm) (Dense.dats (val3 m)) none (pinned_inj (F := F)) EP defs₀ 𝒱₀ (K (F := F)).L (K (F := F)).lev
    (Dense.seg (val3 m)) d none (fun u hu => absurd hu (Option.not_mem_none u)) (fun _ => .ret (PUnit.unit : PUnit.{1})) Q
  refine BI.Entails.trans ?_ call
  refine (show iprop(_ ∗ boundary (SparseCore.T d) ∗ (Dense.seg (val3 m)).pre d ∗ levAts (K (F := F)).L (K (F := F)).lev ∗ ghost d) ⊢ _ from ?_)
  refine BIClass.sep_mono ?_ (BI.Entails.refl _)
  iintro Hk H
  rw [wp_ret]
  imodintro
  iapply Hk
  iexact H

theorem launch_held (d : Dev nD) : (unscopedBufs d (fun b => m ((SparseCore.T d : Thread nD τ).loc b)) : sProp (MM F))
    = StableHlo.held (T d) (Pipeline.ucRefs τ sig) (StableHlo.launchContents m d) :=
  Pipeline.unscopedBufs_held d (StableHlo.launchContents m d)

set_option maxHeartbeats 1000000 in
theorem hmain (κ : GSem nD τ sig → ℕ) (d : Dev nD) :
    iprop((K (F := F)).ctx EH (P (tab m) (idx m)) κ ∗ (K (F := F)).tcSt EH d 0 ∗ (K (F := F)).tcRes m ρ d ∗ ghost d)
      ⊢ wp frame (wpE ((K (F := F)).defs (D (F := F))) 𝒱 (T d) none) Set.univ (main d)
          fun _ => iprop((K (F := F)).tcSt EH d 1 ∗ fin m d ∗ (K (F := F)).tcEnd d) := by
  unfold SparseCore.Cfg.tcRes SparseCore.Cfg.tcEnd
  rw [launch_held m d, main_eq F d]
  iintro ⟨#Hctx, Hst, ⟨Hb, Hbufs, Hts, -⟩, HG⟩
  have line := StableHlo.wp_seq (defs := (K (F := F)).defs (D (F := F))) 𝒱 none Set.univ d (Pipeline.ucRefs τ sig)
    (fun _ => (sc (F := F)).run d 0 >>= fun _ => rest F) (K := fun _ => iprop((K (F := F)).tcSt EH d 1 ∗ fin m d ∗ boundary (T d) ∗ (K (F := F)).tcSems0 d))
    (pre F) (fun op h => Pipeline.sub_ucRefs op (pre_sub F op h)) (pre_fresh F) (StableHlo.launchContents m d)
  iapply line $$ [Hb Hbufs]
  · isplitl [Hb] <;> iassumption
  iintro ⟨Hb, Hbufs⟩
  ihave Hbufs := (show StableHlo.held (SparseCore.T d : Thread nD τ) (Pipeline.ucRefs τ sig) (StableHlo.after (pre F) (StableHlo.launchContents m d)) ⊢ _ from split m d) $$ Hbufs
  icases Hbufs with ⟨Hst0, Hrest⟩
  rw [wp_bind]
  iapply ((K (F := F)).wp_run (D (F := F)) 𝒱 (EH := EH) (P := P (tab m) (idx m)) κ d 0) $$ [Hst Hst0 Hrest Hb Hts HG]
  isplitr; · iexact Hctx
  isplitl [Hst]; · iexact Hst
  isplitl [Hst0]; · iexact Hst0
  iintro ⟨Hst, Hdn⟩
  ihave Hbufs := (join m d) $$ [Hdn Hrest]
  · isplitl [Hdn] <;> iassumption
  unfold rest
  rw [wp_bind]
  iapply (StableHlo.wp_hlo_within (defs := (K (F := F)).defs (D (F := F))) 𝒱 (T d) none Set.univ (op := shaped (F := F)) shaped_sub (V := val2 m d) rfl) $$ [Hb Hbufs]
  · isplitl [Hb] <;> iassumption
  iintro ⟨Hb, Hbufs⟩
  ihave Hbufs := (show StableHlo.held (SparseCore.T d : Thread nD τ) (Pipeline.ucRefs τ sig) ((shaped (F := F)).result (val2 m d)) ⊢ _ from
    Entails.of_eq (StableHlo.held_sub_split (SparseCore.T d) arrs_sub (val3 m d))) $$ Hbufs
  icases Hbufs with ⟨Harr, Hrest⟩
  ihave Hst := (show (K (F := F)).tcSt EH d ((0 : Fin 1).val + 1) ⊢ _ from Entails.of_eq (tcSt_one (F := F) d)) $$ Hst
  icases Hst with ⟨Hw, Hl⟩
  ihave Hlev := (SparseCore.Cfg.ctx_levAts κ) $$ Hctx
  rw [wp_ret]
  imodintro
  iapply (dense_call m d)
  unfold ghost
  isplitr [Hb Harr Hw Hlev HG]
  · iintro ⟨Hb, Harr, Hw⟩
    isplitl [Hw Hl]
    · rw [tcSt_one]
      isplitl [Hw] <;> iassumption
    isplitl [Harr Hrest]
    · iapply (show iprop(StableHlo.held (SparseCore.T d) Dense.arrs (Dense.valOut (val3 m) d)
          ∗ StableHlo.held (SparseCore.T d) (Pipeline.ucRefs τ sig \ Dense.arrs) (val3 m d)) ⊢ fin m d from by
        unfold fin
        rw [StableHlo.held_sub_split (SparseCore.T d) arrs_sub (val4 m d), StableHlo.held_congr (SparseCore.T d) (val4_rest m d)]
        exact BI.Entails.refl _)
      isplitl [Harr] <;> iassumption
    isplitl [Hb] <;> iassumption
  isplitl [Hb]; · iexact Hb
  isplitl [Harr Hw]; · isplitl [Harr] <;> iassumption
  isplitl [Hlev]; · iexact Hlev
  iexact HG

end Cert.KernelIdeal.Main

end
-- ==== Proof.Launch.lean ====
/- The launch: the ghost state the calls start from, what the buffers hold when every thread has ended, and the run. -/
module

public import proofs.«01_k».proof.Proof.Main

@[expose] public section

noncomputable section

namespace Cert.KernelIdeal.Main

open Cert.KernelIdeal Cert.KernelIdeal.Gen Cert.KernelIdeal.Gather Cert.KernelIdeal.Host
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
variable (m : (ℓ : Loc nD τ sig) → Buf (Elt F) ℓ) (ρ : Dev nD → PrngReg)

/-- The ghost state at launch: the handshakes' rounds, the window cells' rounds, no counter. -/
noncomputable def u₀ (F : FTy → Type) [FloatOps F] [Named F] : UU :=
  (initOf (K (F := F)).hsCells (K (F := F)).hsToks,
    (initOf (Pipeline.cells (pinned (F := F)) pinned_inj) (Pipeline.launchToks (pinned (F := F)) pinned_inj), 1))

theorem own_parts (a : UH) (b : UP) : (ownU (a, (b, (1 : Counters))) : sProp (MM F)) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem carried (thr : Thread nD τ) :
    (bigSep Finset.univ fun q : Fin 1 => (P (F := F) (tab m) (idx m)).x q thr) = (iprop(emp) : sProp (MM F)) :=
  bigSep_univ_of_subsingleton (0 : Fin 1)

theorem none_carried :
    (bigSep Finset.univ fun thr : Thread nD τ => bigSep Finset.univ fun q : Fin 1 => (P (F := F) (tab m) (idx m)).x q thr) = (iprop(emp) : sProp (MM F)) :=
  (bigSep_congr fun thr _ => carried m thr).trans (bigSep_emp_const _)

theorem ghost_all : iprop((bigSep Finset.univ fun c : Dev nD => bigSep Finset.univ fun p : Fin 1 => Pipeline.cellsGhost (pinned (F := F)) EP p c)
      ∗ (bigSep Finset.univ fun c : Dev nD => bigSep Finset.univ fun p : Fin 1 => (Pipeline.toksInit (pinned (F := F)) EP p c : sProp (MM F))))
    ⊢ bigSep Finset.univ fun c : Dev nD => ghost (F := F) c := by
  unfold ghost
  simp only [bigSep_univ_of_subsingleton (0 : Fin 1), bigSep_sep']
  exact BI.Entails.refl _

theorem start : (ownU (u₀ F) : sProp (MM F))
    ⊢ |={Set.univ}=> iprop(BI.own (EH (initOf (K (F := F)).hsCells (K (F := F)).hsToks)) ∗ (bigSep Finset.univ fun c : Dev nD => ghost (F := F) c)
        ∗ bigSep Finset.univ fun thr : Thread nD τ => bigSep Finset.univ fun q : Fin 1 => (P (F := F) (tab m) (idx m)).x q thr) := by
  unfold u₀
  rw [none_carried]
  iintro Hu
  ihave H := (own_parts (F := F) _ _) $$ Hu
  icases H with ⟨HH, HK⟩
  imod (Pipeline.fund_ghost (pinned (F := F)) EP pinned_inj) $$ HK with H
  imodintro
  isplitl [HH]; · iexact HH
  isplitl [H]
  · iapply (ghost_all (F := F)); iexact H
  iempintro

/-- Every buffer of the TensorCore holds `val4` of it. -/
def ended (d : Dev nD) (s : Phys nD τ sig (Elt F)) : Prop := ∀ b ∈ Pipeline.ucRefs τ sig, s.mem.mem (d, b) = val4 m d b

theorem read_all (d : Dev nD) (s : Phys nD τ sig (Elt F)) : iprop(fin m d ∗ SI s) ⊢ (⌜ended m d s⌝ : sProp (MM F)) := by
  unfold fin StableHlo.held
  iintro ⟨Hh, HSI⟩
  ihave H := (pointsTo_read_all (Pipeline.ucRefs τ sig) (fun b => (d, b)) (val4 m d) s) $$ [Hh HSI]
  · isplitl [Hh] <;> iassumption
  icases H with ⟨%h, -⟩
  ipureintro; exact h

/-- When every index names a row of the table, the program ends with the buffers at `val4` and no signal pending. -/
theorem run_main (hidx : ∀ d j, BitVec.toNat (idx m d j) < 1228) :
    θ_run (defs (F := F)) (threads (F := F)) ⟨m, fun _ => 0, ρ⟩
      (fun r => (∀ d : Dev nD, ∀ b ∈ Pipeline.ucRefs τ sig, r.2.mem (d, b) = val4 m d b) ∧ r.2.sem = fun _ => 0) :=
  SparseCore.Cfg.θ_run_sc_quiescent (K := K (F := F)) (D := D (F := F)) (𝒱 := 𝒱) (EH := EH) (P := P (tab m) (idx m)) (A := ∅) launchFacts v₀
    (fun q hq => match q with | 0 => nomatch hq)
    (fun q _ => match q with | 0 => tileObl (tab m) (idx m) hidx)
    (fun q _ => match q with | 0 => SparseCore.Cfg.VecSplit.of_plain (vecSplit (tab m) (idx m)))
    m ρ main (ghost (F := F)) (fin m) (u₀ F) (sep_elim_left.trans (start m)) (hmain m ρ) (ended m) (read_all m) _ (fun _ h hz => ⟨h, hz⟩)

end Cert.KernelIdeal.Main

end
-- ==== Proof.Range.lean ====
/- What the two preconditions say of the arguments' entries: the index arguments lie in their tables; under the second, the
   enemy's status too, and the numbers of which the kernel multiplies a mean are finite. -/
module

public import proofs.«01_k».proof.Pre_indices_in_range
public import proofs.«01_k».proof.Pre_indices_and_means
public import Idealize.ShloMosaic.Lib.ReduceAll
public import Idealize.ShloMosaic.Lib.WordCmp
public import Idealize.ShloMosaic.Lib.Affine
public import Idealize.ShloMosaic.PureOps.Ideal

@[expose] public section

noncomputable section

namespace Cert.Range

open Idealize.ShloMosaic

/-- The facts that the first precondition states. -/
theorem facts : Cert.Pre_indices_in_range.Facts :=
  ⟨by decide, by decide, by decide, by decide, by decide⟩

/-- The facts that the second precondition states. -/
theorem facts' : Cert.Pre_indices_and_means.Facts :=
  ⟨by decide, by decide, by decide, by decide, by decide, by decide, by decide, by decide⟩

/-- A word that is at least 0 and below `n` as a signed word is below `n` as a natural number. -/
theorem word_below (n : Nat) (hn : n < 2 ^ 31) (v : BitVec 32)
    (e : IntOp.andi (IntOp.cmpi .sge v 0#32) (IntOp.cmpi .slt v (BitVec.ofNat 32 n)) = 1#1) : v.toNat < n := by
  have ofBool_eq_one (p : Bool) : (BitVec.ofBool p = 1#1) ↔ p = true := by cases p <;> decide
  have hm : n % 4294967296 = n := Nat.mod_eq_of_lt (by omega)
  simp only [IntOp.cmpi, WordCmp.andi_ofBool, ofBool_eq_one, Bool.and_eq_true, BitVec.sle_eq_decide, BitVec.slt_eq_decide,
    decide_eq_true_eq, BitVec.toInt_eq_toNat_cond, BitVec.toNat_ofNat, Nat.reducePow, Nat.reduceMod, hm] at e
  omega

/-- `jnp.all((x >= 0) & (x < n))` bounds every entry of `x`. -/
theorem all_below {s t u : Shape} {axes : List (Fin s.rank)} [Subsingleton t.Idx] (n : Nat) (hn : n < 2 ^ 31)
    (x : IVec s 32) (z k : IVec s 32) (hz : ∀ i, z i = 0#32) (hk : ∀ i, k i = BitVec.ofNat 32 n) (init : u.Idx → BitVec 1)
    (h : s.ReducesTo axes t) (hu : 0 < u.numel) (j : t.Idx)
    (e : Host.reduce IntOp.andi (andi (cmpi .sge x z) (cmpi .slt x k)) init h hu j = 1#1) (i : s.Idx) : (x i).toNat < n :=
  word_below n hn (x i) (by
    have := Host.reduce_andi_all _ init h hu j e i
    rw [← hz i, ← hk i]
    exact this)

/-- `jnp.all(jnp.abs(x) < jnp.inf)`: no entry of `x` is infinite. -/
theorem all_finite {s t u : Shape} {axes : List (Fin s.rank)} [Subsingleton t.Idx]
    (x : FVec Ideal s .f32) (k : FVec Ideal s .f32) (hk : ∀ i, k i = FloatOps.ofBits .f32 0x7F800000#32) (init : u.Idx → BitVec 1)
    (h : s.ReducesTo axes t) (hu : 0 < u.numel) (j : t.Idx)
    (e : Host.reduce IntOp.andi (cmpf .olt (Host.absf x) k) init h hu j = 1#1) (i : s.Idx) :
    (x i : EReal) ≠ ⊤ ∧ (x i : EReal) ≠ ⊥ := by
  have h1 : FloatOps.cmpf .olt (FloatOps.absf (x i)) (k i) = 1#1 := Host.reduce_andi_all _ init h hu j e i
  rw [hk i] at h1
  have h2 : (max (x i : EReal) (-(x i : EReal))) < (⊤ : EReal) := by
    by_contra hc
    have : FloatOps.cmpf (F := Ideal) (φ := .f32) .olt (FloatOps.absf (x i)) (FloatOps.ofBits .f32 0x7F800000#32) = 0#1 := by
      have ht : (FloatOps.ofBits .f32 0x7F800000#32 : Ideal .f32) = (⊤ : EReal) := by
        simp [Ideal.ofBits_def, Ideal.ofBits, Ideal.ieee]
      rw [ht]
      show BitVec.ofBool (decide (max (x i : EReal) (-(x i : EReal)) < (⊤ : EReal))) = 0#1
      rw [decide_eq_false hc]
      rfl
    rw [this] at h1
    exact absurd h1 (by decide)
  constructor
  · intro ht; rw [ht] at h2; simp at h2
  · intro hb; rw [hb] at h2; simp at h2

instance : Subsingleton (Shape.Idx ⟨0, ![]⟩) := ⟨fun _ _ => funext fun i => i.elim0⟩

/-- The five index arguments lie in their tables. -/
structure InRange (species : IVec ⟨2, ![16384, 6]⟩ 32) (moves : IVec ⟨3, ![16384, 6, 4]⟩ 32)
    (ability status item : IVec ⟨2, ![16384, 6]⟩ 32) : Prop where
  species : ∀ i, (species i).toNat < 412
  moves : ∀ i, (moves i).toNat < 355
  ability : ∀ i, (ability i).toNat < 78
  status : ∀ i, (status i).toNat < 6
  item : ∀ i, (item i).toNat < 377

section
variable {F : FTy → Type} [FloatOps F]

/-- The first precondition, read. -/
theorem inRange [Cert.Pre_indices_in_range.Facts] (a0 a1 a2 a3 a4 a5 a6 a7 a8 a9 a10 a11 a12 a13 a14 a15 a16 a17 a18 a19 a20 a21 a22 a23
    a24 a25 a26 a27 a28 a29 a30 a31 a32 a33 a34 a35 a36 a37 a38 a39 a40 a41 a42)
    (h : Cert.Pre_indices_in_range.fn (F := F) a0 a1 a2 a3 a4 a5 a6 a7 a8 a9 a10 a11 a12 a13 a14 a15 a16 a17 a18 a19 a20 a21 a22 a23
      a24 a25 a26 a27 a28 a29 a30 a31 a32 a33 a34 a35 a36 a37 a38 a39 a40 a41 a42 = fun _ => 1#1) : InRange a0 a1 a2 a3 a4 := by
  have e := congrFun h (fun i => i.elim0)
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨all_below 412 (by decide) _ _ _ (fun _ => rfl) (fun _ => rfl) _ _ _ _ h0,
    all_below 355 (by decide) _ _ _ (fun _ => rfl) (fun _ => rfl) _ _ _ _ h1,
    all_below 78 (by decide) _ _ _ (fun _ => rfl) (fun _ => rfl) _ _ _ _ h2,
    all_below 6 (by decide) _ _ _ (fun _ => rfl) (fun _ => rfl) _ _ _ _ h3,
    all_below 377 (by decide) _ _ _ (fun _ => rfl) (fun _ => rfl) _ _ _ _ h4⟩
end

/-- The second precondition, read: the indices, the enemy's status, the move points and the weights of their mean. -/
theorem inRange_means [Cert.Pre_indices_and_means.Facts] (a0 a1 a2 a3 a4 a5 a6 a7 a8 a9 a10 a11 a12 a13 a14 a15 a16 a17 a18 a19 a20 a21 a22 a23
    a24 a25 a26 a27 a28 a29 a30 a31 a32 a33 a34 a35 a36 a37 a38 a39 a40 a41 a42)
    (h : Cert.Pre_indices_and_means.fn (F := Ideal) a0 a1 a2 a3 a4 a5 a6 a7 a8 a9 a10 a11 a12 a13 a14 a15 a16 a17 a18 a19 a20 a21 a22 a23
      a24 a25 a26 a27 a28 a29 a30 a31 a32 a33 a34 a35 a36 a37 a38 a39 a40 a41 a42 = fun _ => 1#1) :
    InRange a0 a1 a2 a3 a4 ∧ (∀ i, (a5 i).toNat < 6) ∧ (∀ i, (a14 i : EReal) ≠ ⊤ ∧ (a14 i : EReal) ≠ ⊥) ∧
      ∀ i, (extractStridedSlice ⟨2, ![1, 128]⟩ ![135, 0] a29 Cert.Pre_indices_and_means.Facts.slices_S137x128_S1x128_135_0 i : EReal) ≠ ⊤ ∧
        (extractStridedSlice ⟨2, ![1, 128]⟩ ![135, 0] a29 Cert.Pre_indices_and_means.Facts.slices_S137x128_S1x128_135_0 i : EReal) ≠ ⊥ := by
  have e := congrFun h (fun i => i.elim0)
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨⟨all_below 412 (by decide) _ _ _ (fun _ => rfl) (fun _ => rfl) _ _ _ _ h0,
    all_below 355 (by decide) _ _ _ (fun _ => rfl) (fun _ => rfl) _ _ _ _ h1,
    all_below 78 (by decide) _ _ _ (fun _ => rfl) (fun _ => rfl) _ _ _ _ h2,
    all_below 6 (by decide) _ _ _ (fun _ => rfl) (fun _ => rfl) _ _ _ _ h3,
    all_below 377 (by decide) _ _ _ (fun _ => rfl) (fun _ => rfl) _ _ _ _ h4⟩,
    all_below 6 (by decide) _ _ _ (fun _ => rfl) (fun _ => rfl) _ _ _ _ h5,
    all_finite _ _ (fun _ => rfl) _ _ _ _ h6, all_finite _ _ (fun _ => rfl) _ _ _ _ h7⟩

end Cert.Range

end
-- ==== Proof.Index.lean ====
/- The two buffers the gather call reads, as functions of the arguments, and the bound on its indices. -/
module

public import proofs.«01_k».proof.Proof.Launch
public import proofs.«01_k».proof.Proof.Range
public import Idealize.ShloMosaic.Lib.Pointwise

@[expose] public section

noncomputable section

namespace Cert.KernelIdeal.Main

open Cert.KernelIdeal Cert.KernelIdeal.Gen Cert.KernelIdeal.Gather Cert.KernelIdeal.Host
open Idealize.ShloMosaic

variable {F : FTy → Type} [FloatOps F] [Named F]
variable (m : (ℓ : Loc nD τ sig) → Buf (Elt F) ℓ)

/-- A buffer's contents at launch. -/
noncomputable abbrev arg (d : Dev nD) (r : Ref sig .tc) := StableHlo.launchContents m d (dv r)

/-- The five tables, one under another. -/
noncomputable def rows (a23 : FVec F S412x16 .f32) (a24 : FVec F S355x16 .f32) (a25 : FVec F S78x16 .f32) (a26 : FVec F S6x16 .f32)
    (a27 : FVec F S377x16 .f32) : FVec F S1228x16 .f32 :=
  concatenate S1228x16 0 [⟨S412x16, a23⟩, ⟨S355x16, a24⟩, ⟨S78x16, a25⟩, ⟨S6x16, a26⟩, ⟨S377x16, a27⟩]
    concatenates_S412x16_S355x16_S78x16_S6x16_S377x16_S1228x16_d0

/-- An index argument as a column, moved down by the rows above its table. -/
noncomputable def moved (n : BitVec 32) (a : IVec S16384x6 32) : IVec S16384x6x1 32 :=
  addi (broadcastInDim S16384x6x1 ![0, 1] bcast_S16384x6_S16384x6x1_0_1 a)
    (broadcastInDim S16384x6x1 ![] bcast_S_S16384x6x1 (constantI S_ 32 n))

/-- The eight row numbers of each party member. -/
noncomputable def codes (a0 : IVec S16384x6 32) (a1 : IVec S16384x6x4 32) (a2 a3 a4 : IVec S16384x6 32) : IVec S16384x6x8 32 :=
  concatenate S16384x6x8 2 [⟨S16384x6x1, broadcastInDim S16384x6x1 ![0, 1] bcast_S16384x6_S16384x6x1_0_1 a0⟩,
    ⟨S16384x6x4, addi a1 (broadcastInDim S16384x6x4 ![] bcast_S_S16384x6x4 (constantI S_ 32 412#32))⟩,
    ⟨S16384x6x1, moved 767#32 a2⟩, ⟨S16384x6x1, moved 845#32 a3⟩, ⟨S16384x6x1, moved 851#32 a4⟩]
    concatenates_S16384x6x1_S16384x6x4_S16384x6x1_S16384x6x1_S16384x6x1_S16384x6x8_d2

theorem tab_eq (d : Dev nD) : tab m d
    = shapeCast S19648 (rows (arg m d main_arg23) (arg m d main_arg24) (arg m d main_arg25) (arg m d main_arg26) (arg m d main_arg27))
        shapeCasts_S1228x16_S19648 := by
  show StableHlo.after (pre F) _ (Proc.devRef .tc main_v143) = _
  after_reads_simp
  rfl

theorem idx_eq (d : Dev nD) : idx m d
    = shapeCast S786432 (transpose S6x16384x8 [1, 0, 2]
        (codes (arg m d main_arg0) (arg m d main_arg1) (arg m d main_arg2) (arg m d main_arg3) (arg m d main_arg4))
        transposes_S16384x6x8_S6x16384x8_1_0_2) shapeCasts_S6x16384x8_S786432 := by
  show StableHlo.after (pre F) _ (Proc.devRef .tc main_v142) = _
  after_reads_simp
  dsimp only [Matrix.cons_val]
  rw [show StableHlo.upto (pre F) (StableHlo.launchContents m d) 17 (Proc.devRef .tc main_v1)
      = broadcastInDim S16384x6x1 ![0, 1] bcast_S16384x6_S16384x6x1_0_1 (arg m d main_arg0) from by after_reads_simp,
    show StableHlo.upto (pre F) (StableHlo.launchContents m d) 17 (Proc.devRef .tc main_v3)
      = addi (arg m d main_arg1) (broadcastInDim S16384x6x4 ![] bcast_S_S16384x6x4 (constantI S_ 32 412#32)) from by after_reads_simp,
    show StableHlo.upto (pre F) (StableHlo.launchContents m d) 17 (Proc.devRef .tc main_v6)
      = moved 767#32 (arg m d main_arg2) from by after_reads_simp; rfl,
    show StableHlo.upto (pre F) (StableHlo.launchContents m d) 17 (Proc.devRef .tc main_v9)
      = moved 845#32 (arg m d main_arg3) from by after_reads_simp; rfl,
    show StableHlo.upto (pre F) (StableHlo.launchContents m d) 17 (Proc.devRef .tc main_v12)
      = moved 851#32 (arg m d main_arg4) from by after_reads_simp; rfl]
  rfl

/-- A small number added to a word in its table's range stays a word of that size. -/
theorem word_moved (n k : Nat) (hn : n + k ≤ 1228) (v : BitVec 32) (h : v.toNat < n) :
    (IntOp.addi v (BitVec.ofNat 32 k)).toNat < 1228 := by
  show (v + BitVec.ofNat 32 k).toNat < 1228
  rw [BitVec.toNat_add, BitVec.toNat_ofNat]
  omega

/-- Every row number is a row of the tables. -/
theorem codes_lt (a0 : IVec S16384x6 32) (a1 : IVec S16384x6x4 32) (a2 a3 a4 : IVec S16384x6 32)
    (h : Cert.Range.InRange a0 a1 a2 a3 a4) (j : S16384x6x8.Idx) : (codes a0 a1 a2 a3 a4 j).toNat < 1228 := by
  refine concatenate_forall (P := fun v : BitVec 32 => v.toNat < 1228) _ _ _ _ ?_ j
  intro p hp
  simp only [List.mem_cons, List.not_mem_nil, or_false] at hp
  rcases hp with rfl | rfl | rfl | rfl | rfl <;> intro i
  · exact (h.species _).trans (by decide)
  · exact word_moved 355 412 (by decide) _ (h.moves _)
  · exact word_moved 78 767 (by decide) _ (h.ability _)
  · exact word_moved 6 845 (by decide) _ (h.status _)
  · exact word_moved 377 851 (by decide) _ (h.item _)

theorem idx_lt (d : Dev nD)
    (h : Cert.Range.InRange (arg m d main_arg0) (arg m d main_arg1) (arg m d main_arg2) (arg m d main_arg3) (arg m d main_arg4)) (j) :
    BitVec.toNat (idx m d j) < 1228 := by
  rw [idx_eq]
  exact codes_lt _ _ _ _ _ h _

/-- The arguments. -/
noncomputable def args : List (Ref sig .tc) :=
  [main_arg0, main_arg1, main_arg2, main_arg3, main_arg4, main_arg5, main_arg6, main_arg7, main_arg8, main_arg9,
    main_arg10, main_arg11, main_arg12, main_arg13, main_arg14, main_arg15, main_arg16, main_arg17, main_arg18,
    main_arg19, main_arg20, main_arg21, main_arg22, main_arg23, main_arg24, main_arg25, main_arg26, main_arg27,
    main_arg28, main_arg29, main_arg30, main_arg31, main_arg32, main_arg33, main_arg34, main_arg35, main_arg36,
    main_arg37, main_arg38, main_arg39, main_arg40, main_arg41, main_arg42]

/-- The host's operations leave them alone, -/
theorem val1_arg (d : Dev nD) (r : Ref sig .tc) (hr : r ∈ args) : val1 m d (dv r) = arg m d r := by
  simp only [args, List.mem_cons, List.not_mem_nil, or_false] at hr
  rcases hr with rfl | rfl | rfl | rfl | rfl | rfl | rfl | rfl | rfl | rfl | rfl | rfl | rfl | rfl | rfl | rfl | rfl | rfl | rfl | rfl | rfl | rfl
    | rfl | rfl | rfl | rfl | rfl | rfl | rfl | rfl | rfl | rfl | rfl | rfl | rfl | rfl | rfl | rfl | rfl | rfl | rfl | rfl | rfl <;>
    (show StableHlo.after (pre F) _ (Proc.devRef .tc _) = _) <;> after_reads_simp

/-- and so do the two calls and the reshape between them. -/
theorem val4_arg (d : Dev nD) (r : Ref sig .tc) (hr : r ∈ args) : val4 m d (dv r) = arg m d r := by
  have ne : ∀ r ∈ args, r ≠ main_v144 ∧ r ≠ main_v145 ∧ r ≠ main_v146 := by decide
  obtain ⟨h2, h3, h4⟩ := ne r hr
  show Function.update _ _ _ _ = _
  rw [Function.update_of_ne (StableHlo.devRef_ne_of_ne h4), ← val1_arg m d r hr]
  show (shaped (F := F)).result (val2 m d) (Proc.devRef .tc r) = _
  unfold shaped
  rw [StableHlo.reshape_result_ne (h := h3)]
  exact Function.update_of_ne (StableHlo.devRef_ne_of_ne h2) _ _

theorem args_held : ∀ r ∈ args, dv r ∈ Pipeline.ucRefs τ sig := by decide

end Cert.KernelIdeal.Main

end
-- ==== Proof.Frames.lean ====
/- The idealized kernel's frames, and the reference's. -/
module

public import proofs.«01_k».proof.Defs
public import proofs.«01_k».proof.Proof.Index
public import proofs.«01_k».proof.Proof.Gen.ReferenceIdeal.Run
public import Idealize.ShloMosaic.Lib.Quiescent

@[expose] public section

noncomputable section

namespace Cert.Frames

open Idealize.ShloMosaic Idealize.SL.Sem

attribute [local instance] Cert.Range.facts Cert.Range.facts'

section
open Cert.KernelIdeal Cert.KernelIdeal.Main

variable (m : (ℓ : Loc nD τ sig) → Buf (Elt Ideal) ℓ)

theorem inRange_ideal (h : Cert.Pre_KernelIdeal m) (d : Dev nD) :
    Cert.Range.InRange (arg m d main_arg0) (arg m d main_arg1) (arg m d main_arg2) (arg m d main_arg3) (arg m d main_arg4) :=
  Cert.Range.inRange (F := Ideal) _ _ _ _ _ _ _ _ _ _ _ _ _ _ _ _ _ _ _ _ _ _ _ _ _ _ _ _ _ _ _ _ _ _ _ _ _ _ _ _ _ _ _ (h d)

theorem inRange_means_ideal (h : Cert.Pre_KernelIdeal_indices_and_means m) (d : Dev nD) :
    Cert.Range.InRange (arg m d main_arg0) (arg m d main_arg1) (arg m d main_arg2) (arg m d main_arg3) (arg m d main_arg4) :=
  (Cert.Range.inRange_means _ _ _ _ _ _ _ _ _ _ _ _ _ _ _ _ _ _ _ _ _ _ _ _ _ _ _ _ _ _ _ _ _ _ _ _ _ _ _ _ _ _ _ (h d)).1

/-- A run leaves every argument as it was. -/
theorem kept {F : FTy → Type} [FloatOps F] [Named F] (m : (ℓ : Loc nD τ sig) → Buf (Elt F) ℓ)
    (r : MemSt nD τ sig (Elt F)) (h : ∀ d : Dev nD, ∀ b ∈ Pipeline.ucRefs τ sig, r.mem (d, b) = val4 m d b) (c : Dev nD)
    (x : Ref sig .tc) (hx : x ∈ args) : r.mem ((c.tc : Thread nD τ).loc x) = m ((c.tc : Thread nD τ).loc x) :=
  (h c (dv x) (args_held x hx)).trans (val4_arg m c x hx)

theorem frame_ideal : Cert.quiescent_KernelIdeal := fun m g h =>
  (θ_run Cert.KernelIdeal.defs _ _).mono (fun r hr => ⟨fun c => by
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
        ?_, ?_, ?_, ?_, ?_, ?_, ?_, ?_, ?_, ?_, ?_, ?_, ?_⟩ <;> exact kept m r.2 hr.1 c _ (by decide), hr.2⟩)
    (run_main (F := Ideal) m g fun d => idx_lt m d (inRange_ideal m h d))

theorem frame_ideal_means : Cert.quiescent_KernelIdeal_pre_indices_and_means := fun m g h =>
  (θ_run Cert.KernelIdeal.defs _ _).mono (fun r hr => ⟨fun c => by
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
        ?_, ?_, ?_, ?_, ?_, ?_, ?_, ?_, ?_, ?_, ?_, ?_, ?_⟩ <;> exact kept m r.2 hr.1 c _ (by decide), hr.2⟩)
    (run_main (F := Ideal) m g fun d => idx_lt m d (inRange_means_ideal m h d))
end

theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_reference_means : Cert.quiescent_ReferenceIdeal_pre_indices_and_means := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant is the sixth that it names. -/
theorem preserves : Cert.preserves_Kernel_KernelIdeal :=
  IdealRules.named_const.statement Cert.KernelIdeal.κ "sixth" .f32 0x3E2AAAAB#32 ((6⁻¹ : ℝ) : EReal) rfl

end Cert.Frames

end
-- ==== Proof.Model.lean ====
/- The network's mathematics, one sample, slot and unit at a time, as a function of its 43 arguments over the extended reals. -/
module

public import Idealize.ShloMosaic.Lib.Pointwise

@[expose] public section

noncomputable section

namespace Cert.Model

open Idealize.ShloMosaic

/-- Arrays of extended reals, and of words. -/
abbrev M1 (a : ℕ) := (⟨1, ![a]⟩ : Shape).Idx → EReal
@[inherit_doc M1] abbrev M2 (a b : ℕ) := (⟨2, ![a, b]⟩ : Shape).Idx → EReal
@[inherit_doc M1] abbrev M3 (a b c : ℕ) := (⟨3, ![a, b, c]⟩ : Shape).Idx → EReal
@[inherit_doc M1] abbrev W2 (a b : ℕ) := (⟨2, ![a, b]⟩ : Shape).Idx → BitVec 32
@[inherit_doc M1] abbrev W3 (a b c : ℕ) := (⟨3, ![a, b, c]⟩ : Shape).Idx → BitVec 32

/-- The arguments. -/
structure In where
  species : W2 16384 6
  moves : W3 16384 6 4
  ability : W2 16384 6
  status : W2 16384 6
  item : W2 16384 6
  estatus : W2 16384 6
  level : W2 16384 6
  hp : M2 16384 6
  lvl : M2 16384 6
  att : M2 16384 6
  defn : M2 16384 6
  spe : M2 16384 6
  spa : M2 16384 6
  spd : M2 16384 6
  pp : M3 16384 6 4
  exp : M2 16384 6
  ehp : M2 16384 6
  elvl : M2 16384 6
  php : M2 16384 6
  inb : M2 16384 1
  badge : M2 16384 8
  hms : M2 16384 8
  map : M2 16384 55
  speciesE : M2 412 16
  moveE : M2 355 16
  abilityE : M2 78 16
  statusE : M2 6 16
  itemE : M2 377 16
  estatusE : M2 6 16
  pW1 : M2 137 128
  pb1 : M1 128
  pW2 : M2 128 128
  pb2 : M1 128
  eW1 : M2 18 128
  eb1 : M1 128
  eW2 : M2 128 128
  eb2 : M1 128
  paW : M2 2 128
  pab : M1 128
  gW : M2 17 32
  gb : M1 32
  fW : M2 471 256
  fb : M1 256

/-- A hundredth, a quarter and a sixth. -/
def hundredth : EReal := ((1 / 100 : ℝ) : EReal)
@[inherit_doc hundredth] def quarter : EReal := ((1 / 4 : ℝ) : EReal)
@[inherit_doc hundredth] def sixth : EReal := ((1 / 6 : ℝ) : EReal)

/-- The row of a table that a word names; zero beyond the table. -/
def pick {n : ℕ} (E : M2 n 16) (w : BitVec 32) (l : Fin 16) : EReal := if h : w.toNat < n then E (ix2 ⟨w.toNat, h⟩ l) else 0

variable (X : In) (r : Fin 16384)

/-- Entry `l` of the `n`-th of the eight rows that slot `p` looks up. -/
def looked (p : Fin 6) (n : Fin 8) (l : Fin 16) : EReal :=
  if n.val < 1 then pick X.speciesE (X.species (ix2 r p)) l
  else if h : n.val - 1 < 4 then pick X.moveE (X.moves (ix3 r p ⟨n.val - 1, h⟩)) l
  else if n.val - 1 - 4 < 1 then pick X.abilityE (X.ability (ix2 r p)) l
  else if n.val - 1 - 4 - 1 < 1 then pick X.statusE (X.status (ix2 r p)) l
  else pick X.itemE (X.item (ix2 r p)) l

/-- The eight rows side by side. -/
def emb (p : Fin 6) (j : Fin 128) : EReal := looked X r p ⟨j.val / 16, by omega⟩ ⟨j.val % 16, by omega⟩

/-- The player's nine numbers. -/
def stat (p : Fin 6) : Fin 9 → EReal :=
  ![X.hp (ix2 r p), X.lvl (ix2 r p) * hundredth, X.att (ix2 r p), X.defn (ix2 r p), X.spe (ix2 r p), X.spa (ix2 r p), X.spd (ix2 r p),
    (∑ x : Fin 4, X.pp (ix3 r p x)) * quarter, X.exp (ix2 r p)]

/-- The player's hidden layer. -/
def playerHidden (p : Fin 6) (k : Fin 128) : EReal :=
  max (∑ j : Fin 128, emb X r p j * X.pW1 (ix2 ⟨j.val, by omega⟩ k)
    + ∑ i : Fin 9, stat X r p i * X.pW1 (ix2 ⟨128 + i.val, by omega⟩ k) + X.pb1 (ix1 k)) 0

/-- The enemy's hidden layer. -/
def enemyHidden (p : Fin 6) (k : Fin 128) : EReal :=
  max (∑ l : Fin 16, pick X.estatusE (X.estatus (ix2 r p)) l * X.eW1 (ix2 ⟨l.val, by omega⟩ k)
    + (X.ehp (ix2 r p) * X.eW1 (ix2 16 k) + X.elvl (ix2 r p) * hundredth * X.eW1 (ix2 17 k)) + X.eb1 (ix1 k)) 0

/-- Six slots' hidden layers through a second layer, averaged. -/
def second (hid : Fin 6 → Fin 128 → EReal) (W : M2 128 128) (b : M1 128) (j : Fin 128) : EReal :=
  (∑ p : Fin 6, ∑ k : Fin 128, hid p k * W (ix2 k j)) * sixth + b (ix1 j)

/-- The party branch. -/
def party (j : Fin 128) : EReal :=
  (∑ p : Fin 6, X.php (ix2 r p)) * sixth * X.paW (ix2 0 j)
    + (∑ p : Fin 6, (((X.level (ix2 r p)).toInt : ℝ) : EReal) * hundredth) * sixth * X.paW (ix2 1 j) + X.pab (ix1 j)

/-- The global branch's 17 numbers, -/
def flags (i : Fin 17) : EReal :=
  if h : i.val < 1 then X.inb (ix2 r ⟨i.val, h⟩)
  else if h : i.val - 1 < 8 then X.badge (ix2 r ⟨i.val - 1, h⟩) else X.hms (ix2 r ⟨i.val - 1 - 8, by omega⟩)

/-- and its units. -/
def glob (j : Fin 32) : EReal := max (∑ i : Fin 17, flags X r i * X.gW (ix2 i j) + X.gb (ix1 j)) 0

/-- The result. -/
def out (k : Fin 256) : EReal :=
  max (∑ j : Fin 128, second (playerHidden X r) X.pW2 X.pb2 j * X.fW (ix2 ⟨j.val, by omega⟩ k)
    + ∑ j : Fin 128, second (enemyHidden X r) X.eW2 X.eb2 j * X.fW (ix2 ⟨128 + j.val, by omega⟩ k)
    + ∑ j : Fin 128, party X r j * X.fW (ix2 ⟨256 + j.val, by omega⟩ k)
    + ∑ j : Fin 55, X.map (ix2 r j) * X.fW (ix2 ⟨384 + j.val, by omega⟩ k)
    + ∑ j : Fin 32, glob X r j * X.fW (ix2 ⟨439 + j.val, by omega⟩ k) + X.fb (ix1 k)) 0

/-! ## The programs' literals -/

theorem lit_100 : Ideal.ofBits .f32 0x42C80000#32 = ((100 : ℝ) : EReal) := by
  simp [Ideal.ofBits, Ideal.ieee, -EReal.coe_mul]; norm_num
theorem lit_4 : Ideal.ofBits .f32 0x40800000#32 = ((4 : ℝ) : EReal) := by
  simp [Ideal.ofBits, Ideal.ieee, -EReal.coe_mul]; norm_num
theorem lit_6 : Ideal.ofBits .f32 0x40C00000#32 = ((6 : ℝ) : EReal) := by
  simp [Ideal.ofBits, Ideal.ieee, -EReal.coe_mul]; norm_num

theorem div_100 (x : EReal) : Ideal.div x (Ideal.ofBits .f32 0x42C80000#32) = x * hundredth := by
  rw [lit_100, Ideal.div_coe (by norm_num)]; rfl
theorem div_4 (x : EReal) : Ideal.div x (Ideal.ofBits .f32 0x40800000#32) = x * quarter := by
  rw [lit_4, Ideal.div_coe (by norm_num)]; rfl
theorem div_6 (x : EReal) : Ideal.div x (Ideal.ofBits .f32 0x40C00000#32) = x * sixth := by
  rw [lit_6, Ideal.div_coe (by norm_num)]; rfl

/-! ## Sums -/

/-- Six of one summand scaled by a sixth are that summand. -/
theorem mean_add (h : Fin 6 → EReal) (b : EReal) : (∑ p, (h p + b)) * sixth = (∑ p, h p) * sixth + b := by
  have six : (∑ _p : Fin 6, b) * sixth = b := by
    rw [Finset.sum_const, Finset.card_univ, Fintype.card_fin, EReal.nsmul_eq_mul, mul_right_comm, sixth]
    rw [show ((6 : ℕ) : EReal) * ((1 / 6 : ℝ) : EReal) = 1 from by
      rw [show ((6 : ℕ) : EReal) = ((6 : ℝ) : EReal) from by norm_cast, ← EReal.coe_mul]; norm_num, one_mul]
  rw [Finset.sum_add_distrib, sixth, EReal.right_distrib_of_nonneg_of_ne_top, ← sixth, six]
  · exact EReal.coe_nonneg.mpr (by norm_num)
  · exact EReal.coe_ne_top _

/-- Two rows of numbers, one after the other. -/
def cat {a b N : ℕ} (hN : N = a + b) (u : Fin a → EReal) (v : Fin b → EReal) (i : Fin N) : EReal :=
  if h : i.val < a then u ⟨i.val, h⟩ else v ⟨i.val - a, by omega⟩

theorem cat_left {a b N : ℕ} (hN : N = a + b) (u : Fin a → EReal) (v : Fin b → EReal) (i : Fin a) (h : i.val < N) : cat hN u v ⟨i.val, h⟩ = u i :=
  dif_pos i.isLt

theorem cat_right {a b N : ℕ} (hN : N = a + b) (u : Fin a → EReal) (v : Fin b → EReal) (i : Fin b) (h : a + i.val < N) : cat hN u v ⟨a + i.val, h⟩ = v i :=
  (dif_neg (by simp)).trans (congrArg v (Fin.ext (by simp)))

/-- Further along, past the first row. -/
theorem cat_skip {a b N n : ℕ} (c : ℕ) (hn : n = a + c) (hN : N = a + b) (u : Fin a → EReal) (v : Fin b → EReal) (i : ℕ) (h : n + i < N) :
    cat hN u v ⟨n + i, h⟩ = v ⟨c + i, by omega⟩ := by
  subst hn
  exact (dif_neg (by simp only [not_lt]; omega)).trans (congrArg v (Fin.ext (by simp only []; omega)))

/-- A sum of products over two rows is the sum of the two sums. -/
theorem sum_cat {a b N : ℕ} (hN : N = a + b) (u u' : Fin a → EReal) (v v' : Fin b → EReal) :
    ∑ i : Fin N, cat hN u v i * cat hN u' v' i = ∑ i, u i * u' i + ∑ i, v i * v' i := by
  rw [Fin.sum_univ_two_halves a b hN.symm]
  simp only [cat_left, cat_right]

/-- The same where the other factor is one row. -/
theorem sum_cat_mul {a b N : ℕ} (hN : N = a + b) (u : Fin a → EReal) (v : Fin b → EReal) (w : Fin N → EReal) :
    ∑ i : Fin N, cat hN u v i * w i = ∑ i, u i * w ⟨i.val, by omega⟩ + ∑ i, v i * w ⟨a + i.val, by omega⟩ := by
  rw [Fin.sum_univ_two_halves a b hN.symm]
  simp only [cat_left, cat_right]

/-- One where the two slots are the same, zero elsewhere. -/
def same (p q : Fin 6) : EReal := if p = q then 1 else 0

/-- A sum over the slots that keeps slot `p` alone. -/
theorem sum_same (p : Fin 6) (x w : Fin 6 → EReal) : ∑ q, x q * (same p q * w q) = x p * w p := by
  simp [same]

/-- A sum over a product of two ranges. -/
theorem sum_grid {a b N : ℕ} (hN : N = a * b) (g : Fin N → EReal) :
    ∑ i, g i = ∑ q : Fin a, ∑ x : Fin b, g ⟨x.val + b * q.val, hN ▸ (finProdFinEquiv (q, x)).isLt⟩ := by
  subst hN
  rw [← finProdFinEquiv.sum_comp, Fintype.sum_prod_type]
  rfl

/-- A sum over the slots' shares that keeps slot `p`'s alone. -/
theorem sum_same_grid {b N : ℕ} (hN : N = 6 * b) (hb : 0 < b) (p : Fin 6) (x : Fin N → EReal) (w : Fin b → EReal) :
    ∑ f : Fin N, x f * (same p ⟨f.val / b, Nat.div_lt_of_lt_mul (by rw [mul_comm, ← hN]; exact f.isLt)⟩ * w ⟨f.val % b, Nat.mod_lt _ hb⟩)
      = ∑ j : Fin b, x ⟨j.val + b * p.val, hN ▸ (finProdFinEquiv (p, j)).isLt⟩ * w j := by
  rw [sum_grid hN]
  have hd (q : Fin 6) (j : Fin b) : (j.val + b * q.val) / b = q.val := by
    rw [Nat.add_mul_div_left _ _ hb, Nat.div_eq_of_lt j.isLt, zero_add]
  have hm (q : Fin 6) (j : Fin b) : (j.val + b * q.val) % b = j.val := by
    rw [Nat.add_mul_mod_self_left, Nat.mod_eq_of_lt j.isLt]
  simp only [hd, hm, Fin.eta]
  rw [Finset.sum_eq_single p (fun q _ hq => ?_) fun h => absurd (Finset.mem_univ p) h]
  · simp [same]
  · simp [same, Ne.symm hq]

/-- One number of six, chosen by a word that names it. -/
theorem sum_chosen (v : BitVec 32) (hv : v.toNat < 6) (T : Fin 6 → EReal) :
    ∑ s : Fin 6, (if v = BitVec.ofNat 32 s.val then (1 : EReal) else 0) * T s = T ⟨v.toNat, hv⟩ := by
  have h (s : Fin 6) : v = BitVec.ofNat 32 s.val ↔ (⟨v.toNat, hv⟩ : Fin 6) = s := by
    rw [← BitVec.toNat_inj, BitVec.toNat_ofNat, Fin.ext_iff, Nat.mod_eq_of_lt (by omega)]
  simp only [h]
  simp

/-- A finite number times a sum of finite numbers. -/
theorem sum_quarter (x : Fin 4 → EReal) (w : EReal) (hx : ∀ i, x i ≠ ⊤ ∧ x i ≠ ⊥) (hw : w ≠ ⊤ ∧ w ≠ ⊥) :
    ∑ i, x i * (w * quarter) = (∑ i, x i) * quarter * w := by
  obtain ⟨y, rfl⟩ : ∃ y : Fin 4 → ℝ, x = fun i => (y i : EReal) :=
    ⟨fun i => (x i).toReal, funext fun i => (EReal.coe_toReal (hx i).1 (hx i).2).symm⟩
  lift w to ℝ using hw
  rw [quarter]
  simp only [Fin.sum_univ_four]
  norm_cast
  ring

end Cert.Model

end
-- ==== Proof.Spread.lean ====
/- The table the host builds for the plain features: each feature's weights, on the slot the feature belongs to. -/
module

public import proofs.«01_k».proof.Proof.Setup
public import proofs.«01_k».proof.Proof.Model
public import Idealize.ShloMosaic.Lib.Pointwise

@[expose] public section

noncomputable section

namespace Cert.KernelIdeal.Spread

open Cert.KernelIdeal Cert.KernelIdeal.Facts₀ Cert.KernelIdeal.Facts
open Idealize.ShloMosaic Cert.Model

/-- The identity over the six slots. -/
def eye : FVec Ideal S6x6 .f32 :=
  uitofp .f32 (cmpi .eq (addi (iotaInDim S6x6 32 0) (broadcastInDim S6x6 ![] bcast_S_S6x6 (constantI S_ 32 0#32))) (iotaInDim S6x6 32 1))

/-- A row of weights on each slot. -/
def perSlot (w : FVec Ideal S128 .f32) : FVec Ideal S6x6x128 .f32 :=
  mulf (broadcastInDim S6x6x128 ![0, 1, 2] bcast_S6x6x1_S6x6x128_0_1_2 (broadcastInDim S6x6x1 ![0, 1] bcast_S6x6_S6x6x1_0_1 eye))
    (broadcastInDim S6x6x128 ![0, 1, 2] bcast_S1x1x128_S6x6x128_0_1_2 (broadcastInDim S1x1x128 ![2] bcast_S128_S1x1x128_2 w))

/-- A row of weights on each slot's four move numbers. -/
def perMove (w : FVec Ideal S128 .f32) : FVec Ideal S6x24x128 .f32 :=
  mulf (broadcastInDim S6x24x128 ![0, 1, 2] bcast_S6x24x1_S6x24x128_0_1_2 (broadcastInDim S6x24x1 ![0, 1] bcast_S6x24_S6x24x1_0_1
      (shapeCast S6x24 (broadcastInDim S6x6x4 ![0, 1] bcast_S6x6_S6x6x4_0_1 eye) shapeCasts_S6x6x4_S6x24)))
    (broadcastInDim S6x24x128 ![0, 1, 2] bcast_S1x1x128_S6x24x128_0_1_2 (broadcastInDim S1x1x128 ![2] bcast_S128_S1x1x128_2 w))

/-- Six rows of weights on each slot's status. -/
def perStatus (w : FVec Ideal S6x128 .f32) : FVec Ideal S6x36x128 .f32 :=
  shapeCast S6x36x128 (mulf
    (broadcastInDim S6x6x6x128 ![0, 1, 2, 3] bcast_S6x6x1x1_S6x6x6x128_0_1_2_3 (broadcastInDim S6x6x1x1 ![0, 1] bcast_S6x6_S6x6x1x1_0_1 eye))
    (broadcastInDim S6x6x6x128 ![0, 1, 2, 3] bcast_S1x1x6x128_S6x6x6x128_0_1_2_3 (broadcastInDim S1x1x6x128 ![2, 3] bcast_S6x128_S1x1x6x128_2_3 w)))
    shapeCasts_S6x6x6x128_S6x36x128

/-- A row of the player's or of the enemy's first weights. -/
def row (a : FVec Ideal S137x128 .f32) (n : ℕ) (h : S137x128.Slices ![n, 0] S1x128) : FVec Ideal S128 .f32 :=
  shapeCast S128 (extractStridedSlice S1x128 ![n, 0] a h) shapeCasts_S1x128_S128
@[inherit_doc row] def rowE (a : FVec Ideal S18x128 .f32) (n : ℕ) (h : S18x128.Slices ![n, 0] S1x128) : FVec Ideal S128 .f32 :=
  shapeCast S128 (extractStridedSlice S1x128 ![n, 0] a h) shapeCasts_S1x128_S128

/-- A row over a number. -/
def over (w : FVec Ideal S128 .f32) (n : BitVec 32) : FVec Ideal S128 .f32 := Host.divf w (broadcastInDim S128 ![] bcast_S_S128 (constant S_ .f32 n))

/-- The six statuses' rows through the enemy's first weights. -/
def statusRows (e : FVec Ideal S6x16 .f32) (a : FVec Ideal S18x128 .f32) : FVec Ideal S6x128 .f32 :=
  Host.dotGeneral dot_S6x16_S16x128_S6x128_1_0_0_1_n_n none e (extractStridedSlice S16x128 ![0, 0] a slices_S18x128_S16x128_0_0)

/-- The player's half of the table, -/
def left (a : FVec Ideal S137x128 .f32) : FVec Ideal S6x120x128 .f32 :=
  concatenate S6x120x128 1 [⟨S6x6x128, perSlot (row a 128 slices_S137x128_S1x128_128_0)⟩,
    ⟨S6x6x128, perSlot (over (row a 129 slices_S137x128_S1x128_129_0) 0x42C80000#32)⟩,
    ⟨S6x6x128, perSlot (row a 130 slices_S137x128_S1x128_130_0)⟩, ⟨S6x6x128, perSlot (row a 131 slices_S137x128_S1x128_131_0)⟩,
    ⟨S6x6x128, perSlot (row a 132 slices_S137x128_S1x128_132_0)⟩, ⟨S6x6x128, perSlot (row a 133 slices_S137x128_S1x128_133_0)⟩,
    ⟨S6x6x128, perSlot (row a 134 slices_S137x128_S1x128_134_0)⟩,
    ⟨S6x24x128, perMove (over (row a 135 slices_S137x128_S1x128_135_0) 0x40800000#32)⟩,
    ⟨S6x6x128, perSlot (row a 136 slices_S137x128_S1x128_136_0)⟩,
    ⟨S6x6x128, broadcastInDim S6x6x128 ![] bcast_S_S6x6x128 (constant S_ .f32 0x00000000#32)⟩,
    ⟨S6x6x128, broadcastInDim S6x6x128 ![] bcast_S_S6x6x128 (constant S_ .f32 0x00000000#32)⟩,
    ⟨S6x36x128, broadcastInDim S6x36x128 ![] bcast_S_S6x36x128 (constant S_ .f32 0x00000000#32)⟩]
    concatenates_S6x6x128_S6x6x128_S6x6x128_S6x6x128_S6x6x128_S6x6x128_S6x6x128_S6x24x128_S6x6x128_S6x6x128_S6x6x128_S6x36x128_S6x120x128_d1

/-- the enemy's, -/
def right (e : FVec Ideal S6x16 .f32) (a : FVec Ideal S18x128 .f32) : FVec Ideal S6x120x128 .f32 :=
  concatenate S6x120x128 1 [⟨S6x72x128, broadcastInDim S6x72x128 ![] bcast_S_S6x72x128 (constant S_ .f32 0x00000000#32)⟩,
    ⟨S6x6x128, perSlot (rowE a 16 slices_S18x128_S1x128_16_0)⟩,
    ⟨S6x6x128, perSlot (over (rowE a 17 slices_S18x128_S1x128_17_0) 0x42C80000#32)⟩,
    ⟨S6x36x128, perStatus (statusRows e a)⟩]
    concatenates_S6x72x128_S6x6x128_S6x6x128_S6x36x128_S6x120x128_d1

/-- and the whole. -/
def spread (e : FVec Ideal S6x16 .f32) (a : FVec Ideal S137x128 .f32) (b : FVec Ideal S18x128 .f32) : FVec Ideal S6x120x256 .f32 :=
  concatenate S6x120x256 2 [⟨S6x120x128, left a⟩, ⟨S6x120x128, right e b⟩] concatenates_S6x120x128_S6x120x128_S6x120x256_d2

/-- The statuses of the six slots, one bit per status. -/
def bits (a : IVec S16384x6 32) : FVec Ideal S16384x36 .f32 :=
  shapeCast S16384x36 (uitofp .f32 (cmpi .eq
    (broadcastInDim S16384x6x6 ![0, 1, 2] bcast_S16384x6x1_S16384x6x6_0_1_2 (broadcastInDim S16384x6x1 ![0, 1] bcast_S16384x6_S16384x6x1_0_1 a))
    (broadcastInDim S16384x6x6 ![0, 1, 2] bcast_S1x1x6_S16384x6x6_0_1_2 (broadcastInDim S1x1x6 ![2] bcast_S6_S1x1x6_2 (iotaInDim S6 32 0)))))
    shapeCasts_S16384x6x6_S16384x36

/-! ## At an index -/

/-- A comparison as a number. -/
theorem uitofp_bit (v w : BitVec 32) : (FloatOps.uitofp .f32 (IntOp.cmpi .eq v w) : Ideal .f32) = if v = w then 1 else 0 := by
  show ((((BitVec.ofBool (v == w)).toNat : ℝ)) : EReal) = _
  by_cases h : v = w <;> simp [h]

theorem eye_at (p q : Fin 6) : eye (ix2 p q) = same p q := by
  pointwise [eye]
  rw [uitofp_bit (IntOp.addi (BitVec.ofNat 32 p.val) 0#32) (BitVec.ofNat 32 q.val), same]
  revert p q
  simp only [show ∀ p q : Fin 6, (IntOp.addi (BitVec.ofNat 32 p.val) 0#32 = BitVec.ofNat 32 q.val) ↔ p = q from by decide, implies_true]

theorem perSlot_at (w : FVec Ideal S128 .f32) (p q : Fin 6) (k : Fin 128) : perSlot w (ix3 p q k) = same p q * w (ix1 k) := by
  pointwise [perSlot]
  rw [eye_at]

theorem perMove_at (w : FVec Ideal S128 .f32) (p : Fin 6) (f : Fin 24) (k : Fin 128) :
    perMove w (ix3 p f k) = same p ⟨f.val / 4, by omega⟩ * w (ix1 k) := by
  rw [← eye_at]
  pointwise [perMove]

theorem perStatus_at (w : FVec Ideal S6x128 .f32) (p : Fin 6) (f : Fin 36) (k : Fin 128) :
    perStatus w (ix3 p f k) = same p ⟨f.val / 6, by omega⟩ * w (ix2 ⟨f.val % 6, by omega⟩ k) := by
  rw [← eye_at]
  pointwise [perStatus]

theorem row_at (a : FVec Ideal S137x128 .f32) (n : ℕ) (h : S137x128.Slices ![n, 0] S1x128) (hn : n < 137) (k : Fin 128) :
    row a n h (ix1 k) = a (ix2 ⟨n, hn⟩ k) := by
  pointwise [row]

theorem rowE_at (a : FVec Ideal S18x128 .f32) (n : ℕ) (h : S18x128.Slices ![n, 0] S1x128) (hn : n < 18) (k : Fin 128) :
    rowE a n h (ix1 k) = a (ix2 ⟨n, hn⟩ k) := by
  pointwise [rowE]

theorem over_at (w : FVec Ideal S128 .f32) (n : BitVec 32) (k : Fin 128) : over w n (ix1 k) = Ideal.div (w (ix1 k)) (Ideal.ofBits .f32 n) := by
  pointwise [over]

theorem statusRows_at (e : FVec Ideal S6x16 .f32) (a : FVec Ideal S18x128 .f32) (s : Fin 6) (k : Fin 128) :
    statusRows e a (ix2 s k) = ∑ l : Fin 16, e (ix2 s l) * a (ix2 ⟨l.val, by omega⟩ k) := by
  pointwise [statusRows]

/-- The player's half, by features, -/
theorem left_at (a : FVec Ideal S137x128 .f32) (p : Fin 6) (f : Fin 120) (k : Fin 128) : left a (ix3 p f k)
    = cat (a := 6) (b := 114) rfl (fun q => same p q * a (ix2 128 k)) (cat (a := 6) (b := 108) rfl (fun q => same p q * (a (ix2 129 k) * hundredth))
      (cat (a := 6) (b := 102) rfl (fun q => same p q * a (ix2 130 k)) (cat (a := 6) (b := 96) rfl (fun q => same p q * a (ix2 131 k))
      (cat (a := 6) (b := 90) rfl (fun q => same p q * a (ix2 132 k)) (cat (a := 6) (b := 84) rfl (fun q => same p q * a (ix2 133 k))
      (cat (a := 6) (b := 78) rfl (fun q => same p q * a (ix2 134 k))
      (cat (a := 24) (b := 54) rfl (fun q : Fin 24 => same p ⟨q.val / 4, by omega⟩ * (a (ix2 135 k) * quarter))
      (cat (a := 6) (b := 48) rfl (fun q => same p q * a (ix2 136 k)) (cat (a := 6) (b := 42) rfl (fun _ => 0)
      (cat (a := 6) (b := 36) rfl (fun _ => 0) fun _ => 0)))))))))) f := by
  pointwise [left]
  simp only [perSlot_at, perMove_at, over_at, div_100, div_4, row_at _ 128 _ (by norm_num), row_at _ 129 _ (by norm_num), row_at _ 130 _ (by norm_num),
    row_at _ 131 _ (by norm_num), row_at _ 132 _ (by norm_num), row_at _ 133 _ (by norm_num), row_at _ 134 _ (by norm_num), row_at _ 135 _ (by norm_num),
    row_at _ 136 _ (by norm_num)]
  rfl

/-- and the enemy's. -/
theorem right_at (e : FVec Ideal S6x16 .f32) (a : FVec Ideal S18x128 .f32) (p : Fin 6) (f : Fin 120) (k : Fin 128) : right e a (ix3 p f k)
    = cat (a := 72) (b := 48) rfl (fun _ => 0) (cat (a := 6) (b := 42) rfl (fun q => same p q * a (ix2 16 k))
      (cat (a := 6) (b := 36) rfl (fun q => same p q * (a (ix2 17 k) * hundredth))
      fun q : Fin 36 => same p ⟨q.val / 6, by omega⟩ * ∑ l : Fin 16, e (ix2 ⟨q.val % 6, by omega⟩ l) * a (ix2 ⟨l.val, by omega⟩ k))) f := by
  pointwise [right]
  simp only [perSlot_at, perStatus_at, over_at, div_100, statusRows_at, rowE_at _ 16 _ (by norm_num), rowE_at _ 17 _ (by norm_num)]
  rfl

theorem spread_lo (e : FVec Ideal S6x16 .f32) (a : FVec Ideal S137x128 .f32) (b : FVec Ideal S18x128 .f32) (p : Fin 6) (f : Fin 120) (k : Fin 128) :
    spread e a b (ix3 p f ⟨k.val, by omega⟩) = left a (ix3 p f k) := by
  pointwise [spread]

theorem spread_hi (e : FVec Ideal S6x16 .f32) (a : FVec Ideal S137x128 .f32) (b : FVec Ideal S18x128 .f32) (p : Fin 6) (f : Fin 120) (k : Fin 128) :
    spread e a b (ix3 p f ⟨128 + k.val, by omega⟩) = right e b (ix3 p f k) := by
  pointwise [spread]

theorem bits_at (a : IVec S16384x6 32) (r : Fin 16384) (f : Fin 36) :
    bits a (ix2 r f) = if a (ix2 r ⟨f.val / 6, by omega⟩) = BitVec.ofNat 32 (f.val % 6) then 1 else 0 := by
  rw [← uitofp_bit]
  pointwise [bits]

end Cert.KernelIdeal.Spread

end
-- ==== Proof.Vals.lean ====
/- What the host's operations leave in the buffers that the dense call reads, as functions of the arguments. -/
module

public import proofs.«01_k».proof.Proof.Index
public import proofs.«01_k».proof.Proof.Spread

@[expose] public section

noncomputable section

namespace Cert.KernelIdeal.Main

open Cert.KernelIdeal Cert.KernelIdeal.Gen Cert.KernelIdeal.Gather Cert.KernelIdeal.Host Cert.KernelIdeal.Spread
open Idealize.ShloMosaic

variable (m : (ℓ : Loc nD τ sig) → Buf (Elt Ideal) ℓ)

theorem v21_eq (d : Dev nD) : val1 m d (dv main_v21) = bits (arg m d main_arg5) := by
  show StableHlo.after (pre Ideal) _ (Proc.devRef .tc main_v21) = _
  after_reads_simp
  rfl

theorem v127_eq (d : Dev nD) : val1 m d (dv main_v127)
    = extractStridedSlice S128x128 ![0, 0] (arg m d main_arg29) slices_S137x128_S128x128_0_0 := by
  show StableHlo.after (pre Ideal) _ (Proc.devRef .tc main_v127) = _
  after_reads_simp

theorem left_eq (d : Dev nD) : StableHlo.upto (pre Ideal) (StableHlo.launchContents m d) 137 (Proc.devRef .tc main_v99) = left (arg m d main_arg29) := by
  after_reads_simp
  dsimp only [Matrix.cons_val]
  rw [show StableHlo.upto (pre Ideal) (StableHlo.launchContents m d) 108 (Proc.devRef .tc main_v35)
      = perSlot (row (arg m d main_arg29) 128 slices_S137x128_S1x128_128_0) from by after_reads_simp; try rfl,
    show StableHlo.upto (pre Ideal) (StableHlo.launchContents m d) 108 (Proc.devRef .tc main_v44)
      = perSlot (over (row (arg m d main_arg29) 129 slices_S137x128_S1x128_129_0) 0x42C80000#32) from by after_reads_simp; try rfl,
    show StableHlo.upto (pre Ideal) (StableHlo.launchContents m d) 108 (Proc.devRef .tc main_v51)
      = perSlot (row (arg m d main_arg29) 130 slices_S137x128_S1x128_130_0) from by after_reads_simp; try rfl,
    show StableHlo.upto (pre Ideal) (StableHlo.launchContents m d) 108 (Proc.devRef .tc main_v58)
      = perSlot (row (arg m d main_arg29) 131 slices_S137x128_S1x128_131_0) from by after_reads_simp; try rfl,
    show StableHlo.upto (pre Ideal) (StableHlo.launchContents m d) 108 (Proc.devRef .tc main_v65)
      = perSlot (row (arg m d main_arg29) 132 slices_S137x128_S1x128_132_0) from by after_reads_simp; try rfl,
    show StableHlo.upto (pre Ideal) (StableHlo.launchContents m d) 108 (Proc.devRef .tc main_v72)
      = perSlot (row (arg m d main_arg29) 133 slices_S137x128_S1x128_133_0) from by after_reads_simp; try rfl,
    show StableHlo.upto (pre Ideal) (StableHlo.launchContents m d) 108 (Proc.devRef .tc main_v79)
      = perSlot (row (arg m d main_arg29) 134 slices_S137x128_S1x128_134_0) from by after_reads_simp; try rfl,
    show StableHlo.upto (pre Ideal) (StableHlo.launchContents m d) 108 (Proc.devRef .tc main_v90)
      = perMove (over (row (arg m d main_arg29) 135 slices_S137x128_S1x128_135_0) 0x40800000#32) from by after_reads_simp; try rfl,
    show StableHlo.upto (pre Ideal) (StableHlo.launchContents m d) 108 (Proc.devRef .tc main_v97)
      = perSlot (row (arg m d main_arg29) 136 slices_S137x128_S1x128_136_0) from by after_reads_simp; try rfl,
    show StableHlo.upto (pre Ideal) (StableHlo.launchContents m d) 108 (Proc.devRef .tc main_v28)
      = broadcastInDim S6x6x128 ![] bcast_S_S6x6x128 (constant (F := Ideal) S_ .f32 0x00000000#32) from by after_reads_simp; try rfl,
    show StableHlo.upto (pre Ideal) (StableHlo.launchContents m d) 108 (Proc.devRef .tc main_v98)
      = broadcastInDim S6x36x128 ![] bcast_S_S6x36x128 (constant (F := Ideal) S_ .f32 0x00000000#32) from by after_reads_simp; try rfl]
  rfl

theorem right_eq (d : Dev nD) : StableHlo.upto (pre Ideal) (StableHlo.launchContents m d) 137 (Proc.devRef .tc main_v125)
    = right (arg m d main_arg28) (arg m d main_arg33) := by
  after_reads_simp
  dsimp only [Matrix.cons_val]
  rw [show StableHlo.upto (pre Ideal) (StableHlo.launchContents m d) 136 (Proc.devRef .tc main_v108)
      = broadcastInDim S6x72x128 ![] bcast_S_S6x72x128 (constant (F := Ideal) S_ .f32 0x00000000#32) from by after_reads_simp; try rfl,
    show StableHlo.upto (pre Ideal) (StableHlo.launchContents m d) 136 (Proc.devRef .tc main_v115)
      = perSlot (rowE (arg m d main_arg33) 16 slices_S18x128_S1x128_16_0) from by after_reads_simp; try rfl,
    show StableHlo.upto (pre Ideal) (StableHlo.launchContents m d) 136 (Proc.devRef .tc main_v124)
      = perSlot (over (rowE (arg m d main_arg33) 17 slices_S18x128_S1x128_17_0) 0x42C80000#32) from by after_reads_simp; try rfl,
    show StableHlo.upto (pre Ideal) (StableHlo.launchContents m d) 136 (Proc.devRef .tc main_v107)
      = perStatus (statusRows (arg m d main_arg28) (arg m d main_arg33)) from by after_reads_simp; try rfl]
  rfl

theorem v126_eq (d : Dev nD) : val1 m d (dv main_v126) = spread (arg m d main_arg28) (arg m d main_arg29) (arg m d main_arg33) := by
  show StableHlo.after (pre Ideal) _ (Proc.devRef .tc main_v126) = _
  after_reads_simp
  rw [left_eq, right_eq]
  rfl

theorem v128_eq (d : Dev nD) : val1 m d (dv main_v128) = shapeCast S1x128 (arg m d main_arg30) shapeCasts_S128_S1x128 := by
  show StableHlo.after (pre Ideal) _ (Proc.devRef .tc main_v128) = _
  after_reads_simp
  rfl

theorem v129_eq (d : Dev nD) : val1 m d (dv main_v129) = shapeCast S1x128 (arg m d main_arg32) shapeCasts_S128_S1x128 := by
  show StableHlo.after (pre Ideal) _ (Proc.devRef .tc main_v129) = _
  after_reads_simp
  rfl

theorem v130_eq (d : Dev nD) : val1 m d (dv main_v130) = shapeCast S1x128 (arg m d main_arg34) shapeCasts_S128_S1x128 := by
  show StableHlo.after (pre Ideal) _ (Proc.devRef .tc main_v130) = _
  after_reads_simp
  rfl

theorem v131_eq (d : Dev nD) : val1 m d (dv main_v131) = shapeCast S1x128 (arg m d main_arg36) shapeCasts_S128_S1x128 := by
  show StableHlo.after (pre Ideal) _ (Proc.devRef .tc main_v131) = _
  after_reads_simp
  rfl

theorem v132_eq (d : Dev nD) : val1 m d (dv main_v132) = shapeCast S1x128 (arg m d main_arg38) shapeCasts_S128_S1x128 := by
  show StableHlo.after (pre Ideal) _ (Proc.devRef .tc main_v132) = _
  after_reads_simp
  rfl

theorem v133_eq (d : Dev nD) : val1 m d (dv main_v133) = shapeCast S1x32 (arg m d main_arg40) shapeCasts_S32_S1x32 := by
  show StableHlo.after (pre Ideal) _ (Proc.devRef .tc main_v133) = _
  after_reads_simp
  rfl

theorem v139_eq (d : Dev nD) : val1 m d (dv main_v139) = shapeCast S1x256 (arg m d main_arg42) shapeCasts_S256_S1x256 := by
  show StableHlo.after (pre Ideal) _ (Proc.devRef .tc main_v139) = _
  after_reads_simp
  rfl

theorem v140_eq (d : Dev nD) : val1 m d (dv main_v140) = shapeCast S16384x24 (arg m d main_arg14) shapeCasts_S16384x6x4_S16384x24 := by
  show StableHlo.after (pre Ideal) _ (Proc.devRef .tc main_v140) = _
  after_reads_simp
  rfl

theorem v134_eq (d : Dev nD) : val1 m d (dv main_v134)
    = extractStridedSlice S128x256 ![0, 0] (arg m d main_arg41) slices_S471x256_S128x256_0_0 := by
  show StableHlo.after (pre Ideal) _ (Proc.devRef .tc main_v134) = _
  after_reads_simp

theorem v135_eq (d : Dev nD) : val1 m d (dv main_v135)
    = extractStridedSlice S128x256 ![128, 0] (arg m d main_arg41) slices_S471x256_S128x256_128_0 := by
  show StableHlo.after (pre Ideal) _ (Proc.devRef .tc main_v135) = _
  after_reads_simp

theorem v136_eq (d : Dev nD) : val1 m d (dv main_v136)
    = extractStridedSlice S128x256 ![256, 0] (arg m d main_arg41) slices_S471x256_S128x256_256_0 := by
  show StableHlo.after (pre Ideal) _ (Proc.devRef .tc main_v136) = _
  after_reads_simp

theorem v137_eq (d : Dev nD) : val1 m d (dv main_v137)
    = extractStridedSlice S55x256 ![384, 0] (arg m d main_arg41) slices_S471x256_S55x256_384_0 := by
  show StableHlo.after (pre Ideal) _ (Proc.devRef .tc main_v137) = _
  after_reads_simp

theorem v138_eq (d : Dev nD) : val1 m d (dv main_v138)
    = extractStridedSlice S32x256 ![439, 0] (arg m d main_arg41) slices_S471x256_S32x256_439_0 := by
  show StableHlo.after (pre Ideal) _ (Proc.devRef .tc main_v138) = _
  after_reads_simp

end Cert.KernelIdeal.Main

end
-- ==== Proof.Rows.lean ====
/- The rows that the gather call brings to the dense call: at each sample and slot, the eight rows of the model side by side. -/
module

public import proofs.«01_k».proof.Proof.Vals

@[expose] public section

noncomputable section

namespace Cert.KernelIdeal.Main

open Cert.KernelIdeal Cert.KernelIdeal.Gen Cert.KernelIdeal.Gather Cert.KernelIdeal.Host
open Idealize.ShloMosaic Cert.Model

variable (m : (ℓ : Loc nD τ sig) → Buf (Elt Ideal) ℓ)

/-- The arguments by name. -/
def ins (d : Dev nD) : In :=
  ⟨arg m d main_arg0, arg m d main_arg1, arg m d main_arg2, arg m d main_arg3, arg m d main_arg4, arg m d main_arg5, arg m d main_arg6,
    arg m d main_arg7, arg m d main_arg8, arg m d main_arg9, arg m d main_arg10, arg m d main_arg11, arg m d main_arg12, arg m d main_arg13,
    arg m d main_arg14, arg m d main_arg15, arg m d main_arg16, arg m d main_arg17, arg m d main_arg18, arg m d main_arg19, arg m d main_arg20,
    arg m d main_arg21, arg m d main_arg22, arg m d main_arg23, arg m d main_arg24, arg m d main_arg25, arg m d main_arg26, arg m d main_arg27,
    arg m d main_arg28, arg m d main_arg29, arg m d main_arg30, arg m d main_arg31, arg m d main_arg32, arg m d main_arg33, arg m d main_arg34,
    arg m d main_arg35, arg m d main_arg36, arg m d main_arg37, arg m d main_arg38, arg m d main_arg39, arg m d main_arg40, arg m d main_arg41,
    arg m d main_arg42⟩

/-- A small number added to a word in its table's range is added to its value. -/
theorem moved_toNat (n k : ℕ) (hn : n + k ≤ 1228) (v : BitVec 32) (h : v.toNat < n) : (IntOp.addi v (BitVec.ofNat 32 k)).toNat = v.toNat + k := by
  show (v + BitVec.ofNat 32 k).toNat = _
  rw [BitVec.toNat_add, BitVec.toNat_ofNat]
  omega

section
variable (a0 : IVec S16384x6 32) (a1 : IVec S16384x6x4 32) (a2 a3 a4 : IVec S16384x6 32)

theorem codes_at (r : Fin 16384) (p : Fin 6) (n : Fin 8) : codes a0 a1 a2 a3 a4 (ix3 r p n)
    = if n.val < 1 then a0 (ix2 r p)
      else if h : n.val - 1 < 4 then IntOp.addi (a1 (ix3 r p ⟨n.val - 1, h⟩)) 412#32
      else if n.val - 1 - 4 < 1 then IntOp.addi (a2 (ix2 r p)) 767#32
      else if n.val - 1 - 4 - 1 < 1 then IntOp.addi (a3 (ix2 r p)) 845#32
      else IntOp.addi (a4 (ix2 r p)) 851#32 := by
  pointwise [codes, moved]
  try rfl

variable (e0 : FVec Ideal S412x16 .f32) (e1 : FVec Ideal S355x16 .f32) (e2 : FVec Ideal S78x16 .f32) (e3 : FVec Ideal S6x16 .f32)
    (e4 : FVec Ideal S377x16 .f32)

theorem rows_at (c : Fin 1228) (l : Fin 16) : rows e0 e1 e2 e3 e4 (ix2 c l)
    = if h : c.val < 412 then e0 (ix2 ⟨c.val, h⟩ l)
      else if h : c.val - 412 < 355 then e1 (ix2 ⟨c.val - 412, h⟩ l)
      else if h : c.val - 412 - 355 < 78 then e2 (ix2 ⟨c.val - 412 - 355, h⟩ l)
      else if h : c.val - 412 - 355 - 78 < 6 then e3 (ix2 ⟨c.val - 412 - 355 - 78, h⟩ l)
      else e4 (ix2 ⟨c.val - 412 - 355 - 78 - 6, by omega⟩ l) := by
  pointwise [rows]

/-- A row's entry at a row number that a word gives. -/
theorem pick_of {n : ℕ} (E : M2 n 16) (v : BitVec 32) (h : v.toNat < n) (c : ℕ) (hc : c < n) (e : c = v.toNat) (l : Fin 16) :
    E (ix2 ⟨c, hc⟩ l) = pick E v l := by
  subst e
  unfold pick
  rw [dif_pos h]

/-- The row that a row number names is the row that the slot looks up. -/
theorem rows_codes (X : In) (hX : Cert.Range.InRange X.species X.moves X.ability X.status X.item) (r : Fin 16384) (p : Fin 6) (n : Fin 8) (l : Fin 16)
    (c : Fin 1228) (hc : c.val = (codes X.species X.moves X.ability X.status X.item (ix3 r p n)).toNat) :
    rows (F := Ideal) X.speciesE X.moveE X.abilityE X.statusE X.itemE (ix2 c l) = looked X r p n l := by
  rw [codes_at] at hc
  rw [rows_at]
  unfold looked
  by_cases h0 : n.val < 1
  · rw [if_pos h0] at hc ⊢
    have := hX.species (ix2 r p)
    rw [dif_pos (by omega)]
    exact pick_of _ _ this _ _ hc l
  rw [if_neg h0] at hc ⊢
  by_cases h1 : n.val - 1 < 4
  · rw [dif_pos h1] at hc ⊢
    have := hX.moves (ix3 r p ⟨n.val - 1, h1⟩)
    rw [moved_toNat 355 412 (by decide) _ this] at hc
    rw [dif_neg (by omega), dif_pos (by omega)]
    exact pick_of _ _ this _ _ (by omega) l
  rw [dif_neg h1] at hc ⊢
  by_cases h2 : n.val - 1 - 4 < 1
  · rw [if_pos h2] at hc ⊢
    have := hX.ability (ix2 r p)
    rw [moved_toNat 78 767 (by decide) _ this] at hc
    rw [dif_neg (by omega), dif_neg (by omega), dif_pos (by omega)]
    exact pick_of _ _ this _ _ (by omega) l
  rw [if_neg h2] at hc ⊢
  by_cases h3 : n.val - 1 - 4 - 1 < 1
  · rw [if_pos h3] at hc ⊢
    have := hX.status (ix2 r p)
    rw [moved_toNat 6 845 (by decide) _ this] at hc
    rw [dif_neg (by omega), dif_neg (by omega), dif_neg (by omega), dif_pos (by omega)]
    exact pick_of _ _ this _ _ (by omega) l
  rw [if_neg h3] at hc ⊢
  have := hX.item (ix2 r p)
  rw [moved_toNat 377 851 (by decide) _ this] at hc
  rw [dif_neg (by omega), dif_neg (by omega), dif_neg (by omega), dif_neg (by omega)]
  exact pick_of _ _ this _ _ (by omega) l

end

theorem tab_at (d : Dev nD) (c : Fin 1228) (l : Fin 16) (n : ℕ) (hn : n < 19648) (e : n = 16 * c.val + l.val) :
    tab m d (ix1 ⟨n, hn⟩) = rows (F := Ideal) (ins m d).speciesE (ins m d).moveE (ins m d).abilityE (ins m d).statusE (ins m d).itemE (ix2 c l) := by
  subst e
  rw [tab_eq]
  pointwise
  congr 2 <;> exact Fin.ext (by simp only []; omega)

theorem idx_at (d : Dev nD) (r : Fin 16384) (p : Fin 6) (n : Fin 8) (k : ℕ) (hk : k < 786432) (e : k = (p.val * 16384 + r.val) * 8 + n.val) :
    idx m d (ix1 ⟨k, hk⟩) = codes (ins m d).species (ins m d).moves (ins m d).ability (ins m d).status (ins m d).item (ix3 r p n) := by
  subst e
  rw [idx_eq]
  pointwise
  congr 2 <;> exact Fin.ext (by simp only []; omega)

theorem at1_eq {n : ℕ} (k : ℕ) (h : k < n) : at1 k h = ix1 ⟨k, h⟩ := eq_ix1 _

/-- A gathered word, where its row number is known. -/
theorem gathered_at (t : Vec Ideal S19648 .f32) (x : Vec Ideal S786432 .i32) (q : ℕ) (h : q < 12582912) (hq : q / 16 < 786432) (c : ℕ)
    (e : BitVec.toNat (x (ix1 ⟨q / 16, hq⟩)) = c) (hc : c < 1228) (l : ℕ) (hl : q % 16 = l) :
    gathered t x (ix1 ⟨q, h⟩) = t (ix1 ⟨16 * c + l, by omega⟩) := by
  subst e hl
  have fit : (16 * BitVec.toNat (x (ix1 ⟨q / 16, hq⟩)) + q % 16) % 19648 = 16 * BitVec.toNat (x (ix1 ⟨q / 16, hq⟩)) + q % 16 := Nat.mod_eq_of_lt (by omega)
  unfold gathered
  simp only [at1_eq]
  exact congrArg (fun k : Fin 19648 => t (ix1 k)) (Fin.ext fit : (⟨_, Nat.mod_lt _ (by decide)⟩ : Fin 19648) = ⟨_, by omega⟩)

theorem v145_eq (d : Dev nD) : val3 m d (dv main_v145) = shapeCast S6x16384x128 (gathered (tab m d) (idx m d)) shapeCasts_S12582912_S6x16384x128 := by
  show (shaped (F := Ideal)).result (val2 m d) (Proc.devRef .tc main_v145) = _
  unfold shaped
  rw [StableHlo.reshape_result]
  show shapeCast S6x16384x128 (val2 m d (Proc.devRef .tc main_v144)) _ = _
  unfold val2
  rw [Function.update_self]

/-- The gathered rows at a sample and slot. -/
theorem emb_at (d : Dev nD) (hX : Cert.Range.InRange (ins m d).species (ins m d).moves (ins m d).ability (ins m d).status (ins m d).item)
    (p : Fin 6) (r : Fin 16384) (j : Fin 128) : val3 m d (dv main_v145) (ix3 p r j) = emb (ins m d) r p j := by
  rw [v145_eq]
  pointwise
  have hq : (p.val * 2097152 + r.val * 128 + j.val) / 16 < 786432 := by omega
  have hi := idx_at m d r p ⟨j.val / 16, by omega⟩ _ hq (by simp only []; omega)
  have hc := codes_lt (ins m d).species (ins m d).moves (ins m d).ability (ins m d).status (ins m d).item hX (ix3 r p ⟨j.val / 16, by omega⟩)
  rw [gathered_at (tab m d) (idx m d) _ _ hq _ (congrArg BitVec.toNat hi) hc (j.val % 16) (by omega)]
  exact (tab_at m d ⟨_, hc⟩ ⟨j.val % 16, by omega⟩ _ _ rfl).trans (rows_codes (ins m d) hX r p _ _ _ rfl)

end Cert.KernelIdeal.Main

end
-- ==== Proof.Result.lean ====
/- The dense call's result at an index: its step's `outBlock`, and the blocks of a step in the arrays they are cut from. -/
module

public import proofs.«01_k».proof.Proof.Launch
public import Idealize.ShloMosaic.Lib.Pipeline.ValueKit

@[expose] public section

noncomputable section

namespace Cert.KernelIdeal.Dense

open Cert.KernelIdeal Cert.KernelIdeal.Gen Cert.KernelIdeal.Gather
open Idealize.ShloMosaic

variable {F : FTy → Type} [FloatOps F] [Named F]
variable (val : Dev nD → Valuation τ sig (Elt F)) (c : Dev nD)

/-- Where the blocks of a step lie: the gathered rows, -/
theorem at_emb : ∀ t : Fin cfg1.N, win1_0.index t = ![0, t.val, 0] := by decide +kernel

/-- the arrays cut by samples, -/
theorem at_row : ∀ t : Fin cfg1.N, (win1_1.index t = ![t.val, 0] ∧ win1_2.index t = ![t.val, 0] ∧ win1_3.index t = ![t.val, 0] ∧ win1_4.index t = ![t.val, 0]
    ∧ win1_5.index t = ![t.val, 0] ∧ win1_6.index t = ![t.val, 0] ∧ win1_7.index t = ![t.val, 0] ∧ win1_8.index t = ![t.val, 0] ∧ win1_9.index t = ![t.val, 0])
    ∧ (win1_10.index t = ![t.val, 0] ∧ win1_11.index t = ![t.val, 0] ∧ win1_12.index t = ![t.val, 0] ∧ win1_13.index t = ![t.val, 0]
    ∧ win1_14.index t = ![t.val, 0] ∧ win1_15.index t = ![t.val, 0] ∧ win1_16.index t = ![t.val, 0] ∧ win1_17.index t = ![t.val, 0]
    ∧ win1_18.index t = ![t.val, 0] ∧ win1_37.index t = ![t.val, 0]) := by decide +kernel

/-- and the weights, whole at every step. -/
theorem at_whole : ∀ t : Fin cfg1.N, (win1_19.index t = ![0, 0] ∧ win1_20.index t = ![0, 0, 0] ∧ win1_21.index t = ![0, 0] ∧ win1_22.index t = ![0, 0]
    ∧ win1_23.index t = ![0, 0] ∧ win1_24.index t = ![0, 0] ∧ win1_25.index t = ![0, 0] ∧ win1_26.index t = ![0, 0] ∧ win1_27.index t = ![0, 0])
    ∧ (win1_28.index t = ![0, 0] ∧ win1_29.index t = ![0, 0] ∧ win1_30.index t = ![0, 0] ∧ win1_31.index t = ![0, 0]
    ∧ win1_32.index t = ![0, 0] ∧ win1_33.index t = ![0, 0] ∧ win1_34.index t = ![0, 0] ∧ win1_35.index t = ![0, 0]
    ∧ win1_36.index t = ![0, 0]) := by decide +kernel

/-- Sample `r` of step `t`. -/
def sample (t : Fin 32) (r : Fin 512) : Fin 16384 := ⟨512 * t.val + r.val, by omega⟩

/-- The blocks that are cut by samples. -/
structure Rows (B : Blocks F) (V : Valuation τ sig (Elt F)) (t : Fin 32) : Prop where
  emb : ∀ p r l, B.emb (ix3 p r l) = V (Proc.devRef .tc main_v145) (ix3 p (sample t r) l)
  hp : ∀ r l, B.hp (ix2 r l) = V (Proc.devRef .tc main_arg7) (ix2 (sample t r) l)
  lvl : ∀ r l, B.lvl (ix2 r l) = V (Proc.devRef .tc main_arg8) (ix2 (sample t r) l)
  att : ∀ r l, B.att (ix2 r l) = V (Proc.devRef .tc main_arg9) (ix2 (sample t r) l)
  defn : ∀ r l, B.defn (ix2 r l) = V (Proc.devRef .tc main_arg10) (ix2 (sample t r) l)
  spe : ∀ r l, B.spe (ix2 r l) = V (Proc.devRef .tc main_arg11) (ix2 (sample t r) l)
  spa : ∀ r l, B.spa (ix2 r l) = V (Proc.devRef .tc main_arg12) (ix2 (sample t r) l)
  spd : ∀ r l, B.spd (ix2 r l) = V (Proc.devRef .tc main_arg13) (ix2 (sample t r) l)
  pp : ∀ r l, B.pp (ix2 r l) = V (Proc.devRef .tc main_v140) (ix2 (sample t r) l)
  exp : ∀ r l, B.exp (ix2 r l) = V (Proc.devRef .tc main_arg15) (ix2 (sample t r) l)
  ehp : ∀ r l, B.ehp (ix2 r l) = V (Proc.devRef .tc main_arg16) (ix2 (sample t r) l)
  elvl : ∀ r l, B.elvl (ix2 r l) = V (Proc.devRef .tc main_arg17) (ix2 (sample t r) l)
  onehot : ∀ r l, B.onehot (ix2 r l) = V (Proc.devRef .tc main_v21) (ix2 (sample t r) l)
  level : ∀ r l, B.level (ix2 r l) = V (Proc.devRef .tc main_arg6) (ix2 (sample t r) l)
  php : ∀ r l, B.php (ix2 r l) = V (Proc.devRef .tc main_arg18) (ix2 (sample t r) l)
  inb : ∀ r l, B.inb (ix2 r l) = V (Proc.devRef .tc main_arg19) (ix2 (sample t r) l)
  badge : ∀ r l, B.badge (ix2 r l) = V (Proc.devRef .tc main_arg20) (ix2 (sample t r) l)
  hms : ∀ r l, B.hms (ix2 r l) = V (Proc.devRef .tc main_arg21) (ix2 (sample t r) l)
  map : ∀ r l, B.map (ix2 r l) = V (Proc.devRef .tc main_arg22) (ix2 (sample t r) l)

/-- The blocks that are whole arrays. -/
structure Wholes (B : Blocks F) (V : Valuation τ sig (Elt F)) : Prop where
  pW1 : ∀ i j, B.pW1 (ix2 i j) = V (Proc.devRef .tc main_v127) (ix2 i j)
  G : ∀ p f k, B.G (ix3 p f k) = V (Proc.devRef .tc main_v126) (ix3 p f k)
  pb1 : ∀ i j, B.pb1 (ix2 i j) = V (Proc.devRef .tc main_v128) (ix2 i j)
  pW2 : ∀ i j, B.pW2 (ix2 i j) = V (Proc.devRef .tc main_arg31) (ix2 i j)
  pb2 : ∀ i j, B.pb2 (ix2 i j) = V (Proc.devRef .tc main_v129) (ix2 i j)
  eb1 : ∀ i j, B.eb1 (ix2 i j) = V (Proc.devRef .tc main_v130) (ix2 i j)
  eW2 : ∀ i j, B.eW2 (ix2 i j) = V (Proc.devRef .tc main_arg35) (ix2 i j)
  eb2 : ∀ i j, B.eb2 (ix2 i j) = V (Proc.devRef .tc main_v131) (ix2 i j)
  paW : ∀ i j, B.paW (ix2 i j) = V (Proc.devRef .tc main_arg37) (ix2 i j)
  pab : ∀ i j, B.pab (ix2 i j) = V (Proc.devRef .tc main_v132) (ix2 i j)
  gW : ∀ i j, B.gW (ix2 i j) = V (Proc.devRef .tc main_arg39) (ix2 i j)
  gb : ∀ i j, B.gb (ix2 i j) = V (Proc.devRef .tc main_v133) (ix2 i j)
  fWp : ∀ i j, B.fWp (ix2 i j) = V (Proc.devRef .tc main_v134) (ix2 i j)
  fWe : ∀ i j, B.fWe (ix2 i j) = V (Proc.devRef .tc main_v135) (ix2 i j)
  fWpa : ∀ i j, B.fWpa (ix2 i j) = V (Proc.devRef .tc main_v136) (ix2 i j)
  fWm : ∀ i j, B.fWm (ix2 i j) = V (Proc.devRef .tc main_v137) (ix2 i j)
  fWg : ∀ i j, B.fWg (ix2 i j) = V (Proc.devRef .tc main_v138) (ix2 i j)
  fb : ∀ i j, B.fb (ix2 i j) = V (Proc.devRef .tc main_v139) (ix2 i j)

set_option maxHeartbeats 4000000 in
theorem rows_blocks (t : Fin 32) : Rows (blocks val c t) (val c) t := by
  have h := at_row t
  have h0 := at_emb t
  constructor
  · intro p r l
    show blockAt val c 0 t _ = _
    blk_ext [blockAt, entry, h0, sample]
  all_goals intro r l
  · show blockAt val c 1 t _ = _
    blk_ext [blockAt, entry, at_row t, sample]
  · show blockAt val c 2 t _ = _
    blk_ext [blockAt, entry, at_row t, sample]
  · show blockAt val c 3 t _ = _
    blk_ext [blockAt, entry, at_row t, sample]
  · show blockAt val c 4 t _ = _
    blk_ext [blockAt, entry, at_row t, sample]
  · show blockAt val c 5 t _ = _
    blk_ext [blockAt, entry, at_row t, sample]
  · show blockAt val c 6 t _ = _
    blk_ext [blockAt, entry, at_row t, sample]
  · show blockAt val c 7 t _ = _
    blk_ext [blockAt, entry, at_row t, sample]
  · show blockAt val c 8 t _ = _
    blk_ext [blockAt, entry, at_row t, sample]
  · show blockAt val c 9 t _ = _
    blk_ext [blockAt, entry, at_row t, sample]
  · show blockAt val c 10 t _ = _
    blk_ext [blockAt, entry, at_row t, sample]
  · show blockAt val c 11 t _ = _
    blk_ext [blockAt, entry, at_row t, sample]
  · show blockAt val c 12 t _ = _
    blk_ext [blockAt, entry, at_row t, sample]
  · show blockAt val c 13 t _ = _
    blk_ext [blockAt, entry, at_row t, sample]
  · show blockAt val c 14 t _ = _
    blk_ext [blockAt, entry, at_row t, sample]
  · show blockAt val c 15 t _ = _
    blk_ext [blockAt, entry, at_row t, sample]
  · show blockAt val c 16 t _ = _
    blk_ext [blockAt, entry, at_row t, sample]
  · show blockAt val c 17 t _ = _
    blk_ext [blockAt, entry, at_row t, sample]
  · show blockAt val c 18 t _ = _
    blk_ext [blockAt, entry, at_row t, sample]

set_option maxHeartbeats 4000000 in
theorem wholes_blocks (t : Fin 32) : Wholes (blocks val c t) (val c) := by
  constructor
  · intro i j; show blockAt val c 19 t _ = _
    blk_ext [blockAt, entry, at_whole t]
  · intro p f k; show blockAt val c 20 t _ = _
    blk_ext [blockAt, entry, at_whole t]
  all_goals intro i j
  · show blockAt val c 21 t _ = _
    blk_ext [blockAt, entry, at_whole t]
  · show blockAt val c 22 t _ = _
    blk_ext [blockAt, entry, at_whole t]
  · show blockAt val c 23 t _ = _
    blk_ext [blockAt, entry, at_whole t]
  · show blockAt val c 24 t _ = _
    blk_ext [blockAt, entry, at_whole t]
  · show blockAt val c 25 t _ = _
    blk_ext [blockAt, entry, at_whole t]
  · show blockAt val c 26 t _ = _
    blk_ext [blockAt, entry, at_whole t]
  · show blockAt val c 27 t _ = _
    blk_ext [blockAt, entry, at_whole t]
  · show blockAt val c 28 t _ = _
    blk_ext [blockAt, entry, at_whole t]
  · show blockAt val c 29 t _ = _
    blk_ext [blockAt, entry, at_whole t]
  · show blockAt val c 30 t _ = _
    blk_ext [blockAt, entry, at_whole t]
  · show blockAt val c 31 t _ = _
    blk_ext [blockAt, entry, at_whole t]
  · show blockAt val c 32 t _ = _
    blk_ext [blockAt, entry, at_whole t]
  · show blockAt val c 33 t _ = _
    blk_ext [blockAt, entry, at_whole t]
  · show blockAt val c 34 t _ = _
    blk_ext [blockAt, entry, at_whole t]
  · show blockAt val c 35 t _ = _
    blk_ext [blockAt, entry, at_whole t]
  · show blockAt val c 36 t _ = _
    blk_ext [blockAt, entry, at_whole t]

/-- The result at a sample, when every step's block at it is `G`'s. -/
theorem result_eq (G : Fin 16384 → Fin 256 → F .f32) (hG : ∀ (t : Fin 32) (r : Fin 512) (k : Fin 256), outBlock (blocks val c t) (ix2 r k) = G (sample t r) k) :
    result val c = fun i : S16384x256.Idx => G (i 0) (i 1) := by
  refine (dats val 0 c).arrAt_eq_of_covers 37 _ (by decide +kernel) fun t hf y => ?_
  blk_simp
  rw [show (dats val 0 c).after 37 t = _ from after_out val c t]
  obtain ⟨r, k, rfl⟩ : ∃ (r : Fin 512) (k : Fin 256), y = ix2 r k := ⟨y 0, y 1, eq_ix2 y⟩
  refine (hG t r k).trans (congrArg₂ G (Fin.ext ?_) (Fin.ext ?_))
  · have := at_row t
    blk_simp [at_row t, sample]
    exact Nat.add_right_cancel_iff.mpr (Nat.mul_comm _ _)
  · have := at_row t
    blk_simp [at_row t]

end Cert.KernelIdeal.Dense

end
-- ==== Proof.Slots.lean ====
/- The values of one step of the TensorCore kernel at an index, over the extended reals. -/
module

public import proofs.«01_k».proof.Proof.TcValue
public import proofs.«01_k».proof.Proof.Model
public import Idealize.ShloMosaic.Lib.Pointwise

@[expose] public section

noncomputable section

namespace Cert.KernelIdeal.Dense

open Cert.KernelIdeal Cert.KernelIdeal.Facts₀ Cert.KernelIdeal.Facts
open Idealize.ShloMosaic Cert.Model

variable (B : Blocks Ideal)

theorem named_sixth : (Named.named (F := Ideal) κ "sixth" 0x3E2AAAAB#32 : Ideal .f32) = Model.sixth :=
  (IdealRules.named_const.ideal_named_scalar _ _ _ _ rfl).trans (by rw [Model.sixth, one_div])

theorem slotRows_at (X : Vec Ideal S6x512x128 .f32) (p : Fin 6) (r : Fin 512) (k : Fin 128) : slotRows X p (ix2 r k) = X (ix3 p r k) := by
  fin_cases p <;> pointwise [slotRows]

theorem sidePlane_at (X : Vec Ideal S6x120x256 .f32) (p : Fin 6) (f : Fin 120) (k : Fin 256) : sidePlane X p (ix2 f k) = X (ix3 p f k) := by
  fin_cases p <;> pointwise [sidePlane]

theorem side_at (p : Fin 6) (r : Fin 512) (k : Fin 256) : side B p (ix2 r k) = ∑ f : Fin 120, plain B (ix2 r f) * B.G (ix3 p f k) := by
  pointwise [side]
  exact Finset.sum_congr rfl fun f _ => congrArg _ (sidePlane_at _ _ _ _)

/-- The plain features in their order. -/
theorem plain_at (r : Fin 512) (f : Fin 120) : plain B (ix2 r f)
    = cat (a := 6) (b := 114) rfl (fun q => B.hp (ix2 r q)) (cat (a := 6) (b := 108) rfl (fun q => B.lvl (ix2 r q))
      (cat (a := 6) (b := 102) rfl (fun q => B.att (ix2 r q)) (cat (a := 6) (b := 96) rfl (fun q => B.defn (ix2 r q))
      (cat (a := 6) (b := 90) rfl (fun q => B.spe (ix2 r q)) (cat (a := 6) (b := 84) rfl (fun q => B.spa (ix2 r q))
      (cat (a := 6) (b := 78) rfl (fun q => B.spd (ix2 r q)) (cat (a := 24) (b := 54) rfl (fun q => B.pp (ix2 r q))
      (cat (a := 6) (b := 48) rfl (fun q => B.exp (ix2 r q)) (cat (a := 6) (b := 42) rfl (fun q => B.ehp (ix2 r q))
      (cat (a := 6) (b := 36) rfl (fun q => B.elvl (ix2 r q)) fun q => B.onehot (ix2 r q))))))))))) f := by
  pointwise [plain]
  rfl

/-- The last 48 of them. -/
theorem plain_hi (r : Fin 512) (f : Fin 48) : plain B (ix2 r ⟨72 + f.val, by omega⟩)
    = cat (a := 6) (b := 42) rfl (fun q => B.ehp (ix2 r q)) (cat (a := 6) (b := 36) rfl (fun q => B.elvl (ix2 r q)) fun q => B.onehot (ix2 r q)) f := by
  rw [plain_at]
  rw [cat_skip 66 rfl, cat_skip 60 rfl, cat_skip 54 rfl, cat_skip 48 rfl, cat_skip 42 rfl, cat_skip 36 rfl, cat_skip 30 rfl, cat_skip 6 rfl, cat_skip 0 rfl]
  simp only [zero_add]

theorem playerHidden_at (p : Fin 6) (r : Fin 512) (k : Fin 128) : playerHidden B p (ix2 r k)
    = max (∑ j : Fin 128, B.emb (ix3 p r j) * B.pW1 (ix2 j k) + side B p (ix2 r ⟨k.val, by omega⟩) + B.pb1 (ix2 0 k)) 0 := by
  pointwise [playerHidden]
  simp only [slotRows_at]

theorem enemyHidden_at (p : Fin 6) (r : Fin 512) (k : Fin 128) : enemyHidden B p (ix2 r k)
    = max (side B p (ix2 r ⟨128 + k.val, by omega⟩) + B.eb1 (ix2 0 k)) 0 := by
  pointwise [enemyHidden]

theorem secondLayer_at (hid : Fin 6 → FVec Ideal S512x128 .f32) (W : Vec Ideal S128x128 .f32) (b : Vec Ideal S1x128 .f32) (r : Fin 512) (j : Fin 128) :
    secondLayer hid W b (ix2 r j) = (∑ p : Fin 6, ∑ k : Fin 128, hid p (ix2 r k) * W (ix2 k j)) * sixth + b (ix2 0 j) := by
  rw [Fin.sum_univ_six]
  pointwise [secondLayer, sumSix]
  rw [named_sixth]

theorem partyPart_at (r : Fin 512) (k : Fin 128) : partyPart B (ix2 r k)
    = (∑ p : Fin 6, B.php (ix2 r p)) * sixth * B.paW (ix2 0 k)
      + (∑ p : Fin 6, (((B.level (ix2 r p)).toInt : ℝ) : EReal) * hundredth) * sixth * B.paW (ix2 1 k) + B.pab (ix2 0 k) := by
  pointwise [partyPart, meanSix]
  simp only [div_6, div_100]
  rfl

theorem globalPart_at (r : Fin 512) (k : Fin 32) : globalPart B (ix2 r k)
    = max (∑ i : Fin 17, (if h : i.val < 1 then B.inb (ix2 r ⟨i.val, h⟩)
        else if h : i.val - 1 < 8 then B.badge (ix2 r ⟨i.val - 1, h⟩) else B.hms (ix2 r ⟨i.val - 1 - 8, by omega⟩)) * B.gW (ix2 i k) + B.gb (ix2 0 k)) 0 := by
  pointwise [globalPart]

theorem outBlock_at (r : Fin 512) (k : Fin 256) : outBlock B (ix2 r k)
    = max (∑ j : Fin 128, secondLayer (playerHidden B) B.pW2 B.pb2 (ix2 r j) * B.fWp (ix2 j k)
      + ∑ j : Fin 128, secondLayer (enemyHidden B) B.eW2 B.eb2 (ix2 r j) * B.fWe (ix2 j k)
      + ∑ j : Fin 128, partyPart B (ix2 r j) * B.fWpa (ix2 j k)
      + ∑ j : Fin 55, B.map (ix2 r j) * B.fWm (ix2 j k)
      + ∑ j : Fin 32, globalPart B (ix2 r j) * B.fWg (ix2 j k) + B.fb (ix2 0 k)) 0 := by
  pointwise [outBlock, throughLast]

end Cert.KernelIdeal.Dense

end
-- ==== Proof.Side.lean ====
/- The first layers' share of the plain features, slot by slot: the table keeps the slot's own numbers. -/
module

public import proofs.«01_k».proof.Proof.Slots
public import proofs.«01_k».proof.Proof.Spread

@[expose] public section

noncomputable section

namespace Cert.KernelIdeal.Dense

open Cert.KernelIdeal Cert.KernelIdeal.Facts₀ Cert.KernelIdeal.Facts Cert.KernelIdeal.Spread
open Idealize.ShloMosaic Cert.Model

variable (B : Blocks Ideal)

/-- The player's share. -/
theorem side_lo (a : FVec Ideal S137x128 .f32) (p : Fin 6) (r : Fin 512) (k : Fin 128)
    (hG : ∀ f, B.G (ix3 p f ⟨k.val, by omega⟩) = left a (ix3 p f k)) (hp : ∀ i, (B.pp (ix2 r i) : EReal) ≠ ⊤ ∧ (B.pp (ix2 r i) : EReal) ≠ ⊥)
    (ha : (a (ix2 135 k) : EReal) ≠ ⊤ ∧ (a (ix2 135 k) : EReal) ≠ ⊥) :
    side B p (ix2 r ⟨k.val, by omega⟩)
      = ∑ i : Fin 9, (![B.hp (ix2 r p), B.lvl (ix2 r p) * hundredth, B.att (ix2 r p), B.defn (ix2 r p), B.spe (ix2 r p), B.spa (ix2 r p), B.spd (ix2 r p),
          (∑ x : Fin 4, B.pp (ix2 r ⟨x.val + 4 * p.val, by omega⟩)) * quarter, B.exp (ix2 r p)] : Fin 9 → EReal) i * a (ix2 ⟨128 + i.val, by omega⟩ k) := by
  rw [side_at]
  simp only [hG, plain_at, left_at]
  rw [sum_cat, sum_cat, sum_cat, sum_cat, sum_cat, sum_cat, sum_cat, sum_cat, sum_cat, sum_cat, sum_cat]
  have pp := (sum_same_grid (b := 4) (N := 24) rfl (by norm_num) p (fun q => B.pp (ix2 r q)) fun _ => a (ix2 135 k) * quarter).trans
    (sum_quarter _ _ (fun i => hp _) ha)
  rw [pp]
  simp only [sum_same p _ fun _ => _, mul_zero, Finset.sum_const_zero, add_zero]
  rw [mul_comm (a (ix2 129 k)) hundredth, ← mul_assoc]
  simp only [Fin.sum_univ_succ, Fin.sum_univ_zero, add_zero]
  rfl

/-- The enemy's share. -/
theorem side_hi (e : FVec Ideal S6x16 .f32) (a : FVec Ideal S18x128 .f32) (p : Fin 6) (r : Fin 512) (k : Fin 128)
    (hG : ∀ f, B.G (ix3 p f ⟨128 + k.val, by omega⟩) = right e a (ix3 p f k)) :
    side B p (ix2 r ⟨128 + k.val, by omega⟩)
      = ∑ s : Fin 6, B.onehot (ix2 r ⟨s.val + 6 * p.val, by omega⟩) * ∑ l : Fin 16, e (ix2 s l) * a (ix2 ⟨l.val, by omega⟩ k)
        + (B.ehp (ix2 r p) * a (ix2 16 k) + B.elvl (ix2 r p) * hundredth * a (ix2 17 k)) := by
  rw [side_at, Fin.sum_univ_two_halves 72 48 rfl]
  simp only [hG, right_at, cat_left, cat_right, plain_hi, mul_zero, Finset.sum_const_zero, zero_add]
  rw [sum_cat, sum_cat]
  have st := sum_same_grid (b := 6) (N := 36) rfl (by norm_num) p (fun q => B.onehot (ix2 r q)) fun s => ∑ l : Fin 16, e (ix2 s l) * a (ix2 ⟨l.val, by omega⟩ k)
  rw [st]
  simp only [sum_same p _ fun _ => _]
  rw [mul_comm (a (ix2 17 k)) hundredth, ← mul_assoc, ← add_assoc, add_comm]

end Cert.KernelIdeal.Dense

end
-- ==== Proof.Weights.lean ====
/- The weights that the dense call reads, as entries of the arguments. -/
module

public import proofs.«01_k».proof.Proof.Rows
public import proofs.«01_k».proof.Proof.Result
public import proofs.«01_k».proof.Proof.Side

@[expose] public section

noncomputable section

namespace Cert.KernelIdeal.Main

open Cert.KernelIdeal Cert.KernelIdeal.Gen Cert.KernelIdeal.Gather Cert.KernelIdeal.Host
open Idealize.ShloMosaic Cert.Model

variable (m : (ℓ : Loc nD τ sig) → Buf (Elt Ideal) ℓ) (d : Dev nD)

/-- The dense call reads what the host's operations left, but for the gathered rows. -/
theorem val3_eq (r : Ref sig .tc) (h2 : r ≠ main_v144) (h3 : r ≠ main_v145) : val3 m d (dv r) = val1 m d (dv r) := by
  show (shaped (F := Ideal)).result (val2 m d) (Proc.devRef .tc r) = _
  unfold shaped
  rw [StableHlo.reshape_result_ne (h := h3)]
  exact Function.update_of_ne (StableHlo.devRef_ne_of_ne h2) _ _

theorem val3_arg (r : Ref sig .tc) (h : r ∈ args) : val3 m d (dv r) = arg m d r := by
  have ne : ∀ r ∈ args, r ≠ main_v144 ∧ r ≠ main_v145 := by decide
  exact (val3_eq m d r (ne r h).1 (ne r h).2).trans (val1_arg m d r h)

/-- What is asked of the arguments. -/
structure Fit (X : In) : Prop where
  codes : Cert.Range.InRange X.species X.moves X.ability X.status X.item
  estatus : ∀ r p, (X.estatus (ix2 r p)).toNat < 6
  pp : ∀ r p x, X.pp (ix3 r p x) ≠ ⊤ ∧ X.pp (ix3 r p x) ≠ ⊥
  weight : ∀ k, X.pW1 (ix2 135 k) ≠ ⊤ ∧ X.pW1 (ix2 135 k) ≠ ⊥

/-! ## The weights, as the blocks hold them -/

/-- A row vector of a matrix with one row. -/
theorem flat128 (a : FVec Ideal S128 .f32) (k : Fin 128) : (shapeCast S1x128 a shapeCasts_S128_S1x128 : FVec Ideal S1x128 .f32) (ix2 0 k) = a (ix1 k) := by
  pointwise

section
variable (t : Fin 32)

/-- The step's blocks. -/
abbrev blk : Dense.Blocks Ideal := Dense.blocks (val3 m) d t

theorem pW1_at (j k : Fin 128) : (blk m d t).pW1 (ix2 j k) = (ins m d).pW1 (ix2 ⟨j.val, by omega⟩ k) := by
  refine ((Dense.wholes_blocks (val3 m) d t).pW1 j k).trans ((congrFun ((val3_eq m d _ (by decide) (by decide)).trans (v127_eq m d)) _).trans ?_)
  pointwise
  rfl

theorem pb1_at (k : Fin 128) : (blk m d t).pb1 (ix2 0 k) = (ins m d).pb1 (ix1 k) :=
  ((Dense.wholes_blocks (val3 m) d t).pb1 0 k).trans ((congrFun ((val3_eq m d _ (by decide) (by decide)).trans (v128_eq m d)) _).trans (flat128 _ k))

theorem pb2_at (k : Fin 128) : (blk m d t).pb2 (ix2 0 k) = (ins m d).pb2 (ix1 k) :=
  ((Dense.wholes_blocks (val3 m) d t).pb2 0 k).trans ((congrFun ((val3_eq m d _ (by decide) (by decide)).trans (v129_eq m d)) _).trans (flat128 _ k))

theorem eb1_at (k : Fin 128) : (blk m d t).eb1 (ix2 0 k) = (ins m d).eb1 (ix1 k) :=
  ((Dense.wholes_blocks (val3 m) d t).eb1 0 k).trans ((congrFun ((val3_eq m d _ (by decide) (by decide)).trans (v130_eq m d)) _).trans (flat128 _ k))

theorem eb2_at (k : Fin 128) : (blk m d t).eb2 (ix2 0 k) = (ins m d).eb2 (ix1 k) :=
  ((Dense.wholes_blocks (val3 m) d t).eb2 0 k).trans ((congrFun ((val3_eq m d _ (by decide) (by decide)).trans (v131_eq m d)) _).trans (flat128 _ k))

theorem pab_at (k : Fin 128) : (blk m d t).pab (ix2 0 k) = (ins m d).pab (ix1 k) :=
  ((Dense.wholes_blocks (val3 m) d t).pab 0 k).trans ((congrFun ((val3_eq m d _ (by decide) (by decide)).trans (v132_eq m d)) _).trans (flat128 _ k))

theorem gb_at (k : Fin 32) : (blk m d t).gb (ix2 0 k) = (ins m d).gb (ix1 k) := by
  refine ((Dense.wholes_blocks (val3 m) d t).gb 0 k).trans ((congrFun ((val3_eq m d _ (by decide) (by decide)).trans (v133_eq m d)) _).trans ?_)
  pointwise
  rfl

theorem fb_at (k : Fin 256) : (blk m d t).fb (ix2 0 k) = (ins m d).fb (ix1 k) := by
  refine ((Dense.wholes_blocks (val3 m) d t).fb 0 k).trans ((congrFun ((val3_eq m d _ (by decide) (by decide)).trans (v139_eq m d)) _).trans ?_)
  pointwise
  rfl

theorem fWp_at (j : Fin 128) (k : Fin 256) : (blk m d t).fWp (ix2 j k) = (ins m d).fW (ix2 ⟨j.val, by omega⟩ k) := by
  refine ((Dense.wholes_blocks (val3 m) d t).fWp j k).trans ((congrFun ((val3_eq m d _ (by decide) (by decide)).trans (v134_eq m d)) _).trans ?_)
  pointwise
  rfl

theorem fWe_at (j : Fin 128) (k : Fin 256) : (blk m d t).fWe (ix2 j k) = (ins m d).fW (ix2 ⟨128 + j.val, by omega⟩ k) := by
  refine ((Dense.wholes_blocks (val3 m) d t).fWe j k).trans ((congrFun ((val3_eq m d _ (by decide) (by decide)).trans (v135_eq m d)) _).trans ?_)
  pointwise
  rfl

theorem fWpa_at (j : Fin 128) (k : Fin 256) : (blk m d t).fWpa (ix2 j k) = (ins m d).fW (ix2 ⟨256 + j.val, by omega⟩ k) := by
  refine ((Dense.wholes_blocks (val3 m) d t).fWpa j k).trans ((congrFun ((val3_eq m d _ (by decide) (by decide)).trans (v136_eq m d)) _).trans ?_)
  pointwise
  rfl

theorem fWm_at (j : Fin 55) (k : Fin 256) : (blk m d t).fWm (ix2 j k) = (ins m d).fW (ix2 ⟨384 + j.val, by omega⟩ k) := by
  refine ((Dense.wholes_blocks (val3 m) d t).fWm j k).trans ((congrFun ((val3_eq m d _ (by decide) (by decide)).trans (v137_eq m d)) _).trans ?_)
  pointwise
  rfl

theorem fWg_at (j : Fin 32) (k : Fin 256) : (blk m d t).fWg (ix2 j k) = (ins m d).fW (ix2 ⟨439 + j.val, by omega⟩ k) := by
  refine ((Dense.wholes_blocks (val3 m) d t).fWg j k).trans ((congrFun ((val3_eq m d _ (by decide) (by decide)).trans (v138_eq m d)) _).trans ?_)
  pointwise
  rfl

theorem pW2_at (j k : Fin 128) : (blk m d t).pW2 (ix2 j k) = (ins m d).pW2 (ix2 j k) :=
  ((Dense.wholes_blocks (val3 m) d t).pW2 j k).trans (congrFun (val3_arg m d _ (by decide)) _)

theorem eW2_at (j k : Fin 128) : (blk m d t).eW2 (ix2 j k) = (ins m d).eW2 (ix2 j k) :=
  ((Dense.wholes_blocks (val3 m) d t).eW2 j k).trans (congrFun (val3_arg m d _ (by decide)) _)

theorem paW_at (j : Fin 2) (k : Fin 128) : (blk m d t).paW (ix2 j k) = (ins m d).paW (ix2 j k) :=
  ((Dense.wholes_blocks (val3 m) d t).paW j k).trans (congrFun (val3_arg m d _ (by decide)) _)

theorem gW_at (j : Fin 17) (k : Fin 32) : (blk m d t).gW (ix2 j k) = (ins m d).gW (ix2 j k) :=
  ((Dense.wholes_blocks (val3 m) d t).gW j k).trans (congrFun (val3_arg m d _ (by decide)) _)

theorem G_eq (p : Fin 6) (f : Fin 120) (k : Fin 256) : (blk m d t).G (ix3 p f k)
    = Spread.spread (ins m d).estatusE (ins m d).pW1 (ins m d).eW1 (ix3 p f k) :=
  ((Dense.wholes_blocks (val3 m) d t).G p f k).trans (congrFun ((val3_eq m d _ (by decide) (by decide)).trans (v126_eq m d)) _)

end

end Cert.KernelIdeal.Main

end
-- ==== Proof.KernelOut.lean ====
/- The kernel's result is the model's, at every index. -/
module

public import proofs.«01_k».proof.Proof.Weights

@[expose] public section

noncomputable section

namespace Cert.KernelIdeal.Main

open Cert.KernelIdeal Cert.KernelIdeal.Gen Cert.KernelIdeal.Gather Cert.KernelIdeal.Host
open Idealize.ShloMosaic Cert.Model

variable (m : (ℓ : Loc nD τ sig) → Buf (Elt Ideal) ℓ) (d : Dev nD) (t : Fin 32) (r : Fin 512)

theorem hp_at (p : Fin 6) : (blk m d t).hp (ix2 r p) = (ins m d).hp (ix2 (Dense.sample t r) p) :=
  ((Dense.rows_blocks (val3 m) d t).hp r p).trans (congrFun (val3_arg m d _ (by decide)) _)

theorem lvl_at (p : Fin 6) : (blk m d t).lvl (ix2 r p) = (ins m d).lvl (ix2 (Dense.sample t r) p) :=
  ((Dense.rows_blocks (val3 m) d t).lvl r p).trans (congrFun (val3_arg m d _ (by decide)) _)

theorem att_at (p : Fin 6) : (blk m d t).att (ix2 r p) = (ins m d).att (ix2 (Dense.sample t r) p) :=
  ((Dense.rows_blocks (val3 m) d t).att r p).trans (congrFun (val3_arg m d _ (by decide)) _)

theorem defn_at (p : Fin 6) : (blk m d t).defn (ix2 r p) = (ins m d).defn (ix2 (Dense.sample t r) p) :=
  ((Dense.rows_blocks (val3 m) d t).defn r p).trans (congrFun (val3_arg m d _ (by decide)) _)

theorem spe_at (p : Fin 6) : (blk m d t).spe (ix2 r p) = (ins m d).spe (ix2 (Dense.sample t r) p) :=
  ((Dense.rows_blocks (val3 m) d t).spe r p).trans (congrFun (val3_arg m d _ (by decide)) _)

theorem spa_at (p : Fin 6) : (blk m d t).spa (ix2 r p) = (ins m d).spa (ix2 (Dense.sample t r) p) :=
  ((Dense.rows_blocks (val3 m) d t).spa r p).trans (congrFun (val3_arg m d _ (by decide)) _)

theorem spd_at (p : Fin 6) : (blk m d t).spd (ix2 r p) = (ins m d).spd (ix2 (Dense.sample t r) p) :=
  ((Dense.rows_blocks (val3 m) d t).spd r p).trans (congrFun (val3_arg m d _ (by decide)) _)

theorem exp_at (p : Fin 6) : (blk m d t).exp (ix2 r p) = (ins m d).exp (ix2 (Dense.sample t r) p) :=
  ((Dense.rows_blocks (val3 m) d t).exp r p).trans (congrFun (val3_arg m d _ (by decide)) _)

theorem ehp_at (p : Fin 6) : (blk m d t).ehp (ix2 r p) = (ins m d).ehp (ix2 (Dense.sample t r) p) :=
  ((Dense.rows_blocks (val3 m) d t).ehp r p).trans (congrFun (val3_arg m d _ (by decide)) _)

theorem elvl_at (p : Fin 6) : (blk m d t).elvl (ix2 r p) = (ins m d).elvl (ix2 (Dense.sample t r) p) :=
  ((Dense.rows_blocks (val3 m) d t).elvl r p).trans (congrFun (val3_arg m d _ (by decide)) _)

theorem level_at (p : Fin 6) : (blk m d t).level (ix2 r p) = (ins m d).level (ix2 (Dense.sample t r) p) :=
  ((Dense.rows_blocks (val3 m) d t).level r p).trans (congrFun (val3_arg m d _ (by decide)) _)

theorem php_at (p : Fin 6) : (blk m d t).php (ix2 r p) = (ins m d).php (ix2 (Dense.sample t r) p) :=
  ((Dense.rows_blocks (val3 m) d t).php r p).trans (congrFun (val3_arg m d _ (by decide)) _)

theorem inb_at (p : Fin 1) : (blk m d t).inb (ix2 r p) = (ins m d).inb (ix2 (Dense.sample t r) p) :=
  ((Dense.rows_blocks (val3 m) d t).inb r p).trans (congrFun (val3_arg m d _ (by decide)) _)

theorem badge_at (p : Fin 8) : (blk m d t).badge (ix2 r p) = (ins m d).badge (ix2 (Dense.sample t r) p) :=
  ((Dense.rows_blocks (val3 m) d t).badge r p).trans (congrFun (val3_arg m d _ (by decide)) _)

theorem hms_at (p : Fin 8) : (blk m d t).hms (ix2 r p) = (ins m d).hms (ix2 (Dense.sample t r) p) :=
  ((Dense.rows_blocks (val3 m) d t).hms r p).trans (congrFun (val3_arg m d _ (by decide)) _)

theorem map_at (p : Fin 55) : (blk m d t).map (ix2 r p) = (ins m d).map (ix2 (Dense.sample t r) p) :=
  ((Dense.rows_blocks (val3 m) d t).map r p).trans (congrFun (val3_arg m d _ (by decide)) _)

theorem pp_at (f : Fin 24) : (blk m d t).pp (ix2 r f)
    = (ins m d).pp (ix3 (Dense.sample t r) ⟨f.val / 4, by omega⟩ ⟨f.val % 4, by omega⟩) := by
  refine ((Dense.rows_blocks (val3 m) d t).pp r f).trans ((congrFun ((val3_eq m d _ (by decide) (by decide)).trans (v140_eq m d)) _).trans ?_)
  pointwise
  rfl

theorem onehot_at (f : Fin 36) : (blk m d t).onehot (ix2 r f)
    = if (ins m d).estatus (ix2 (Dense.sample t r) ⟨f.val / 6, by omega⟩) = BitVec.ofNat 32 (f.val % 6) then 1 else 0 :=
  ((Dense.rows_blocks (val3 m) d t).onehot r f).trans ((congrFun ((val3_eq m d _ (by decide) (by decide)).trans (v21_eq m d)) _).trans
    (Spread.bits_at _ _ _))

theorem emb_blk (hX : Fit (ins m d)) (p : Fin 6) (j : Fin 128) : (blk m d t).emb (ix3 p r j) = emb (ins m d) (Dense.sample t r) p j :=
  ((Dense.rows_blocks (val3 m) d t).emb p r j).trans (emb_at m d hX.codes p _ j)

/-! ## The branches -/

theorem player_at (hX : Fit (ins m d)) (p : Fin 6) (k : Fin 128) :
    Dense.playerHidden (blk m d t) p (ix2 r k) = Model.playerHidden (ins m d) (Dense.sample t r) p k := by
  rw [Dense.playerHidden_at, Dense.side_lo (blk m d t) (ins m d).pW1 p r k (fun f => (G_eq m d t p f _).trans (Spread.spread_lo _ _ _ p f k))
    (fun i => by rw [pp_at]; exact hX.pp _ _ _) (hX.weight k)]
  have four (x : Fin 4) : (⟨(x.val + 4 * p.val) / 4, by omega⟩ : Fin 6) = p := Fin.ext (by simp only []; omega)
  have rest (x : Fin 4) : (⟨(x.val + 4 * p.val) % 4, by omega⟩ : Fin 4) = x := Fin.ext (by simp only []; omega)
  simp only [emb_blk m d t r hX, pW1_at, pb1_at, hp_at, lvl_at, att_at, defn_at, spe_at, spa_at, spd_at, exp_at, pp_at, four, rest]
  rfl

theorem enemy_at (hX : Fit (ins m d)) (p : Fin 6) (k : Fin 128) :
    Dense.enemyHidden (blk m d t) p (ix2 r k) = Model.enemyHidden (ins m d) (Dense.sample t r) p k := by
  rw [Dense.enemyHidden_at, Dense.side_hi (blk m d t) (ins m d).estatusE (ins m d).eW1 p r k (fun f => (G_eq m d t p f _).trans (Spread.spread_hi _ _ _ p f k))]
  have six (x : Fin 6) : (⟨(x.val + 6 * p.val) / 6, by omega⟩ : Fin 6) = p := Fin.ext (by simp only []; omega)
  have rest (x : Fin 6) : (x.val + 6 * p.val) % 6 = x.val := by omega
  simp only [ehp_at, elvl_at, eb1_at, onehot_at, six, rest]
  rw [sum_chosen _ (hX.estatus _ _) fun s => ∑ l : Fin 16, (ins m d).estatusE (ix2 s l) * (ins m d).eW1 (ix2 ⟨l.val, by omega⟩ k)]
  unfold Model.enemyHidden pick
  simp only [dif_pos (hX.estatus (Dense.sample t r) p)]

theorem party_at (k : Fin 128) : Dense.partyPart (blk m d t) (ix2 r k) = party (ins m d) (Dense.sample t r) k := by
  rw [Dense.partyPart_at]
  simp only [php_at, level_at, paW_at, pab_at]
  rfl

theorem glob_at (k : Fin 32) : Dense.globalPart (blk m d t) (ix2 r k) = glob (ins m d) (Dense.sample t r) k := by
  rw [Dense.globalPart_at]
  simp only [inb_at, badge_at, hms_at, gW_at, gb_at]
  rfl

theorem block_at (hX : Fit (ins m d)) (k : Fin 256) : Dense.outBlock (blk m d t) (ix2 r k) = out (ins m d) (Dense.sample t r) k := by
  rw [Dense.outBlock_at]
  simp only [Dense.secondLayer_at, player_at m d t r hX, enemy_at m d t r hX, party_at, glob_at, pW2_at, pb2_at, eW2_at, eb2_at, map_at, fWp_at, fWe_at, fWpa_at, fWm_at,
    fWg_at, fb_at]
  rfl

/-- The kernel's result. -/
theorem result_eq (hX : Fit (ins m d)) : val4 m d (dv main_v146) = fun i : S16384x256.Idx => out (ins m d) (i 0) (i 1) := by
  show Function.update (val3 m d) (Proc.devRef .tc main_v146) (Dense.result (val3 m) d) (Proc.devRef .tc main_v146) = _
  rw [Function.update_self]
  exact Dense.result_eq (val3 m) d (out (ins m d)) fun t r k => block_at m d t r hX k

end Cert.KernelIdeal.Main

end
-- ==== Proof.Take.lean ====
/- Rows of a table looked up by words: the reference's clamped, masked lookup at words in range. -/
module

public import proofs.«01_k».proof.Proof.Model
public import proofs.«01_k».proof.Proof.Gen.ReferenceIdeal.Run
public import Idealize.ShloMosaic.Lib.ReduceAll

@[expose] public section

noncomputable section

namespace Cert.Take

open Cert.Model
open Idealize.ShloMosaic

/-- Row lookups with two axes of words, -/
abbrev dims2 (N R C L : ℕ) (wf : GatherDims.WF ⟨2, ![N, L]⟩ ⟨3, ![R, C, 1]⟩ ⟨3, ![R, C, L]⟩ [2] [0] [] [0] [] 2 ![1, L]) :
    GatherDims ⟨2, ![N, L]⟩ ⟨3, ![R, C, 1]⟩ ⟨3, ![R, C, L]⟩ where
  offsetDims := [2]
  collapsedSliceDims := [0]
  operandBatchingDims := []
  startIndicesBatchingDims := []
  startIndexMap := [0]
  indexVectorDim := 2
  sliceSizes := ![1, L]
  wf := wf

/-- and with three. -/
abbrev dims3 (N R C D L : ℕ) (wf : GatherDims.WF ⟨2, ![N, L]⟩ ⟨4, ![R, C, D, 1]⟩ ⟨4, ![R, C, D, L]⟩ [3] [0] [] [0] [] 3 ![1, L]) :
    GatherDims ⟨2, ![N, L]⟩ ⟨4, ![R, C, D, 1]⟩ ⟨4, ![R, C, D, L]⟩ where
  offsetDims := [3]
  collapsedSliceDims := [0]
  operandBatchingDims := []
  startIndicesBatchingDims := []
  startIndexMap := [0]
  indexVectorDim := 3
  sliceSizes := ![1, L]
  wf := wf

variable {α : Type}

theorem gather2_at {N R C L : ℕ} (hN : 0 < N) (wf) (x : (⟨2, ![N, L]⟩ : Shape).Idx → α) (w : IVec ⟨3, ![R, C, 1]⟩ 32)
    (r : Fin R) (p : Fin C) (l : Fin L) :
    Host.gather (dims2 N R C L wf) x w (ix3 r p l) = x (ix2 ⟨min (w (ix3 r p 0)).toInt.toNat (N - 1), by omega⟩ l) := by
  unfold Host.gather
  congr 1
  funext a
  refine Fin.ext ?_
  show (dims2 N R C L wf).start (ix3 r p l) w a + (dims2 N R C L wf).batchCoord (ix3 r p l) a + (dims2 N R C L wf).offCoord (ix3 r p l) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (dims2 N R C L wf).startIndexMap from List.mem_singleton.mpr rfl)]
    have hsi : (dims2 N R C L wf).siIdx (ix3 r p l) ⟨List.idxOf (0 : Fin 2) (dims2 N R C L wf).startIndexMap,
        List.idxOf_lt_length_iff.2 (List.mem_singleton.mpr rfl)⟩ = ix3 r p 0 := by
      funext b; refine Fin.ext ?_
      match b with
      | ⟨0, _⟩ => rfl
      | ⟨1, _⟩ => rfl
      | ⟨2, _⟩ => rfl
    rw [hsi]
    rfl
  · unfold GatherDims.start
    rw [dif_neg (show (1 : Fin 2) ∉ (dims2 N R C L wf).startIndexMap from by show (1 : Fin 2) ∉ [(0 : Fin 2)]; decide), Nat.zero_add]
    unfold GatherDims.offCoord
    rw [dif_pos ((GatherDims.mem_sKept _ _).mpr ⟨show (1 : Fin 2) ∉ [(0 : Fin 2)] from by decide, List.not_mem_nil⟩)]
    rfl

theorem gather3_at {N R C D L : ℕ} (hN : 0 < N) (wf) (x : (⟨2, ![N, L]⟩ : Shape).Idx → α) (w : IVec ⟨4, ![R, C, D, 1]⟩ 32)
    (r : Fin R) (p : Fin C) (q : Fin D) (l : Fin L) :
    Host.gather (dims3 N R C D L wf) x w (ix4 r p q l) = x (ix2 ⟨min (w (ix4 r p q 0)).toInt.toNat (N - 1), by omega⟩ l) := by
  unfold Host.gather
  congr 1
  funext a
  refine Fin.ext ?_
  show (dims3 N R C D L wf).start (ix4 r p q l) w a + (dims3 N R C D L wf).batchCoord (ix4 r p q l) a
    + (dims3 N R C D L wf).offCoord (ix4 r p q l) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (dims3 N R C D L wf).startIndexMap from List.mem_singleton.mpr rfl)]
    have hsi : (dims3 N R C D L wf).siIdx (ix4 r p q l) ⟨List.idxOf (0 : Fin 2) (dims3 N R C D L wf).startIndexMap,
        List.idxOf_lt_length_iff.2 (List.mem_singleton.mpr rfl)⟩ = ix4 r p q 0 := by
      funext b; refine Fin.ext ?_
      match b with
      | ⟨0, _⟩ => rfl
      | ⟨1, _⟩ => rfl
      | ⟨2, _⟩ => rfl
      | ⟨3, _⟩ => rfl
    rw [hsi]
    rfl
  · unfold GatherDims.start
    rw [dif_neg (show (1 : Fin 2) ∉ (dims3 N R C D L wf).startIndexMap from by show (1 : Fin 2) ∉ [(0 : Fin 2)]; decide), Nat.zero_add]
    unfold GatherDims.offCoord
    rw [dif_pos ((GatherDims.mem_sKept _ _).mpr ⟨show (1 : Fin 2) ∉ [(0 : Fin 2)] from by decide, List.not_mem_nil⟩)]
    rfl

/-! ## Words in range -/

theorem toInt_word {v : BitVec 32} {n : ℕ} (h : v.toNat < n) (hn : n ≤ 1000) : v.toInt = v.toNat := by
  rw [BitVec.toInt_eq_toNat_of_lt (by omega)]

/-- A word in range is not negative: it is not wrapped around. -/
theorem wrap {v c : BitVec 32} {n : ℕ} (h : v.toNat < n) (hn : n ≤ 1000) :
    Scalar.select (IntOp.cmpi .slt v 0#32) (IntOp.addi v c) v = v := by
  have : IntOp.cmpi .slt v 0#32 = 0#1 := by
    have h0 := toInt_word h hn
    simp only [IntOp.cmpi, BitVec.slt, h0, BitVec.toInt_zero]
    rw [decide_eq_false (by omega)]; rfl
  rw [this]; rfl

/-- A word in range passes the reference's test. -/
theorem inside {v : BitVec 32} {n : ℕ} (h : v.toNat < n) (hn : n ≤ 1000) :
    IntOp.andi (IntOp.cmpi .sge v 0#32) (IntOp.cmpi .sle v (BitVec.ofNat 32 (n - 1))) = 1#1 := by
  have h0 := toInt_word h hn
  have h1 : (BitVec.ofNat 32 (n - 1)).toInt = ((n - 1 : ℕ) : Int) := by
    rw [BitVec.toInt_eq_toNat_of_lt (by rw [BitVec.toNat_ofNat]; omega), BitVec.toNat_ofNat]; omega
  have ha : IntOp.cmpi .sge v 0#32 = 1#1 := by simp [IntOp.cmpi, BitVec.sle, h0]
  have hb : IntOp.cmpi .sle v (BitVec.ofNat 32 (n - 1)) = 1#1 := by
    simp only [IntOp.cmpi, BitVec.sle, h0, h1]; rw [decide_eq_true (by omega)]; rfl
  rw [ha, hb]; rfl

/-- The row that a word in range names. -/
theorem pick_eq {n : ℕ} (E : M2 n 16) {v : BitVec 32} (h : v.toNat < n) (hn : n ≤ 1000) (hm) (l : Fin 16) :
    E (ix2 ⟨min v.toInt.toNat (n - 1), hm⟩ l) = pick E v l := by
  rw [pick, dif_pos h]
  congr 2
  refine Fin.ext ?_
  show min v.toInt.toNat (n - 1) = v.toNat
  rw [toInt_word h hn]; omega

end Cert.Take

end
-- ==== Proof.RefRows.lean ====
/- The reference's first layer's inputs, read at an index. -/
module

public import proofs.«01_k».proof.Proof.Take

@[expose] public section

noncomputable section

namespace Cert.ReferenceIdeal.Value

open Cert.ReferenceIdeal Cert.ReferenceIdeal.Facts₀ Cert.ReferenceIdeal.Facts Cert.Model Cert.Take
open Idealize.ShloMosaic

variable (V : Valuation τ sig (Elt Ideal))

/-- The arguments by name. -/
def ins : In :=
  ⟨V (Proc.devRef .tc main_arg0), V (Proc.devRef .tc main_arg1), V (Proc.devRef .tc main_arg2), V (Proc.devRef .tc main_arg3),
    V (Proc.devRef .tc main_arg4), V (Proc.devRef .tc main_arg5), V (Proc.devRef .tc main_arg6), V (Proc.devRef .tc main_arg7),
    V (Proc.devRef .tc main_arg8), V (Proc.devRef .tc main_arg9), V (Proc.devRef .tc main_arg10), V (Proc.devRef .tc main_arg11),
    V (Proc.devRef .tc main_arg12), V (Proc.devRef .tc main_arg13), V (Proc.devRef .tc main_arg14), V (Proc.devRef .tc main_arg15),
    V (Proc.devRef .tc main_arg16), V (Proc.devRef .tc main_arg17), V (Proc.devRef .tc main_arg18), V (Proc.devRef .tc main_arg19),
    V (Proc.devRef .tc main_arg20), V (Proc.devRef .tc main_arg21), V (Proc.devRef .tc main_arg22), V (Proc.devRef .tc main_arg23),
    V (Proc.devRef .tc main_arg24), V (Proc.devRef .tc main_arg25), V (Proc.devRef .tc main_arg26), V (Proc.devRef .tc main_arg27),
    V (Proc.devRef .tc main_arg28), V (Proc.devRef .tc main_arg29), V (Proc.devRef .tc main_arg30), V (Proc.devRef .tc main_arg31),
    V (Proc.devRef .tc main_arg32), V (Proc.devRef .tc main_arg33), V (Proc.devRef .tc main_arg34), V (Proc.devRef .tc main_arg35),
    V (Proc.devRef .tc main_arg36), V (Proc.devRef .tc main_arg37), V (Proc.devRef .tc main_arg38), V (Proc.devRef .tc main_arg39),
    V (Proc.devRef .tc main_arg40), V (Proc.devRef .tc main_arg41), V (Proc.devRef .tc main_arg42)⟩

/-- The rows that an array of words names, -/
def rowsOf {n : ℕ} (E : M2 n 16) (a : W2 16384 6) : FVec Ideal S16384x6x16 .f32 := fun j => pick E (a (ix2 (j 0) (j 1))) (j 2)
/-- and that the move words name. -/
def moveRows (E : M2 355 16) (a : W3 16384 6 4) : FVec Ideal S16384x6x4x16 .f32 := fun j => pick E (a (ix3 (j 0) (j 1) (j 2))) (j 3)

/-- A lookup at words in range. -/
theorem lookup {n : ℕ} (E : M2 n 16) (a : W2 16384 6) (w : IVec S16384x6x1 32) (hi : IVec S1 32)
    (wf : GatherDims.WF ⟨2, ![n, 16]⟩ S16384x6x1 S16384x6x16 [2] [0] [] [0] [] 2 ![1, 16])
    (d : GatherDims ⟨2, ![n, 16]⟩ S16384x6x1 S16384x6x16) (hd : d = dims2 n 16384 6 16 wf) (hn : n ≤ 1000)
    (hw : ∀ i, w i = a (ix2 (i 0) (i 1))) (h : ∀ i, (a i).toNat < n) (hh : ∀ i, hi i = BitVec.ofNat 32 (n - 1)) :
    select (broadcastInDim S16384x6x16 ![0, 1] bcast_S16384x6_S16384x6x16_0_1
        (Host.reduce IntOp.andi (andi (cmpi .sge w (broadcastInDim S16384x6x1 ![] bcast_S_S16384x6x1 (constantI S_ 32 0#32)))
          (cmpi .sle w (broadcastInDim S16384x6x1 ![0, 1, 2] bcast_S1x1x1_S16384x6x1_0_1_2 (broadcastInDim S1x1x1 ![2] bcast_S1_S1x1x1_2 hi))))
          (constantI S_ 1 1#1) reducesTo_S16384x6x1_S16384x6_d2 h_S_))
      (Host.gather d E w)
      (broadcastInDim S16384x6x16 ![] bcast_S_S16384x6x16 (constant (F := Ideal) S_ .f32 0x7FC00000#32))
      = rowsOf E a := by
  subst hd
  funext j
  have pos : 0 < n := (Nat.zero_le _).trans_lt (h (ix2 0 0))
  obtain ⟨r, p, l, rfl⟩ : ∃ (r : Fin 16384) (p : Fin 6) (l : Fin 16), j = ix3 r p l := ⟨j 0, j 1, j 2, eq_ix3 j⟩
  have mask : ∀ k, Host.reduce IntOp.andi (andi (cmpi .sge w (broadcastInDim S16384x6x1 ![] bcast_S_S16384x6x1 (constantI S_ 32 0#32)))
          (cmpi .sle w (broadcastInDim S16384x6x1 ![0, 1, 2] bcast_S1x1x1_S16384x6x1_0_1_2 (broadcastInDim S1x1x1 ![2] bcast_S1_S1x1x1_2 hi))))
          (constantI S_ 1 1#1) reducesTo_S16384x6x1_S16384x6_d2 h_S_ k = 1#1 := fun k => by
    refine Host.reduce_andi_one _ _ _ _ _ rfl fun i => ?_
    have e : broadcastInDim S16384x6x1 ![0, 1, 2] bcast_S1x1x1_S16384x6x1_0_1_2 (broadcastInDim S1x1x1 ![2] bcast_S1_S1x1x1_2 hi) i
        = BitVec.ofNat 32 (n - 1) := hh _
    show IntOp.andi (IntOp.cmpi .sge (w i) 0#32) (IntOp.cmpi .sle (w i) _) = 1#1
    rw [e, hw i]
    exact inside (h _) hn
  show Scalar.select (Host.reduce IntOp.andi _ _ _ _ _) (Host.gather (dims2 n 16384 6 16 wf) E w (ix3 r p l)) _ = _
  rw [mask, gather2_at pos]
  refine (pick_eq E (by rw [hw]; exact h _) hn _ _).trans ?_
  rw [hw]
  rfl

/-- The moves' lookup at words in range. -/
theorem lookupMoves (E : M2 355 16) (a : W3 16384 6 4) (w : IVec S16384x6x4x1 32)
    (wf : GatherDims.WF S355x16 S16384x6x4x1 S16384x6x4x16 [3] [0] [] [0] [] 3 ![1, 16])
    (d : GatherDims S355x16 S16384x6x4x1 S16384x6x4x16) (hd : d = dims3 355 16384 6 4 16 wf)
    (hw : ∀ i, w i = a (ix3 (i 0) (i 1) (i 2))) (h : ∀ i, (a i).toNat < 355) :
    select (broadcastInDim S16384x6x4x16 ![0, 1, 2] bcast_S16384x6x4_S16384x6x4x16_0_1_2
        (Host.reduce IntOp.andi (andi (cmpi .sge w (broadcastInDim S16384x6x4x1 ![] bcast_S_S16384x6x4x1 (constantI S_ 32 0#32)))
          (cmpi .sle w (broadcastInDim S16384x6x4x1 ![0, 1, 2, 3] bcast_S1x1x1x1_S16384x6x4x1_0_1_2_3
            (broadcastInDim S1x1x1x1 ![3] bcast_S1_S1x1x1x1_3 (constantI S1 32 354#32)))))
          (constantI S_ 1 1#1) reducesTo_S16384x6x4x1_S16384x6x4_d3 h_S_))
      (Host.gather d E w)
      (broadcastInDim S16384x6x4x16 ![] bcast_S_S16384x6x4x16 (constant (F := Ideal) S_ .f32 0x7FC00000#32))
      = moveRows E a := by
  subst hd
  funext j
  obtain ⟨r, p, q, l, rfl⟩ : ∃ (r : Fin 16384) (p : Fin 6) (q : Fin 4) (l : Fin 16), j = ix4 r p q l := ⟨j 0, j 1, j 2, j 3, eq_ix4 j⟩
  have mask : ∀ k, Host.reduce IntOp.andi (andi (cmpi .sge w (broadcastInDim S16384x6x4x1 ![] bcast_S_S16384x6x4x1 (constantI S_ 32 0#32)))
          (cmpi .sle w (broadcastInDim S16384x6x4x1 ![0, 1, 2, 3] bcast_S1x1x1x1_S16384x6x4x1_0_1_2_3
            (broadcastInDim S1x1x1x1 ![3] bcast_S1_S1x1x1x1_3 (constantI S1 32 354#32)))))
          (constantI S_ 1 1#1) reducesTo_S16384x6x4x1_S16384x6x4_d3 h_S_ k = 1#1 := fun k => by
    refine Host.reduce_andi_one _ _ _ _ _ rfl fun i => ?_
    show IntOp.andi (IntOp.cmpi .sge (w i) 0#32) (IntOp.cmpi .sle (w i) (BitVec.ofNat 32 (355 - 1))) = 1#1
    rw [hw i]
    exact inside (h _) (by norm_num)
  show Scalar.select (Host.reduce IntOp.andi _ _ _ _ _) (Host.gather (dims3 355 16384 6 4 16 wf) E w (ix4 r p q l)) _ = _
  rw [mask, gather3_at (by norm_num)]
  refine (pick_eq E (by rw [hw]; exact h _) (by norm_num) _ _).trans ?_
  rw [hw]
  rfl

/-- The index columns: words in range are not wrapped. -/
theorem column (a : W2 16384 6) (n : ℕ) (c : BitVec 32) (hn : n ≤ 1000) (h : ∀ i, (a i).toNat < n) (i) :
    broadcastInDim S16384x6x1 ![0, 1] bcast_S16384x6_S16384x6x1_0_1
      (select (cmpi .slt a (broadcastInDim S16384x6 ![] bcast_S_S16384x6 (constantI S_ 32 0#32)))
        (addi a (broadcastInDim S16384x6 ![] bcast_S_S16384x6 (constantI S_ 32 c))) a) i = a (ix2 (i 0) (i 1)) := by
  rw [eq_ix3 i]
  pointwise
  exact wrap (h _) hn

theorem moveColumn (a : W3 16384 6 4) (h : ∀ i, (a i).toNat < 355) (i) :
    broadcastInDim S16384x6x4x1 ![0, 1, 2] bcast_S16384x6x4_S16384x6x4x1_0_1_2
      (select (cmpi .slt a (broadcastInDim S16384x6x4 ![] bcast_S_S16384x6x4 (constantI S_ 32 0#32)))
        (addi a (broadcastInDim S16384x6x4 ![] bcast_S_S16384x6x4 (constantI S_ 32 355#32))) a) i = a (ix3 (i 0) (i 1) (i 2)) := by
  rw [eq_ix4 i]
  pointwise
  exact wrap (h _) (by norm_num)

/-- What the six index arrays satisfy. -/
structure Good (X : In) : Prop where
  species : ∀ i, (X.species i).toNat < 412
  moves : ∀ i, (X.moves i).toNat < 355
  ability : ∀ i, (X.ability i).toNat < 78
  status : ∀ i, (X.status i).toNat < 6
  item : ∀ i, (X.item i).toNat < 377
  estatus : ∀ i, (X.estatus i).toNat < 6

theorem x_at (h : Good (ins V)) (r : Fin 16384) (p : Fin 6) (f : Fin 137) : res_main_v21 V (ix3 r p f)
    = if h : f.val < 128 then emb (ins V) r p ⟨f.val, h⟩ else stat (ins V) r p ⟨f.val - 128, by omega⟩ := by
  have e0 := lookup (V (Proc.devRef .tc main_arg23)) (V (Proc.devRef .tc main_arg0)) (res_main_call0_v5 V) (constantI S1 32 411#32)
    gather_S412x16_S16384x6x1_S16384x6x16_2_0_n_n_0_2_116_wf gather_S412x16_S16384x6x1_S16384x6x16_2_0_n_n_0_2_116 rfl (by norm_num) (column _ 412 _ (by norm_num) h.species) h.species (fun _ => rfl)
  have e1 := lookupMoves (V (Proc.devRef .tc main_arg24)) (V (Proc.devRef .tc main_arg1)) (res_main_call1_v5 V)
    gather_S355x16_S16384x6x4x1_S16384x6x4x16_3_0_n_n_0_3_116_wf gather_S355x16_S16384x6x4x1_S16384x6x4x16_3_0_n_n_0_3_116 rfl (moveColumn _ h.moves) h.moves
  have e2 := lookup (V (Proc.devRef .tc main_arg25)) (V (Proc.devRef .tc main_arg2)) (res_main_call2_v5 V) (constantI S1 32 77#32)
    gather_S78x16_S16384x6x1_S16384x6x16_2_0_n_n_0_2_116_wf gather_S78x16_S16384x6x1_S16384x6x16_2_0_n_n_0_2_116 rfl (by norm_num) (column _ 78 _ (by norm_num) h.ability) h.ability (fun _ => rfl)
  have e3 := lookup (V (Proc.devRef .tc main_arg26)) (V (Proc.devRef .tc main_arg3)) (res_main_call3_v5 V) (constantI S1 32 5#32)
    gather_S6x16_S16384x6x1_S16384x6x16_2_0_n_n_0_2_116_wf gather_S6x16_S16384x6x1_S16384x6x16_2_0_n_n_0_2_116 rfl (by norm_num) (column _ 6 _ (by norm_num) h.status) h.status (fun _ => rfl)
  have e4 := lookup (V (Proc.devRef .tc main_arg27)) (V (Proc.devRef .tc main_arg4)) (res_main_call4_v5 V) (constantI S1 32 376#32)
    gather_S377x16_S16384x6x1_S16384x6x16_2_0_n_n_0_2_116_wf gather_S377x16_S16384x6x1_S16384x6x16_2_0_n_n_0_2_116 rfl (by norm_num) (column _ 377 _ (by norm_num) h.item) h.item (fun _ => rfl)
  unfold res_main_v21
  rw [e0, e1, e2, e3, e4]
  clear e0 e1 e2 e3 e4
  pointwise
  simp only [div_100, div_4]
  rcases lt_or_ge f.val 128 with hf | hf
  · rw [dif_pos hf]
    unfold emb looked
    by_cases h0 : f.val < 16
    · rw [dif_pos h0, if_pos (show f.val / 16 < 1 by omega)]
      exact congrArg (pick (ins V).speciesE ((ins V).species (ix2 r p))) (Fin.ext (show f.val = f.val % 16 by omega))
    rw [dif_neg h0, if_neg (show ¬ f.val / 16 < 1 by omega)]
    by_cases h1 : f.val - 16 < 64
    · rw [dif_pos h1, dif_pos (show f.val / 16 - 1 < 4 by omega)]
      exact congrArg₂ (fun q l => pick (ins V).moveE ((ins V).moves (ix3 r p q)) l)
        (Fin.ext (show (f.val - 16) / 16 = f.val / 16 - 1 by omega)) (Fin.ext (show (f.val - 16) % 16 = f.val % 16 by omega))
    rw [dif_neg h1, dif_neg (show ¬ f.val / 16 - 1 < 4 by omega)]
    by_cases h2 : f.val - 16 - 64 < 16
    · rw [dif_pos h2, if_pos (show f.val / 16 - 1 - 4 < 1 by omega)]
      exact congrArg (pick (ins V).abilityE ((ins V).ability (ix2 r p))) (Fin.ext (show f.val - 16 - 64 = f.val % 16 by omega))
    rw [dif_neg h2, if_neg (show ¬ f.val / 16 - 1 - 4 < 1 by omega)]
    by_cases h3 : f.val - 16 - 64 - 16 < 16
    · rw [dif_pos h3, if_pos (show f.val / 16 - 1 - 4 - 1 < 1 by omega)]
      exact congrArg (pick (ins V).statusE ((ins V).status (ix2 r p))) (Fin.ext (show f.val - 16 - 64 - 16 = f.val % 16 by omega))
    rw [dif_neg h3, if_neg (show ¬ f.val / 16 - 1 - 4 - 1 < 1 by omega), dif_pos (show f.val - 16 - 64 - 16 - 16 < 16 by omega)]
    exact congrArg (pick (ins V).itemE ((ins V).item (ix2 r p))) (Fin.ext (show f.val - 16 - 64 - 16 - 16 = f.val % 16 by omega))
  · rw [dif_neg (by omega)]
    obtain ⟨f, hlt⟩ := f
    obtain ⟨i, rfl⟩ : ∃ i, f = 128 + i := Nat.exists_eq_add_of_le hf
    have hi : i < 9 := by omega
    interval_cases i <;> simp [stat, ins]

/-- The mean of a second layer whose hidden layers are `hid`'s. -/
theorem mean_second {h hid : Fin 6 → Fin 128 → EReal} (e : ∀ p k, h p k = hid p k) (W : M2 128 128) (b : M1 128) (j : Fin 128) :
    (∑ p, (∑ k, h p k * W (ix2 k j) + b (ix1 j))) * sixth = second hid W b j := by
  rw [mean_add, second]
  simp only [e]

/-- The player's first layer over the 137 features laid side by side, -/
theorem player_cat (r : Fin 16384) (p : Fin 6) (k : Fin 128) :
    max (∑ x : Fin 137, (if h : x.val < 128 then emb (ins V) r p ⟨x.val, h⟩ else stat (ins V) r p ⟨x.val - 128, by omega⟩)
      * (V (Proc.devRef .tc main_arg29) : M2 137 128) (ix2 x k) + (V (Proc.devRef .tc main_arg30) : M1 128) (ix1 k)) 0 = Model.playerHidden (ins V) r p k := by
  unfold Model.playerHidden
  rw [Fin.sum_univ_two_halves 128 9 rfl]
  have e1 (x : Fin 128) : (if h : x.val < 128 then emb (ins V) r p ⟨x.val, h⟩ else stat (ins V) r p ⟨x.val - 128, by omega⟩) = emb (ins V) r p x := dif_pos x.isLt
  have e2 (x : Fin 9) : (if h : 128 + x.val < 128 then emb (ins V) r p ⟨128 + x.val, h⟩ else stat (ins V) r p ⟨128 + x.val - 128, by omega⟩) = stat (ins V) r p x :=
    (dif_neg (by omega)).trans (congrArg (stat (ins V) r p) (Fin.ext (by simp)))
  simp only [e1, e2]
  rfl

/-- and the enemy's over its 18. -/
theorem enemy_cat (r : Fin 16384) (p : Fin 6) (k : Fin 128) :
    max (∑ x : Fin 18, (if h : x.val < 16 then rowsOf (V (Proc.devRef .tc main_arg28)) (V (Proc.devRef .tc main_arg5)) (ix3 r p ⟨x.val, h⟩)
        else if h : x.val - 16 < 1 then ((V (Proc.devRef .tc main_arg16) : M2 16384 6) (ix2 r p) : EReal) else @HMul.hMul EReal EReal EReal _ ((V (Proc.devRef .tc main_arg17) : M2 16384 6) (ix2 r p)) hundredth)
      * (V (Proc.devRef .tc main_arg33) : M2 18 128) (ix2 x k) + (V (Proc.devRef .tc main_arg34) : M1 128) (ix1 k)) 0 = Model.enemyHidden (ins V) r p k := by
  unfold Model.enemyHidden
  rw [Fin.sum_univ_two_halves 16 2 rfl, Fin.sum_univ_two]
  have e1 (x : Fin 16) (c : EReal) : (if h : x.val < 16 then rowsOf (V (Proc.devRef .tc main_arg28)) (V (Proc.devRef .tc main_arg5)) (ix3 r p ⟨x.val, h⟩) else c)
    = pick (ins V).estatusE ((ins V).estatus (ix2 r p)) x := dif_pos x.isLt
  simp only [e1]
  rfl

end Cert.ReferenceIdeal.Value

end
-- ==== Proof.RefLast.lean ====
/- The reference's result, read at an index. -/
module

public import proofs.«01_k».proof.Proof.RefRows

@[expose] public section

noncomputable section

namespace Cert.ReferenceIdeal.Value

open Cert.ReferenceIdeal Cert.ReferenceIdeal.Facts₀ Cert.ReferenceIdeal.Facts Cert.Model Cert.Take
open Idealize.ShloMosaic

variable (V : Valuation τ sig (Elt Ideal))

set_option maxHeartbeats 400000 in
/-- The concatenation before the last layer. -/
theorem last_at (h : Good (ins V)) (r : Fin 16384) (f : Fin 471) : res_main_v75 V (ix2 r f)
    = if h : f.val < 128 then second (playerHidden (ins V) r) (ins V).pW2 (ins V).pb2 ⟨f.val, h⟩
      else if h : f.val - 128 < 128 then second (enemyHidden (ins V) r) (ins V).eW2 (ins V).eb2 ⟨f.val - 128, h⟩
      else if h : f.val - 128 - 128 < 128 then party (ins V) r ⟨f.val - 128 - 128, h⟩
      else if h : f.val - 128 - 128 - 128 < 55 then (ins V).map (ix2 r ⟨f.val - 128 - 128 - 128, h⟩)
      else glob (ins V) r ⟨f.val - 128 - 128 - 128 - 55, by omega⟩ := by
  have e6 := lookup (V (Proc.devRef .tc main_arg28)) (V (Proc.devRef .tc main_arg5)) (res_main_call6_v5 V) (constantI S1 32 5#32)
    gather_S6x16_S16384x6x1_S16384x6x16_2_0_n_n_0_2_116_wf gather_S6x16_S16384x6x1_S16384x6x16_2_0_n_n_0_2_116 rfl (by norm_num)
    (column _ 6 _ (by norm_num) h.estatus) h.estatus (fun _ => rfl)
  unfold res_main_v75
  rw [e6]
  clear e6
  pointwise
  simp only [x_at V h, div_100, div_6]
  simp only [player_cat V r, enemy_cat V r, Fin.sum_univ_one]
  refine dite_congr rfl (fun hf => ?_) fun hf => dite_congr rfl (fun hf => ?_) fun hf => dite_congr rfl (fun hf => ?_) fun hf =>
    dite_congr rfl (fun hf => ?_) fun hf => ?_
  · show (∑ p, (∑ k, playerHidden (ins V) r p k * (ins V).pW2 (ix2 k ⟨f.val, hf⟩) + (ins V).pb2 (ix1 ⟨f.val, hf⟩))) * sixth = _
    exact mean_add _ _
  · show (∑ p, (∑ k, enemyHidden (ins V) r p k * (ins V).eW2 (ix2 k ⟨f.val - 128, hf⟩) + (ins V).eb2 (ix1 ⟨f.val - 128, hf⟩))) * sixth = _
    exact mean_add _ _
  · rfl
  · rfl
  · rfl

end Cert.ReferenceIdeal.Value

end
-- ==== Proof.RefOut.lean ====
/- The reference's result is the model's, at every index. -/
module

public import proofs.«01_k».proof.Proof.RefLast

@[expose] public section

noncomputable section

namespace Cert.ReferenceIdeal.Value

open Cert.ReferenceIdeal Cert.ReferenceIdeal.Facts₀ Cert.ReferenceIdeal.Facts Cert.Model
open Idealize.ShloMosaic

variable (V : Valuation τ sig (Elt Ideal))

theorem last_cat (h : Good (ins V)) (r : Fin 16384) (f : Fin 471) : res_main_v75 V (ix2 r f)
    = cat (a := 128) (b := 343) rfl (second (playerHidden (ins V) r) (ins V).pW2 (ins V).pb2)
      (cat (a := 128) (b := 215) rfl (second (enemyHidden (ins V) r) (ins V).eW2 (ins V).eb2)
      (cat (a := 128) (b := 87) rfl (party (ins V) r)
      (cat (a := 55) (b := 32) rfl (fun j => (ins V).map (ix2 r j)) (glob (ins V) r)))) f := last_at V h r f

set_option maxHeartbeats 1000000 in
theorem result_eq (h : Good (ins V)) :
    (maximumf (addf (Host.dotGeneral (φ₁ := .f32) (φ₂ := .f32) dot_S16384x471_S471x256_S16384x256_1_0_0_1_n_n none (res_main_v75 V) (V (Proc.devRef .tc main_arg41))) (broadcastInDim S16384x256 ![0, 1] bcast_S1x256_S16384x256_0_1 (broadcastInDim S1x256 ![1] bcast_S256_S1x256_1 (V (Proc.devRef .tc main_arg42))))) (broadcastInDim S16384x256 ![] bcast_S_S16384x256 (constant S_ .f32 0x00000000#32)) : FVec Ideal S16384x256 .f32)
      = fun i : S16384x256.Idx => out (ins V) (i 0) (i 1) := by
  funext i
  obtain ⟨r, k, rfl⟩ : ∃ (r : Fin 16384) (k : Fin 256), i = ix2 r k := ⟨i 0, i 1, eq_ix2 i⟩
  pointwise
  simp only [last_cat V h]
  rw [sum_cat_mul, sum_cat_mul, sum_cat_mul, sum_cat_mul]
  simp only [← add_assoc]
  rfl

end Cert.ReferenceIdeal.Value

end
-- ==== Proof.Fits.lean ====
/- What the second precondition says of the arguments, as the two value theorems ask it. -/
module

public import proofs.«01_k».proof.Proof.Frames
public import proofs.«01_k».proof.Proof.KernelOut
public import proofs.«01_k».proof.Proof.RefOut

@[expose] public section

noncomputable section

namespace Cert.Frames

open Idealize.ShloMosaic Idealize.SL.Sem Cert.Model

attribute [local instance] Cert.Range.facts Cert.Range.facts'

section
open Cert.KernelIdeal Cert.KernelIdeal.Main

variable (m : (ℓ : Loc nD τ sig) → Buf (Elt Ideal) ℓ)

/-- A row cut out of the player's first weights. -/
theorem row_135 (a : FVec Ideal ⟨2, ![137, 128]⟩ .f32) (h) (k : Fin 128) :
    (extractStridedSlice ⟨2, ![1, 128]⟩ ![135, 0] a h : FVec Ideal ⟨2, ![1, 128]⟩ .f32) (ix2 0 k) = a (ix2 135 k) := by
  pointwise

theorem fit (h : Cert.Pre_KernelIdeal_indices_and_means m) (d : Dev nD) : Fit (ins m d) := by
  obtain ⟨h0, h1, h2, h3⟩ :=
    Cert.Range.inRange_means _ _ _ _ _ _ _ _ _ _ _ _ _ _ _ _ _ _ _ _ _ _ _ _ _ _ _ _ _ _ _ _ _ _ _ _ _ _ _ _ _ _ _ (h d)
  exact ⟨h0, fun r p => h1 (ix2 r p), fun r p x => h2 (ix3 r p x), fun k => by
    have h4 := h3 (ix2 0 k)
    rw [row_135] at h4
    exact h4⟩

theorem good (h : Cert.Pre_KernelIdeal_indices_and_means m) (d : Dev nD) : Cert.ReferenceIdeal.Value.Good (ins m d) := by
  obtain ⟨h0, h1, -⟩ :=
    Cert.Range.inRange_means _ _ _ _ _ _ _ _ _ _ _ _ _ _ _ _ _ _ _ _ _ _ _ _ _ _ _ _ _ _ _ _ _ _ _ _ _ _ _ _ _ _ _ (h d)
  exact ⟨h0.species, h0.moves, h0.ability, h0.status, h0.item, h1⟩

end

end Cert.Frames

end
-- ==== Proof.Algebraic.lean ====
/- The idealized kernel and the idealized reference compute the same result: both compute the model's. -/
module

public import proofs.«01_k».proof.Proof.Fits

@[expose] public section

noncomputable section

namespace Cert.Frames

open Idealize.ShloMosaic Idealize.SL.Sem Cert.Model

attribute [local instance] Cert.Range.facts Cert.Range.facts'

set_option maxHeartbeats 8000000 in
/-- The value claim. -/
theorem algebraic : Cert.algebraic_KernelIdeal_ReferenceIdeal_pre_indices_and_means := by
  intro m g m' g' hm he
  have hi (c : Dev Cert.KernelIdeal.nD) : Cert.ReferenceIdeal.Value.ins (StableHlo.launchContents m' c) = Cert.KernelIdeal.Main.ins m c := by
    unfold Cert.ReferenceIdeal.Value.ins Cert.KernelIdeal.Main.ins
    rw [In.mk.injEq]
    exact he c
  refine ⟨fun c => Cert.KernelIdeal.Main.val4 m c (Proc.devRef .tc Cert.KernelIdeal.main_v146), ?_, ?_⟩
  · refine (θ_run Cert.KernelIdeal.defs _ _).mono (fun r hr c => ?_)
      (Cert.KernelIdeal.Main.run_main (F := Ideal) m g fun d => Cert.KernelIdeal.Main.idx_lt m d (inRange_means_ideal m hm d))
    refine ⟨hr.1 c (Proc.devRef .tc Cert.KernelIdeal.main_v146) (by decide), ?_, ?_, ?_, ?_, ?_, ?_, ?_, ?_, ?_, ?_, ?_, ?_, ?_, ?_, ?_, ?_, ?_, ?_, ?_, ?_, ?_, ?_, ?_, ?_, ?_, ?_, ?_, ?_, ?_, ?_,
      ?_, ?_, ?_, ?_, ?_, ?_, ?_, ?_, ?_, ?_, ?_, ?_, ?_⟩ <;> exact kept m r.2 hr.1 c _ (by decide)
  · refine (θ_run Cert.ReferenceIdeal.defs _ _).mono (fun r hr c => ⟨(hr c).1.trans ?_, (hr c).2⟩)
      (Cert.ReferenceIdeal.Value.run (F := Ideal) m' g')
    have hg : Cert.ReferenceIdeal.Value.Good (Cert.ReferenceIdeal.Value.ins (StableHlo.launchContents m' c)) := by
      rw [hi]
      exact good m hm c
    refine (Cert.ReferenceIdeal.Value.result_eq _ hg).trans ?_
    rw [hi c]
    exact (Cert.KernelIdeal.Main.result_eq m c (fit m hm c)).symm

end Cert.Frames

end
-- ==== Proof.Printed.Frame.lean ====
/- The printed kernel's frame. -/
module

public import proofs.«01_k».proof.Defs
public import proofs.«01_k».proof.Proof.Printed.Index

@[expose] public section

noncomputable section

namespace Cert.Frames

open Idealize.ShloMosaic Idealize.SL.Sem
open Cert.Kernel Cert.Kernel.Main

attribute [local instance] Cert.Range.facts

variable (m : (ℓ : Loc nD τ sig) → Buf (Elt Bits) ℓ)

theorem inRange_printed (h : Cert.Pre_Kernel m) (d : Dev nD) :
    Cert.Range.InRange (arg m d main_arg0) (arg m d main_arg1) (arg m d main_arg2) (arg m d main_arg3) (arg m d main_arg4) :=
  Cert.Range.inRange (F := Bits) _ _ _ _ _ _ _ _ _ _ _ _ _ _ _ _ _ _ _ _ _ _ _ _ _ _ _ _ _ _ _ _ _ _ _ _ _ _ _ _ _ _ _ (h d)

/-- A run leaves every argument as it was. -/
theorem kept_printed (r : MemSt nD τ sig (Elt Bits)) (h : ∀ d : Dev nD, ∀ b ∈ Pipeline.ucRefs τ sig, r.mem (d, b) = val4 m d b) (c : Dev nD)
    (x : Ref sig .tc) (hx : x ∈ args) : r.mem ((c.tc : Thread nD τ).loc x) = m ((c.tc : Thread nD τ).loc x) :=
  (h c (dv x) (args_held x hx)).trans (val4_arg m c x hx)

theorem frame_printed : Cert.quiescent_Kernel := fun m g h =>
  (θ_run Cert.Kernel.defs _ _).mono (fun r hr => ⟨fun c => by
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
        ?_, ?_, ?_, ?_, ?_, ?_, ?_, ?_, ?_, ?_, ?_, ?_, ?_⟩ <;> exact kept_printed m r.2 hr.1 c _ (by decide), hr.2⟩)
    (run_main (F := Bits) m g fun d => idx_lt m d (inRange_printed m h d))

end Cert.Frames

end
-- ==== Proof.lean ====
/- The claims together: the witnesses of the programs' stated facts, then the frames, the ideal program and the
   equality of the kernel's and the reference's results. -/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Algebraic
public import proofs.«01_k».proof.Proof.Printed.Frame
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Range.facts,
    Cert.Range.facts', Cert.Frames.frame_printed, Cert.Frames.frame_ideal, Cert.Frames.frame_ideal_means,
    Cert.Frames.frame_reference, Cert.Frames.frame_reference_means, Cert.Frames.preserves, Cert.Frames.algebraic⟩

end Cert.Proof

end
